-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v65)) (v1 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_v66) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_v142) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1048576x5 : Shape := ⟨3, ![4, 1048576, 5]⟩
abbrev S4x16x256x256 : Shape := ⟨4, ![4, 16, 256, 256]⟩
abbrev S4x80x256x256 : Shape := ⟨4, ![4, 80, 256, 256]⟩
abbrev S4x256x256x16 : Shape := ⟨4, ![4, 256, 256, 16]⟩
abbrev S4x1048576 : Shape := ⟨2, ![4, 1048576]⟩
abbrev S4x2048x512 : Shape := ⟨3, ![4, 2048, 512]⟩
abbrev S4x2048x16 : Shape := ⟨3, ![4, 2048, 16]⟩
abbrev S1x2048x512 : Shape := ⟨3, ![1, 2048, 512]⟩
abbrev S1x2048x16 : Shape := ⟨3, ![1, 2048, 16]⟩
abbrev S256x512 : Shape := ⟨2, ![256, 512]⟩
abbrev S1x256x512 : Shape := ⟨3, ![1, 256, 512]⟩
abbrev S256x1 : Shape := ⟨2, ![256, 1]⟩
abbrev S256 : Shape := ⟨1, ![256]⟩
abbrev S1x256x1 : Shape := ⟨3, ![1, 256, 1]⟩
abbrev S4x32768 : Shape := ⟨2, ![4, 32768]⟩
abbrev S4x2000 : Shape := ⟨2, ![4, 2000]⟩
abbrev S_ : Shape := ⟨0, ![]⟩
abbrev S4x2000x1 : Shape := ⟨3, ![4, 2000, 1]⟩
abbrev S1 : Shape := ⟨1, ![1]⟩
abbrev S1x1x1 : Shape := ⟨3, ![1, 1, 1]⟩
abbrev S4x2048x1 : Shape := ⟨3, ![4, 2048, 1]⟩
abbrev S4x2048 : Shape := ⟨2, ![4, 2048]⟩
abbrev S4x1 : Shape := ⟨2, ![4, 1]⟩
abbrev S4 : Shape := ⟨1, ![4]⟩
abbrev S5 : Shape := ⟨1, ![5]⟩
abbrev S1x1x5 : Shape := ⟨3, ![1, 1, 5]⟩
abbrev S4x2000x5 : Shape := ⟨3, ![4, 2000, 5]⟩
abbrev S4x5242880 : Shape := ⟨2, ![4, 5242880]⟩
abbrev S4x10000 : Shape := ⟨2, ![4, 10000]⟩
abbrev S4x10000x1 : Shape := ⟨3, ![4, 10000, 1]⟩
abbrev S4x2048x5 : Shape := ⟨3, ![4, 2048, 5]⟩
abbrev S4x5x2048 : Shape := ⟨3, ![4, 5, 2048]⟩
abbrev S4x8x2048 : Shape := ⟨3, ![4, 8, 2048]⟩
abbrev S4x2048x8 : Shape := ⟨3, ![4, 2048, 8]⟩
abbrev S4x1x2048 : Shape := ⟨3, ![4, 1, 2048]⟩
abbrev S1x8x2048 : Shape := ⟨3, ![1, 8, 2048]⟩
abbrev S1x2048x8 : Shape := ⟨3, ![1, 2048, 8]⟩
abbrev S1x1x2048 : Shape := ⟨3, ![1, 1, 2048]⟩
abbrev S2048x2048 : Shape := ⟨2, ![2048, 2048]⟩
abbrev S8x2048 : Shape := ⟨2, ![8, 2048]⟩
abbrev S1x2048 : Shape := ⟨2, ![1, 2048]⟩
abbrev S3x2048 : Shape := ⟨2, ![3, 2048]⟩
abbrev S1x3x2048 : Shape := ⟨3, ![1, 3, 2048]⟩
abbrev S2048x8 : Shape := ⟨2, ![2048, 8]⟩
abbrev S2048x1 : Shape := ⟨2, ![2048, 1]⟩
abbrev S256x2048 : Shape := ⟨2, ![256, 2048]⟩
abbrev S2048 : Shape := ⟨1, ![2048]⟩
abbrev S4x1000 : Shape := ⟨2, ![4, 1000]⟩
abbrev S4x1000x1 : Shape := ⟨3, ![4, 1000, 1]⟩
abbrev S4x1000x5 : Shape := ⟨3, ![4, 1000, 5]⟩

abbrev nBuf : Space → Nat
  | .hbm => 247
  | .vmem => 23
  | .smem => 0
  | _ => 0

abbrev hbmTy0_0 (i : Nat) : BufTy := match i % 128 with
  | 0 => ⟨S4x1048576x5, .f32⟩
  | 1 => ⟨S4x16x256x256, .f32⟩
  | 2 => ⟨S4x80x256x256, .f32⟩
  | 3 => ⟨S4x256x256x16, .f32⟩
  | 4 => ⟨S4x1048576, .f32⟩
  | 5 => ⟨S4x2048x512, .f32⟩
  | 6 => ⟨S4x2048x16, .f32⟩
  | 7 => ⟨S4x2048x16, .i32⟩
  | 8 => ⟨S4x32768, .f32⟩
  | 9 => ⟨S4x2000, .f32⟩
  | 10 => ⟨S4x2000, .i32⟩
  | 11 => ⟨S4x32768, .i32⟩
  | 12 => ⟨S_, .i32⟩
  | 13 => ⟨S4x2000, .i32⟩
  | 14 => ⟨S4x2000, .i1⟩
  | 15 => ⟨S_, .i32⟩
  | 16 => ⟨S4x2000, .i32⟩
  | 17 => ⟨S4x2000, .i32⟩
  | 18 => ⟨S4x2000, .i32⟩
  | 19 => ⟨S4x2000x1, .i32⟩
  | 20 => ⟨S1, .i32⟩
  | 21 => ⟨S_, .i32⟩
  | 22 => ⟨S4x2000x1, .i32⟩
  | 23 => ⟨S4x2000x1, .i1⟩
  | 24 => ⟨S1x1x1, .i32⟩
  | 25 => ⟨S4x2000x1, .i32⟩
  | 26 => ⟨S4x2000x1, .i1⟩
  | 27 => ⟨S4x2000x1, .i1⟩
  | 28 => ⟨S_, .i1⟩
  | 29 => ⟨S4x2000, .i1⟩
  | 30 => ⟨S4x2000, .i32⟩
  | 31 => ⟨S_, .i32⟩
  | 32 => ⟨S4x2000, .i32⟩
  | 33 => ⟨S4x2000, .i32⟩
  | 34 => ⟨S4x2048x1, .f32⟩
  | 35 => ⟨S4x2048, .f32⟩
  | 36 => ⟨S4x1, .f32⟩
  | 37 => ⟨S4, .f32⟩
  | 38 => ⟨S4x1, .f32⟩
  | 39 => ⟨S4x2048, .f32⟩
  | 40 => ⟨S4x2048, .i1⟩
  | 41 => ⟨S_, .i1⟩
  | 42 => ⟨S_, .i1⟩
  | 43 => ⟨S_, .i32⟩
  | 44 => ⟨S4x2000, .f32⟩
  | 45 => ⟨S4x2000, .i32⟩
  | 46 => ⟨S4x2000, .f32⟩
  | 47 => ⟨S4x2000, .i32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S4x2000, .i32⟩
  | 55 => ⟨S4x2000, .i32⟩
  | 56 => ⟨S_, .i32⟩
  | 57 => ⟨S4x2000, .i32⟩
  | 58 => ⟨S4x2000, .i1⟩
  | 59 => ⟨S_, .i32⟩
  | 60 => ⟨S4x2000, .i32⟩
  | 61 => ⟨S4x2000, .i1⟩
  | 62 => ⟨S_, .i32⟩
  | 63 => ⟨S_, .i1⟩
  | 64 => ⟨S4x2000, .i1⟩
  | 65 => ⟨S4x2000, .i1⟩
  | 66 => ⟨S4x2000, .i1⟩
  | 67 => ⟨S4x2000, .i32⟩
  | 68 => ⟨S4x2000, .i32⟩
  | 69 => ⟨S4x2000, .i32⟩
  | 70 => ⟨S_, .i32⟩
  | 71 => ⟨S_, .i32⟩
  | 72 => ⟨S4x2000, .i32⟩
  | 73 => ⟨S4x2000, .i32⟩
  | 74 => ⟨S4x2000, .i32⟩
  | 75 => ⟨S_, .i32⟩
  | 76 => ⟨S4x2000, .i32⟩
  | 77 => ⟨S4x2000, .i1⟩
  | 78 => ⟨S4x2000, .i32⟩
  | 79 => ⟨S4x2000, .i32⟩
  | 80 => ⟨S_, .i32⟩
  | 81 => ⟨S4x2000, .i32⟩
  | 82 => ⟨S4x2000, .i1⟩
  | 83 => ⟨S4x2000, .i1⟩
  | 84 => ⟨S_, .i32⟩
  | 85 => ⟨S4x2000, .i32⟩
  | 86 => ⟨S4x2000, .i32⟩
  | 87 => ⟨S4x2000, .i32⟩
  | 88 => ⟨S4x2000x1, .i32⟩
  | 89 => ⟨S_, .i32⟩
  | 90 => ⟨S4x2000x1, .i32⟩
  | 91 => ⟨S4x2000x1, .i32⟩
  | 92 => ⟨S5, .i32⟩
  | 93 => ⟨S1x1x5, .i32⟩
  | 94 => ⟨S4x2000x5, .i32⟩
  | 95 => ⟨S4x2000x5, .i32⟩
  | 96 => ⟨S4x2000x5, .i32⟩
  | 97 => ⟨S_, .i32⟩
  | 98 => ⟨S4x2000x5, .i32⟩
  | 99 => ⟨S4x2000x5, .i32⟩
  | 100 => ⟨S4x2000x1, .i32⟩
  | 101 => ⟨S4x2000x5, .i32⟩
  | 102 => ⟨S4x2000x5, .i32⟩
  | 103 => ⟨S4x5242880, .f32⟩
  | 104 => ⟨S4x10000, .i32⟩
  | 105 => ⟨S_, .i32⟩
  | 106 => ⟨S4x10000, .i32⟩
  | 107 => ⟨S4x10000, .i1⟩
  | 108 => ⟨S_, .i32⟩
  | 109 => ⟨S4x10000, .i32⟩
  | 110 => ⟨S4x10000, .i32⟩
  | 111 => ⟨S4x10000, .i32⟩
  | 112 => ⟨S4x10000x1, .i32⟩
  | 113 => ⟨S1, .i32⟩
  | 114 => ⟨S_, .i32⟩
  | 115 => ⟨S4x10000x1, .i32⟩
  | 116 => ⟨S4x10000x1, .i1⟩
  | 117 => ⟨S1x1x1, .i32⟩
  | 118 => ⟨S4x10000x1, .i32⟩
  | 119 => ⟨S4x10000x1, .i1⟩
  | 120 => ⟨S4x10000x1, .i1⟩
  | 121 => ⟨S_, .i1⟩
  | 122 => ⟨S4x10000, .i1⟩
  | 123 => ⟨S4x10000, .f32⟩
  | 124 => ⟨S_, .f32⟩
  | 125 => ⟨S4x10000, .f32⟩
  | 126 => ⟨S4x10000, .f32⟩
  | 127 => ⟨S4x2000x5, .f32⟩
  | _ => ⟨S4x1048576x5, .f32⟩

abbrev hbmTy0_1 (i : Nat) : BufTy := match i % 128 with
  | 0 => ⟨S4x2000x1, .i32⟩
  | 1 => ⟨S_, .i32⟩
  | 2 => ⟨S4x2000x1, .i32⟩
  | 3 => ⟨S4x2000x1, .i1⟩
  | 4 => ⟨S_, .i32⟩
  | 5 => ⟨S4x2000x1, .i32⟩
  | 6 => ⟨S4x2000x1, .i32⟩
  | 7 => ⟨S4x2000x1, .i32⟩
  | 8 => ⟨S1, .i32⟩
  | 9 => ⟨S_, .i32⟩
  | 10 => ⟨S4x2000x1, .i32⟩
  | 11 => ⟨S4x2000x1, .i1⟩
  | 12 => ⟨S1x1x1, .i32⟩
  | 13 => ⟨S4x2000x1, .i32⟩
  | 14 => ⟨S4x2000x1, .i1⟩
  | 15 => ⟨S4x2000x1, .i1⟩
  | 16 => ⟨S_, .i1⟩
  | 17 => ⟨S4x2000, .i1⟩
  | 18 => ⟨S4x2000x5, .f32⟩
  | 19 => ⟨S4x2000x5, .i1⟩
  | 20 => ⟨S_, .f32⟩
  | 21 => ⟨S4x2000x5, .f32⟩
  | 22 => ⟨S4x2000x5, .f32⟩
  | 23 => ⟨S_, .i32⟩
  | 24 => ⟨S_, .f32⟩
  | 25 => ⟨S4x2048x5, .f32⟩
  | 26 => ⟨S_, .f32⟩
  | 27 => ⟨S_, .f32⟩
  | 28 => ⟨S4x2048x5, .f32⟩
  | 29 => ⟨S_, .f32⟩
  | 30 => ⟨S_, .f32⟩
  | 31 => ⟨S4x2048, .f32⟩
  | 32 => ⟨S4x5x2048, .f32⟩
  | 33 => ⟨S_, .i32⟩
  | 34 => ⟨S_, .f32⟩
  | 35 => ⟨S4x8x2048, .f32⟩
  | 36 => ⟨S4x5x2048, .f32⟩
  | 37 => ⟨S_, .i32⟩
  | 38 => ⟨S_, .f32⟩
  | 39 => ⟨S4x8x2048, .f32⟩
  | 40 => ⟨S_, .i32⟩
  | 41 => ⟨S_, .f32⟩
  | 42 => ⟨S4x2048x8, .f32⟩
  | 43 => ⟨S_, .i32⟩
  | 44 => ⟨S_, .f32⟩
  | 45 => ⟨S4x2048x8, .f32⟩
  | 46 => ⟨S4x1x2048, .f32⟩
  | 47 => ⟨S4x8x2048, .f32⟩
  | 48 => ⟨S4x1x2048, .f32⟩
  | 49 => ⟨S4x1x2048, .f32⟩
  | 50 => ⟨S4x5x2048, .f32⟩
  | 51 => ⟨S4x2048x5, .f32⟩
  | 52 => ⟨S4x2048, .f32⟩
  | 53 => ⟨S4x2048, .f32⟩
  | 54 => ⟨S_, .f32⟩
  | 55 => ⟨S4x2048, .f32⟩
  | 56 => ⟨S4x2048, .i1⟩
  | 57 => ⟨S2048, .i32⟩
  | 58 => ⟨S1x2048, .i32⟩
  | 59 => ⟨S4x2048, .i1⟩
  | 60 => ⟨S_, .i32⟩
  | 61 => ⟨S_, .i32⟩
  | 62 => ⟨S4x2048, .i32⟩
  | 63 => ⟨S4x2048, .i32⟩
  | 64 => ⟨S4x2048, .i32⟩
  | 65 => ⟨S4x2048, .i32⟩
  | 66 => ⟨S4x1000, .i32⟩
  | 67 => ⟨S_, .i32⟩
  | 68 => ⟨S4x1000, .i32⟩
  | 69 => ⟨S4x1000, .i1⟩
  | 70 => ⟨S_, .i32⟩
  | 71 => ⟨S_, .i32⟩
  | 72 => ⟨S4x1000, .i32⟩
  | 73 => ⟨S4x1000, .i32⟩
  | 74 => ⟨S4x1000x1, .i32⟩
  | 75 => ⟨S_, .i32⟩
  | 76 => ⟨S4x1000x1, .i32⟩
  | 77 => ⟨S4x1000x1, .i1⟩
  | 78 => ⟨S_, .i32⟩
  | 79 => ⟨S4x1000x1, .i32⟩
  | 80 => ⟨S4x1000x1, .i32⟩
  | 81 => ⟨S4x1000x1, .i32⟩
  | 82 => ⟨S1, .i32⟩
  | 83 => ⟨S_, .i32⟩
  | 84 => ⟨S4x1000x1, .i32⟩
  | 85 => ⟨S4x1000x1, .i1⟩
  | 86 => ⟨S1x1x1, .i32⟩
  | 87 => ⟨S4x1000x1, .i32⟩
  | 88 => ⟨S4x1000x1, .i1⟩
  | 89 => ⟨S4x1000x1, .i1⟩
  | 90 => ⟨S_, .i1⟩
  | 91 => ⟨S4x1000, .i1⟩
  | 92 => ⟨S4x1000x5, .f32⟩
  | 93 => ⟨S4x1000x5, .i1⟩
  | 94 => ⟨S_, .f32⟩
  | 95 => ⟨S4x1000x5, .f32⟩
  | 96 => ⟨S4x1000x5, .f32⟩
  | 97 => ⟨S_, .i32⟩
  | 98 => ⟨S4x1000, .i32⟩
  | 99 => ⟨S4x1000, .i1⟩
  | 100 => ⟨S_, .i32⟩
  | 101 => ⟨S4x1000, .i32⟩
  | 102 => ⟨S4x1000, .i32⟩
  | 103 => ⟨S4x1000, .i32⟩
  | 104 => ⟨S4x1000x1, .i32⟩
  | 105 => ⟨S1, .i32⟩
  | 106 => ⟨S_, .i32⟩
  | 107 => ⟨S4x1000x1, .i32⟩
  | 108 => ⟨S4x1000x1, .i1⟩
  | 109 => ⟨S1x1x1, .i32⟩
  | 110 => ⟨S4x1000x1, .i32⟩
  | 111 => ⟨S4x1000x1, .i1⟩
  | 112 => ⟨S4x1000x1, .i1⟩
  | 113 => ⟨S_, .i1⟩
  | 114 => ⟨S4x1000, .i1⟩
  | 115 => ⟨S4x1000, .f32⟩
  | 116 => ⟨S_, .f32⟩
  | 117 => ⟨S4x1000, .f32⟩
  | 118 => ⟨S4x1000, .f32⟩
  | _ => ⟨S4x1048576x5, .f32⟩

abbrev hbmTy (i : Nat) : BufTy := match i / 128 with
  | 0 => hbmTy0_0 i
  | 1 => hbmTy0_1 i
  | _ => ⟨S4x1048576x5, .f32⟩

abbrev bufTy : (tb : Table) → Fin (tcTables nBuf tb) → BufTy
  | .hbm, ⟨i, _⟩ => hbmTy i
  | .local _ .vmem, ⟨0, _⟩ => ⟨S1x2048x512, .f32⟩
  | .local _ .vmem, ⟨1, _⟩ => ⟨S1x2048x512, .f32⟩
  | .local _ .vmem, ⟨2, _⟩ => ⟨S1x2048x16, .f32⟩
  | .local _ .vmem, ⟨3, _⟩ => ⟨S1x2048x16, .f32⟩
  | .local _ .vmem, ⟨4, _⟩ => ⟨S1x2048x16, .i32⟩
  | .local _ .vmem, ⟨5, _⟩ => ⟨S1x2048x16, .i32⟩
  | .local _ .vmem, ⟨6, _⟩ => ⟨S1x8x2048, .f32⟩
  | .local _ .vmem, ⟨7, _⟩ => ⟨S1x8x2048, .f32⟩
  | .local _ .vmem, ⟨8, _⟩ => ⟨S1x8x2048, .f32⟩
  | .local _ .vmem, ⟨9, _⟩ => ⟨S1x8x2048, .f32⟩
  | .local _ .vmem, ⟨10, _⟩ => ⟨S1x2048x8, .f32⟩
  | .local _ .vmem, ⟨11, _⟩ => ⟨S1x2048x8, .f32⟩
  | .local _ .vmem, ⟨12, _⟩ => ⟨S1x2048x8, .f32⟩
  | .local _ .vmem, ⟨13, _⟩ => ⟨S1x2048x8, .f32⟩
  | .local _ .vmem, ⟨14, _⟩ => ⟨S1x1x2048, .f32⟩
  | .local _ .vmem, ⟨15, _⟩ => ⟨S1x1x2048, .f32⟩
  | .local _ .vmem, ⟨16, _⟩ => ⟨S1x8x2048, .f32⟩
  | .local _ .vmem, ⟨17, _⟩ => ⟨S1x8x2048, .f32⟩
  | .local _ .vmem, ⟨18, _⟩ => ⟨S1x1x2048, .f32⟩
  | .local _ .vmem, ⟨19, _⟩ => ⟨S1x1x2048, .f32⟩
  | .local _ .vmem, ⟨20, _⟩ => ⟨S1x1x2048, .f32⟩
  | .local _ .vmem, ⟨21, _⟩ => ⟨S1x1x2048, .f32⟩
  | .local _ .vmem, ⟨22, _⟩ => ⟨S2048x2048, .f32⟩
  | _, _ => ⟨S4x1048576x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_values : Ref sig .tc := ⟨.hbm, 9, rfl⟩
abbrev main_indices : Ref sig .tc := ⟨.hbm, 10, rfl⟩
abbrev main_v5 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_c_4 : Ref sig .tc := ⟨.hbm, 31, rfl⟩
abbrev main_call0_v14 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_c : Ref sig .tc := ⟨.hbm, 41, rfl⟩
abbrev main_v14 : Ref sig .tc := ⟨.hbm, 42, rfl⟩
abbrev main_v15 : Ref sig .tc := ⟨.hbm, 43, rfl⟩
abbrev main_v16_0 : Ref sig .tc := ⟨.hbm, 44, rfl⟩
abbrev main_v16_1 : Ref sig .tc := ⟨.hbm, 45, rfl⟩
abbrev main_case0b0_values_14 : Ref sig .tc := ⟨.hbm, 46, rfl⟩
abbrev main_case0b0_indices_15 : Ref sig .tc := ⟨.hbm, 47, rfl⟩
abbrev main_c_0 : Ref sig .tc := ⟨.hbm, 48, rfl⟩
abbrev main_call1_v0 : Ref sig .tc := ⟨.hbm, 49, rfl⟩
abbrev main_call1_c : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_c_1 : Ref sig .tc := ⟨.hbm, 56, rfl⟩
abbrev main_call1_v5 : Ref sig .tc := ⟨.hbm, 57, rfl⟩
abbrev main_call1_v6 : Ref sig .tc := ⟨.hbm, 58, rfl⟩
abbrev main_call1_c_2 : Ref sig .tc := ⟨.hbm, 59, rfl⟩
abbrev main_call1_v7 : Ref sig .tc := ⟨.hbm, 60, rfl⟩
abbrev main_call1_v8 : Ref sig .tc := ⟨.hbm, 61, rfl⟩
abbrev main_call1_c_3 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_v17 : Ref sig .tc := ⟨.hbm, 69, rfl⟩
abbrev main_c_1 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_v5 : Ref sig .tc := ⟨.hbm, 76, rfl⟩
abbrev main_call2_v6 : Ref sig .tc := ⟨.hbm, 77, rfl⟩
abbrev main_call2_v7 : Ref sig .tc := ⟨.hbm, 78, rfl⟩
abbrev main_call2_v8 : Ref sig .tc := ⟨.hbm, 79, rfl⟩
abbrev main_call2_c : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_c_0 : Ref sig .tc := ⟨.hbm, 84, rfl⟩
abbrev main_call2_v12 : Ref sig .tc := ⟨.hbm, 85, rfl⟩
abbrev main_call2_v13 : Ref sig .tc := ⟨.hbm, 86, rfl⟩
abbrev main_v18 : Ref sig .tc := ⟨.hbm, 87, rfl⟩
abbrev main_v19 : Ref sig .tc := ⟨.hbm, 88, rfl⟩
abbrev main_c_2 : Ref sig .tc := ⟨.hbm, 89, rfl⟩
abbrev main_v20 : Ref sig .tc := ⟨.hbm, 90, rfl⟩
abbrev main_v21 : Ref sig .tc := ⟨.hbm, 91, rfl⟩
abbrev main_v22 : Ref sig .tc := ⟨.hbm, 92, rfl⟩
abbrev main_v23 : Ref sig .tc := ⟨.hbm, 93, rfl⟩
abbrev main_v24 : Ref sig .tc := ⟨.hbm, 94, rfl⟩
abbrev main_v25 : Ref sig .tc := ⟨.hbm, 95, rfl⟩
abbrev main_v26 : Ref sig .tc := ⟨.hbm, 96, rfl⟩
abbrev main_c_3 : Ref sig .tc := ⟨.hbm, 97, rfl⟩
abbrev main_v27 : Ref sig .tc := ⟨.hbm, 98, rfl⟩
abbrev main_v28 : Ref sig .tc := ⟨.hbm, 99, rfl⟩
abbrev main_v29 : Ref sig .tc := ⟨.hbm, 100, rfl⟩
abbrev main_v30 : Ref sig .tc := ⟨.hbm, 101, rfl⟩
abbrev main_v31 : Ref sig .tc := ⟨.hbm, 102, rfl⟩
abbrev main_v32 : Ref sig .tc := ⟨.hbm, 103, rfl⟩
abbrev main_v33 : Ref sig .tc := ⟨.hbm, 104, rfl⟩
abbrev main_call3_c : Ref sig .tc := ⟨.hbm, 105, rfl⟩
abbrev main_call3_v0 : Ref sig .tc := ⟨.hbm, 106, rfl⟩
abbrev main_call3_v1 : Ref sig .tc := ⟨.hbm, 107, rfl⟩
abbrev main_call3_c_0 : Ref sig .tc := ⟨.hbm, 108, rfl⟩
abbrev main_call3_v2 : Ref sig .tc := ⟨.hbm, 109, rfl⟩
abbrev main_call3_v3 : Ref sig .tc := ⟨.hbm, 110, rfl⟩
abbrev main_call3_v4 : Ref sig .tc := ⟨.hbm, 111, rfl⟩
abbrev main_call3_v5 : Ref sig .tc := ⟨.hbm, 112, rfl⟩
abbrev main_call3_c_1 : Ref sig .tc := ⟨.hbm, 113, rfl⟩
abbrev main_call3_c_2 : Ref sig .tc := ⟨.hbm, 114, rfl⟩
abbrev main_call3_v6 : Ref sig .tc := ⟨.hbm, 115, rfl⟩
abbrev main_call3_v7 : Ref sig .tc := ⟨.hbm, 116, rfl⟩
abbrev main_call3_v8 : Ref sig .tc := ⟨.hbm, 117, rfl⟩
abbrev main_call3_v9 : Ref sig .tc := ⟨.hbm, 118, rfl⟩
abbrev main_call3_v10 : Ref sig .tc := ⟨.hbm, 119, rfl⟩
abbrev main_call3_v11 : Ref sig .tc := ⟨.hbm, 120, rfl⟩
abbrev main_call3_c_3 : Ref sig .tc := ⟨.hbm, 121, rfl⟩
abbrev main_call3_v12 : Ref sig .tc := ⟨.hbm, 122, rfl⟩
abbrev main_call3_v13 : Ref sig .tc := ⟨.hbm, 123, rfl⟩
abbrev main_call3_cst : Ref sig .tc := ⟨.hbm, 124, rfl⟩
abbrev main_call3_v14 : Ref sig .tc := ⟨.hbm, 125, rfl⟩
abbrev main_v34 : Ref sig .tc := ⟨.hbm, 126, rfl⟩
abbrev main_v35 : Ref sig .tc := ⟨.hbm, 127, rfl⟩
abbrev main_v36 : Ref sig .tc := ⟨.hbm, 128, rfl⟩
abbrev main_call4_c : Ref sig .tc := ⟨.hbm, 129, rfl⟩
abbrev main_call4_v0 : Ref sig .tc := ⟨.hbm, 130, rfl⟩
abbrev main_call4_v1 : Ref sig .tc := ⟨.hbm, 131, rfl⟩
abbrev main_call4_c_0 : Ref sig .tc := ⟨.hbm, 132, rfl⟩
abbrev main_call4_v2 : Ref sig .tc := ⟨.hbm, 133, rfl⟩
abbrev main_call4_v3 : Ref sig .tc := ⟨.hbm, 134, rfl⟩
abbrev main_call4_v4 : Ref sig .tc := ⟨.hbm, 135, rfl⟩
abbrev main_call4_c_1 : Ref sig .tc := ⟨.hbm, 136, rfl⟩
abbrev main_call4_c_2 : Ref sig .tc := ⟨.hbm, 137, rfl⟩
abbrev main_call4_v5 : Ref sig .tc := ⟨.hbm, 138, rfl⟩
abbrev main_call4_v6 : Ref sig .tc := ⟨.hbm, 139, rfl⟩
abbrev main_call4_v7 : Ref sig .tc := ⟨.hbm, 140, rfl⟩
abbrev main_call4_v8 : Ref sig .tc := ⟨.hbm, 141, rfl⟩
abbrev main_call4_v9 : Ref sig .tc := ⟨.hbm, 142, rfl⟩
abbrev main_call4_v10 : Ref sig .tc := ⟨.hbm, 143, rfl⟩
abbrev main_call4_c_3 : Ref sig .tc := ⟨.hbm, 144, rfl⟩
abbrev main_call4_v11 : Ref sig .tc := ⟨.hbm, 145, rfl⟩
abbrev main_call4_v12 : Ref sig .tc := ⟨.hbm, 146, rfl⟩
abbrev main_call4_v13 : Ref sig .tc := ⟨.hbm, 147, rfl⟩
abbrev main_call4_cst : Ref sig .tc := ⟨.hbm, 148, rfl⟩
abbrev main_call4_v14 : Ref sig .tc := ⟨.hbm, 149, rfl⟩
abbrev main_v37 : Ref sig .tc := ⟨.hbm, 150, rfl⟩
abbrev main_c_4 : Ref sig .tc := ⟨.hbm, 151, rfl⟩
abbrev main_call5_v0 : Ref sig .tc := ⟨.hbm, 152, rfl⟩
abbrev main_v38 : Ref sig .tc := ⟨.hbm, 153, rfl⟩
abbrev main_cst : Ref sig .tc := ⟨.hbm, 154, rfl⟩
abbrev main_call6_v0 : Ref sig .tc := ⟨.hbm, 155, rfl⟩
abbrev main_v39 : Ref sig .tc := ⟨.hbm, 156, rfl⟩
abbrev main_cst_5 : Ref sig .tc := ⟨.hbm, 157, rfl⟩
abbrev main_call7_v0 : Ref sig .tc := ⟨.hbm, 158, rfl⟩
abbrev main_v40 : Ref sig .tc := ⟨.hbm, 159, rfl⟩
abbrev main_v41 : Ref sig .tc := ⟨.hbm, 160, rfl⟩
abbrev main_c_6 : Ref sig .tc := ⟨.hbm, 161, rfl⟩
abbrev main_call8_v0 : Ref sig .tc := ⟨.hbm, 162, rfl⟩
abbrev main_v42 : Ref sig .tc := ⟨.hbm, 163, rfl⟩
abbrev main_v43 : Ref sig .tc := ⟨.hbm, 164, rfl⟩
abbrev main_c_7 : Ref sig .tc := ⟨.hbm, 165, rfl⟩
abbrev main_call9_v0 : Ref sig .tc := ⟨.hbm, 166, rfl⟩
abbrev main_v44 : Ref sig .tc := ⟨.hbm, 167, rfl⟩
abbrev main_c_8 : Ref sig .tc := ⟨.hbm, 168, rfl⟩
abbrev main_call10_v0 : Ref sig .tc := ⟨.hbm, 169, rfl⟩
abbrev main_v45 : Ref sig .tc := ⟨.hbm, 170, rfl⟩
abbrev main_c_9 : Ref sig .tc := ⟨.hbm, 171, rfl⟩
abbrev main_call11_v0 : Ref sig .tc := ⟨.hbm, 172, rfl⟩
abbrev main_v46 : Ref sig .tc := ⟨.hbm, 173, rfl⟩
abbrev main_v47 : Ref sig .tc := ⟨.hbm, 174, rfl⟩
abbrev main_v48_0 : Ref sig .tc := ⟨.hbm, 175, rfl⟩
abbrev main_v48_1 : Ref sig .tc := ⟨.hbm, 176, rfl⟩
abbrev main_v48_2 : Ref sig .tc := ⟨.hbm, 177, rfl⟩
abbrev main_v49 : Ref sig .tc := ⟨.hbm, 178, rfl⟩
abbrev main_v50 : Ref sig .tc := ⟨.hbm, 179, rfl⟩
abbrev main_v51 : Ref sig .tc := ⟨.hbm, 180, rfl⟩
abbrev main_v52 : Ref sig .tc := ⟨.hbm, 181, rfl⟩
abbrev main_cst_10 : Ref sig .tc := ⟨.hbm, 182, rfl⟩
abbrev main_v53 : Ref sig .tc := ⟨.hbm, 183, rfl⟩
abbrev main_v54 : Ref sig .tc := ⟨.hbm, 184, rfl⟩
abbrev main_v55 : Ref sig .tc := ⟨.hbm, 185, rfl⟩
abbrev main_v56 : Ref sig .tc := ⟨.hbm, 186, rfl⟩
abbrev main_v57 : Ref sig .tc := ⟨.hbm, 187, rfl⟩
abbrev main_c_11 : Ref sig .tc := ⟨.hbm, 188, rfl⟩
abbrev main_call12_v0 : Ref sig .tc := ⟨.hbm, 189, rfl⟩
abbrev main_call12_v1 : Ref sig .tc := ⟨.hbm, 190, rfl⟩
abbrev main_call12_v2 : Ref sig .tc := ⟨.hbm, 191, rfl⟩
abbrev main_v58 : Ref sig .tc := ⟨.hbm, 192, rfl⟩
abbrev main_v59 : Ref sig .tc := ⟨.hbm, 193, rfl⟩
abbrev main_v60 : Ref sig .tc := ⟨.hbm, 194, rfl⟩
abbrev main_c_12 : Ref sig .tc := ⟨.hbm, 195, rfl⟩
abbrev main_v61 : Ref sig .tc := ⟨.hbm, 196, rfl⟩
abbrev main_v62 : Ref sig .tc := ⟨.hbm, 197, rfl⟩
abbrev main_c_13 : Ref sig .tc := ⟨.hbm, 198, rfl⟩
abbrev main_call14_v0 : Ref sig .tc := ⟨.hbm, 199, rfl⟩
abbrev main_call14_v1 : Ref sig .tc := ⟨.hbm, 200, rfl⟩
abbrev main_v63 : Ref sig .tc := ⟨.hbm, 201, rfl⟩
abbrev main_v64 : Ref sig .tc := ⟨.hbm, 202, rfl⟩
abbrev main_call15_c : Ref sig .tc := ⟨.hbm, 203, rfl⟩
abbrev main_call15_v0 : Ref sig .tc := ⟨.hbm, 204, rfl⟩
abbrev main_call15_v1 : Ref sig .tc := ⟨.hbm, 205, rfl⟩
abbrev main_call15_c_0 : Ref sig .tc := ⟨.hbm, 206, rfl⟩
abbrev main_call15_v2 : Ref sig .tc := ⟨.hbm, 207, rfl⟩
abbrev main_call15_v3 : Ref sig .tc := ⟨.hbm, 208, rfl⟩
abbrev main_call15_v4 : Ref sig .tc := ⟨.hbm, 209, rfl⟩
abbrev main_call15_c_1 : Ref sig .tc := ⟨.hbm, 210, rfl⟩
abbrev main_call15_c_2 : Ref sig .tc := ⟨.hbm, 211, rfl⟩
abbrev main_call15_v5 : Ref sig .tc := ⟨.hbm, 212, rfl⟩
abbrev main_call15_v6 : Ref sig .tc := ⟨.hbm, 213, rfl⟩
abbrev main_call15_v7 : Ref sig .tc := ⟨.hbm, 214, rfl⟩
abbrev main_call15_v8 : Ref sig .tc := ⟨.hbm, 215, rfl⟩
abbrev main_call15_v9 : Ref sig .tc := ⟨.hbm, 216, rfl⟩
abbrev main_call15_v10 : Ref sig .tc := ⟨.hbm, 217, rfl⟩
abbrev main_call15_c_3 : Ref sig .tc := ⟨.hbm, 218, rfl⟩
abbrev main_call15_v11 : Ref sig .tc := ⟨.hbm, 219, rfl⟩
abbrev main_call15_v12 : Ref sig .tc := ⟨.hbm, 220, rfl⟩
abbrev main_call15_v13 : Ref sig .tc := ⟨.hbm, 221, rfl⟩
abbrev main_call15_cst : Ref sig .tc := ⟨.hbm, 222, rfl⟩
abbrev main_call15_v14 : Ref sig .tc := ⟨.hbm, 223, rfl⟩
abbrev main_v65 : Ref sig .tc := ⟨.hbm, 224, rfl⟩
abbrev main_call16_c : Ref sig .tc := ⟨.hbm, 225, rfl⟩
abbrev main_call16_v0 : Ref sig .tc := ⟨.hbm, 226, rfl⟩
abbrev main_call16_v1 : Ref sig .tc := ⟨.hbm, 227, rfl⟩
abbrev main_call16_c_0 : Ref sig .tc := ⟨.hbm, 228, rfl⟩
abbrev main_call16_v2 : Ref sig .tc := ⟨.hbm, 229, rfl⟩
abbrev main_call16_v3 : Ref sig .tc := ⟨.hbm, 230, rfl⟩
abbrev main_call16_v4 : Ref sig .tc := ⟨.hbm, 231, rfl⟩
abbrev main_call16_v5 : Ref sig .tc := ⟨.hbm, 232, rfl⟩
abbrev main_call16_c_1 : Ref sig .tc := ⟨.hbm, 233, rfl⟩
abbrev main_call16_c_2 : Ref sig .tc := ⟨.hbm, 234, rfl⟩
abbrev main_call16_v6 : Ref sig .tc := ⟨.hbm, 235, rfl⟩
abbrev main_call16_v7 : Ref sig .tc := ⟨.hbm, 236, rfl⟩
abbrev main_call16_v8 : Ref sig .tc := ⟨.hbm, 237, rfl⟩
abbrev main_call16_v9 : Ref sig .tc := ⟨.hbm, 238, rfl⟩
abbrev main_call16_v10 : Ref sig .tc := ⟨.hbm, 239, rfl⟩
abbrev main_call16_v11 : Ref sig .tc := ⟨.hbm, 240, rfl⟩
abbrev main_call16_c_3 : Ref sig .tc := ⟨.hbm, 241, rfl⟩
abbrev main_call16_v12 : Ref sig .tc := ⟨.hbm, 242, rfl⟩
abbrev main_call16_v13 : Ref sig .tc := ⟨.hbm, 243, rfl⟩
abbrev main_call16_cst : Ref sig .tc := ⟨.hbm, 244, rfl⟩
abbrev main_call16_v14 : Ref sig .tc := ⟨.hbm, 245, rfl⟩
abbrev main_v66 : Ref sig .tc := ⟨.hbm, 246, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x16 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

@[reducible] def k1_t1_loop : Scf.Loop 32 :=
  let c0_i32 : BitVec 32 := 0#32
  let c2000_i32_83 : BitVec 32 := 2000#32
  let v438 : BitVec 32 := Scalar.addi c0_i32 c2000_i32_83
  let c1_i32 : BitVec 32 := 1#32
  ⟨c0_i32, v438, c1_i32⟩
def k1_off1 (k1_t1 : Fin k1_t1_loop.trips) : Fin 2 → Nat :=
  let c0_i32 : BitVec 32 := 0#32
  let c1_i32 : BitVec 32 := 1#32
  let arg10 : BitVec 32 := Scf.iv c0_i32 c1_i32 k1_t1
  let v443 : Index := Scalar.indexCast arg10
  let c0_88 : Index := 0#32
  ![v443.toNat, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x8x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x8x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x2048x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x2048x8 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x8x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x1x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== ReferenceIdeal.lean ====
abbrev S4x1048576x5 : Shape := ⟨3, ![4, 1048576, 5]⟩
abbrev S4x16x256x256 : Shape := ⟨4, ![4, 16, 256, 256]⟩
abbrev S4x80x256x256 : Shape := ⟨4, ![4, 80, 256, 256]⟩
abbrev S4x16x1x256x256 : Shape := ⟨5, ![4, 16, 1, 256, 256]⟩
abbrev S4x256x256x16x1 : Shape := ⟨5, ![4, 256, 256, 16, 1]⟩
abbrev S4x1048576x1 : Shape := ⟨3, ![4, 1048576, 1]⟩
abbrev S4x1048576 : Shape := ⟨2, ![4, 1048576]⟩
abbrev S_ : Shape := ⟨0, ![]⟩
abbrev S4x16x5x256x256 : Shape := ⟨5, ![4, 16, 5, 256, 256]⟩
abbrev S4x256x256x16x5 : Shape := ⟨5, ![4, 256, 256, 16, 5]⟩
abbrev S4x2000 : Shape := ⟨2, ![4, 2000]⟩
abbrev S4x2000x1 : Shape := ⟨3, ![4, 2000, 1]⟩
abbrev S1 : Shape := ⟨1, ![1]⟩
abbrev S1x1x1 : Shape := ⟨3, ![1, 1, 1]⟩
abbrev S4x2000x5 : Shape := ⟨3, ![4, 2000, 5]⟩
abbrev S4x1x2000 : Shape := ⟨3, ![4, 1, 2000]⟩
abbrev S4x2000x2000 : Shape := ⟨3, ![4, 2000, 2000]⟩
abbrev S2000 : Shape := ⟨1, ![2000]⟩
abbrev S4x1 : Shape := ⟨2, ![4, 1]⟩
abbrev S1x2000 : Shape := ⟨2, ![1, 2000]⟩
abbrev S4x1000 : Shape := ⟨2, ![4, 1000]⟩
abbrev S4x1000x1 : Shape := ⟨3, ![4, 1000, 1]⟩
abbrev S4x1000x5 : Shape := ⟨3, ![4, 1000, 5]⟩

abbrev nBuf : Space → Nat
  | .hbm => 292
  | .vmem => 0
  | .smem => 0
  | _ => 0

abbrev hbmTy0_0 (i : Nat) : BufTy := match i % 128 with
  | 0 => ⟨S4x1048576x5, .f32⟩
  | 1 => ⟨S4x16x256x256, .f32⟩
  | 2 => ⟨S4x80x256x256, .f32⟩
  | 3 => ⟨S4x16x1x256x256, .f32⟩
  | 4 => ⟨S4x256x256x16x1, .f32⟩
  | 5 => ⟨S4x1048576x1, .f32⟩
  | 6 => ⟨S4x1048576, .f32⟩
  | 7 => ⟨S4x1048576, .f32⟩
  | 8 => ⟨S4x1048576, .f32⟩
  | 9 => ⟨S_, .f32⟩
  | 10 => ⟨S4x1048576, .f32⟩
  | 11 => ⟨S4x1048576, .f32⟩
  | 12 => ⟨S_, .f32⟩
  | 13 => ⟨S4x1048576, .f32⟩
  | 14 => ⟨S4x1048576, .f32⟩
  | 15 => ⟨S4x16x5x256x256, .f32⟩
  | 16 => ⟨S4x256x256x16x5, .f32⟩
  | 17 => ⟨S4x1048576x5, .f32⟩
  | 18 => ⟨S4x2000, .f32⟩
  | 19 => ⟨S4x2000, .i32⟩
  | 20 => ⟨S4x2000x1, .i32⟩
  | 21 => ⟨S_, .i32⟩
  | 22 => ⟨S4x2000x1, .i32⟩
  | 23 => ⟨S4x2000x1, .i1⟩
  | 24 => ⟨S_, .i32⟩
  | 25 => ⟨S4x2000x1, .i32⟩
  | 26 => ⟨S4x2000x1, .i32⟩
  | 27 => ⟨S4x2000x1, .i32⟩
  | 28 => ⟨S1, .i32⟩
  | 29 => ⟨S_, .i32⟩
  | 30 => ⟨S4x2000x1, .i32⟩
  | 31 => ⟨S4x2000x1, .i1⟩
  | 32 => ⟨S1x1x1, .i32⟩
  | 33 => ⟨S4x2000x1, .i32⟩
  | 34 => ⟨S4x2000x1, .i1⟩
  | 35 => ⟨S4x2000x1, .i1⟩
  | 36 => ⟨S_, .i1⟩
  | 37 => ⟨S4x2000, .i1⟩
  | 38 => ⟨S4x2000x5, .f32⟩
  | 39 => ⟨S4x2000x5, .i1⟩
  | 40 => ⟨S_, .f32⟩
  | 41 => ⟨S4x2000x5, .f32⟩
  | 42 => ⟨S4x2000x5, .f32⟩
  | 43 => ⟨S4x2000x1, .i32⟩
  | 44 => ⟨S_, .i32⟩
  | 45 => ⟨S4x2000x1, .i32⟩
  | 46 => ⟨S4x2000x1, .i1⟩
  | 47 => ⟨S_, .i32⟩
  | 48 => ⟨S4x2000x1, .i32⟩
  | 49 => ⟨S4x2000x1, .i32⟩
  | 50 => ⟨S4x2000x1, .i32⟩
  | 51 => ⟨S1, .i32⟩
  | 52 => ⟨S_, .i32⟩
  | 53 => ⟨S4x2000x1, .i32⟩
  | 54 => ⟨S4x2000x1, .i1⟩
  | 55 => ⟨S1x1x1, .i32⟩
  | 56 => ⟨S4x2000x1, .i32⟩
  | 57 => ⟨S4x2000x1, .i1⟩
  | 58 => ⟨S4x2000x1, .i1⟩
  | 59 => ⟨S_, .i1⟩
  | 60 => ⟨S4x2000, .i1⟩
  | 61 => ⟨S4x2000x5, .f32⟩
  | 62 => ⟨S4x2000x5, .i1⟩
  | 63 => ⟨S_, .f32⟩
  | 64 => ⟨S4x2000x5, .f32⟩
  | 65 => ⟨S4x2000x5, .f32⟩
  | 66 => ⟨S4x2000x1, .f32⟩
  | 67 => ⟨S4x2000, .f32⟩
  | 68 => ⟨S4x2000x1, .f32⟩
  | 69 => ⟨S4x2000, .f32⟩
  | 70 => ⟨S4x2000x1, .f32⟩
  | 71 => ⟨S4x2000, .f32⟩
  | 72 => ⟨S4x2000x1, .f32⟩
  | 73 => ⟨S4x2000, .f32⟩
  | 74 => ⟨S4x2000x1, .f32⟩
  | 75 => ⟨S4x2000, .f32⟩
  | 76 => ⟨S4x2000x1, .f32⟩
  | 77 => ⟨S4x2000, .f32⟩
  | 78 => ⟨S4x2000x1, .f32⟩
  | 79 => ⟨S4x2000, .f32⟩
  | 80 => ⟨S4x2000x1, .f32⟩
  | 81 => ⟨S4x2000, .f32⟩
  | 82 => ⟨S4x2000x1, .f32⟩
  | 83 => ⟨S4x2000, .f32⟩
  | 84 => ⟨S4x2000x1, .f32⟩
  | 85 => ⟨S4x2000, .f32⟩
  | 86 => ⟨S_, .f32⟩
  | 87 => ⟨S4x2000, .f32⟩
  | 88 => ⟨S4x2000, .f32⟩
  | 89 => ⟨S_, .f32⟩
  | 90 => ⟨S4x2000, .f32⟩
  | 91 => ⟨S4x2000, .f32⟩
  | 92 => ⟨S4x2000, .f32⟩
  | 93 => ⟨S4x2000, .f32⟩
  | 94 => ⟨S4x2000, .f32⟩
  | 95 => ⟨S4x2000, .f32⟩
  | 96 => ⟨S4x2000, .f32⟩
  | 97 => ⟨S4x2000, .f32⟩
  | 98 => ⟨S4x2000, .f32⟩
  | 99 => ⟨S4x2000, .f32⟩
  | 100 => ⟨S_, .f32⟩
  | 101 => ⟨S4x2000, .f32⟩
  | 102 => ⟨S4x2000, .f32⟩
  | 103 => ⟨S4x2000, .f32⟩
  | 104 => ⟨S4x2000x1, .f32⟩
  | 105 => ⟨S4x2000x1, .f32⟩
  | 106 => ⟨S4x2000x1, .f32⟩
  | 107 => ⟨S4x2000x1, .f32⟩
  | 108 => ⟨S4x2000x1, .f32⟩
  | 109 => ⟨S4x2000x5, .f32⟩
  | 110 => ⟨S4x2000x1, .f32⟩
  | 111 => ⟨S4x2000, .f32⟩
  | 112 => ⟨S4x2000x1, .f32⟩
  | 113 => ⟨S4x2000, .f32⟩
  | 114 => ⟨S4x2000x1, .f32⟩
  | 115 => ⟨S4x2000, .f32⟩
  | 116 => ⟨S4x2000x1, .f32⟩
  | 117 => ⟨S4x2000, .f32⟩
  | 118 => ⟨S4x2000x1, .f32⟩
  | 119 => ⟨S4x2000, .f32⟩
  | 120 => ⟨S_, .f32⟩
  | 121 => ⟨S4x2000, .f32⟩
  | 122 => ⟨S4x2000, .f32⟩
  | 123 => ⟨S4x2000, .f32⟩
  | 124 => ⟨S4x2000, .f32⟩
  | 125 => ⟨S4x2000, .f32⟩
  | 126 => ⟨S4x2000, .f32⟩
  | 127 => ⟨S4x2000, .f32⟩
  | _ => ⟨S4x1048576x5, .f32⟩

abbrev hbmTy0_1 (i : Nat) : BufTy := match i % 128 with
  | 0 => ⟨S4x2000, .f32⟩
  | 1 => ⟨S4x2000, .f32⟩
  | 2 => ⟨S_, .f32⟩
  | 3 => ⟨S4x2000, .f32⟩
  | 4 => ⟨S4x2000, .f32⟩
  | 5 => ⟨S4x2000, .f32⟩
  | 6 => ⟨S4x2000, .f32⟩
  | 7 => ⟨S4x2000, .f32⟩
  | 8 => ⟨S_, .f32⟩
  | 9 => ⟨S4x2000, .f32⟩
  | 10 => ⟨S4x2000, .f32⟩
  | 11 => ⟨S4x2000, .f32⟩
  | 12 => ⟨S4x2000, .f32⟩
  | 13 => ⟨S4x2000, .f32⟩
  | 14 => ⟨S4x2000, .f32⟩
  | 15 => ⟨S4x2000, .f32⟩
  | 16 => ⟨S4x2000, .f32⟩
  | 17 => ⟨S4x2000, .f32⟩
  | 18 => ⟨S4x2000x1, .f32⟩
  | 19 => ⟨S4x1x2000, .f32⟩
  | 20 => ⟨S4x2000x2000, .f32⟩
  | 21 => ⟨S4x2000x2000, .f32⟩
  | 22 => ⟨S4x2000x2000, .f32⟩
  | 23 => ⟨S4x2000x1, .f32⟩
  | 24 => ⟨S4x1x2000, .f32⟩
  | 25 => ⟨S4x2000x2000, .f32⟩
  | 26 => ⟨S4x2000x2000, .f32⟩
  | 27 => ⟨S4x2000x2000, .f32⟩
  | 28 => ⟨S4x2000x1, .f32⟩
  | 29 => ⟨S4x1x2000, .f32⟩
  | 30 => ⟨S4x2000x2000, .f32⟩
  | 31 => ⟨S4x2000x2000, .f32⟩
  | 32 => ⟨S4x2000x2000, .f32⟩
  | 33 => ⟨S4x2000x1, .f32⟩
  | 34 => ⟨S4x1x2000, .f32⟩
  | 35 => ⟨S4x2000x2000, .f32⟩
  | 36 => ⟨S4x2000x2000, .f32⟩
  | 37 => ⟨S4x2000x2000, .f32⟩
  | 38 => ⟨S4x2000x2000, .f32⟩
  | 39 => ⟨S_, .f32⟩
  | 40 => ⟨S4x2000x2000, .f32⟩
  | 41 => ⟨S4x2000x2000, .f32⟩
  | 42 => ⟨S4x2000x2000, .f32⟩
  | 43 => ⟨S_, .f32⟩
  | 44 => ⟨S4x2000x2000, .f32⟩
  | 45 => ⟨S4x2000x2000, .f32⟩
  | 46 => ⟨S4x2000x2000, .f32⟩
  | 47 => ⟨S4x2000x1, .f32⟩
  | 48 => ⟨S4x1x2000, .f32⟩
  | 49 => ⟨S4x2000x2000, .f32⟩
  | 50 => ⟨S4x2000x2000, .f32⟩
  | 51 => ⟨S4x2000x2000, .f32⟩
  | 52 => ⟨S4x2000x2000, .f32⟩
  | 53 => ⟨S_, .f32⟩
  | 54 => ⟨S4x2000x2000, .f32⟩
  | 55 => ⟨S4x2000x2000, .f32⟩
  | 56 => ⟨S4x2000x2000, .f32⟩
  | 57 => ⟨S_, .f32⟩
  | 58 => ⟨S4x2000x2000, .f32⟩
  | 59 => ⟨S4x2000x2000, .i1⟩
  | 60 => ⟨S2000, .i32⟩
  | 61 => ⟨S_, .i1⟩
  | 62 => ⟨S4x2000, .i1⟩
  | 63 => ⟨S_, .i32⟩
  | 64 => ⟨S_, .i32⟩
  | 65 => ⟨S4x2000x2000, .i1⟩
  | 66 => ⟨S2000, .i32⟩
  | 67 => ⟨S_, .i32⟩
  | 68 => ⟨S_, .i32⟩
  | 69 => ⟨S4x2000, .i1⟩
  | 70 => ⟨S_, .i32⟩
  | 71 => ⟨S_, .i1⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S_, .i32⟩
  | 79 => ⟨S_, .i32⟩
  | 80 => ⟨S_, .i32⟩
  | 81 => ⟨S4x1, .i1⟩
  | 82 => ⟨S_, .i32⟩
  | 83 => ⟨S_, .i1⟩
  | 84 => ⟨S_, .i32⟩
  | 85 => ⟨S_, .i32⟩
  | 86 => ⟨S_, .i32⟩
  | 87 => ⟨S_, .i32⟩
  | 88 => ⟨S_, .i32⟩
  | 89 => ⟨S_, .i32⟩
  | 90 => ⟨S4x1x2000, .i1⟩
  | 91 => ⟨S4x2000, .i1⟩
  | 92 => ⟨S_, .i32⟩
  | 93 => ⟨S2000, .i32⟩
  | 94 => ⟨S2000, .i1⟩
  | 95 => ⟨S1x2000, .i1⟩
  | 96 => ⟨S4x2000, .i1⟩
  | 97 => ⟨S4x2000, .i1⟩
  | 98 => ⟨S4x2000, .i1⟩
  | 99 => ⟨S4x2000, .i1⟩
  | 100 => ⟨S4x2000, .i1⟩
  | 101 => ⟨S_, .i32⟩
  | 102 => ⟨S_, .i32⟩
  | 103 => ⟨S4x2000, .i1⟩
  | 104 => ⟨S1x2000, .i32⟩
  | 105 => ⟨S_, .i32⟩
  | 106 => ⟨S_, .i32⟩
  | 107 => ⟨S4x2000, .i32⟩
  | 108 => ⟨S4x2000, .i32⟩
  | 109 => ⟨S4x2000, .i32⟩
  | 110 => ⟨S4x2000, .i32⟩
  | 111 => ⟨S4x1000, .i32⟩
  | 112 => ⟨S_, .i32⟩
  | 113 => ⟨S4x1000, .i32⟩
  | 114 => ⟨S4x1000, .i1⟩
  | 115 => ⟨S_, .i32⟩
  | 116 => ⟨S_, .i32⟩
  | 117 => ⟨S4x1000, .i32⟩
  | 118 => ⟨S4x1000, .i32⟩
  | 119 => ⟨S4x1000x1, .i32⟩
  | 120 => ⟨S_, .i32⟩
  | 121 => ⟨S4x1000x1, .i32⟩
  | 122 => ⟨S4x1000x1, .i1⟩
  | 123 => ⟨S_, .i32⟩
  | 124 => ⟨S4x1000x1, .i32⟩
  | 125 => ⟨S4x1000x1, .i32⟩
  | 126 => ⟨S4x1000x1, .i32⟩
  | 127 => ⟨S1, .i32⟩
  | _ => ⟨S4x1048576x5, .f32⟩

abbrev hbmTy0_2 (i : Nat) : BufTy := match i % 128 with
  | 0 => ⟨S_, .i32⟩
  | 1 => ⟨S4x1000x1, .i32⟩
  | 2 => ⟨S4x1000x1, .i1⟩
  | 3 => ⟨S1x1x1, .i32⟩
  | 4 => ⟨S4x1000x1, .i32⟩
  | 5 => ⟨S4x1000x1, .i1⟩
  | 6 => ⟨S4x1000x1, .i1⟩
  | 7 => ⟨S_, .i1⟩
  | 8 => ⟨S4x1000, .i1⟩
  | 9 => ⟨S4x1000x5, .f32⟩
  | 10 => ⟨S4x1000x5, .i1⟩
  | 11 => ⟨S_, .f32⟩
  | 12 => ⟨S4x1000x5, .f32⟩
  | 13 => ⟨S4x1000x5, .f32⟩
  | 14 => ⟨S_, .i32⟩
  | 15 => ⟨S4x1000, .i32⟩
  | 16 => ⟨S4x1000, .i1⟩
  | 17 => ⟨S_, .i32⟩
  | 18 => ⟨S4x1000, .i32⟩
  | 19 => ⟨S4x1000, .i32⟩
  | 20 => ⟨S4x1000, .i32⟩
  | 21 => ⟨S4x1000x1, .i32⟩
  | 22 => ⟨S1, .i32⟩
  | 23 => ⟨S_, .i32⟩
  | 24 => ⟨S4x1000x1, .i32⟩
  | 25 => ⟨S4x1000x1, .i1⟩
  | 26 => ⟨S1x1x1, .i32⟩
  | 27 => ⟨S4x1000x1, .i32⟩
  | 28 => ⟨S4x1000x1, .i1⟩
  | 29 => ⟨S4x1000x1, .i1⟩
  | 30 => ⟨S_, .i1⟩
  | 31 => ⟨S4x1000, .i1⟩
  | 32 => ⟨S4x1000, .f32⟩
  | 33 => ⟨S_, .f32⟩
  | 34 => ⟨S4x1000, .f32⟩
  | 35 => ⟨S4x1000, .f32⟩
  | _ => ⟨S4x1048576x5, .f32⟩

abbrev hbmTy (i : Nat) : BufTy := match i / 128 with
  | 0 => hbmTy0_0 i
  | 1 => hbmTy0_1 i
  | 2 => hbmTy0_2 i
  | _ => ⟨S4x1048576x5, .f32⟩

abbrev bufTy : (tb : Table) → Fin (tcTables nBuf tb) → BufTy
  | .hbm, ⟨i, _⟩ => hbmTy i
  | _, _ => ⟨S4x1048576x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_values : Ref sig .tc := ⟨.hbm, 18, rfl⟩
abbrev main_indices : Ref sig .tc := ⟨.hbm, 19, rfl⟩
abbrev main_v13 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_c_1 : Ref sig .tc := ⟨.hbm, 28, rfl⟩
abbrev main_call0_c_2 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_c_3 : Ref sig .tc := ⟨.hbm, 36, rfl⟩
abbrev main_call0_v11 : Ref sig .tc := ⟨.hbm, 37, rfl⟩
abbrev main_call0_v12 : Ref sig .tc := ⟨.hbm, 38, rfl⟩
abbrev main_call0_v13 : Ref sig .tc := ⟨.hbm, 39, rfl⟩
abbrev main_call0_cst : Ref sig .tc := ⟨.hbm, 40, rfl⟩
abbrev main_call0_v14 : Ref sig .tc := ⟨.hbm, 41, rfl⟩
abbrev main_v14 : Ref sig .tc := ⟨.hbm, 42, rfl⟩
abbrev main_v15 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c_1 : Ref sig .tc := ⟨.hbm, 51, rfl⟩
abbrev main_call1_c_2 : Ref sig .tc := ⟨.hbm, 52, rfl⟩
abbrev main_call1_v5 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_c_3 : Ref sig .tc := ⟨.hbm, 59, rfl⟩
abbrev main_call1_v11 : Ref sig .tc := ⟨.hbm, 60, rfl⟩
abbrev main_call1_v12 : Ref sig .tc := ⟨.hbm, 61, rfl⟩
abbrev main_call1_v13 : Ref sig .tc := ⟨.hbm, 62, rfl⟩
abbrev main_call1_cst : Ref sig .tc := ⟨.hbm, 63, rfl⟩
abbrev main_call1_v14 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_cst_1 : Ref sig .tc := ⟨.hbm, 86, rfl⟩
abbrev main_v37 : Ref sig .tc := ⟨.hbm, 87, rfl⟩
abbrev main_v38 : Ref sig .tc := ⟨.hbm, 88, rfl⟩
abbrev main_cst_2 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_cst_3 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_cst_4 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_cst_5 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_cst_6 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_cst_7 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_cst_8 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_cst_9 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_cst_10 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_c : Ref sig .tc := ⟨.hbm, 189, rfl⟩
abbrev main_v130 : Ref sig .tc := ⟨.hbm, 190, rfl⟩
abbrev main_c_11 : Ref sig .tc := ⟨.hbm, 191, rfl⟩
abbrev main_c_12 : Ref sig .tc := ⟨.hbm, 192, rfl⟩
abbrev main_v131_0 : Ref sig .tc := ⟨.hbm, 193, rfl⟩
abbrev main_v131_1 : Ref sig .tc := ⟨.hbm, 194, rfl⟩
abbrev main_v131_2 : Ref sig .tc := ⟨.hbm, 195, rfl⟩
abbrev main_v131_3 : Ref sig .tc := ⟨.hbm, 196, rfl⟩
abbrev main_v131_4 : Ref sig .tc := ⟨.hbm, 197, rfl⟩
abbrev main_while0c_c_20 : Ref sig .tc := ⟨.hbm, 198, rfl⟩
abbrev main_while0c_v143 : Ref sig .tc := ⟨.hbm, 199, rfl⟩
abbrev main_while0b_c_20 : Ref sig .tc := ⟨.hbm, 200, rfl⟩
abbrev main_while0b_v143 : Ref sig .tc := ⟨.hbm, 201, rfl⟩
abbrev main_while0b_c_21 : Ref sig .tc := ⟨.hbm, 202, rfl⟩
abbrev main_while0b_v144 : Ref sig .tc := ⟨.hbm, 203, rfl⟩
abbrev main_while0b_v145 : Ref sig .tc := ⟨.hbm, 204, rfl⟩
abbrev main_while0b_c_22 : Ref sig .tc := ⟨.hbm, 205, rfl⟩
abbrev main_while0b_v146 : Ref sig .tc := ⟨.hbm, 206, rfl⟩
abbrev main_while0b_v147 : Ref sig .tc := ⟨.hbm, 207, rfl⟩
abbrev main_while0b_c_23 : Ref sig .tc := ⟨.hbm, 208, rfl⟩
abbrev main_while0b_v148 : Ref sig .tc := ⟨.hbm, 209, rfl⟩
abbrev main_while0b_call2_c : Ref sig .tc := ⟨.hbm, 210, rfl⟩
abbrev main_while0b_call2_v0 : Ref sig .tc := ⟨.hbm, 211, rfl⟩
abbrev main_while0b_call2_v1 : Ref sig .tc := ⟨.hbm, 212, rfl⟩
abbrev main_while0b_call2_c_0 : Ref sig .tc := ⟨.hbm, 213, rfl⟩
abbrev main_while0b_call2_v2 : Ref sig .tc := ⟨.hbm, 214, rfl⟩
abbrev main_while0b_call2_v3 : Ref sig .tc := ⟨.hbm, 215, rfl⟩
abbrev main_while0b_call2_c_1 : Ref sig .tc := ⟨.hbm, 216, rfl⟩
abbrev main_while0b_call2_c_2 : Ref sig .tc := ⟨.hbm, 217, rfl⟩
abbrev main_while0b_call2_v4 : Ref sig .tc := ⟨.hbm, 218, rfl⟩
abbrev main_while0b_v149 : Ref sig .tc := ⟨.hbm, 219, rfl⟩
abbrev main_while0b_v150 : Ref sig .tc := ⟨.hbm, 220, rfl⟩
abbrev main_while0b_v151 : Ref sig .tc := ⟨.hbm, 221, rfl⟩
abbrev main_while0b_v152 : Ref sig .tc := ⟨.hbm, 222, rfl⟩
abbrev main_while0b_v153 : Ref sig .tc := ⟨.hbm, 223, rfl⟩
abbrev main_while0b_v154 : Ref sig .tc := ⟨.hbm, 224, rfl⟩
abbrev main_while0b_v155 : Ref sig .tc := ⟨.hbm, 225, rfl⟩
abbrev main_while0b_v156 : Ref sig .tc := ⟨.hbm, 226, rfl⟩
abbrev main_while0b_call3_v0 : Ref sig .tc := ⟨.hbm, 227, rfl⟩
abbrev main_while0b_v157 : Ref sig .tc := ⟨.hbm, 228, rfl⟩
abbrev main_while0b_c_24 : Ref sig .tc := ⟨.hbm, 229, rfl⟩
abbrev main_while0b_v158 : Ref sig .tc := ⟨.hbm, 230, rfl⟩
abbrev main_v132 : Ref sig .tc := ⟨.hbm, 231, rfl⟩
abbrev main_v133 : Ref sig .tc := ⟨.hbm, 232, rfl⟩
abbrev main_c_13 : Ref sig .tc := ⟨.hbm, 233, rfl⟩
abbrev main_call4_v0 : Ref sig .tc := ⟨.hbm, 234, rfl⟩
abbrev main_call4_v1 : Ref sig .tc := ⟨.hbm, 235, rfl⟩
abbrev main_call4_v2 : Ref sig .tc := ⟨.hbm, 236, rfl⟩
abbrev main_v134 : Ref sig .tc := ⟨.hbm, 237, rfl⟩
abbrev main_v135 : Ref sig .tc := ⟨.hbm, 238, rfl⟩
abbrev main_v136 : Ref sig .tc := ⟨.hbm, 239, rfl⟩
abbrev main_c_14 : Ref sig .tc := ⟨.hbm, 240, rfl⟩
abbrev main_v137 : Ref sig .tc := ⟨.hbm, 241, rfl⟩
abbrev main_v138 : Ref sig .tc := ⟨.hbm, 242, rfl⟩
abbrev main_c_15 : Ref sig .tc := ⟨.hbm, 243, rfl⟩
abbrev main_call6_v0 : Ref sig .tc := ⟨.hbm, 244, rfl⟩
abbrev main_call6_v1 : Ref sig .tc := ⟨.hbm, 245, rfl⟩
abbrev main_v139 : Ref sig .tc := ⟨.hbm, 246, rfl⟩
abbrev main_v140 : Ref sig .tc := ⟨.hbm, 247, rfl⟩
abbrev main_call7_c : Ref sig .tc := ⟨.hbm, 248, rfl⟩
abbrev main_call7_v0 : Ref sig .tc := ⟨.hbm, 249, rfl⟩
abbrev main_call7_v1 : Ref sig .tc := ⟨.hbm, 250, rfl⟩
abbrev main_call7_c_0 : Ref sig .tc := ⟨.hbm, 251, rfl⟩
abbrev main_call7_v2 : Ref sig .tc := ⟨.hbm, 252, rfl⟩
abbrev main_call7_v3 : Ref sig .tc := ⟨.hbm, 253, rfl⟩
abbrev main_call7_v4 : Ref sig .tc := ⟨.hbm, 254, rfl⟩
abbrev main_call7_c_1 : Ref sig .tc := ⟨.hbm, 255, rfl⟩
abbrev main_call7_c_2 : Ref sig .tc := ⟨.hbm, 256, rfl⟩
abbrev main_call7_v5 : Ref sig .tc := ⟨.hbm, 257, rfl⟩
abbrev main_call7_v6 : Ref sig .tc := ⟨.hbm, 258, rfl⟩
abbrev main_call7_v7 : Ref sig .tc := ⟨.hbm, 259, rfl⟩
abbrev main_call7_v8 : Ref sig .tc := ⟨.hbm, 260, rfl⟩
abbrev main_call7_v9 : Ref sig .tc := ⟨.hbm, 261, rfl⟩
abbrev main_call7_v10 : Ref sig .tc := ⟨.hbm, 262, rfl⟩
abbrev main_call7_c_3 : Ref sig .tc := ⟨.hbm, 263, rfl⟩
abbrev main_call7_v11 : Ref sig .tc := ⟨.hbm, 264, rfl⟩
abbrev main_call7_v12 : Ref sig .tc := ⟨.hbm, 265, rfl⟩
abbrev main_call7_v13 : Ref sig .tc := ⟨.hbm, 266, rfl⟩
abbrev main_call7_cst : Ref sig .tc := ⟨.hbm, 267, rfl⟩
abbrev main_call7_v14 : Ref sig .tc := ⟨.hbm, 268, rfl⟩
abbrev main_v141 : Ref sig .tc := ⟨.hbm, 269, rfl⟩
abbrev main_call8_c : Ref sig .tc := ⟨.hbm, 270, rfl⟩
abbrev main_call8_v0 : Ref sig .tc := ⟨.hbm, 271, rfl⟩
abbrev main_call8_v1 : Ref sig .tc := ⟨.hbm, 272, rfl⟩
abbrev main_call8_c_0 : Ref sig .tc := ⟨.hbm, 273, rfl⟩
abbrev main_call8_v2 : Ref sig .tc := ⟨.hbm, 274, rfl⟩
abbrev main_call8_v3 : Ref sig .tc := ⟨.hbm, 275, rfl⟩
abbrev main_call8_v4 : Ref sig .tc := ⟨.hbm, 276, rfl⟩
abbrev main_call8_v5 : Ref sig .tc := ⟨.hbm, 277, rfl⟩
abbrev main_call8_c_1 : Ref sig .tc := ⟨.hbm, 278, rfl⟩
abbrev main_call8_c_2 : Ref sig .tc := ⟨.hbm, 279, rfl⟩
abbrev main_call8_v6 : Ref sig .tc := ⟨.hbm, 280, rfl⟩
abbrev main_call8_v7 : Ref sig .tc := ⟨.hbm, 281, rfl⟩
abbrev main_call8_v8 : Ref sig .tc := ⟨.hbm, 282, rfl⟩
abbrev main_call8_v9 : Ref sig .tc := ⟨.hbm, 283, rfl⟩
abbrev main_call8_v10 : Ref sig .tc := ⟨.hbm, 284, rfl⟩
abbrev main_call8_v11 : Ref sig .tc := ⟨.hbm, 285, rfl⟩
abbrev main_call8_c_3 : Ref sig .tc := ⟨.hbm, 286, rfl⟩
abbrev main_call8_v12 : Ref sig .tc := ⟨.hbm, 287, rfl⟩
abbrev main_call8_v13 : Ref sig .tc := ⟨.hbm, 288, rfl⟩
abbrev main_call8_cst : Ref sig .tc := ⟨.hbm, 289, rfl⟩
abbrev main_call8_v14 : Ref sig .tc := ⟨.hbm, 290, rfl⟩
abbrev main_v142 : Ref sig .tc := ⟨.hbm, 291, rfl⟩

abbrev nD : Nat := 1
abbrev τ : Topo := Topo.v7x

variable {F : FTy → Type} [FloatOps F]

abbrev main_while0_count : Scf.Loop 32 := ⟨0#32, 2000#32, 1#32⟩
-- ==== Proof.KernelIdealLaunch.lean ====
module

public import proofs.«01_k».proof.Proof.Gen.KernelIdeal
public import Idealize.ShloMosaic.Lib.Pipeline.Kit
public import Idealize.ShloMosaic.Lib.Pipeline.Regions

@[expose] public section

-- the launch kit's decided enumerations over 270 references recurse past the default depth
set_option maxRecDepth 1592

noncomputable section

namespace Cert.KernelIdeal.Gen

open Idealize.ShloMosaic Idealize.ShloMosaic.TcCoe Idealize.ShloMosaic.StableHlo
open Idealize.SL Idealize.SL.RA Idealize.SL.BI
open scoped Idealize.SL.BI
open Idealize.SL.BI.BIBase Idealize.SL.Sem

variable {F : FTy → Type} [FloatOps F]
/-! ## The staging cells -/

/-- Each custom_call's staging semaphores, listed window by window and slot by slot. -/
abbrev semTab : Fin 2 → List (DmaSem sig) :=
  fun | 0 => Pipeline.specSems spec0 | 1 => Pipeline.specSems spec1 | ⟨_ + 2, h⟩ => absurd h (Nat.not_lt.2 (Nat.le_add_left _ _))
/-- Within each custom_call, no two staging buffers complete on one DMA semaphore. -/
theorem semsDistinct : ∀ p : Fin 2, (semTab p).Nodup := by decide
/-- No two custom_calls' staging buffers share a DMA semaphore. -/
theorem semsDisjoint : ∀ p p' : Fin 2, p ≠ p' → (semTab p).Forall (· ∉ semTab p') := by decide
/-- The program's staging cells are pairwise distinct. -/
theorem cellOf_inj : Function.Injective (Pipeline.cellOf (nD := nD) (τ := τ) cfgs) :=
  Pipeline.cellOf_injective_of_table cfgs semTab (fun | 0 => rfl | 1 => rfl | ⟨_ + 2, h⟩ => absurd h (Nat.not_lt.2 (Nat.le_add_left _ _))) semsDistinct semsDisjoint

/-! ## custom_call 0 (pipeline 0 of @main) -/

/-- The layout the launch needs: the windows' arrays unscoped, distinct buffers, the staging buffers scoped and
    distinct, the staging semaphores scoped. -/
theorem winFacts0 : Pipeline.WinFacts spec0 := by decide
/-- No window's block is empty. -/
theorem block_pos0 : ∀ w : Fin 3, 0 < (spec0 w).block.numel := by decide
/-- The windows' arrays and the staging memrefs are whole buffers. -/
theorem arr_whole0 : ∀ w : Fin 3, (spec0 w).arr.IsWhole := fun | 0 => Memref.isWhole_whole _ | 1 => Memref.isWhole_whole _ | 2 => Memref.isWhole_whole _ | ⟨_ + 3, h⟩ => absurd h (Nat.not_lt.2 (Nat.le_add_left _ _))
theorem stage_whole0 : ∀ (w : Fin 3) (s : Fin (spec0 w).nbuf), ((spec0 w).stage s).IsWhole := fun | 0 => fun s => hstage0_0 (s.cast nbuf0_0) | 1 => fun s => hstage0_1 (s.cast nbuf0_1) | 2 => fun s => hstage0_2 (s.cast nbuf0_2) | ⟨_ + 3, h⟩ => absurd h (Nat.not_lt.2 (Nat.le_add_left _ _))
/-- The five, bundled: what the kit-form launch theorems (Lib/Pipeline/Kit.lean `θ_run_region*_kit`) take. -/
theorem launch0 : Pipeline.LaunchFacts (nD := nD) (τ := τ) cfgs 0 := ⟨cellOf_inj, winFacts0, block_pos0, arr_whole0, stage_whole0⟩

/-- The grid has 4 points. -/
theorem N_0 : grid0.N = 4 := by decide
/-- Point 0. -/
def t0_0 : Fin grid0.N := ⟨0, by rw [N_0]; decide⟩
/-- Point 1. -/
def t0_1 : Fin grid0.N := ⟨1, by rw [N_0]; decide⟩
/-- Point 2. -/
def t0_2 : Fin grid0.N := ⟨2, by rw [N_0]; decide⟩
/-- Point 3. -/
def t0_3 : Fin grid0.N := ⟨3, by rw [N_0]; decide⟩
/-- Every point is one of them. -/
theorem fin_N0 (t : Fin grid0.N) : t = t0_0 ∨ t = t0_1 ∨ t = t0_2 ∨ t = t0_3 := by
  obtain ⟨t, ht⟩ := t; have := N_0; simp only [t0_0, t0_1, t0_2, t0_3, Fin.mk.injEq]; omega

/-- The windows conjoined one by one. -/
theorem bigSep_W0 {M : Type} [URA M] (Φ : Fin 3 → sProp M) : bigSep Finset.univ Φ = iprop(Φ (0 : Fin 3) ∗ Φ (1 : Fin 3) ∗ Φ (2 : Fin 3)) :=
  bigSep_univ_eq_bigSepL [(0 : Fin 3), (1 : Fin 3), (2 : Fin 3)] (by decide) (by decide) Φ
/-- The core's scoped buffers that are no staging buffer of custom_call 0, each whole at some contents:
    `cc1_stg0_0`, `cc1_stg0_1`, `cc1_stg1_0`, `cc1_stg1_1`, `cc1_stg2_0`, `cc1_stg2_1`, `cc1_stg3_0`, `cc1_stg3_1`, `cc1_stg4_0`, `cc1_stg4_1`, `cc1_stg5_0`, `cc1_stg5_1`, `cc1_stg6_0`, `cc1_stg6_1`, `cc1_stg7_0`, `cc1_stg7_1`, `cc1_scratch0`. -/
theorem scopedRest0_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl))
      = iprop((∃ f : Buf Val ((c : Thread nD τ).loc cc1_stg0_0), ((c : Thread nD τ).loc cc1_stg0_0) ↦{fullShare} f) ∗ (∃ f : Buf Val ((c : Thread nD τ).loc cc1_stg0_1), ((c : Thread nD τ).loc cc1_stg0_1) ↦{fullShare} f) ∗ (∃ f : Buf Val ((c : Thread nD τ).loc cc1_stg1_0), ((c : Thread nD τ).loc cc1_stg1_0) ↦{fullShare} f) ∗ (∃ f : Buf Val ((c : Thread nD τ).loc cc1_stg1_1), ((c : Thread nD τ).loc cc1_stg1_1) ↦{fullShare} f) ∗ (∃ f : Buf Val ((c : Thread nD τ).loc cc1_stg2_0), ((c : Thread nD τ).loc cc1_stg2_0) ↦{fullShare} f) ∗ (∃ f : Buf Val ((c : Thread nD τ).loc cc1_stg2_1), ((c : Thread nD τ).loc cc1_stg2_1) ↦{fullShare} f) ∗ (∃ f : Buf Val ((c : Thread nD τ).loc cc1_stg3_0), ((c : Thread nD τ).loc cc1_stg3_0) ↦{fullShare} f) ∗ (∃ f : Buf Val ((c : Thread nD τ).loc cc1_stg3_1), ((c : Thread nD τ).loc cc1_stg3_1) ↦{fullShare} f) ∗ (∃ f : Buf Val ((c : Thread nD τ).loc cc1_stg4_0), ((c : Thread nD τ).loc cc1_stg4_0) ↦{fullShare} f) ∗ (∃ f : Buf Val ((c : Thread nD τ).loc cc1_stg4_1), ((c : Thread nD τ).loc cc1_stg4_1) ↦{fullShare} f) ∗ (∃ f : Buf Val ((c : Thread nD τ).loc cc1_stg5_0), ((c : Thread nD τ).loc cc1_stg5_0) ↦{fullShare} f) ∗ (∃ f : Buf Val ((c : Thread nD τ).loc cc1_stg5_1), ((c : Thread nD τ).loc cc1_stg5_1) ↦{fullShare} f) ∗ (∃ f : Buf Val ((c : Thread nD τ).loc cc1_stg6_0), ((c : Thread nD τ).loc cc1_stg6_0) ↦{fullShare} f) ∗ (∃ f : Buf Val ((c : Thread nD τ).loc cc1_stg6_1), ((c : Thread nD τ).loc cc1_stg6_1) ↦{fullShare} f) ∗ (∃ f : Buf Val ((c : Thread nD τ).loc cc1_stg7_0), ((c : Thread nD τ).loc cc1_stg7_0) ↦{fullShare} f) ∗ (∃ f : Buf Val ((c : Thread nD τ).loc cc1_stg7_1), ((c : Thread nD τ).loc cc1_stg7_1) ↦{fullShare} f) ∗ (∃ f : Buf Val ((c : Thread nD τ).loc cc1_scratch0), ((c : Thread nD τ).loc cc1_scratch0) ↦{fullShare} f)) :=
  Pipeline.scopedRest_eq_of_list spec0 c [cc1_stg0_0, cc1_stg0_1, cc1_stg1_0, cc1_stg1_1, cc1_stg2_0, cc1_stg2_1, cc1_stg3_0, cc1_stg3_1, cc1_stg4_0, cc1_stg4_1, cc1_stg5_0, cc1_stg5_1, cc1_stg6_0, cc1_stg6_1, cc1_stg7_0, cc1_stg7_1, cc1_scratch0] (by decide) (by decide)
-- the unscoped rest of custom_call 0 is 244 buffers: not enumerated (routed whole, as `Pipeline.unscopedRest`)

/-! ## custom_call 1 (pipeline 1 of @main) -/

/-- The layout the launch needs: the windows' arrays unscoped, distinct buffers, the staging buffers scoped and
    distinct, the staging semaphores scoped. -/
theorem winFacts1 : Pipeline.WinFacts spec1 := by decide
/-- No window's block is empty. -/
theorem block_pos1 : ∀ w : Fin 8, 0 < (spec1 w).block.numel := by decide
/-- The windows' arrays and the staging memrefs are whole buffers. -/
theorem arr_whole1 : ∀ w : Fin 8, (spec1 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | 7 => Memref.isWhole_whole _ | ⟨_ + 8, h⟩ => absurd h (Nat.not_lt.2 (Nat.le_add_left _ _))
theorem stage_whole1 : ∀ (w : Fin 8) (s : Fin (spec1 w).nbuf), ((spec1 w).stage s).IsWhole := fun | 0 => fun s => hstage1_0 (s.cast nbuf1_0) | 1 => fun s => hstage1_1 (s.cast nbuf1_1) | 2 => fun s => hstage1_2 (s.cast nbuf1_2) | 3 => fun s => hstage1_3 (s.cast nbuf1_3) | 4 => fun s => hstage1_4 (s.cast nbuf1_4) | 5 => fun s => hstage1_5 (s.cast nbuf1_5) | 6 => fun s => hstage1_6 (s.cast nbuf1_6) | 7 => fun s => hstage1_7 (s.cast nbuf1_7) | ⟨_ + 8, h⟩ => absurd h (Nat.not_lt.2 (Nat.le_add_left _ _))
/-- The five, bundled: what the kit-form launch theorems (Lib/Pipeline/Kit.lean `θ_run_region*_kit`) take. -/
theorem launch1 : Pipeline.LaunchFacts (nD := nD) (τ := τ) cfgs 1 := ⟨cellOf_inj, winFacts1, block_pos1, arr_whole1, stage_whole1⟩

/-- The grid has 4 points. -/
theorem N_1 : grid1.N = 4 := by decide
/-- Point 0. -/
def t1_0 : Fin grid1.N := ⟨0, by rw [N_1]; decide⟩
/-- Point 1. -/
def t1_1 : Fin grid1.N := ⟨1, by rw [N_1]; decide⟩
/-- Point 2. -/
def t1_2 : Fin grid1.N := ⟨2, by rw [N_1]; decide⟩
/-- Point 3. -/
def t1_3 : Fin grid1.N := ⟨3, by rw [N_1]; decide⟩
/-- Every point is one of them. -/
theorem fin_N1 (t : Fin grid1.N) : t = t1_0 ∨ t = t1_1 ∨ t = t1_2 ∨ t = t1_3 := by
  obtain ⟨t, ht⟩ := t; have := N_1; simp only [t1_0, t1_1, t1_2, t1_3, Fin.mk.injEq]; omega

/-- The windows conjoined one by one. -/
theorem bigSep_W1 {M : Type} [URA M] (Φ : Fin 8 → sProp M) : bigSep Finset.univ Φ = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) :=
  bigSep_univ_eq_bigSepL [(0 : Fin 8), (1 : Fin 8), (2 : Fin 8), (3 : Fin 8), (4 : Fin 8), (5 : Fin 8), (6 : Fin 8), (7 : Fin 8)] (by decide) (by decide) Φ
/-- The core's scoped buffers that are no staging buffer of custom_call 1, each whole at some contents:
    `cc0_stg0_0`, `cc0_stg0_1`, `cc0_stg1_0`, `cc0_stg1_1`, `cc0_stg2_0`, `cc0_stg2_1`, `cc1_scratch0`. -/
theorem scopedRest1_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec1 c : sProp (MT nD τ sig Ix Val Name U Lvl))
      = iprop((∃ f : Buf Val ((c : Thread nD τ).loc cc0_stg0_0), ((c : Thread nD τ).loc cc0_stg0_0) ↦{fullShare} f) ∗ (∃ f : Buf Val ((c : Thread nD τ).loc cc0_stg0_1), ((c : Thread nD τ).loc cc0_stg0_1) ↦{fullShare} f) ∗ (∃ f : Buf Val ((c : Thread nD τ).loc cc0_stg1_0), ((c : Thread nD τ).loc cc0_stg1_0) ↦{fullShare} f) ∗ (∃ f : Buf Val ((c : Thread nD τ).loc cc0_stg1_1), ((c : Thread nD τ).loc cc0_stg1_1) ↦{fullShare} f) ∗ (∃ f : Buf Val ((c : Thread nD τ).loc cc0_stg2_0), ((c : Thread nD τ).loc cc0_stg2_0) ↦{fullShare} f) ∗ (∃ f : Buf Val ((c : Thread nD τ).loc cc0_stg2_1), ((c : Thread nD τ).loc cc0_stg2_1) ↦{fullShare} f) ∗ (∃ f : Buf Val ((c : Thread nD τ).loc cc1_scratch0), ((c : Thread nD τ).loc cc1_scratch0) ↦{fullShare} f)) :=
  Pipeline.scopedRest_eq_of_list spec1 c [cc0_stg0_0, cc0_stg0_1, cc0_stg1_0, cc0_stg1_1, cc0_stg2_0, cc0_stg2_1, cc1_scratch0] (by decide) (by decide)
-- the unscoped rest of custom_call 1 is 239 buffers: not enumerated (routed whole, as `Pipeline.unscopedRest`)

/-! ## @main as segments and as a chain of items (Lib/Pipeline/Regions.lean `θ_run_regions_kit`, `Pipeline.chain`) -/
/-- 3 host operations of @main, window 0 (statements 1 … 60), in order. -/
abbrev main_part0_ops0 : List (HloOp τ sig (Elt F)) :=
  [ StableHlo.unary main_arg1 main_v0 ((transpose S4x256x256x16 [0, 2, 3, 1] · transposes_S4x16x256x256_S4x256x256x16_0_2_3_1) : (⟨S4x16x256x256, .f32⟩ : BufTy).Contents (Elt F) → (⟨S4x256x256x16, .f32⟩ : BufTy).Contents (Elt F)),
    StableHlo.reshape main_v0 main_v1 (rfl : (.f32 : EltTy) = .f32) shapeCasts_S4x256x256x16_S4x1048576,
    StableHlo.reshape main_v1 main_v2 (rfl : (.f32 : EltTy) = .f32) shapeCasts_S4x1048576_S4x2048x512 ]
theorem main_part0_ops0_sub : (main_part0_ops0 : List (HloOp τ sig (Elt F))).Forall fun op => op.bufs ⊆ StableHlo.tcRefs τ sig :=
  ⟨unary_bufs_sub .., reshape_bufs_sub .., reshape_bufs_sub ..⟩
/-- 4 host operations of @main, window 0 (statements 1 … 60), in order. -/
abbrev main_part0_ops1 : List (HloOp τ sig (Elt F)) :=
  [ StableHlo.reshape main_v3_0 main_v4 (rfl : (.f32 : EltTy) = .f32) shapeCasts_S4x2048x16_S4x32768,
    StableHlo.unary main_v4 main_values ((fun x => (Host.topK S4x2000 1 (FloatOps.cmpfTotal .gt) x sliceFits_S4x32768_S4x2000).1) : (⟨S4x32768, .f32⟩ : BufTy).Contents (Elt F) → (⟨S4x2000, .f32⟩ : BufTy).Contents (Elt F)),
    StableHlo.unary main_v4 main_indices ((fun x => (Host.topK S4x2000 1 (FloatOps.cmpfTotal .gt) x sliceFits_S4x32768_S4x2000).2) : (⟨S4x32768, .f32⟩ : BufTy).Contents (Elt F) → (⟨S4x2000, .i32⟩ : BufTy).Contents (Elt F)),
    StableHlo.reshape main_v3_1 main_v5 (rfl : (.i32 : EltTy) = .i32) shapeCasts_S4x2048x16_S4x32768 ]
theorem main_part0_ops1_sub : (main_part0_ops1 : List (HloOp τ sig (Elt F))).Forall fun op => op.bufs ⊆ StableHlo.tcRefs τ sig :=
  ⟨reshape_bufs_sub .., unary_bufs_sub .., unary_bufs_sub .., reshape_bufs_sub ..⟩
/-- 22 host operations of @take_along_axis (main_call0), window 0 (statements 1 … 60), in order. -/
abbrev main_part0_ops2 : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S4x2000, .i32⟩) (broadcastInDim S4x2000 ![] bcast_S_S4x2000),
    StableHlo.TRef.binary (.of main_indices : StableHlo.TRef sig ⟨S4x2000, .i32⟩) (.of main_call0_v0 : StableHlo.TRef sig ⟨S4x2000, .i32⟩) (.of main_call0_v1 : StableHlo.TRef sig ⟨S4x2000, .i1⟩) (cmpi .slt),
    StableHlo.TRef.nullary (.of main_call0_c_0 : StableHlo.TRef sig ⟨S_, .i32⟩) (constantI S_ 32 32768#32),
    StableHlo.TRef.unary (.of main_call0_c_0 : StableHlo.TRef sig ⟨S_, .i32⟩) (.of main_call0_v2 : StableHlo.TRef sig ⟨S4x2000, .i32⟩) (broadcastInDim S4x2000 ![] bcast_S_S4x2000),
    StableHlo.TRef.binary (.of main_indices : StableHlo.TRef sig ⟨S4x2000, .i32⟩) (.of main_call0_v2 : StableHlo.TRef sig ⟨S4x2000, .i32⟩) (.of main_call0_v3 : StableHlo.TRef sig ⟨S4x2000, .i32⟩) addi,
    StableHlo.TRef.ternary (.of main_call0_v1 : StableHlo.TRef sig ⟨S4x2000, .i1⟩) (.of main_call0_v3 : StableHlo.TRef sig ⟨S4x2000, .i32⟩) (.of main_indices : StableHlo.TRef sig ⟨S4x2000, .i32⟩) (.of main_call0_v4 : StableHlo.TRef sig ⟨S4x2000, .i32⟩) select,
    StableHlo.TRef.reshape (.of main_call0_v4 : StableHlo.TRef sig ⟨S4x2000, .i32⟩) (.of main_call0_v5 : StableHlo.TRef sig ⟨S4x2000x1, .i32⟩) (rfl : (.i32 : EltTy) = .i32) shapeCasts_S4x2000_S4x2000x1,
    StableHlo.TRef.nullary (.of main_call0_c_1 : StableHlo.TRef sig ⟨S1, .i32⟩) (constantI S1 32 32767#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S4x2000x1, .i32⟩) (broadcastInDim S4x2000x1 ![] bcast_S_S4x2000x1),
    StableHlo.TRef.binary (.of main_call0_v5 : StableHlo.TRef sig ⟨S4x2000x1, .i32⟩) (.of main_call0_v6 : StableHlo.TRef sig ⟨S4x2000x1, .i32⟩) (.of main_call0_v7 : StableHlo.TRef sig ⟨S4x2000x1, .i1⟩) (cmpi .sge),
    StableHlo.TRef.unary (.of main_call0_c_1 : StableHlo.TRef sig ⟨S1, .i32⟩) (.of main_call0_v8 : StableHlo.TRef sig ⟨S1x1x1, .i32⟩) (broadcastInDim S1x1x1 ![2] bcast_S1_S1x1x1_2),
    StableHlo.TRef.unary (.of main_call0_v8 : StableHlo.TRef sig ⟨S1x1x1, .i32⟩) (.of main_call0_v9 : StableHlo.TRef sig ⟨S4x2000x1, .i32⟩) (broadcastInDim S4x2000x1 ![0, 1, 2] bcast_S1x1x1_S4x2000x1_0_1_2),
    StableHlo.TRef.binary (.of main_call0_v5 : StableHlo.TRef sig ⟨S4x2000x1, .i32⟩) (.of main_call0_v9 : StableHlo.TRef sig ⟨S4x2000x1, .i32⟩) (.of main_call0_v10 : StableHlo.TRef sig ⟨S4x2000x1, .i1⟩) (cmpi .sle),
    StableHlo.TRef.binary (.of main_call0_v7 : StableHlo.TRef sig ⟨S4x2000x1, .i1⟩) (.of main_call0_v10 : StableHlo.TRef sig ⟨S4x2000x1, .i1⟩) (.of main_call0_v11 : StableHlo.TRef sig ⟨S4x2000x1, .i1⟩) andi,
    StableHlo.TRef.nullary (.of main_call0_c_3 : StableHlo.TRef sig ⟨S_, .i1⟩) (constantI S_ 1 1#1),
    StableHlo.TRef.binary (.of main_call0_v11 : StableHlo.TRef sig ⟨S4x2000x1, .i1⟩) (.of main_call0_c_3 : StableHlo.TRef sig ⟨S_, .i1⟩) (.of main_call0_v12 : StableHlo.TRef sig ⟨S4x2000, .i1⟩) (fun x v => Host.reduce IntOp.andi x v reducesTo_S4x2000x1_S4x2000_d2 h_S_),
    StableHlo.TRef.binary (.of main_v5 : StableHlo.TRef sig ⟨S4x32768, .i32⟩) (.of main_call0_v5 : StableHlo.TRef sig ⟨S4x2000x1, .i32⟩) (.of main_call0_v13 : StableHlo.TRef sig ⟨S4x2000, .i32⟩) (fun x i => Host.gather gather_S4x32768_S4x2000x1_S4x2000_n_1_0_0_1_2_11 x i),
    StableHlo.TRef.nullary (.of main_call0_c_4 : StableHlo.TRef sig ⟨S_, .i32⟩) (constantI S_ 32 2147483648#32),
    StableHlo.TRef.unary (.of main_call0_c_4 : StableHlo.TRef sig ⟨S_, .i32⟩) (.of main_call0_v14 : StableHlo.TRef sig ⟨S4x2000, .i32⟩) (broadcastInDim S4x2000 ![] bcast_S_S4x2000),
    StableHlo.TRef.ternary (.of main_call0_v12 : StableHlo.TRef sig ⟨S4x2000, .i1⟩) (.of main_call0_v13 : StableHlo.TRef sig ⟨S4x2000, .i32⟩) (.of main_call0_v14 : StableHlo.TRef sig ⟨S4x2000, .i32⟩) (.of main_v6 : StableHlo.TRef sig ⟨S4x2000, .i32⟩) select ]
theorem main_part0_ops2_sub : (main_part0_ops2 : List (HloOp τ sig (Elt F))).Forall fun op => op.bufs ⊆ StableHlo.tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩
/-- 9 host operations of @main, window 0 (statements 1 … 60), in order. -/
abbrev main_part0_ops3 : List (HloOp τ sig (Elt F)) :=
  [ StableHlo.unary main_v3_0 main_v7 ((extractStridedSlice S4x2048x1 ![0, 0, 15] · slices_S4x2048x16_S4x2048x1_0_0_15) : (⟨S4x2048x16, .f32⟩ : BufTy).Contents (Elt F) → (⟨S4x2048x1, .f32⟩ : BufTy).Contents (Elt F)),
    StableHlo.reshape main_v7 main_v8 (rfl : (.f32 : EltTy) = .f32) shapeCasts_S4x2048x1_S4x2048,
    StableHlo.unary main_values main_v9 ((extractStridedSlice S4x1 ![0, 1999] · slices_S4x2000_S4x1_0_1999) : (⟨S4x2000, .f32⟩ : BufTy).Contents (Elt F) → (⟨S4x1, .f32⟩ : BufTy).Contents (Elt F)),
    StableHlo.reshape main_v9 main_v10 (rfl : (.f32 : EltTy) = .f32) shapeCasts_S4x1_S4,
    StableHlo.unary main_v10 main_v11 (broadcastInDim S4x1 ![0] bcast_S4_S4x1_0 : (⟨S4, .f32⟩ : BufTy).Contents (Elt F) → (⟨S4x1, .f32⟩ : BufTy).Contents (Elt F)),
    StableHlo.unary main_v11 main_v12 (broadcastInDim S4x2048 ![0, 1] bcast_S4x1_S4x2048_0_1 : (⟨S4x1, .f32⟩ : BufTy).Contents (Elt F) → (⟨S4x2048, .f32⟩ : BufTy).Contents (Elt F)),
    StableHlo.binary main_v8 main_v12 main_v13 (cmpf .olt : (⟨S4x2048, .f32⟩ : BufTy).Contents (Elt F) → (⟨S4x2048, .f32⟩ : BufTy).Contents (Elt F) → (⟨S4x2048, .i1⟩ : BufTy).Contents (Elt F)),
    StableHlo.nullary main_c (constantI S_ 1 1#1),
    StableHlo.binary main_v13 main_c main_v14 ((fun x v => Host.reduce IntOp.andi x v reducesTo_S4x2048_S_d0_1 h_S_) : (⟨S4x2048, .i1⟩ : BufTy).Contents (Elt F) → (⟨S_, .i1⟩ : BufTy).Contents (Elt F) → (⟨S_, .i1⟩ : BufTy).Contents (Elt F)) ]
theorem main_part0_ops3_sub : (main_part0_ops3 : List (HloOp τ sig (Elt F))).Forall fun op => op.bufs ⊆ StableHlo.tcRefs τ sig :=
  ⟨unary_bufs_sub .., reshape_bufs_sub .., unary_bufs_sub .., reshape_bufs_sub .., unary_bufs_sub .., unary_bufs_sub .., binary_bufs_sub .., nullary_bufs_sub .., binary_bufs_sub ..⟩
/-- 1 host operation of @main, window 0 (statements 1 … 60), in order. -/
abbrev main_part0_ops4 : List (HloOp τ sig (Elt F)) :=
  [ StableHlo.nullary main_c_0 (constantI S_ 32 16#32) ]
theorem main_part0_ops4_sub : (main_part0_ops4 : List (HloOp τ sig (Elt F))).Forall fun op => op.bufs ⊆ StableHlo.tcRefs τ sig :=
  nullary_bufs_sub ..
/-- 21 host operations of @remainder (main_call1), window 0 (statements 1 … 60), in order. -/
abbrev main_part0_ops5 : List (HloOp τ sig (Elt F)) :=
  [ StableHlo.TRef.unary (.of main_c_0 : StableHlo.TRef sig ⟨S_, .i32⟩) (.of main_call1_v0 : StableHlo.TRef sig ⟨S_, .i32⟩) id,
    StableHlo.TRef.nullary (.of main_call1_c : StableHlo.TRef sig ⟨S_, .i32⟩) (constantI S_ 32 0#32),
    StableHlo.TRef.binary (.of main_call1_v0 : StableHlo.TRef sig ⟨S_, .i32⟩) (.of main_call1_c : StableHlo.TRef sig ⟨S_, .i32⟩) (.of main_call1_v1 : StableHlo.TRef sig ⟨S_, .i1⟩) (cmpi .eq),
    StableHlo.TRef.nullary (.of main_call1_c_0 : StableHlo.TRef sig ⟨S_, .i32⟩) (constantI S_ 32 1#32),
    StableHlo.TRef.ternary (.of main_call1_v1 : StableHlo.TRef sig ⟨S_, .i1⟩) (.of main_call1_c_0 : StableHlo.TRef sig ⟨S_, .i32⟩) (.of main_call1_v0 : StableHlo.TRef sig ⟨S_, .i32⟩) (.of main_call1_v2 : StableHlo.TRef sig ⟨S_, .i32⟩) select,
    StableHlo.TRef.unary main_call1_call0.v0 (.of main_call1_v3 : StableHlo.TRef sig ⟨S4x2000, .i32⟩) (broadcastInDim S4x2000 ![] bcast_S_S4x2000),
    StableHlo.TRef.binary (.of main_v16_1 : StableHlo.TRef sig ⟨S4x2000, .i32⟩) (.of main_call1_v3 : StableHlo.TRef sig ⟨S4x2000, .i32⟩) (.of main_call1_v4 : StableHlo.TRef sig ⟨S4x2000, .i32⟩) Host.remsi,
    StableHlo.TRef.nullary (.of main_call1_c_1 : StableHlo.TRef sig ⟨S_, .i32⟩) (constantI S_ 32 0#32),
    StableHlo.TRef.unary (.of main_call1_c_1 : StableHlo.TRef sig ⟨S_, .i32⟩) (.of main_call1_v5 : StableHlo.TRef sig ⟨S4x2000, .i32⟩) (broadcastInDim S4x2000 ![] bcast_S_S4x2000),
    StableHlo.TRef.binary (.of main_call1_v4 : StableHlo.TRef sig ⟨S4x2000, .i32⟩) (.of main_call1_v5 : StableHlo.TRef sig ⟨S4x2000, .i32⟩) (.of main_call1_v6 : StableHlo.TRef sig ⟨S4x2000, .i1⟩) (cmpi .ne),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v7 : StableHlo.TRef sig ⟨S4x2000, .i32⟩) (broadcastInDim S4x2000 ![] bcast_S_S4x2000),
    StableHlo.TRef.binary (.of main_call1_v4 : StableHlo.TRef sig ⟨S4x2000, .i32⟩) (.of main_call1_v7 : StableHlo.TRef sig ⟨S4x2000, .i32⟩) (.of main_call1_v8 : StableHlo.TRef sig ⟨S4x2000, .i1⟩) (cmpi .slt),
    StableHlo.TRef.nullary (.of main_call1_c_3 : StableHlo.TRef sig ⟨S_, .i32⟩) (constantI S_ 32 0#32),
    StableHlo.TRef.binary main_call1_call0.v0 (.of main_call1_c_3 : StableHlo.TRef sig ⟨S_, .i32⟩) (.of main_call1_v9 : StableHlo.TRef sig ⟨S_, .i1⟩) (cmpi .slt),
    StableHlo.TRef.unary (.of main_call1_v9 : StableHlo.TRef sig ⟨S_, .i1⟩) (.of main_call1_v10 : StableHlo.TRef sig ⟨S4x2000, .i1⟩) (broadcastInDim S4x2000 ![] bcast_S_S4x2000),
    StableHlo.TRef.binary (.of main_call1_v8 : StableHlo.TRef sig ⟨S4x2000, .i1⟩) (.of main_call1_v10 : StableHlo.TRef sig ⟨S4x2000, .i1⟩) (.of main_call1_v11 : StableHlo.TRef sig ⟨S4x2000, .i1⟩) (cmpi .ne),
    StableHlo.TRef.binary (.of main_call1_v11 : StableHlo.TRef sig ⟨S4x2000, .i1⟩) (.of main_call1_v6 : StableHlo.TRef sig ⟨S4x2000, .i1⟩) (.of main_call1_v12 : StableHlo.TRef sig ⟨S4x2000, .i1⟩) andi,
    StableHlo.TRef.unary main_call1_call0.v0 (.of main_call1_v13 : StableHlo.TRef sig ⟨S4x2000, .i32⟩) (broadcastInDim S4x2000 ![] bcast_S_S4x2000),
    StableHlo.TRef.binary (.of main_call1_v4 : StableHlo.TRef sig ⟨S4x2000, .i32⟩) (.of main_call1_v13 : StableHlo.TRef sig ⟨S4x2000, .i32⟩) (.of main_call1_v14 : StableHlo.TRef sig ⟨S4x2000, .i32⟩) addi,
    StableHlo.TRef.ternary (.of main_call1_v12 : StableHlo.TRef sig ⟨S4x2000, .i1⟩) (.of main_call1_v14 : StableHlo.TRef sig ⟨S4x2000, .i32⟩) (.of main_call1_v4 : StableHlo.TRef sig ⟨S4x2000, .i32⟩) (.of main_v17 : StableHlo.TRef sig ⟨S4x2000, .i32⟩) select ]
theorem main_part0_ops5_sub : (main_part0_ops5 : List (HloOp τ sig (Elt F))).Forall fun op => op.bufs ⊆ StableHlo.tcRefs τ sig :=
  ⟨unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
/-- 1 host operation of @main, window 0 (statements 1 … 60), in order. -/
abbrev main_part0_ops6 : List (HloOp τ sig (Elt F)) :=
  [ StableHlo.nullary main_c_1 (constantI S_ 32 16#32) ]
theorem main_part0_ops6_sub : (main_part0_ops6 : List (HloOp τ sig (Elt F))).Forall fun op => op.bufs ⊆ StableHlo.tcRefs τ sig :=
  nullary_bufs_sub ..
/-- 17 host operations of @floor_divide (main_call2), window 0 (statements 1 … 60), in order. -/
abbrev main_part0_ops7 : List (HloOp τ sig (Elt F)) :=
  [ StableHlo.TRef.unary (.of main_c_1 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S4x2000, .i32⟩) (broadcastInDim S4x2000 ![] bcast_S_S4x2000),
    StableHlo.TRef.binary (.of main_v16_1 : StableHlo.TRef sig ⟨S4x2000, .i32⟩) (.of main_call2_v1 : StableHlo.TRef sig ⟨S4x2000, .i32⟩) (.of main_call2_v2 : StableHlo.TRef sig ⟨S4x2000, .i32⟩) Host.divsi,
    StableHlo.TRef.unary (.of main_v16_1 : StableHlo.TRef sig ⟨S4x2000, .i32⟩) (.of main_call2_v3 : StableHlo.TRef sig ⟨S4x2000, .i32⟩) signi,
    StableHlo.TRef.unary (.of main_call2_v0 : StableHlo.TRef sig ⟨S_, .i32⟩) (.of main_call2_v4 : StableHlo.TRef sig ⟨S_, .i32⟩) signi,
    StableHlo.TRef.unary (.of main_call2_v4 : StableHlo.TRef sig ⟨S_, .i32⟩) (.of main_call2_v5 : StableHlo.TRef sig ⟨S4x2000, .i32⟩) (broadcastInDim S4x2000 ![] bcast_S_S4x2000),
    StableHlo.TRef.binary (.of main_call2_v3 : StableHlo.TRef sig ⟨S4x2000, .i32⟩) (.of main_call2_v5 : StableHlo.TRef sig ⟨S4x2000, .i32⟩) (.of main_call2_v6 : StableHlo.TRef sig ⟨S4x2000, .i1⟩) (cmpi .ne),
    StableHlo.TRef.unary (.of main_call2_v0 : StableHlo.TRef sig ⟨S_, .i32⟩) (.of main_call2_v7 : StableHlo.TRef sig ⟨S4x2000, .i32⟩) (broadcastInDim S4x2000 ![] bcast_S_S4x2000),
    StableHlo.TRef.binary (.of main_v16_1 : StableHlo.TRef sig ⟨S4x2000, .i32⟩) (.of main_call2_v7 : StableHlo.TRef sig ⟨S4x2000, .i32⟩) (.of main_call2_v8 : StableHlo.TRef sig ⟨S4x2000, .i32⟩) Host.remsi,
    StableHlo.TRef.nullary (.of main_call2_c : StableHlo.TRef sig ⟨S_, .i32⟩) (constantI S_ 32 0#32),
    StableHlo.TRef.unary (.of main_call2_c : StableHlo.TRef sig ⟨S_, .i32⟩) (.of main_call2_v9 : StableHlo.TRef sig ⟨S4x2000, .i32⟩) (broadcastInDim S4x2000 ![] bcast_S_S4x2000),
    StableHlo.TRef.binary (.of main_call2_v8 : StableHlo.TRef sig ⟨S4x2000, .i32⟩) (.of main_call2_v9 : StableHlo.TRef sig ⟨S4x2000, .i32⟩) (.of main_call2_v10 : StableHlo.TRef sig ⟨S4x2000, .i1⟩) (cmpi .ne),
    StableHlo.TRef.binary (.of main_call2_v6 : StableHlo.TRef sig ⟨S4x2000, .i1⟩) (.of main_call2_v10 : StableHlo.TRef sig ⟨S4x2000, .i1⟩) (.of main_call2_v11 : StableHlo.TRef sig ⟨S4x2000, .i1⟩) andi,
    StableHlo.TRef.nullary (.of main_call2_c_0 : StableHlo.TRef sig ⟨S_, .i32⟩) (constantI S_ 32 1#32),
    StableHlo.TRef.unary (.of main_call2_c_0 : StableHlo.TRef sig ⟨S_, .i32⟩) (.of main_call2_v12 : StableHlo.TRef sig ⟨S4x2000, .i32⟩) (broadcastInDim S4x2000 ![] bcast_S_S4x2000),
    StableHlo.TRef.binary (.of main_call2_v2 : StableHlo.TRef sig ⟨S4x2000, .i32⟩) (.of main_call2_v12 : StableHlo.TRef sig ⟨S4x2000, .i32⟩) (.of main_call2_v13 : StableHlo.TRef sig ⟨S4x2000, .i32⟩) subi,
    StableHlo.TRef.ternary (.of main_call2_v11 : StableHlo.TRef sig ⟨S4x2000, .i1⟩) (.of main_call2_v13 : StableHlo.TRef sig ⟨S4x2000, .i32⟩) (.of main_call2_v2 : StableHlo.TRef sig ⟨S4x2000, .i32⟩) (.of main_v18 : StableHlo.TRef sig ⟨S4x2000, .i32⟩) select ]
theorem main_part0_ops7_sub : (main_part0_ops7 : List (HloOp τ sig (Elt F))).Forall fun op => op.bufs ⊆ StableHlo.tcRefs τ sig :=
  ⟨unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
/-- 17 host operations of @main, window 0 (statements 1 … 60), in order. -/
abbrev main_part0_ops8 : List (HloOp τ sig (Elt F)) :=
  [ StableHlo.unary main_v17 main_v19 (broadcastInDim S4x2000x1 ![0, 1] bcast_S4x2000_S4x2000x1_0_1 : (⟨S4x2000, .i32⟩ : BufTy).Contents (Elt F) → (⟨S4x2000x1, .i32⟩ : BufTy).Contents (Elt F)),
    StableHlo.nullary main_c_2 (constantI S_ 32 5#32),
    StableHlo.unary main_c_2 main_v20 (broadcastInDim S4x2000x1 ![] bcast_S_S4x2000x1 : (⟨S_, .i32⟩ : BufTy).Contents (Elt F) → (⟨S4x2000x1, .i32⟩ : BufTy).Contents (Elt F)),
    StableHlo.binary main_v19 main_v20 main_v21 (muli : (⟨S4x2000x1, .i32⟩ : BufTy).Contents (Elt F) → (⟨S4x2000x1, .i32⟩ : BufTy).Contents (Elt F) → (⟨S4x2000x1, .i32⟩ : BufTy).Contents (Elt F)),
    StableHlo.nullary main_v22 (iotaInDim S5 32 0),
    StableHlo.unary main_v22 main_v23 (broadcastInDim S1x1x5 ![2] bcast_S5_S1x1x5_2 : (⟨S5, .i32⟩ : BufTy).Contents (Elt F) → (⟨S1x1x5, .i32⟩ : BufTy).Contents (Elt F)),
    StableHlo.unary main_v21 main_v24 (broadcastInDim S4x2000x5 ![0, 1, 2] bcast_S4x2000x1_S4x2000x5_0_1_2 : (⟨S4x2000x1, .i32⟩ : BufTy).Contents (Elt F) → (⟨S4x2000x5, .i32⟩ : BufTy).Contents (Elt F)),
    StableHlo.unary main_v23 main_v25 (broadcastInDim S4x2000x5 ![0, 1, 2] bcast_S1x1x5_S4x2000x5_0_1_2 : (⟨S1x1x5, .i32⟩ : BufTy).Contents (Elt F) → (⟨S4x2000x5, .i32⟩ : BufTy).Contents (Elt F)),
    StableHlo.binary main_v24 main_v25 main_v26 (addi : (⟨S4x2000x5, .i32⟩ : BufTy).Contents (Elt F) → (⟨S4x2000x5, .i32⟩ : BufTy).Contents (Elt F) → (⟨S4x2000x5, .i32⟩ : BufTy).Contents (Elt F)),
    StableHlo.nullary main_c_3 (constantI S_ 32 65536#32),
    StableHlo.unary main_c_3 main_v27 (broadcastInDim S4x2000x5 ![] bcast_S_S4x2000x5 : (⟨S_, .i32⟩ : BufTy).Contents (Elt F) → (⟨S4x2000x5, .i32⟩ : BufTy).Contents (Elt F)),
    StableHlo.binary main_v26 main_v27 main_v28 (muli : (⟨S4x2000x5, .i32⟩ : BufTy).Contents (Elt F) → (⟨S4x2000x5, .i32⟩ : BufTy).Contents (Elt F) → (⟨S4x2000x5, .i32⟩ : BufTy).Contents (Elt F)),
    StableHlo.unary main_v18 main_v29 (broadcastInDim S4x2000x1 ![0, 1] bcast_S4x2000_S4x2000x1_0_1 : (⟨S4x2000, .i32⟩ : BufTy).Contents (Elt F) → (⟨S4x2000x1, .i32⟩ : BufTy).Contents (Elt F)),
    StableHlo.unary main_v29 main_v30 (broadcastInDim S4x2000x5 ![0, 1, 2] bcast_S4x2000x1_S4x2000x5_0_1_2 : (⟨S4x2000x1, .i32⟩ : BufTy).Contents (Elt F) → (⟨S4x2000x5, .i32⟩ : BufTy).Contents (Elt F)),
    StableHlo.binary main_v28 main_v30 main_v31 (addi : (⟨S4x2000x5, .i32⟩ : BufTy).Contents (Elt F) → (⟨S4x2000x5, .i32⟩ : BufTy).Contents (Elt F) → (⟨S4x2000x5, .i32⟩ : BufTy).Contents (Elt F)),
    StableHlo.reshape main_arg2 main_v32 (rfl : (.f32 : EltTy) = .f32) shapeCasts_S4x80x256x256_S4x5242880,
    StableHlo.reshape main_v31 main_v33 (rfl : (.i32 : EltTy) = .i32) shapeCasts_S4x2000x5_S4x10000 ]
theorem main_part0_ops8_sub : (main_part0_ops8 : List (HloOp τ sig (Elt F))).Forall fun op => op.bufs ⊆ StableHlo.tcRefs τ sig :=
  ⟨unary_bufs_sub .., nullary_bufs_sub .., unary_bufs_sub .., binary_bufs_sub .., nullary_bufs_sub .., unary_bufs_sub .., unary_bufs_sub .., unary_bufs_sub .., binary_bufs_sub .., nullary_bufs_sub .., unary_bufs_sub .., binary_bufs_sub .., unary_bufs_sub .., unary_bufs_sub .., binary_bufs_sub .., reshape_bufs_sub .., reshape_bufs_sub ..⟩
/-- 22 host operations of @take_along_axis_1 (main_call3), window 0 (statements 1 … 60), in order. -/
abbrev main_part0_ops9 : List (HloOp τ sig (Elt F)) :=
  [ StableHlo.TRef.nullary (.of main_call3_c : StableHlo.TRef sig ⟨S_, .i32⟩) (constantI S_ 32 0#32),
    StableHlo.TRef.unary (.of main_call3_c : StableHlo.TRef sig ⟨S_, .i32⟩) (.of main_call3_v0 : StableHlo.TRef sig ⟨S4x10000, .i32⟩) (broadcastInDim S4x10000 ![] bcast_S_S4x10000),
    StableHlo.TRef.binary (.of main_v33 : StableHlo.TRef sig ⟨S4x10000, .i32⟩) (.of main_call3_v0 : StableHlo.TRef sig ⟨S4x10000, .i32⟩) (.of main_call3_v1 : StableHlo.TRef sig ⟨S4x10000, .i1⟩) (cmpi .slt),
    StableHlo.TRef.nullary (.of main_call3_c_0 : StableHlo.TRef sig ⟨S_, .i32⟩) (constantI S_ 32 5242880#32),
    StableHlo.TRef.unary (.of main_call3_c_0 : StableHlo.TRef sig ⟨S_, .i32⟩) (.of main_call3_v2 : StableHlo.TRef sig ⟨S4x10000, .i32⟩) (broadcastInDim S4x10000 ![] bcast_S_S4x10000),
    StableHlo.TRef.binary (.of main_v33 : StableHlo.TRef sig ⟨S4x10000, .i32⟩) (.of main_call3_v2 : StableHlo.TRef sig ⟨S4x10000, .i32⟩) (.of main_call3_v3 : StableHlo.TRef sig ⟨S4x10000, .i32⟩) addi,
    StableHlo.TRef.ternary (.of main_call3_v1 : StableHlo.TRef sig ⟨S4x10000, .i1⟩) (.of main_call3_v3 : StableHlo.TRef sig ⟨S4x10000, .i32⟩) (.of main_v33 : StableHlo.TRef sig ⟨S4x10000, .i32⟩) (.of main_call3_v4 : StableHlo.TRef sig ⟨S4x10000, .i32⟩) select,
    StableHlo.TRef.reshape (.of main_call3_v4 : StableHlo.TRef sig ⟨S4x10000, .i32⟩) (.of main_call3_v5 : StableHlo.TRef sig ⟨S4x10000x1, .i32⟩) (rfl : (.i32 : EltTy) = .i32) shapeCasts_S4x10000_S4x10000x1,
    StableHlo.TRef.nullary (.of main_call3_c_1 : StableHlo.TRef sig ⟨S1, .i32⟩) (constantI S1 32 5242879#32),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v6 : StableHlo.TRef sig ⟨S4x10000x1, .i32⟩) (broadcastInDim S4x10000x1 ![] bcast_S_S4x10000x1),
    StableHlo.TRef.binary (.of main_call3_v5 : StableHlo.TRef sig ⟨S4x10000x1, .i32⟩) (.of main_call3_v6 : StableHlo.TRef sig ⟨S4x10000x1, .i32⟩) (.of main_call3_v7 : StableHlo.TRef sig ⟨S4x10000x1, .i1⟩) (cmpi .sge),
    StableHlo.TRef.unary (.of main_call3_c_1 : StableHlo.TRef sig ⟨S1, .i32⟩) (.of main_call3_v8 : StableHlo.TRef sig ⟨S1x1x1, .i32⟩) (broadcastInDim S1x1x1 ![2] bcast_S1_S1x1x1_2),
    StableHlo.TRef.unary (.of main_call3_v8 : StableHlo.TRef sig ⟨S1x1x1, .i32⟩) (.of main_call3_v9 : StableHlo.TRef sig ⟨S4x10000x1, .i32⟩) (broadcastInDim S4x10000x1 ![0, 1, 2] bcast_S1x1x1_S4x10000x1_0_1_2),
    StableHlo.TRef.binary (.of main_call3_v5 : StableHlo.TRef sig ⟨S4x10000x1, .i32⟩) (.of main_call3_v9 : StableHlo.TRef sig ⟨S4x10000x1, .i32⟩) (.of main_call3_v10 : StableHlo.TRef sig ⟨S4x10000x1, .i1⟩) (cmpi .sle),
    StableHlo.TRef.binary (.of main_call3_v7 : StableHlo.TRef sig ⟨S4x10000x1, .i1⟩) (.of main_call3_v10 : StableHlo.TRef sig ⟨S4x10000x1, .i1⟩) (.of main_call3_v11 : StableHlo.TRef sig ⟨S4x10000x1, .i1⟩) andi,
    StableHlo.TRef.nullary (.of main_call3_c_3 : StableHlo.TRef sig ⟨S_, .i1⟩) (constantI S_ 1 1#1),
    StableHlo.TRef.binary (.of main_call3_v11 : StableHlo.TRef sig ⟨S4x10000x1, .i1⟩) (.of main_call3_c_3 : StableHlo.TRef sig ⟨S_, .i1⟩) (.of main_call3_v12 : StableHlo.TRef sig ⟨S4x10000, .i1⟩) (fun x v => Host.reduce IntOp.andi x v reducesTo_S4x10000x1_S4x10000_d2 h_S_),
    StableHlo.TRef.binary (.of main_v32 : StableHlo.TRef sig ⟨S4x5242880, .f32⟩) (.of main_call3_v5 : StableHlo.TRef sig ⟨S4x10000x1, .i32⟩) (.of main_call3_v13 : StableHlo.TRef sig ⟨S4x10000, .f32⟩) (fun x i => Host.gather gather_S4x5242880_S4x10000x1_S4x10000_n_1_0_0_1_2_11 x i),
    StableHlo.TRef.nullary (.of main_call3_cst : StableHlo.TRef sig ⟨S_, .f32⟩) (constant S_ .f32 0x7FC00000#32),
    StableHlo.TRef.unary (.of main_call3_cst : StableHlo.TRef sig ⟨S_, .f32⟩) (.of main_call3_v14 : StableHlo.TRef sig ⟨S4x10000, .f32⟩) (broadcastInDim S4x10000 ![] bcast_S_S4x10000),
    StableHlo.TRef.ternary (.of main_call3_v12 : StableHlo.TRef sig ⟨S4x10000, .i1⟩) (.of main_call3_v13 : StableHlo.TRef sig ⟨S4x10000, .f32⟩) (.of main_call3_v14 : StableHlo.TRef sig ⟨S4x10000, .f32⟩) (.of main_v34 : StableHlo.TRef sig ⟨S4x10000, .f32⟩) select ]
theorem main_part0_ops9_sub : (main_part0_ops9 : List (HloOp τ sig (Elt F))).Forall fun op => op.bufs ⊆ StableHlo.tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩
/-- 2 host operations of @main, window 0 (statements 1 … 60), in order. -/
abbrev main_part0_ops10 : List (HloOp τ sig (Elt F)) :=
  [ StableHlo.reshape main_v34 main_v35 (rfl : (.f32 : EltTy) = .f32) shapeCasts_S4x10000_S4x2000x5,
    StableHlo.unary main_v16_1 main_v36 (broadcastInDim S4x2000x1 ![0, 1] bcast_S4x2000_S4x2000x1_0_1 : (⟨S4x2000, .i32⟩ : BufTy).Contents (Elt F) → (⟨S4x2000x1, .i32⟩ : BufTy).Contents (Elt F)) ]
theorem main_part0_ops10_sub : (main_part0_ops10 : List (HloOp τ sig (Elt F))).Forall fun op => op.bufs ⊆ StableHlo.tcRefs τ sig :=
  ⟨reshape_bufs_sub .., unary_bufs_sub ..⟩
/-- 22 host operations of @take_along_axis_2 (main_call4), window 0 (statements 1 … 60), in order. -/
abbrev main_part0_ops11 : List (HloOp τ sig (Elt F)) :=
  [ StableHlo.TRef.nullary (.of main_call4_c : StableHlo.TRef sig ⟨S_, .i32⟩) (constantI S_ 32 0#32),
    StableHlo.TRef.unary (.of main_call4_c : StableHlo.TRef sig ⟨S_, .i32⟩) (.of main_call4_v0 : StableHlo.TRef sig ⟨S4x2000x1, .i32⟩) (broadcastInDim S4x2000x1 ![] bcast_S_S4x2000x1),
    StableHlo.TRef.binary (.of main_v36 : StableHlo.TRef sig ⟨S4x2000x1, .i32⟩) (.of main_call4_v0 : StableHlo.TRef sig ⟨S4x2000x1, .i32⟩) (.of main_call4_v1 : StableHlo.TRef sig ⟨S4x2000x1, .i1⟩) (cmpi .slt),
    StableHlo.TRef.nullary (.of main_call4_c_0 : StableHlo.TRef sig ⟨S_, .i32⟩) (constantI S_ 32 1048576#32),
    StableHlo.TRef.unary (.of main_call4_c_0 : StableHlo.TRef sig ⟨S_, .i32⟩) (.of main_call4_v2 : StableHlo.TRef sig ⟨S4x2000x1, .i32⟩) (broadcastInDim S4x2000x1 ![] bcast_S_S4x2000x1),
    StableHlo.TRef.binary (.of main_v36 : StableHlo.TRef sig ⟨S4x2000x1, .i32⟩) (.of main_call4_v2 : StableHlo.TRef sig ⟨S4x2000x1, .i32⟩) (.of main_call4_v3 : StableHlo.TRef sig ⟨S4x2000x1, .i32⟩) addi,
    StableHlo.TRef.ternary (.of main_call4_v1 : StableHlo.TRef sig ⟨S4x2000x1, .i1⟩) (.of main_call4_v3 : StableHlo.TRef sig ⟨S4x2000x1, .i32⟩) (.of main_v36 : StableHlo.TRef sig ⟨S4x2000x1, .i32⟩) (.of main_call4_v4 : StableHlo.TRef sig ⟨S4x2000x1, .i32⟩) select,
    StableHlo.TRef.nullary (.of main_call4_c_1 : StableHlo.TRef sig ⟨S1, .i32⟩) (constantI S1 32 1048575#32),
    StableHlo.TRef.nullary (.of main_call4_c_2 : StableHlo.TRef sig ⟨S_, .i32⟩) (constantI S_ 32 0#32),
    StableHlo.TRef.unary (.of main_call4_c_2 : StableHlo.TRef sig ⟨S_, .i32⟩) (.of main_call4_v5 : StableHlo.TRef sig ⟨S4x2000x1, .i32⟩) (broadcastInDim S4x2000x1 ![] bcast_S_S4x2000x1),
    StableHlo.TRef.binary (.of main_call4_v4 : StableHlo.TRef sig ⟨S4x2000x1, .i32⟩) (.of main_call4_v5 : StableHlo.TRef sig ⟨S4x2000x1, .i32⟩) (.of main_call4_v6 : StableHlo.TRef sig ⟨S4x2000x1, .i1⟩) (cmpi .sge),
    StableHlo.TRef.unary (.of main_call4_c_1 : StableHlo.TRef sig ⟨S1, .i32⟩) (.of main_call4_v7 : StableHlo.TRef sig ⟨S1x1x1, .i32⟩) (broadcastInDim S1x1x1 ![2] bcast_S1_S1x1x1_2),
    StableHlo.TRef.unary (.of main_call4_v7 : StableHlo.TRef sig ⟨S1x1x1, .i32⟩) (.of main_call4_v8 : StableHlo.TRef sig ⟨S4x2000x1, .i32⟩) (broadcastInDim S4x2000x1 ![0, 1, 2] bcast_S1x1x1_S4x2000x1_0_1_2),
    StableHlo.TRef.binary (.of main_call4_v4 : StableHlo.TRef sig ⟨S4x2000x1, .i32⟩) (.of main_call4_v8 : StableHlo.TRef sig ⟨S4x2000x1, .i32⟩) (.of main_call4_v9 : StableHlo.TRef sig ⟨S4x2000x1, .i1⟩) (cmpi .sle),
    StableHlo.TRef.binary (.of main_call4_v6 : StableHlo.TRef sig ⟨S4x2000x1, .i1⟩) (.of main_call4_v9 : StableHlo.TRef sig ⟨S4x2000x1, .i1⟩) (.of main_call4_v10 : StableHlo.TRef sig ⟨S4x2000x1, .i1⟩) andi,
    StableHlo.TRef.nullary (.of main_call4_c_3 : StableHlo.TRef sig ⟨S_, .i1⟩) (constantI S_ 1 1#1),
    StableHlo.TRef.binary (.of main_call4_v10 : StableHlo.TRef sig ⟨S4x2000x1, .i1⟩) (.of main_call4_c_3 : StableHlo.TRef sig ⟨S_, .i1⟩) (.of main_call4_v11 : StableHlo.TRef sig ⟨S4x2000, .i1⟩) (fun x v => Host.reduce IntOp.andi x v reducesTo_S4x2000x1_S4x2000_d2 h_S_),
    StableHlo.TRef.binary (.of main_arg0 : StableHlo.TRef sig ⟨S4x1048576x5, .f32⟩) (.of main_call4_v4 : StableHlo.TRef sig ⟨S4x2000x1, .i32⟩) (.of main_call4_v12 : StableHlo.TRef sig ⟨S4x2000x5, .f32⟩) (fun x i => Host.gather gather_S4x1048576x5_S4x2000x1_S4x2000x5_2_1_0_0_1_2_115 x i),
    StableHlo.TRef.unary (.of main_call4_v11 : StableHlo.TRef sig ⟨S4x2000, .i1⟩) (.of main_call4_v13 : StableHlo.TRef sig ⟨S4x2000x5, .i1⟩) (broadcastInDim S4x2000x5 ![0, 1] bcast_S4x2000_S4x2000x5_0_1),
    StableHlo.TRef.nullary (.of main_call4_cst : StableHlo.TRef sig ⟨S_, .f32⟩) (constant S_ .f32 0x7FC00000#32),
    StableHlo.TRef.unary (.of main_call4_cst : StableHlo.TRef sig ⟨S_, .f32⟩) (.of main_call4_v14 : StableHlo.TRef sig ⟨S4x2000x5, .f32⟩) (broadcastInDim S4x2000x5 ![] bcast_S_S4x2000x5),
    StableHlo.TRef.ternary (.of main_call4_v13 : StableHlo.TRef sig ⟨S4x2000x5, .i1⟩) (.of main_call4_v12 : StableHlo.TRef sig ⟨S4x2000x5, .f32⟩) (.of main_call4_v14 : StableHlo.TRef sig ⟨S4x2000x5, .f32⟩) (.of main_v37 : StableHlo.TRef sig ⟨S4x2000x5, .f32⟩) select ]
theorem main_part0_ops11_sub : (main_part0_ops11 : List (HloOp τ sig (Elt F))).Forall fun op => op.bufs ⊆ StableHlo.tcRefs τ sig :=
  ⟨nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
/-- 1 host operation of @main, window 0 (statements 1 … 60), in order. -/
abbrev main_part0_ops12 : List (HloOp τ sig (Elt F)) :=
  [ StableHlo.nullary main_c_4 (constantI S_ 32 0#32) ]
theorem main_part0_ops12_sub : (main_part0_ops12 : List (HloOp τ sig (Elt F))).Forall fun op => op.bufs ⊆ StableHlo.tcRefs τ sig :=
  nullary_bufs_sub ..
/-- 2 host operations of @_pad (main_call5), window 0 (statements 1 … 60), in order. -/
abbrev main_part0_ops13 : List (HloOp τ sig (Elt F)) :=
  [ StableHlo.TRef.unary (.of main_c_4 : StableHlo.TRef sig ⟨S_, .i32⟩) (.of main_call5_v0 : StableHlo.TRef sig ⟨S_, .f32⟩) (sitofp .f32),
    StableHlo.TRef.binary (.of main_v35 : StableHlo.TRef sig ⟨S4x2000x5, .f32⟩) (.of main_call5_v0 : StableHlo.TRef sig ⟨S_, .f32⟩) (.of main_v38 : StableHlo.TRef sig ⟨S4x2048x5, .f32⟩) (fun x v => pad S4x2048x5 ![0, 0, 0] ![0, 48, 0] ![0, 0, 0] x v pads_S4x2000x5_S4x2048x5_000_0480_000 h_S_) ]
theorem main_part0_ops13_sub : (main_part0_ops13 : List (HloOp τ sig (Elt F))).Forall fun op => op.bufs ⊆ StableHlo.tcRefs τ sig :=
  ⟨unary_bufs_sub .., binary_bufs_sub ..⟩
/-- 1 host operation of @main, window 0 (statements 1 … 60), in order. -/
abbrev main_part0_ops14 : List (HloOp τ sig (Elt F)) :=
  [ StableHlo.nullary main_cst (constant S_ .f32 0x3F800000#32) ]
theorem main_part0_ops14_sub : (main_part0_ops14 : List (HloOp τ sig (Elt F))).Forall fun op => op.bufs ⊆ StableHlo.tcRefs τ sig :=
  nullary_bufs_sub ..
/-- 2 host operations of @_pad_3 (main_call6), window 0 (statements 1 … 60), in order. -/
abbrev main_part0_ops15 : List (HloOp τ sig (Elt F)) :=
  [ StableHlo.TRef.unary (.of main_cst : StableHlo.TRef sig ⟨S_, .f32⟩) (.of main_call6_v0 : StableHlo.TRef sig ⟨S_, .f32⟩) id,
    StableHlo.TRef.binary (.of main_v37 : StableHlo.TRef sig ⟨S4x2000x5, .f32⟩) (.of main_call6_v0 : StableHlo.TRef sig ⟨S_, .f32⟩) (.of main_v39 : StableHlo.TRef sig ⟨S4x2048x5, .f32⟩) (fun x v => pad S4x2048x5 ![0, 0, 0] ![0, 48, 0] ![0, 0, 0] x v pads_S4x2000x5_S4x2048x5_000_0480_000 h_S_) ]
theorem main_part0_ops15_sub : (main_part0_ops15 : List (HloOp τ sig (Elt F))).Forall fun op => op.bufs ⊆ StableHlo.tcRefs τ sig :=
  ⟨unary_bufs_sub .., binary_bufs_sub ..⟩
/-- 1 host operation of @main, window 0 (statements 1 … 60), in order. -/
abbrev main_part0_ops16 : List (HloOp τ sig (Elt F)) :=
  [ StableHlo.nullary main_cst_5 (constant S_ .f32 0xF149F2CA#32) ]
theorem main_part0_ops16_sub : (main_part0_ops16 : List (HloOp τ sig (Elt F))).Forall fun op => op.bufs ⊆ StableHlo.tcRefs τ sig :=
  nullary_bufs_sub ..
/-- 2 host operations of @_pad_4 (main_call7), window 0 (statements 1 … 60), in order. -/
abbrev main_part0_ops17 : List (HloOp τ sig (Elt F)) :=
  [ StableHlo.TRef.unary (.of main_cst_5 : StableHlo.TRef sig ⟨S_, .f32⟩) (.of main_call7_v0 : StableHlo.TRef sig ⟨S_, .f32⟩) id,
    StableHlo.TRef.binary (.of main_v16_0 : StableHlo.TRef sig ⟨S4x2000, .f32⟩) (.of main_call7_v0 : StableHlo.TRef sig ⟨S_, .f32⟩) (.of main_v40 : StableHlo.TRef sig ⟨S4x2048, .f32⟩) (fun x v => pad S4x2048 ![0, 0] ![0, 48] ![0, 0] x v pads_S4x2000_S4x2048_000_0480 h_S_) ]
theorem main_part0_ops17_sub : (main_part0_ops17 : List (HloOp τ sig (Elt F))).Forall fun op => op.bufs ⊆ StableHlo.tcRefs τ sig :=
  ⟨unary_bufs_sub .., binary_bufs_sub ..⟩
/-- 2 host operations of @main, window 0 (statements 1 … 60), in order. -/
abbrev main_part0_ops18 : List (HloOp τ sig (Elt F)) :=
  [ StableHlo.unary main_v38 main_v41 ((transpose S4x5x2048 [0, 2, 1] · transposes_S4x2048x5_S4x5x2048_0_2_1) : (⟨S4x2048x5, .f32⟩ : BufTy).Contents (Elt F) → (⟨S4x5x2048, .f32⟩ : BufTy).Contents (Elt F)),
    StableHlo.nullary main_c_6 (constantI S_ 32 0#32) ]
theorem main_part0_ops18_sub : (main_part0_ops18 : List (HloOp τ sig (Elt F))).Forall fun op => op.bufs ⊆ StableHlo.tcRefs τ sig :=
  ⟨unary_bufs_sub .., nullary_bufs_sub ..⟩
/-- 2 host operations of @_pad_5 (main_call8), window 0 (statements 1 … 60), in order. -/
abbrev main_part0_ops19 : List (HloOp τ sig (Elt F)) :=
  [ StableHlo.TRef.unary (.of main_c_6 : StableHlo.TRef sig ⟨S_, .i32⟩) (.of main_call8_v0 : StableHlo.TRef sig ⟨S_, .f32⟩) (sitofp .f32),
    StableHlo.TRef.binary (.of main_v41 : StableHlo.TRef sig ⟨S4x5x2048, .f32⟩) (.of main_call8_v0 : StableHlo.TRef sig ⟨S_, .f32⟩) (.of main_v42 : StableHlo.TRef sig ⟨S4x8x2048, .f32⟩) (fun x v => pad S4x8x2048 ![0, 0, 0] ![0, 3, 0] ![0, 0, 0] x v pads_S4x5x2048_S4x8x2048_000_030_000 h_S_) ]
theorem main_part0_ops19_sub : (main_part0_ops19 : List (HloOp τ sig (Elt F))).Forall fun op => op.bufs ⊆ StableHlo.tcRefs τ sig :=
  ⟨unary_bufs_sub .., binary_bufs_sub ..⟩
/-- 2 host operations of @main, window 0 (statements 1 … 60), in order. -/
abbrev main_part0_ops20 : List (HloOp τ sig (Elt F)) :=
  [ StableHlo.unary main_v39 main_v43 ((transpose S4x5x2048 [0, 2, 1] · transposes_S4x2048x5_S4x5x2048_0_2_1) : (⟨S4x2048x5, .f32⟩ : BufTy).Contents (Elt F) → (⟨S4x5x2048, .f32⟩ : BufTy).Contents (Elt F)),
    StableHlo.nullary main_c_7 (constantI S_ 32 0#32) ]
theorem main_part0_ops20_sub : (main_part0_ops20 : List (HloOp τ sig (Elt F))).Forall fun op => op.bufs ⊆ StableHlo.tcRefs τ sig :=
  ⟨unary_bufs_sub .., nullary_bufs_sub ..⟩
/-- 2 host operations of @_pad_5 (main_call9), window 0 (statements 1 … 60), in order. -/
abbrev main_part0_ops21 : List (HloOp τ sig (Elt F)) :=
  [ StableHlo.TRef.unary (.of main_c_7 : StableHlo.TRef sig ⟨S_, .i32⟩) (.of main_call9_v0 : StableHlo.TRef sig ⟨S_, .f32⟩) (sitofp .f32),
    StableHlo.TRef.binary (.of main_v43 : StableHlo.TRef sig ⟨S4x5x2048, .f32⟩) (.of main_call9_v0 : StableHlo.TRef sig ⟨S_, .f32⟩) (.of main_v44 : StableHlo.TRef sig ⟨S4x8x2048, .f32⟩) (fun x v => pad S4x8x2048 ![0, 0, 0] ![0, 3, 0] ![0, 0, 0] x v pads_S4x5x2048_S4x8x2048_000_030_000 h_S_) ]
theorem main_part0_ops21_sub : (main_part0_ops21 : List (HloOp τ sig (Elt F))).Forall fun op => op.bufs ⊆ StableHlo.tcRefs τ sig :=
  ⟨unary_bufs_sub .., binary_bufs_sub ..⟩
/-- 1 host operation of @main, window 0 (statements 1 … 60), in order. -/
abbrev main_part0_ops22 : List (HloOp τ sig (Elt F)) :=
  [ StableHlo.nullary main_c_8 (constantI S_ 32 0#32) ]
theorem main_part0_ops22_sub : (main_part0_ops22 : List (HloOp τ sig (Elt F))).Forall fun op => op.bufs ⊆ StableHlo.tcRefs τ sig :=
  nullary_bufs_sub ..
/-- 2 host operations of @_pad_6 (main_call10), window 0 (statements 1 … 60), in order. -/
abbrev main_part0_ops23 : List (HloOp τ sig (Elt F)) :=
  [ StableHlo.TRef.unary (.of main_c_8 : StableHlo.TRef sig ⟨S_, .i32⟩) (.of main_call10_v0 : StableHlo.TRef sig ⟨S_, .f32⟩) (sitofp .f32),
    StableHlo.TRef.binary (.of main_v38 : StableHlo.TRef sig ⟨S4x2048x5, .f32⟩) (.of main_call10_v0 : StableHlo.TRef sig ⟨S_, .f32⟩) (.of main_v45 : StableHlo.TRef sig ⟨S4x2048x8, .f32⟩) (fun x v => pad S4x2048x8 ![0, 0, 0] ![0, 0, 3] ![0, 0, 0] x v pads_S4x2048x5_S4x2048x8_000_000_030 h_S_) ]
theorem main_part0_ops23_sub : (main_part0_ops23 : List (HloOp τ sig (Elt F))).Forall fun op => op.bufs ⊆ StableHlo.tcRefs τ sig :=
  ⟨unary_bufs_sub .., binary_bufs_sub ..⟩
/-- 1 host operation of @main, window 0 (statements 1 … 60), in order. -/
abbrev main_part0_ops24 : List (HloOp τ sig (Elt F)) :=
  [ StableHlo.nullary main_c_9 (constantI S_ 32 0#32) ]
theorem main_part0_ops24_sub : (main_part0_ops24 : List (HloOp τ sig (Elt F))).Forall fun op => op.bufs ⊆ StableHlo.tcRefs τ sig :=
  nullary_bufs_sub ..
/-- The branch between the candidates' selection and the whole row's: the flag is read, then one of the two lists of
    operations runs. -/
def caseProg : Prog (TpuEff nD τ sig (Elt F) (Pipeline.Sig Λ₀ (Fin 2) fun p => (pcfgs (F := F) p).Adm) .tc) PUnit :=
  (do
      let x_v15 ← hlo rfl (StableHlo.unary main_v14 main_v15 ((extui 32 · natLt_1_32) : (⟨S_, .i1⟩ : BufTy).Contents (Elt F) → (⟨S_, .i32⟩ : BufTy).Contents (Elt F))) (HostLoop.elt main_v15)
      HostLoop.case 2 x_v15 fun
        | 0 => do
            hlo rfl (StableHlo.unary main_v1 main_case0b0_values_14 ((fun x => (Host.topK S4x2000 1 (FloatOps.cmpfTotal .gt) x sliceFits_S4x1048576_S4x2000).1) : (⟨S4x1048576, .f32⟩ : BufTy).Contents (Elt F) → (⟨S4x2000, .f32⟩ : BufTy).Contents (Elt F))) (fun _ => .ret ⟨⟩)
            hlo rfl (StableHlo.unary main_v1 main_case0b0_indices_15 ((fun x => (Host.topK S4x2000 1 (FloatOps.cmpfTotal .gt) x sliceFits_S4x1048576_S4x2000).2) : (⟨S4x1048576, .f32⟩ : BufTy).Contents (Elt F) → (⟨S4x2000, .i32⟩ : BufTy).Contents (Elt F))) (fun _ => .ret ⟨⟩)
            hlo rfl (StableHlo.unary main_case0b0_values_14 main_v16_0 id) (fun _ => .ret ⟨⟩)
            hlo rfl (StableHlo.unary main_case0b0_indices_15 main_v16_1 id) (fun _ => .ret ⟨⟩)
            pure ⟨⟩
        | 1 => do
            hlo rfl (StableHlo.unary main_values main_v16_0 id) (fun _ => .ret ⟨⟩)
            hlo rfl (StableHlo.unary main_v6 main_v16_1 id) (fun _ => .ret ⟨⟩)
            pure ⟨⟩
        | ⟨_ + 2, h⟩ => absurd h (Nat.not_lt.2 (Nat.le_add_left _ _)) )

/-- Window 0 of `main` (`main_part0`, statements 1 … 60) is the chain of ITS items ending in the last
    (`Pipeline.chainK`: no closing `pure`, the window's last statement being in tail position), each item but the last aligned with the
    window's statements, then `chain_rfl`. -/
theorem main_part0_chain (c : Dev nD) : main_part0 (F := F) c = (Pipeline.chainK
  [ StableHlo.seq main_part0_ops0,
    Prog.lift (.customCall (Pipeline.entry 0) ()),
    StableHlo.seq main_part0_ops1,
    StableHlo.seq main_part0_ops2,
    StableHlo.seq main_part0_ops3,
    caseProg,
    StableHlo.seq main_part0_ops4,
    StableHlo.seq main_part0_ops5,
    StableHlo.seq main_part0_ops6,
    StableHlo.seq main_part0_ops7,
    StableHlo.seq main_part0_ops8,
    StableHlo.seq main_part0_ops9,
    StableHlo.seq main_part0_ops10,
    StableHlo.seq main_part0_ops11,
    StableHlo.seq main_part0_ops12,
    StableHlo.seq main_part0_ops13,
    StableHlo.seq main_part0_ops14,
    StableHlo.seq main_part0_ops15,
    StableHlo.seq main_part0_ops16,
    StableHlo.seq main_part0_ops17,
    StableHlo.seq main_part0_ops18,
    StableHlo.seq main_part0_ops19,
    StableHlo.seq main_part0_ops20,
    StableHlo.seq main_part0_ops21,
    StableHlo.seq main_part0_ops22,
    StableHlo.seq main_part0_ops23 ]
  (StableHlo.seq main_part0_ops24) : Prog (TpuEff nD τ sig (Elt F) (Pipeline.Sig Λ₀ (Fin 2) fun p => (pcfgs (F := F) p).Adm) .tc) PUnit) := by
  rewrite [StableHlo.chainK_seq_cons, Pipeline.chainK_cons, StableHlo.chainK_seq_cons, Pipeline.chainK_cons, StableHlo.chainK_seq_cons, Pipeline.chainK_cons, StableHlo.chainK_seq_cons, Pipeline.chainK_cons, StableHlo.chainK_seq_cons, Pipeline.chainK_cons, StableHlo.chainK_seq_cons, Pipeline.chainK_cons, StableHlo.chainK_seq_cons, Pipeline.chainK_cons, StableHlo.chainK_seq_cons, Pipeline.chainK_cons, StableHlo.chainK_seq_cons, Pipeline.chainK_cons, StableHlo.chainK_seq_cons, Pipeline.chainK_cons, StableHlo.chainK_seq_cons, Pipeline.chainK_cons, StableHlo.chainK_seq_cons, Pipeline.chainK_cons, StableHlo.chainK_seq_cons, Pipeline.chainK_cons]
  chain_rfl

/-- 2 host operations of @_pad_6 (main_call11), window 1 (statements 61 … 86), in order. -/
abbrev main_part1_ops0 : List (HloOp τ sig (Elt F)) :=
  [ StableHlo.TRef.unary (.of main_c_9 : StableHlo.TRef sig ⟨S_, .i32⟩) (.of main_call11_v0 : StableHlo.TRef sig ⟨S_, .f32⟩) (sitofp .f32),
    StableHlo.TRef.binary (.of main_v39 : StableHlo.TRef sig ⟨S4x2048x5, .f32⟩) (.of main_call11_v0 : StableHlo.TRef sig ⟨S_, .f32⟩) (.of main_v46 : StableHlo.TRef sig ⟨S4x2048x8, .f32⟩) (fun x v => pad S4x2048x8 ![0, 0, 0] ![0, 0, 3] ![0, 0, 0] x v pads_S4x2048x5_S4x2048x8_000_000_030 h_S_) ]
theorem main_part1_ops0_sub : (main_part1_ops0 : List (HloOp τ sig (Elt F))).Forall fun op => op.bufs ⊆ StableHlo.tcRefs τ sig :=
  ⟨unary_bufs_sub .., binary_bufs_sub ..⟩
/-- 1 host operation of @main, window 1 (statements 61 … 86), in order. -/
abbrev main_part1_ops1 : List (HloOp τ sig (Elt F)) :=
  [ StableHlo.reshape main_v40 main_v47 (rfl : (.f32 : EltTy) = .f32) shapeCasts_S4x2048_S4x1x2048 ]
theorem main_part1_ops1_sub : (main_part1_ops1 : List (HloOp τ sig (Elt F))).Forall fun op => op.bufs ⊆ StableHlo.tcRefs τ sig :=
  reshape_bufs_sub ..
/-- 11 host operations of @main, window 1 (statements 61 … 86), in order. -/
abbrev main_part1_ops2 : List (HloOp τ sig (Elt F)) :=
  [ StableHlo.unary main_v48_0 main_v49 ((extractStridedSlice S4x5x2048 ![0, 0, 0] · slices_S4x8x2048_S4x5x2048_0_0_0) : (⟨S4x8x2048, .f32⟩ : BufTy).Contents (Elt F) → (⟨S4x5x2048, .f32⟩ : BufTy).Contents (Elt F)),
    StableHlo.unary main_v49 main_v50 ((transpose S4x2048x5 [0, 2, 1] · transposes_S4x5x2048_S4x2048x5_0_2_1) : (⟨S4x5x2048, .f32⟩ : BufTy).Contents (Elt F) → (⟨S4x2048x5, .f32⟩ : BufTy).Contents (Elt F)),
    StableHlo.reshape main_v48_1 main_v51 (rfl : (.f32 : EltTy) = .f32) shapeCasts_S4x1x2048_S4x2048,
    StableHlo.reshape main_v48_2 main_v52 (rfl : (.f32 : EltTy) = .f32) shapeCasts_S4x1x2048_S4x2048,
    StableHlo.nullary main_cst_10 (constant S_ .f32 0x3F000000#32),
    StableHlo.unary main_cst_10 main_v53 (broadcastInDim S4x2048 ![] bcast_S_S4x2048 : (⟨S_, .f32⟩ : BufTy).Contents (Elt F) → (⟨S4x2048, .f32⟩ : BufTy).Contents (Elt F)),
    StableHlo.binary main_v52 main_v53 main_v54 (cmpf .ogt : (⟨S4x2048, .f32⟩ : BufTy).Contents (Elt F) → (⟨S4x2048, .f32⟩ : BufTy).Contents (Elt F) → (⟨S4x2048, .i1⟩ : BufTy).Contents (Elt F)),
    StableHlo.nullary main_v55 (iotaInDim S2048 32 0),
    StableHlo.unary main_v55 main_v56 (broadcastInDim S1x2048 ![1] bcast_S2048_S1x2048_1 : (⟨S2048, .i32⟩ : BufTy).Contents (Elt F) → (⟨S1x2048, .i32⟩ : BufTy).Contents (Elt F)),
    StableHlo.unary main_v54 main_v57 (noti : (⟨S4x2048, .i1⟩ : BufTy).Contents (Elt F) → (⟨S4x2048, .i1⟩ : BufTy).Contents (Elt F)),
    StableHlo.nullary main_c_11 (constantI S_ 32 2048#32) ]
theorem main_part1_ops2_sub : (main_part1_ops2 : List (HloOp τ sig (Elt F))).Forall fun op => op.bufs ⊆ StableHlo.tcRefs τ sig :=
  ⟨unary_bufs_sub .., unary_bufs_sub .., reshape_bufs_sub .., reshape_bufs_sub .., nullary_bufs_sub .., unary_bufs_sub .., binary_bufs_sub .., nullary_bufs_sub .., unary_bufs_sub .., unary_bufs_sub .., nullary_bufs_sub ..⟩
/-- 4 host operations of @_where_7 (main_call12), window 1 (statements 61 … 86), in order. -/
abbrev main_part1_ops3 : List (HloOp τ sig (Elt F)) :=
  [ StableHlo.TRef.unary (.of main_c_11 : StableHlo.TRef sig ⟨S_, .i32⟩) (.of main_call12_v0 : StableHlo.TRef sig ⟨S_, .i32⟩) id,
    StableHlo.TRef.unary (.of main_v56 : StableHlo.TRef sig ⟨S1x2048, .i32⟩) (.of main_call12_v1 : StableHlo.TRef sig ⟨S4x2048, .i32⟩) (broadcastInDim S4x2048 ![0, 1] bcast_S1x2048_S4x2048_0_1),
    StableHlo.TRef.unary (.of main_call12_v0 : StableHlo.TRef sig ⟨S_, .i32⟩) (.of main_call12_v2 : StableHlo.TRef sig ⟨S4x2048, .i32⟩) (broadcastInDim S4x2048 ![] bcast_S_S4x2048),
    StableHlo.TRef.ternary (.of main_v57 : StableHlo.TRef sig ⟨S4x2048, .i1⟩) (.of main_call12_v1 : StableHlo.TRef sig ⟨S4x2048, .i32⟩) (.of main_call12_v2 : StableHlo.TRef sig ⟨S4x2048, .i32⟩) (.of main_v58 : StableHlo.TRef sig ⟨S4x2048, .i32⟩) select ]
theorem main_part1_ops3_sub : (main_part1_ops3 : List (HloOp τ sig (Elt F))).Forall fun op => op.bufs ⊆ StableHlo.tcRefs τ sig :=
  ⟨unary_bufs_sub .., unary_bufs_sub .., unary_bufs_sub .., ternary_bufs_sub ..⟩
/-- 1 host operation of @sort (main_call13), window 1 (statements 61 … 86), in order. -/
abbrev main_part1_ops4 : List (HloOp τ sig (Elt F)) :=
  [ StableHlo.TRef.unary (.of main_v58 : StableHlo.TRef sig ⟨S4x2048, .i32⟩) (.of main_v59 : StableHlo.TRef sig ⟨S4x2048, .i32⟩) (fun x => Host.sort S4x2048 1 comparator_i32_d1 x) ]
theorem main_part1_ops4_sub : (main_part1_ops4 : List (HloOp τ sig (Elt F))).Forall fun op => op.bufs ⊆ StableHlo.tcRefs τ sig :=
  unary_bufs_sub ..
/-- 5 host operations of @main, window 1 (statements 61 … 86), in order. -/
abbrev main_part1_ops5 : List (HloOp τ sig (Elt F)) :=
  [ StableHlo.unary main_v59 main_v60 ((extractStridedSlice S4x1000 ![0, 0] · slices_S4x2048_S4x1000_0_0) : (⟨S4x2048, .i32⟩ : BufTy).Contents (Elt F) → (⟨S4x1000, .i32⟩ : BufTy).Contents (Elt F)),
    StableHlo.nullary main_c_12 (constantI S_ 32 2048#32),
    StableHlo.unary main_c_12 main_v61 (broadcastInDim S4x1000 ![] bcast_S_S4x1000 : (⟨S_, .i32⟩ : BufTy).Contents (Elt F) → (⟨S4x1000, .i32⟩ : BufTy).Contents (Elt F)),
    StableHlo.binary main_v60 main_v61 main_v62 (cmpi .slt : (⟨S4x1000, .i32⟩ : BufTy).Contents (Elt F) → (⟨S4x1000, .i32⟩ : BufTy).Contents (Elt F) → (⟨S4x1000, .i1⟩ : BufTy).Contents (Elt F)),
    StableHlo.nullary main_c_13 (constantI S_ 32 0#32) ]
theorem main_part1_ops5_sub : (main_part1_ops5 : List (HloOp τ sig (Elt F))).Forall fun op => op.bufs ⊆ StableHlo.tcRefs τ sig :=
  ⟨unary_bufs_sub .., nullary_bufs_sub .., unary_bufs_sub .., binary_bufs_sub .., nullary_bufs_sub ..⟩
/-- 3 host operations of @_where_8 (main_call14), window 1 (statements 61 … 86), in order. -/
abbrev main_part1_ops6 : List (HloOp τ sig (Elt F)) :=
  [ StableHlo.TRef.unary (.of main_c_13 : StableHlo.TRef sig ⟨S_, .i32⟩) (.of main_call14_v0 : StableHlo.TRef sig ⟨S_, .i32⟩) id,
    StableHlo.TRef.unary (.of main_call14_v0 : StableHlo.TRef sig ⟨S_, .i32⟩) (.of main_call14_v1 : StableHlo.TRef sig ⟨S4x1000, .i32⟩) (broadcastInDim S4x1000 ![] bcast_S_S4x1000),
    StableHlo.TRef.ternary (.of main_v62 : StableHlo.TRef sig ⟨S4x1000, .i1⟩) (.of main_v60 : StableHlo.TRef sig ⟨S4x1000, .i32⟩) (.of main_call14_v1 : StableHlo.TRef sig ⟨S4x1000, .i32⟩) (.of main_v63 : StableHlo.TRef sig ⟨S4x1000, .i32⟩) select ]
theorem main_part1_ops6_sub : (main_part1_ops6 : List (HloOp τ sig (Elt F))).Forall fun op => op.bufs ⊆ StableHlo.tcRefs τ sig :=
  ⟨unary_bufs_sub .., unary_bufs_sub .., ternary_bufs_sub ..⟩
/-- 1 host operation of @main, window 1 (statements 61 … 86), in order. -/
abbrev main_part1_ops7 : List (HloOp τ sig (Elt F)) :=
  [ StableHlo.unary main_v63 main_v64 (broadcastInDim S4x1000x1 ![0, 1] bcast_S4x1000_S4x1000x1_0_1 : (⟨S4x1000, .i32⟩ : BufTy).Contents (Elt F) → (⟨S4x1000x1, .i32⟩ : BufTy).Contents (Elt F)) ]
theorem main_part1_ops7_sub : (main_part1_ops7 : List (HloOp τ sig (Elt F))).Forall fun op => op.bufs ⊆ StableHlo.tcRefs τ sig :=
  unary_bufs_sub ..
/-- 22 host operations of @take_along_axis_9 (main_call15), window 1 (statements 61 … 86), in order. -/
abbrev main_part1_ops8 : List (HloOp τ sig (Elt F)) :=
  [ StableHlo.TRef.nullary (.of main_call15_c : StableHlo.TRef sig ⟨S_, .i32⟩) (constantI S_ 32 0#32),
    StableHlo.TRef.unary (.of main_call15_c : StableHlo.TRef sig ⟨S_, .i32⟩) (.of main_call15_v0 : StableHlo.TRef sig ⟨S4x1000x1, .i32⟩) (broadcastInDim S4x1000x1 ![] bcast_S_S4x1000x1),
    StableHlo.TRef.binary (.of main_v64 : StableHlo.TRef sig ⟨S4x1000x1, .i32⟩) (.of main_call15_v0 : StableHlo.TRef sig ⟨S4x1000x1, .i32⟩) (.of main_call15_v1 : StableHlo.TRef sig ⟨S4x1000x1, .i1⟩) (cmpi .slt),
    StableHlo.TRef.nullary (.of main_call15_c_0 : StableHlo.TRef sig ⟨S_, .i32⟩) (constantI S_ 32 2048#32),
    StableHlo.TRef.unary (.of main_call15_c_0 : StableHlo.TRef sig ⟨S_, .i32⟩) (.of main_call15_v2 : StableHlo.TRef sig ⟨S4x1000x1, .i32⟩) (broadcastInDim S4x1000x1 ![] bcast_S_S4x1000x1),
    StableHlo.TRef.binary (.of main_v64 : StableHlo.TRef sig ⟨S4x1000x1, .i32⟩) (.of main_call15_v2 : StableHlo.TRef sig ⟨S4x1000x1, .i32⟩) (.of main_call15_v3 : StableHlo.TRef sig ⟨S4x1000x1, .i32⟩) addi,
    StableHlo.TRef.ternary (.of main_call15_v1 : StableHlo.TRef sig ⟨S4x1000x1, .i1⟩) (.of main_call15_v3 : StableHlo.TRef sig ⟨S4x1000x1, .i32⟩) (.of main_v64 : StableHlo.TRef sig ⟨S4x1000x1, .i32⟩) (.of main_call15_v4 : StableHlo.TRef sig ⟨S4x1000x1, .i32⟩) select,
    StableHlo.TRef.nullary (.of main_call15_c_1 : StableHlo.TRef sig ⟨S1, .i32⟩) (constantI S1 32 2047#32),
    StableHlo.TRef.nullary (.of main_call15_c_2 : StableHlo.TRef sig ⟨S_, .i32⟩) (constantI S_ 32 0#32),
    StableHlo.TRef.unary (.of main_call15_c_2 : StableHlo.TRef sig ⟨S_, .i32⟩) (.of main_call15_v5 : StableHlo.TRef sig ⟨S4x1000x1, .i32⟩) (broadcastInDim S4x1000x1 ![] bcast_S_S4x1000x1),
    StableHlo.TRef.binary (.of main_call15_v4 : StableHlo.TRef sig ⟨S4x1000x1, .i32⟩) (.of main_call15_v5 : StableHlo.TRef sig ⟨S4x1000x1, .i32⟩) (.of main_call15_v6 : StableHlo.TRef sig ⟨S4x1000x1, .i1⟩) (cmpi .sge),
    StableHlo.TRef.unary (.of main_call15_c_1 : StableHlo.TRef sig ⟨S1, .i32⟩) (.of main_call15_v7 : StableHlo.TRef sig ⟨S1x1x1, .i32⟩) (broadcastInDim S1x1x1 ![2] bcast_S1_S1x1x1_2),
    StableHlo.TRef.unary (.of main_call15_v7 : StableHlo.TRef sig ⟨S1x1x1, .i32⟩) (.of main_call15_v8 : StableHlo.TRef sig ⟨S4x1000x1, .i32⟩) (broadcastInDim S4x1000x1 ![0, 1, 2] bcast_S1x1x1_S4x1000x1_0_1_2),
    StableHlo.TRef.binary (.of main_call15_v4 : StableHlo.TRef sig ⟨S4x1000x1, .i32⟩) (.of main_call15_v8 : StableHlo.TRef sig ⟨S4x1000x1, .i32⟩) (.of main_call15_v9 : StableHlo.TRef sig ⟨S4x1000x1, .i1⟩) (cmpi .sle),
    StableHlo.TRef.binary (.of main_call15_v6 : StableHlo.TRef sig ⟨S4x1000x1, .i1⟩) (.of main_call15_v9 : StableHlo.TRef sig ⟨S4x1000x1, .i1⟩) (.of main_call15_v10 : StableHlo.TRef sig ⟨S4x1000x1, .i1⟩) andi,
    StableHlo.TRef.nullary (.of main_call15_c_3 : StableHlo.TRef sig ⟨S_, .i1⟩) (constantI S_ 1 1#1),
    StableHlo.TRef.binary (.of main_call15_v10 : StableHlo.TRef sig ⟨S4x1000x1, .i1⟩) (.of main_call15_c_3 : StableHlo.TRef sig ⟨S_, .i1⟩) (.of main_call15_v11 : StableHlo.TRef sig ⟨S4x1000, .i1⟩) (fun x v => Host.reduce IntOp.andi x v reducesTo_S4x1000x1_S4x1000_d2 h_S_),
    StableHlo.TRef.binary (.of main_v50 : StableHlo.TRef sig ⟨S4x2048x5, .f32⟩) (.of main_call15_v4 : StableHlo.TRef sig ⟨S4x1000x1, .i32⟩) (.of main_call15_v12 : StableHlo.TRef sig ⟨S4x1000x5, .f32⟩) (fun x i => Host.gather gather_S4x2048x5_S4x1000x1_S4x1000x5_2_1_0_0_1_2_115 x i),
    StableHlo.TRef.unary (.of main_call15_v11 : StableHlo.TRef sig ⟨S4x1000, .i1⟩) (.of main_call15_v13 : StableHlo.TRef sig ⟨S4x1000x5, .i1⟩) (broadcastInDim S4x1000x5 ![0, 1] bcast_S4x1000_S4x1000x5_0_1),
    StableHlo.TRef.nullary (.of main_call15_cst : StableHlo.TRef sig ⟨S_, .f32⟩) (constant S_ .f32 0x7FC00000#32),
    StableHlo.TRef.unary (.of main_call15_cst : StableHlo.TRef sig ⟨S_, .f32⟩) (.of main_call15_v14 : StableHlo.TRef sig ⟨S4x1000x5, .f32⟩) (broadcastInDim S4x1000x5 ![] bcast_S_S4x1000x5),
    StableHlo.TRef.ternary (.of main_call15_v13 : StableHlo.TRef sig ⟨S4x1000x5, .i1⟩) (.of main_call15_v12 : StableHlo.TRef sig ⟨S4x1000x5, .f32⟩) (.of main_call15_v14 : StableHlo.TRef sig ⟨S4x1000x5, .f32⟩) (.of main_v65 : StableHlo.TRef sig ⟨S4x1000x5, .f32⟩) select ]
theorem main_part1_ops8_sub : (main_part1_ops8 : List (HloOp τ sig (Elt F))).Forall fun op => op.bufs ⊆ StableHlo.tcRefs τ sig :=
  ⟨nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
/-- 22 host operations of @take_along_axis_10 (main_call16), window 1 (statements 61 … 86), in order. -/
abbrev main_part1_ops9 : List (HloOp τ sig (Elt F)) :=
  [ StableHlo.TRef.nullary (.of main_call16_c : StableHlo.TRef sig ⟨S_, .i32⟩) (constantI S_ 32 0#32),
    StableHlo.TRef.unary (.of main_call16_c : StableHlo.TRef sig ⟨S_, .i32⟩) (.of main_call16_v0 : StableHlo.TRef sig ⟨S4x1000, .i32⟩) (broadcastInDim S4x1000 ![] bcast_S_S4x1000),
    StableHlo.TRef.binary (.of main_v63 : StableHlo.TRef sig ⟨S4x1000, .i32⟩) (.of main_call16_v0 : StableHlo.TRef sig ⟨S4x1000, .i32⟩) (.of main_call16_v1 : StableHlo.TRef sig ⟨S4x1000, .i1⟩) (cmpi .slt),
    StableHlo.TRef.nullary (.of main_call16_c_0 : StableHlo.TRef sig ⟨S_, .i32⟩) (constantI S_ 32 2048#32),
    StableHlo.TRef.unary (.of main_call16_c_0 : StableHlo.TRef sig ⟨S_, .i32⟩) (.of main_call16_v2 : StableHlo.TRef sig ⟨S4x1000, .i32⟩) (broadcastInDim S4x1000 ![] bcast_S_S4x1000),
    StableHlo.TRef.binary (.of main_v63 : StableHlo.TRef sig ⟨S4x1000, .i32⟩) (.of main_call16_v2 : StableHlo.TRef sig ⟨S4x1000, .i32⟩) (.of main_call16_v3 : StableHlo.TRef sig ⟨S4x1000, .i32⟩) addi,
    StableHlo.TRef.ternary (.of main_call16_v1 : StableHlo.TRef sig ⟨S4x1000, .i1⟩) (.of main_call16_v3 : StableHlo.TRef sig ⟨S4x1000, .i32⟩) (.of main_v63 : StableHlo.TRef sig ⟨S4x1000, .i32⟩) (.of main_call16_v4 : StableHlo.TRef sig ⟨S4x1000, .i32⟩) select,
    StableHlo.TRef.reshape (.of main_call16_v4 : StableHlo.TRef sig ⟨S4x1000, .i32⟩) (.of main_call16_v5 : StableHlo.TRef sig ⟨S4x1000x1, .i32⟩) (rfl : (.i32 : EltTy) = .i32) shapeCasts_S4x1000_S4x1000x1,
    StableHlo.TRef.nullary (.of main_call16_c_1 : StableHlo.TRef sig ⟨S1, .i32⟩) (constantI S1 32 2047#32),
    StableHlo.TRef.nullary (.of main_call16_c_2 : StableHlo.TRef sig ⟨S_, .i32⟩) (constantI S_ 32 0#32),
    StableHlo.TRef.unary (.of main_call16_c_2 : StableHlo.TRef sig ⟨S_, .i32⟩) (.of main_call16_v6 : StableHlo.TRef sig ⟨S4x1000x1, .i32⟩) (broadcastInDim S4x1000x1 ![] bcast_S_S4x1000x1),
    StableHlo.TRef.binary (.of main_call16_v5 : StableHlo.TRef sig ⟨S4x1000x1, .i32⟩) (.of main_call16_v6 : StableHlo.TRef sig ⟨S4x1000x1, .i32⟩) (.of main_call16_v7 : StableHlo.TRef sig ⟨S4x1000x1, .i1⟩) (cmpi .sge),
    StableHlo.TRef.unary (.of main_call16_c_1 : StableHlo.TRef sig ⟨S1, .i32⟩) (.of main_call16_v8 : StableHlo.TRef sig ⟨S1x1x1, .i32⟩) (broadcastInDim S1x1x1 ![2] bcast_S1_S1x1x1_2),
    StableHlo.TRef.unary (.of main_call16_v8 : StableHlo.TRef sig ⟨S1x1x1, .i32⟩) (.of main_call16_v9 : StableHlo.TRef sig ⟨S4x1000x1, .i32⟩) (broadcastInDim S4x1000x1 ![0, 1, 2] bcast_S1x1x1_S4x1000x1_0_1_2),
    StableHlo.TRef.binary (.of main_call16_v5 : StableHlo.TRef sig ⟨S4x1000x1, .i32⟩) (.of main_call16_v9 : StableHlo.TRef sig ⟨S4x1000x1, .i32⟩) (.of main_call16_v10 : StableHlo.TRef sig ⟨S4x1000x1, .i1⟩) (cmpi .sle),
    StableHlo.TRef.binary (.of main_call16_v7 : StableHlo.TRef sig ⟨S4x1000x1, .i1⟩) (.of main_call16_v10 : StableHlo.TRef sig ⟨S4x1000x1, .i1⟩) (.of main_call16_v11 : StableHlo.TRef sig ⟨S4x1000x1, .i1⟩) andi,
    StableHlo.TRef.nullary (.of main_call16_c_3 : StableHlo.TRef sig ⟨S_, .i1⟩) (constantI S_ 1 1#1),
    StableHlo.TRef.binary (.of main_call16_v11 : StableHlo.TRef sig ⟨S4x1000x1, .i1⟩) (.of main_call16_c_3 : StableHlo.TRef sig ⟨S_, .i1⟩) (.of main_call16_v12 : StableHlo.TRef sig ⟨S4x1000, .i1⟩) (fun x v => Host.reduce IntOp.andi x v reducesTo_S4x1000x1_S4x1000_d2 h_S_),
    StableHlo.TRef.binary (.of main_v51 : StableHlo.TRef sig ⟨S4x2048, .f32⟩) (.of main_call16_v5 : StableHlo.TRef sig ⟨S4x1000x1, .i32⟩) (.of main_call16_v13 : StableHlo.TRef sig ⟨S4x1000, .f32⟩) (fun x i => Host.gather gather_S4x2048_S4x1000x1_S4x1000_n_1_0_0_1_2_11 x i),
    StableHlo.TRef.nullary (.of main_call16_cst : StableHlo.TRef sig ⟨S_, .f32⟩) (constant S_ .f32 0x7FC00000#32),
    StableHlo.TRef.unary (.of main_call16_cst : StableHlo.TRef sig ⟨S_, .f32⟩) (.of main_call16_v14 : StableHlo.TRef sig ⟨S4x1000, .f32⟩) (broadcastInDim S4x1000 ![] bcast_S_S4x1000),
    StableHlo.TRef.ternary (.of main_call16_v12 : StableHlo.TRef sig ⟨S4x1000, .i1⟩) (.of main_call16_v13 : StableHlo.TRef sig ⟨S4x1000, .f32⟩) (.of main_call16_v14 : StableHlo.TRef sig ⟨S4x1000, .f32⟩) (.of main_v66 : StableHlo.TRef sig ⟨S4x1000, .f32⟩) select ]
theorem main_part1_ops9_sub : (main_part1_ops9 : List (HloOp τ sig (Elt F))).Forall fun op => op.bufs ⊆ StableHlo.tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩
/-- The last window of `main` (`main_part1`, statements 61 … 86) is the chain of ITS items, each item aligned with the window's
    statements, then `chain_rfl`. -/
theorem main_part1_chain (c : Dev nD) : main_part1 (F := F) c = (Pipeline.chain
  [ StableHlo.seq main_part1_ops0,
    StableHlo.seq main_part1_ops1,
    Prog.lift (.customCall (Pipeline.entry 1) ()),
    StableHlo.seq main_part1_ops2,
    StableHlo.seq main_part1_ops3,
    StableHlo.seq main_part1_ops4,
    StableHlo.seq main_part1_ops5,
    StableHlo.seq main_part1_ops6,
    StableHlo.seq main_part1_ops7,
    StableHlo.seq main_part1_ops8,
    StableHlo.seq main_part1_ops9 ] : Prog (TpuEff nD τ sig (Elt F) (Pipeline.Sig Λ₀ (Fin 2) fun p => (pcfgs (F := F) p).Adm) .tc) PUnit) := by
  rewrite [Pipeline.chain_cons, StableHlo.chain_seq_cons, Pipeline.chain_cons, StableHlo.chain_seq_cons, Pipeline.chain_cons, Pipeline.chain_cons, StableHlo.chain_seq_cons, Pipeline.chain_cons, StableHlo.chain_seq_cons, Pipeline.chain_cons, Pipeline.chain_cons]
  chain_rfl

/-- `main` is the chain of its WINDOWS' items (a stretch a window boundary cuts is several items): assembled from
    the windows' equations, the last window's then each earlier one's followed by `Pipeline.chainK_bind_chain`, the
    closing `chain_rfl` between equal item lists — the form a certificate of a long block runs its segments over
    (`Seg.run_eq_chain`; `CSeg.runL` under host loops), each window piece with its `_sub`. -/
theorem main_chain_windows (c : Dev nD) : main (F := F) c = (Pipeline.chain
  (StableHlo.seq main_part0_ops0 ::
    Prog.lift (.customCall (Pipeline.entry 0) ()) ::
    StableHlo.seq main_part0_ops1 ::
    StableHlo.seq main_part0_ops2 ::
    StableHlo.seq main_part0_ops3 ::
    caseProg ::
    StableHlo.seq main_part0_ops4 ::
    StableHlo.seq main_part0_ops5 ::
    StableHlo.seq main_part0_ops6 ::
    StableHlo.seq main_part0_ops7 ::
    StableHlo.seq main_part0_ops8 ::
    StableHlo.seq main_part0_ops9 ::
    StableHlo.seq main_part0_ops10 ::
    StableHlo.seq main_part0_ops11 ::
    StableHlo.seq main_part0_ops12 ::
    StableHlo.seq main_part0_ops13 ::
    StableHlo.seq main_part0_ops14 ::
    StableHlo.seq main_part0_ops15 ::
    StableHlo.seq main_part0_ops16 ::
    StableHlo.seq main_part0_ops17 ::
    StableHlo.seq main_part0_ops18 ::
    StableHlo.seq main_part0_ops19 ::
    StableHlo.seq main_part0_ops20 ::
    StableHlo.seq main_part0_ops21 ::
    StableHlo.seq main_part0_ops22 ::
    StableHlo.seq main_part0_ops23 ::
    StableHlo.seq main_part0_ops24 ::
    StableHlo.seq main_part1_ops0 ::
    StableHlo.seq main_part1_ops1 ::
    Prog.lift (.customCall (Pipeline.entry 1) ()) ::
    StableHlo.seq main_part1_ops2 ::
    StableHlo.seq main_part1_ops3 ::
    StableHlo.seq main_part1_ops4 ::
    StableHlo.seq main_part1_ops5 ::
    StableHlo.seq main_part1_ops6 ::
    StableHlo.seq main_part1_ops7 ::
    StableHlo.seq main_part1_ops8 ::
    StableHlo.seq main_part1_ops9 :: [] ) : Prog (TpuEff nD τ sig (Elt F) (Pipeline.Sig Λ₀ (Fin 2) fun p => (pcfgs (F := F) p).Adm) .tc) PUnit) := by
  show (main_part0 (F := F) c >>= fun _ => main_part1 (F := F) c) = _
  rewrite [main_part1_chain, main_part0_chain, Pipeline.chainK_bind_chain]
  chain_rfl

end Cert.KernelIdeal.Gen

end
-- ==== Proof.KernelIdealChunk.lean ====
/- The chunk call of `KernelIdeal`: what one grid point leaves in each output block and the body triple, for any float
   instance. -/
module

public import proofs.«01_k».proof.Proof.KernelIdealLaunch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # The first call, from the contents `V` it finds -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1x2048x512 := Rect.unit (s := S1x2048x512) ![0, 0, 0] S1x256x512.size inb_S1x2048x512_S1x256x512_0_0_0
abbrev r0_1 : Rect S1x2048x16 := Rect.unit (s := S1x2048x16) ![0, 0, 0] S1x256x1.size inb_S1x2048x16_S1x256x1_0_0_0
abbrev r0_2 : Rect S1x2048x16 := Rect.unit (s := S1x2048x16) ![0, 0, 1] S1x256x1.size inb_S1x2048x16_S1x256x1_0_0_1
abbrev r0_3 : Rect S1x2048x16 := Rect.unit (s := S1x2048x16) ![0, 0, 2] S1x256x1.size inb_S1x2048x16_S1x256x1_0_0_2
abbrev r0_4 : Rect S1x2048x16 := Rect.unit (s := S1x2048x16) ![0, 0, 3] S1x256x1.size inb_S1x2048x16_S1x256x1_0_0_3
abbrev r0_5 : Rect S1x2048x16 := Rect.unit (s := S1x2048x16) ![0, 0, 4] S1x256x1.size inb_S1x2048x16_S1x256x1_0_0_4
abbrev r0_6 : Rect S1x2048x16 := Rect.unit (s := S1x2048x16) ![0, 0, 5] S1x256x1.size inb_S1x2048x16_S1x256x1_0_0_5
abbrev r0_7 : Rect S1x2048x16 := Rect.unit (s := S1x2048x16) ![0, 0, 6] S1x256x1.size inb_S1x2048x16_S1x256x1_0_0_6
abbrev r0_8 : Rect S1x2048x16 := Rect.unit (s := S1x2048x16) ![0, 0, 7] S1x256x1.size inb_S1x2048x16_S1x256x1_0_0_7
abbrev r0_9 : Rect S1x2048x16 := Rect.unit (s := S1x2048x16) ![0, 0, 8] S1x256x1.size inb_S1x2048x16_S1x256x1_0_0_8
abbrev r0_10 : Rect S1x2048x16 := Rect.unit (s := S1x2048x16) ![0, 0, 9] S1x256x1.size inb_S1x2048x16_S1x256x1_0_0_9
abbrev r0_11 : Rect S1x2048x16 := Rect.unit (s := S1x2048x16) ![0, 0, 10] S1x256x1.size inb_S1x2048x16_S1x256x1_0_0_10
abbrev r0_12 : Rect S1x2048x16 := Rect.unit (s := S1x2048x16) ![0, 0, 11] S1x256x1.size inb_S1x2048x16_S1x256x1_0_0_11
abbrev r0_13 : Rect S1x2048x16 := Rect.unit (s := S1x2048x16) ![0, 0, 12] S1x256x1.size inb_S1x2048x16_S1x256x1_0_0_12
abbrev r0_14 : Rect S1x2048x16 := Rect.unit (s := S1x2048x16) ![0, 0, 13] S1x256x1.size inb_S1x2048x16_S1x256x1_0_0_13
abbrev r0_15 : Rect S1x2048x16 := Rect.unit (s := S1x2048x16) ![0, 0, 14] S1x256x1.size inb_S1x2048x16_S1x256x1_0_0_14
abbrev r0_16 : Rect S1x2048x16 := Rect.unit (s := S1x2048x16) ![0, 0, 15] S1x256x1.size inb_S1x2048x16_S1x256x1_0_0_15
abbrev r0_17 : Rect S1x2048x512 := Rect.unit (s := S1x2048x512) ![0, 256, 0] S1x256x512.size inb_S1x2048x512_S1x256x512_0_256_0
abbrev r0_18 : Rect S1x2048x16 := Rect.unit (s := S1x2048x16) ![0, 256, 0] S1x256x1.size inb_S1x2048x16_S1x256x1_0_256_0
abbrev r0_19 : Rect S1x2048x16 := Rect.unit (s := S1x2048x16) ![0, 256, 1] S1x256x1.size inb_S1x2048x16_S1x256x1_0_256_1
abbrev r0_20 : Rect S1x2048x16 := Rect.unit (s := S1x2048x16) ![0, 256, 2] S1x256x1.size inb_S1x2048x16_S1x256x1_0_256_2
abbrev r0_21 : Rect S1x2048x16 := Rect.unit (s := S1x2048x16) ![0, 256, 3] S1x256x1.size inb_S1x2048x16_S1x256x1_0_256_3
abbrev r0_22 : Rect S1x2048x16 := Rect.unit (s := S1x2048x16) ![0, 256, 4] S1x256x1.size inb_S1x2048x16_S1x256x1_0_256_4
abbrev r0_23 : Rect S1x2048x16 := Rect.unit (s := S1x2048x16) ![0, 256, 5] S1x256x1.size inb_S1x2048x16_S1x256x1_0_256_5
abbrev r0_24 : Rect S1x2048x16 := Rect.unit (s := S1x2048x16) ![0, 256, 6] S1x256x1.size inb_S1x2048x16_S1x256x1_0_256_6
abbrev r0_25 : Rect S1x2048x16 := Rect.unit (s := S1x2048x16) ![0, 256, 7] S1x256x1.size inb_S1x2048x16_S1x256x1_0_256_7
abbrev r0_26 : Rect S1x2048x16 := Rect.unit (s := S1x2048x16) ![0, 256, 8] S1x256x1.size inb_S1x2048x16_S1x256x1_0_256_8
abbrev r0_27 : Rect S1x2048x16 := Rect.unit (s := S1x2048x16) ![0, 256, 9] S1x256x1.size inb_S1x2048x16_S1x256x1_0_256_9
abbrev r0_28 : Rect S1x2048x16 := Rect.unit (s := S1x2048x16) ![0, 256, 10] S1x256x1.size inb_S1x2048x16_S1x256x1_0_256_10
abbrev r0_29 : Rect S1x2048x16 := Rect.unit (s := S1x2048x16) ![0, 256, 11] S1x256x1.size inb_S1x2048x16_S1x256x1_0_256_11
abbrev r0_30 : Rect S1x2048x16 := Rect.unit (s := S1x2048x16) ![0, 256, 12] S1x256x1.size inb_S1x2048x16_S1x256x1_0_256_12
abbrev r0_31 : Rect S1x2048x16 := Rect.unit (s := S1x2048x16) ![0, 256, 13] S1x256x1.size inb_S1x2048x16_S1x256x1_0_256_13
abbrev r0_32 : Rect S1x2048x16 := Rect.unit (s := S1x2048x16) ![0, 256, 14] S1x256x1.size inb_S1x2048x16_S1x256x1_0_256_14
abbrev r0_33 : Rect S1x2048x16 := Rect.unit (s := S1x2048x16) ![0, 256, 15] S1x256x1.size inb_S1x2048x16_S1x256x1_0_256_15
abbrev r0_34 : Rect S1x2048x512 := Rect.unit (s := S1x2048x512) ![0, 512, 0] S1x256x512.size inb_S1x2048x512_S1x256x512_0_512_0
abbrev r0_35 : Rect S1x2048x16 := Rect.unit (s := S1x2048x16) ![0, 512, 0] S1x256x1.size inb_S1x2048x16_S1x256x1_0_512_0
abbrev r0_36 : Rect S1x2048x16 := Rect.unit (s := S1x2048x16) ![0, 512, 1] S1x256x1.size inb_S1x2048x16_S1x256x1_0_512_1
abbrev r0_37 : Rect S1x2048x16 := Rect.unit (s := S1x2048x16) ![0, 512, 2] S1x256x1.size inb_S1x2048x16_S1x256x1_0_512_2
abbrev r0_38 : Rect S1x2048x16 := Rect.unit (s := S1x2048x16) ![0, 512, 3] S1x256x1.size inb_S1x2048x16_S1x256x1_0_512_3
abbrev r0_39 : Rect S1x2048x16 := Rect.unit (s := S1x2048x16) ![0, 512, 4] S1x256x1.size inb_S1x2048x16_S1x256x1_0_512_4
abbrev r0_40 : Rect S1x2048x16 := Rect.unit (s := S1x2048x16) ![0, 512, 5] S1x256x1.size inb_S1x2048x16_S1x256x1_0_512_5
abbrev r0_41 : Rect S1x2048x16 := Rect.unit (s := S1x2048x16) ![0, 512, 6] S1x256x1.size inb_S1x2048x16_S1x256x1_0_512_6
abbrev r0_42 : Rect S1x2048x16 := Rect.unit (s := S1x2048x16) ![0, 512, 7] S1x256x1.size inb_S1x2048x16_S1x256x1_0_512_7
abbrev r0_43 : Rect S1x2048x16 := Rect.unit (s := S1x2048x16) ![0, 512, 8] S1x256x1.size inb_S1x2048x16_S1x256x1_0_512_8
abbrev r0_44 : Rect S1x2048x16 := Rect.unit (s := S1x2048x16) ![0, 512, 9] S1x256x1.size inb_S1x2048x16_S1x256x1_0_512_9
abbrev r0_45 : Rect S1x2048x16 := Rect.unit (s := S1x2048x16) ![0, 512, 10] S1x256x1.size inb_S1x2048x16_S1x256x1_0_512_10
abbrev r0_46 : Rect S1x2048x16 := Rect.unit (s := S1x2048x16) ![0, 512, 11] S1x256x1.size inb_S1x2048x16_S1x256x1_0_512_11
abbrev r0_47 : Rect S1x2048x16 := Rect.unit (s := S1x2048x16) ![0, 512, 12] S1x256x1.size inb_S1x2048x16_S1x256x1_0_512_12
abbrev r0_48 : Rect S1x2048x16 := Rect.unit (s := S1x2048x16) ![0, 512, 13] S1x256x1.size inb_S1x2048x16_S1x256x1_0_512_13
abbrev r0_49 : Rect S1x2048x16 := Rect.unit (s := S1x2048x16) ![0, 512, 14] S1x256x1.size inb_S1x2048x16_S1x256x1_0_512_14
abbrev r0_50 : Rect S1x2048x16 := Rect.unit (s := S1x2048x16) ![0, 512, 15] S1x256x1.size inb_S1x2048x16_S1x256x1_0_512_15
abbrev r0_51 : Rect S1x2048x512 := Rect.unit (s := S1x2048x512) ![0, 768, 0] S1x256x512.size inb_S1x2048x512_S1x256x512_0_768_0
abbrev r0_52 : Rect S1x2048x16 := Rect.unit (s := S1x2048x16) ![0, 768, 0] S1x256x1.size inb_S1x2048x16_S1x256x1_0_768_0
abbrev r0_53 : Rect S1x2048x16 := Rect.unit (s := S1x2048x16) ![0, 768, 1] S1x256x1.size inb_S1x2048x16_S1x256x1_0_768_1
abbrev r0_54 : Rect S1x2048x16 := Rect.unit (s := S1x2048x16) ![0, 768, 2] S1x256x1.size inb_S1x2048x16_S1x256x1_0_768_2
abbrev r0_55 : Rect S1x2048x16 := Rect.unit (s := S1x2048x16) ![0, 768, 3] S1x256x1.size inb_S1x2048x16_S1x256x1_0_768_3
abbrev r0_56 : Rect S1x2048x16 := Rect.unit (s := S1x2048x16) ![0, 768, 4] S1x256x1.size inb_S1x2048x16_S1x256x1_0_768_4
abbrev r0_57 : Rect S1x2048x16 := Rect.unit (s := S1x2048x16) ![0, 768, 5] S1x256x1.size inb_S1x2048x16_S1x256x1_0_768_5
abbrev r0_58 : Rect S1x2048x16 := Rect.unit (s := S1x2048x16) ![0, 768, 6] S1x256x1.size inb_S1x2048x16_S1x256x1_0_768_6
abbrev r0_59 : Rect S1x2048x16 := Rect.unit (s := S1x2048x16) ![0, 768, 7] S1x256x1.size inb_S1x2048x16_S1x256x1_0_768_7
abbrev r0_60 : Rect S1x2048x16 := Rect.unit (s := S1x2048x16) ![0, 768, 8] S1x256x1.size inb_S1x2048x16_S1x256x1_0_768_8
abbrev r0_61 : Rect S1x2048x16 := Rect.unit (s := S1x2048x16) ![0, 768, 9] S1x256x1.size inb_S1x2048x16_S1x256x1_0_768_9
abbrev r0_62 : Rect S1x2048x16 := Rect.unit (s := S1x2048x16) ![0, 768, 10] S1x256x1.size inb_S1x2048x16_S1x256x1_0_768_10
abbrev r0_63 : Rect S1x2048x16 := Rect.unit (s := S1x2048x16) ![0, 768, 11] S1x256x1.size inb_S1x2048x16_S1x256x1_0_768_11
abbrev r0_64 : Rect S1x2048x16 := Rect.unit (s := S1x2048x16) ![0, 768, 12] S1x256x1.size inb_S1x2048x16_S1x256x1_0_768_12
abbrev r0_65 : Rect S1x2048x16 := Rect.unit (s := S1x2048x16) ![0, 768, 13] S1x256x1.size inb_S1x2048x16_S1x256x1_0_768_13
abbrev r0_66 : Rect S1x2048x16 := Rect.unit (s := S1x2048x16) ![0, 768, 14] S1x256x1.size inb_S1x2048x16_S1x256x1_0_768_14
abbrev r0_67 : Rect S1x2048x16 := Rect.unit (s := S1x2048x16) ![0, 768, 15] S1x256x1.size inb_S1x2048x16_S1x256x1_0_768_15
abbrev r0_68 : Rect S1x2048x512 := Rect.unit (s := S1x2048x512) ![0, 1024, 0] S1x256x512.size inb_S1x2048x512_S1x256x512_0_1024_0
abbrev r0_69 : Rect S1x2048x16 := Rect.unit (s := S1x2048x16) ![0, 1024, 0] S1x256x1.size inb_S1x2048x16_S1x256x1_0_1024_0
abbrev r0_70 : Rect S1x2048x16 := Rect.unit (s := S1x2048x16) ![0, 1024, 1] S1x256x1.size inb_S1x2048x16_S1x256x1_0_1024_1
abbrev r0_71 : Rect S1x2048x16 := Rect.unit (s := S1x2048x16) ![0, 1024, 2] S1x256x1.size inb_S1x2048x16_S1x256x1_0_1024_2
abbrev r0_72 : Rect S1x2048x16 := Rect.unit (s := S1x2048x16) ![0, 1024, 3] S1x256x1.size inb_S1x2048x16_S1x256x1_0_1024_3
abbrev r0_73 : Rect S1x2048x16 := Rect.unit (s := S1x2048x16) ![0, 1024, 4] S1x256x1.size inb_S1x2048x16_S1x256x1_0_1024_4
abbrev r0_74 : Rect S1x2048x16 := Rect.unit (s := S1x2048x16) ![0, 1024, 5] S1x256x1.size inb_S1x2048x16_S1x256x1_0_1024_5
abbrev r0_75 : Rect S1x2048x16 := Rect.unit (s := S1x2048x16) ![0, 1024, 6] S1x256x1.size inb_S1x2048x16_S1x256x1_0_1024_6
abbrev r0_76 : Rect S1x2048x16 := Rect.unit (s := S1x2048x16) ![0, 1024, 7] S1x256x1.size inb_S1x2048x16_S1x256x1_0_1024_7
abbrev r0_77 : Rect S1x2048x16 := Rect.unit (s := S1x2048x16) ![0, 1024, 8] S1x256x1.size inb_S1x2048x16_S1x256x1_0_1024_8
abbrev r0_78 : Rect S1x2048x16 := Rect.unit (s := S1x2048x16) ![0, 1024, 9] S1x256x1.size inb_S1x2048x16_S1x256x1_0_1024_9
abbrev r0_79 : Rect S1x2048x16 := Rect.unit (s := S1x2048x16) ![0, 1024, 10] S1x256x1.size inb_S1x2048x16_S1x256x1_0_1024_10
abbrev r0_80 : Rect S1x2048x16 := Rect.unit (s := S1x2048x16) ![0, 1024, 11] S1x256x1.size inb_S1x2048x16_S1x256x1_0_1024_11
abbrev r0_81 : Rect S1x2048x16 := Rect.unit (s := S1x2048x16) ![0, 1024, 12] S1x256x1.size inb_S1x2048x16_S1x256x1_0_1024_12
abbrev r0_82 : Rect S1x2048x16 := Rect.unit (s := S1x2048x16) ![0, 1024, 13] S1x256x1.size inb_S1x2048x16_S1x256x1_0_1024_13
abbrev r0_83 : Rect S1x2048x16 := Rect.unit (s := S1x2048x16) ![0, 1024, 14] S1x256x1.size inb_S1x2048x16_S1x256x1_0_1024_14
abbrev r0_84 : Rect S1x2048x16 := Rect.unit (s := S1x2048x16) ![0, 1024, 15] S1x256x1.size inb_S1x2048x16_S1x256x1_0_1024_15
abbrev r0_85 : Rect S1x2048x512 := Rect.unit (s := S1x2048x512) ![0, 1280, 0] S1x256x512.size inb_S1x2048x512_S1x256x512_0_1280_0
abbrev r0_86 : Rect S1x2048x16 := Rect.unit (s := S1x2048x16) ![0, 1280, 0] S1x256x1.size inb_S1x2048x16_S1x256x1_0_1280_0
abbrev r0_87 : Rect S1x2048x16 := Rect.unit (s := S1x2048x16) ![0, 1280, 1] S1x256x1.size inb_S1x2048x16_S1x256x1_0_1280_1
abbrev r0_88 : Rect S1x2048x16 := Rect.unit (s := S1x2048x16) ![0, 1280, 2] S1x256x1.size inb_S1x2048x16_S1x256x1_0_1280_2
abbrev r0_89 : Rect S1x2048x16 := Rect.unit (s := S1x2048x16) ![0, 1280, 3] S1x256x1.size inb_S1x2048x16_S1x256x1_0_1280_3
abbrev r0_90 : Rect S1x2048x16 := Rect.unit (s := S1x2048x16) ![0, 1280, 4] S1x256x1.size inb_S1x2048x16_S1x256x1_0_1280_4
abbrev r0_91 : Rect S1x2048x16 := Rect.unit (s := S1x2048x16) ![0, 1280, 5] S1x256x1.size inb_S1x2048x16_S1x256x1_0_1280_5
abbrev r0_92 : Rect S1x2048x16 := Rect.unit (s := S1x2048x16) ![0, 1280, 6] S1x256x1.size inb_S1x2048x16_S1x256x1_0_1280_6
abbrev r0_93 : Rect S1x2048x16 := Rect.unit (s := S1x2048x16) ![0, 1280, 7] S1x256x1.size inb_S1x2048x16_S1x256x1_0_1280_7
abbrev r0_94 : Rect S1x2048x16 := Rect.unit (s := S1x2048x16) ![0, 1280, 8] S1x256x1.size inb_S1x2048x16_S1x256x1_0_1280_8
abbrev r0_95 : Rect S1x2048x16 := Rect.unit (s := S1x2048x16) ![0, 1280, 9] S1x256x1.size inb_S1x2048x16_S1x256x1_0_1280_9
abbrev r0_96 : Rect S1x2048x16 := Rect.unit (s := S1x2048x16) ![0, 1280, 10] S1x256x1.size inb_S1x2048x16_S1x256x1_0_1280_10
abbrev r0_97 : Rect S1x2048x16 := Rect.unit (s := S1x2048x16) ![0, 1280, 11] S1x256x1.size inb_S1x2048x16_S1x256x1_0_1280_11
abbrev r0_98 : Rect S1x2048x16 := Rect.unit (s := S1x2048x16) ![0, 1280, 12] S1x256x1.size inb_S1x2048x16_S1x256x1_0_1280_12
abbrev r0_99 : Rect S1x2048x16 := Rect.unit (s := S1x2048x16) ![0, 1280, 13] S1x256x1.size inb_S1x2048x16_S1x256x1_0_1280_13
abbrev r0_100 : Rect S1x2048x16 := Rect.unit (s := S1x2048x16) ![0, 1280, 14] S1x256x1.size inb_S1x2048x16_S1x256x1_0_1280_14
abbrev r0_101 : Rect S1x2048x16 := Rect.unit (s := S1x2048x16) ![0, 1280, 15] S1x256x1.size inb_S1x2048x16_S1x256x1_0_1280_15
abbrev r0_102 : Rect S1x2048x512 := Rect.unit (s := S1x2048x512) ![0, 1536, 0] S1x256x512.size inb_S1x2048x512_S1x256x512_0_1536_0
abbrev r0_103 : Rect S1x2048x16 := Rect.unit (s := S1x2048x16) ![0, 1536, 0] S1x256x1.size inb_S1x2048x16_S1x256x1_0_1536_0
abbrev r0_104 : Rect S1x2048x16 := Rect.unit (s := S1x2048x16) ![0, 1536, 1] S1x256x1.size inb_S1x2048x16_S1x256x1_0_1536_1
abbrev r0_105 : Rect S1x2048x16 := Rect.unit (s := S1x2048x16) ![0, 1536, 2] S1x256x1.size inb_S1x2048x16_S1x256x1_0_1536_2
abbrev r0_106 : Rect S1x2048x16 := Rect.unit (s := S1x2048x16) ![0, 1536, 3] S1x256x1.size inb_S1x2048x16_S1x256x1_0_1536_3
abbrev r0_107 : Rect S1x2048x16 := Rect.unit (s := S1x2048x16) ![0, 1536, 4] S1x256x1.size inb_S1x2048x16_S1x256x1_0_1536_4
abbrev r0_108 : Rect S1x2048x16 := Rect.unit (s := S1x2048x16) ![0, 1536, 5] S1x256x1.size inb_S1x2048x16_S1x256x1_0_1536_5
abbrev r0_109 : Rect S1x2048x16 := Rect.unit (s := S1x2048x16) ![0, 1536, 6] S1x256x1.size inb_S1x2048x16_S1x256x1_0_1536_6
abbrev r0_110 : Rect S1x2048x16 := Rect.unit (s := S1x2048x16) ![0, 1536, 7] S1x256x1.size inb_S1x2048x16_S1x256x1_0_1536_7
abbrev r0_111 : Rect S1x2048x16 := Rect.unit (s := S1x2048x16) ![0, 1536, 8] S1x256x1.size inb_S1x2048x16_S1x256x1_0_1536_8
abbrev r0_112 : Rect S1x2048x16 := Rect.unit (s := S1x2048x16) ![0, 1536, 9] S1x256x1.size inb_S1x2048x16_S1x256x1_0_1536_9
abbrev r0_113 : Rect S1x2048x16 := Rect.unit (s := S1x2048x16) ![0, 1536, 10] S1x256x1.size inb_S1x2048x16_S1x256x1_0_1536_10
abbrev r0_114 : Rect S1x2048x16 := Rect.unit (s := S1x2048x16) ![0, 1536, 11] S1x256x1.size inb_S1x2048x16_S1x256x1_0_1536_11
abbrev r0_115 : Rect S1x2048x16 := Rect.unit (s := S1x2048x16) ![0, 1536, 12] S1x256x1.size inb_S1x2048x16_S1x256x1_0_1536_12
abbrev r0_116 : Rect S1x2048x16 := Rect.unit (s := S1x2048x16) ![0, 1536, 13] S1x256x1.size inb_S1x2048x16_S1x256x1_0_1536_13
abbrev r0_117 : Rect S1x2048x16 := Rect.unit (s := S1x2048x16) ![0, 1536, 14] S1x256x1.size inb_S1x2048x16_S1x256x1_0_1536_14
abbrev r0_118 : Rect S1x2048x16 := Rect.unit (s := S1x2048x16) ![0, 1536, 15] S1x256x1.size inb_S1x2048x16_S1x256x1_0_1536_15
abbrev r0_119 : Rect S1x2048x512 := Rect.unit (s := S1x2048x512) ![0, 1792, 0] S1x256x512.size inb_S1x2048x512_S1x256x512_0_1792_0
abbrev r0_120 : Rect S1x2048x16 := Rect.unit (s := S1x2048x16) ![0, 1792, 0] S1x256x1.size inb_S1x2048x16_S1x256x1_0_1792_0
abbrev r0_121 : Rect S1x2048x16 := Rect.unit (s := S1x2048x16) ![0, 1792, 1] S1x256x1.size inb_S1x2048x16_S1x256x1_0_1792_1
abbrev r0_122 : Rect S1x2048x16 := Rect.unit (s := S1x2048x16) ![0, 1792, 2] S1x256x1.size inb_S1x2048x16_S1x256x1_0_1792_2
abbrev r0_123 : Rect S1x2048x16 := Rect.unit (s := S1x2048x16) ![0, 1792, 3] S1x256x1.size inb_S1x2048x16_S1x256x1_0_1792_3
abbrev r0_124 : Rect S1x2048x16 := Rect.unit (s := S1x2048x16) ![0, 1792, 4] S1x256x1.size inb_S1x2048x16_S1x256x1_0_1792_4
abbrev r0_125 : Rect S1x2048x16 := Rect.unit (s := S1x2048x16) ![0, 1792, 5] S1x256x1.size inb_S1x2048x16_S1x256x1_0_1792_5
abbrev r0_126 : Rect S1x2048x16 := Rect.unit (s := S1x2048x16) ![0, 1792, 6] S1x256x1.size inb_S1x2048x16_S1x256x1_0_1792_6
abbrev r0_127 : Rect S1x2048x16 := Rect.unit (s := S1x2048x16) ![0, 1792, 7] S1x256x1.size inb_S1x2048x16_S1x256x1_0_1792_7
abbrev r0_128 : Rect S1x2048x16 := Rect.unit (s := S1x2048x16) ![0, 1792, 8] S1x256x1.size inb_S1x2048x16_S1x256x1_0_1792_8
abbrev r0_129 : Rect S1x2048x16 := Rect.unit (s := S1x2048x16) ![0, 1792, 9] S1x256x1.size inb_S1x2048x16_S1x256x1_0_1792_9
abbrev r0_130 : Rect S1x2048x16 := Rect.unit (s := S1x2048x16) ![0, 1792, 10] S1x256x1.size inb_S1x2048x16_S1x256x1_0_1792_10
abbrev r0_131 : Rect S1x2048x16 := Rect.unit (s := S1x2048x16) ![0, 1792, 11] S1x256x1.size inb_S1x2048x16_S1x256x1_0_1792_11
abbrev r0_132 : Rect S1x2048x16 := Rect.unit (s := S1x2048x16) ![0, 1792, 12] S1x256x1.size inb_S1x2048x16_S1x256x1_0_1792_12
abbrev r0_133 : Rect S1x2048x16 := Rect.unit (s := S1x2048x16) ![0, 1792, 13] S1x256x1.size inb_S1x2048x16_S1x256x1_0_1792_13
abbrev r0_134 : Rect S1x2048x16 := Rect.unit (s := S1x2048x16) ![0, 1792, 14] S1x256x1.size inb_S1x2048x16_S1x256x1_0_1792_14
abbrev r0_135 : Rect S1x2048x16 := Rect.unit (s := S1x2048x16) ![0, 1792, 15] S1x256x1.size inb_S1x2048x16_S1x256x1_0_1792_15

/-! ## What the body leaves in each output window's buffer -/

/-! ### Values that several stores share

    Each is a value of the body, over the blocks of the inputs; what the stores leave, and the later values, name it
    instead of writing it out again. The comment after each is the body's own name for it. -/

def k0_pay681 (x0 : Vec F S1x2048x512 .f32) : IVec S256x512 32 :=
  iota .tc S256x512 32 [1] iota_S256x512_d1_w32 -- `v0`
def k0_pay682 (x0 : Vec F S1x2048x512 .f32) : IVec S256x1 32 :=
  k0_pay3 -- `v7`
def k0_pay683 (x0 : Vec F S1x2048x512 .f32) : FVec F S256x512 .f32 :=
  k0_pay8 (View.ld x0 r0_0) -- `v26`
def k0_pay684 (x0 : Vec F S1x2048x512 .f32) : IVec S256x1 32 :=
  k0_pay10 (View.ld x0 r0_0) -- `v34`
def k0_pay685 (x0 : Vec F S1x2048x512 .f32) : FVec F S256x512 .f32 :=
  k0_pay18 (k0_pay681 x0) (k0_pay683 x0) (k0_pay684 x0) -- `v64`
def k0_pay686 (x0 : Vec F S1x2048x512 .f32) : IVec S256x1 32 :=
  k0_pay20 (k0_pay681 x0) (k0_pay683 x0) (k0_pay684 x0) -- `v72`
def k0_pay687 (x0 : Vec F S1x2048x512 .f32) : FVec F S256x512 .f32 :=
  k0_pay28 (k0_pay681 x0) (k0_pay685 x0) (k0_pay686 x0) -- `v102`
def k0_pay688 (x0 : Vec F S1x2048x512 .f32) : IVec S256x1 32 :=
  k0_pay30 (k0_pay681 x0) (k0_pay685 x0) (k0_pay686 x0) -- `v110`
def k0_pay689 (x0 : Vec F S1x2048x512 .f32) : FVec F S256x512 .f32 :=
  k0_pay38 (k0_pay681 x0) (k0_pay687 x0) (k0_pay688 x0) -- `v140`
def k0_pay690 (x0 : Vec F S1x2048x512 .f32) : IVec S256x512 32 :=
  k0_pay40 (k0_pay681 x0) (k0_pay687 x0) (k0_pay688 x0) -- `v146`
def k0_pay691 (x0 : Vec F S1x2048x512 .f32) : FVec F S256x512 .f32 :=
  k0_pay49 (k0_pay681 x0) (k0_pay689 x0) (k0_pay690 x0) -- `v178`
def k0_pay692 (x0 : Vec F S1x2048x512 .f32) : IVec S256x512 1 :=
  k0_pay51 (k0_pay681 x0) (k0_pay689 x0) (k0_pay690 x0) -- `v182`
def k0_pay693 (x0 : Vec F S1x2048x512 .f32) : IVec S256x512 32 :=
  k0_pay52 -- `v183`
def k0_pay694 (x0 : Vec F S1x2048x512 .f32) : FVec F S256x512 .f32 :=
  k0_pay61 (k0_pay681 x0) (k0_pay691 x0) (k0_pay692 x0) (k0_pay693 x0) -- `v216`
def k0_pay695 (x0 : Vec F S1x2048x512 .f32) : IVec S256x512 1 :=
  k0_pay63 (k0_pay681 x0) (k0_pay691 x0) (k0_pay692 x0) (k0_pay693 x0) -- `v220`
def k0_pay696 (x0 : Vec F S1x2048x512 .f32) : FVec F S256x512 .f32 :=
  k0_pay72 (k0_pay681 x0) (k0_pay694 x0) (k0_pay695 x0) -- `v254`
def k0_pay697 (x0 : Vec F S1x2048x512 .f32) : FVec F S256x1 .f32 :=
  k0_pay73 (k0_pay681 x0) (k0_pay694 x0) (k0_pay695 x0) -- `v256`
def k0_pay698 (x0 : Vec F S1x2048x512 .f32) : FVec F S256x512 .f32 :=
  k0_pay82 (k0_pay681 x0) (k0_pay696 x0) (k0_pay697 x0) -- `v292`
def k0_pay699 (x0 : Vec F S1x2048x512 .f32) : FVec F S256x512 .f32 :=
  k0_pay86 (View.ld x0 r0_17) -- `v309`
def k0_pay700 (x0 : Vec F S1x2048x512 .f32) : IVec S256x1 32 :=
  k0_pay87 -- `v314`
def k0_pay701 (x0 : Vec F S1x2048x512 .f32) : IVec S256x1 32 :=
  k0_pay89 (k0_pay681 x0) (View.ld x0 r0_17) -- `v322`
def k0_pay702 (x0 : Vec F S1x2048x512 .f32) : FVec F S256x512 .f32 :=
  k0_pay98 (k0_pay681 x0) (k0_pay699 x0) (k0_pay701 x0) -- `v352`
def k0_pay703 (x0 : Vec F S1x2048x512 .f32) : IVec S256x1 32 :=
  k0_pay100 (k0_pay681 x0) (k0_pay699 x0) (k0_pay701 x0) -- `v360`
def k0_pay704 (x0 : Vec F S1x2048x512 .f32) : FVec F S256x512 .f32 :=
  k0_pay109 (k0_pay681 x0) (k0_pay702 x0) (k0_pay703 x0) -- `v390`
def k0_pay705 (x0 : Vec F S1x2048x512 .f32) : IVec S256x1 32 :=
  k0_pay111 (k0_pay681 x0) (k0_pay702 x0) (k0_pay703 x0) -- `v398`
def k0_pay706 (x0 : Vec F S1x2048x512 .f32) : FVec F S256x512 .f32 :=
  k0_pay120 (k0_pay681 x0) (k0_pay704 x0) (k0_pay705 x0) -- `v428`
def k0_pay707 (x0 : Vec F S1x2048x512 .f32) : IVec S256x1 32 :=
  k0_pay122 (k0_pay681 x0) (k0_pay704 x0) (k0_pay705 x0) -- `v436`
def k0_pay708 (x0 : Vec F S1x2048x512 .f32) : FVec F S256x512 .f32 :=
  k0_pay130 (k0_pay681 x0) (k0_pay706 x0) (k0_pay707 x0) -- `v466`
def k0_pay709 (x0 : Vec F S1x2048x512 .f32) : IVec S256x1 32 :=
  k0_pay132 (k0_pay681 x0) (k0_pay706 x0) (k0_pay707 x0) -- `v474`
def k0_pay710 (x0 : Vec F S1x2048x512 .f32) : FVec F S256x512 .f32 :=
  k0_pay140 (k0_pay681 x0) (k0_pay708 x0) (k0_pay709 x0) -- `v504`
def k0_pay711 (x0 : Vec F S1x2048x512 .f32) : IVec S256x1 32 :=
  k0_pay142 (k0_pay681 x0) (k0_pay708 x0) (k0_pay709 x0) -- `v512`
def k0_pay712 (x0 : Vec F S1x2048x512 .f32) : FVec F S256x512 .f32 :=
  k0_pay150 (k0_pay681 x0) (k0_pay710 x0) (k0_pay711 x0) -- `v542`
def k0_pay713 (x0 : Vec F S1x2048x512 .f32) : IVec S256x1 32 :=
  k0_pay152 (k0_pay681 x0) (k0_pay710 x0) (k0_pay711 x0) -- `v550`
def k0_pay714 (x0 : Vec F S1x2048x512 .f32) : FVec F S256x512 .f32 :=
  k0_pay160 (k0_pay681 x0) (k0_pay712 x0) (k0_pay713 x0) -- `v580`
def k0_pay715 (x0 : Vec F S1x2048x512 .f32) : IVec S256x512 32 :=
  k0_pay162 (k0_pay681 x0) (k0_pay712 x0) (k0_pay713 x0) -- `v586`
def k0_pay716 (x0 : Vec F S1x2048x512 .f32) : FVec F S256x512 .f32 :=
  k0_pay170 (View.ld x0 r0_34) -- `v616`
def k0_pay717 (x0 : Vec F S1x2048x512 .f32) : IVec S256x1 32 :=
  k0_pay171 -- `v621`
def k0_pay718 (x0 : Vec F S1x2048x512 .f32) : FVec F S256x512 .f32 :=
  k0_pay176 (k0_pay681 x0) (k0_pay716 x0) -- `v640`
def k0_pay719 (x0 : Vec F S1x2048x512 .f32) : IVec S256x512 1 :=
  k0_pay181 (k0_pay681 x0) (k0_pay716 x0) -- `v657`
def k0_pay720 (x0 : Vec F S1x2048x512 .f32) : FVec F S256x512 .f32 :=
  k0_pay187 (k0_pay681 x0) (k0_pay718 x0) (k0_pay719 x0) (Scalar.ofBits .f32 0xFF800000#32) -- `v678`
def k0_pay721 (x0 : Vec F S1x2048x512 .f32) : IVec S256x512 32 :=
  k0_pay192 (k0_pay681 x0) (k0_pay718 x0) (k0_pay719 x0) (Scalar.ofBits .f32 0xFF800000#32) -- `v694`
def k0_pay722 (x0 : Vec F S1x2048x512 .f32) : FVec F S256x512 .f32 :=
  k0_pay198 (k0_pay681 x0) (k0_pay720 x0) (k0_pay721 x0) -- `v716`
def k0_pay723 (x0 : Vec F S1x2048x512 .f32) : IVec S256x1 32 :=
  k0_pay200 (k0_pay681 x0) (k0_pay720 x0) (k0_pay721 x0) -- `v724`
def k0_pay724 (x0 : Vec F S1x2048x512 .f32) : FVec F S256x512 .f32 :=
  k0_pay208 (k0_pay681 x0) (k0_pay722 x0) (k0_pay723 x0) -- `v754`
def k0_pay725 (x0 : Vec F S1x2048x512 .f32) : IVec S256x1 32 :=
  k0_pay210 (k0_pay681 x0) (k0_pay722 x0) (k0_pay723 x0) -- `v762`
def k0_pay726 (x0 : Vec F S1x2048x512 .f32) : FVec F S256x512 .f32 :=
  k0_pay219 (k0_pay681 x0) (k0_pay724 x0) (k0_pay725 x0) -- `v792`
def k0_pay727 (x0 : Vec F S1x2048x512 .f32) : IVec S256x1 32 :=
  k0_pay221 (k0_pay681 x0) (k0_pay724 x0) (k0_pay725 x0) -- `v800`
def k0_pay728 (x0 : Vec F S1x2048x512 .f32) : FVec F S256x512 .f32 :=
  k0_pay230 (k0_pay681 x0) (k0_pay726 x0) (k0_pay727 x0) -- `v830`
def k0_pay729 (x0 : Vec F S1x2048x512 .f32) : IVec S256x1 32 :=
  k0_pay232 (k0_pay681 x0) (k0_pay726 x0) (k0_pay727 x0) -- `v838`
def k0_pay730 (x0 : Vec F S1x2048x512 .f32) : FVec F S256x512 .f32 :=
  k0_pay241 (k0_pay681 x0) (k0_pay728 x0) (k0_pay729 x0) -- `v868`
def k0_pay731 (x0 : Vec F S1x2048x512 .f32) : IVec S256x1 32 :=
  k0_pay243 (k0_pay681 x0) (k0_pay728 x0) (k0_pay729 x0) -- `v876`
def k0_pay732 (x0 : Vec F S1x2048x512 .f32) : IVec S256x1 32 :=
  k0_pay257 -- `v928`
def k0_pay733 (x0 : Vec F S1x2048x512 .f32) : FVec F S256x512 .f32 :=
  k0_pay262 (k0_pay681 x0) (View.ld x0 r0_51) -- `v947`
def k0_pay734 (x0 : Vec F S1x2048x512 .f32) : IVec S256x512 1 :=
  k0_pay264 (k0_pay681 x0) (View.ld x0 r0_51) -- `v951`
def k0_pay735 (x0 : Vec F S1x2048x512 .f32) : FVec F S256x512 .f32 :=
  k0_pay273 (k0_pay681 x0) (k0_pay733 x0) (k0_pay734 x0) 512#32 -- `v985`
def k0_pay736 (x0 : Vec F S1x2048x512 .f32) : FVec F S256x512 .f32 :=
  k0_pay275 (k0_pay681 x0) (k0_pay733 x0) (k0_pay734 x0) 512#32 -- `v988`
def k0_pay737 (x0 : Vec F S1x2048x512 .f32) : FVec F S256x512 .f32 :=
  k0_pay284 (k0_pay681 x0) (k0_pay735 x0) (k0_pay736 x0) -- `v1023`
def k0_pay738 (x0 : Vec F S1x2048x512 .f32) : FVec F S256 .f32 :=
  k0_pay285 (k0_pay681 x0) (k0_pay735 x0) (k0_pay736 x0) -- `v1024`
def k0_pay739 (x0 : Vec F S1x2048x512 .f32) : FVec F S256x512 .f32 :=
  k0_pay295 (k0_pay681 x0) (k0_pay737 x0) (k0_pay738 x0) -- `v1061`
def k0_pay740 (x0 : Vec F S1x2048x512 .f32) : FVec F S256x512 .f32 :=
  k0_pay300 (k0_pay681 x0) (k0_pay739 x0) -- `v1080`
def k0_pay741 (x0 : Vec F S1x2048x512 .f32) : IVec S256x512 1 :=
  k0_pay305 (k0_pay681 x0) (k0_pay739 x0) -- `v1097`
def k0_pay742 (x0 : Vec F S1x2048x512 .f32) : FVec F S256x512 .f32 :=
  k0_pay311 (k0_pay681 x0) (k0_pay740 x0) (k0_pay741 x0) (Scalar.ofBits .f32 0xFF800000#32) -- `v1118`
def k0_pay743 (x0 : Vec F S1x2048x512 .f32) : IVec S256x512 32 :=
  k0_pay316 (k0_pay681 x0) (k0_pay740 x0) (k0_pay741 x0) (Scalar.ofBits .f32 0xFF800000#32) -- `v1134`
def k0_pay744 (x0 : Vec F S1x2048x512 .f32) : FVec F S256x512 .f32 :=
  k0_pay322 (k0_pay681 x0) (k0_pay742 x0) (k0_pay743 x0) -- `v1156`
def k0_pay745 (x0 : Vec F S1x2048x512 .f32) : IVec S256x1 32 :=
  k0_pay324 (k0_pay681 x0) (k0_pay742 x0) (k0_pay743 x0) -- `v1164`
def k0_pay746 (x0 : Vec F S1x2048x512 .f32) : FVec F S256x512 .f32 :=
  k0_pay332 (k0_pay681 x0) (k0_pay744 x0) (k0_pay745 x0) -- `v1194`
def k0_pay747 (x0 : Vec F S1x2048x512 .f32) : IVec S256x1 32 :=
  k0_pay334 (k0_pay681 x0) (k0_pay744 x0) (k0_pay745 x0) -- `v1202`
def k0_pay748 (x0 : Vec F S1x2048x512 .f32) : FVec F S256x512 .f32 :=
  k0_pay342 (View.ld x0 r0_68) -- `v1230`
def k0_pay749 (x0 : Vec F S1x2048x512 .f32) : IVec S256x1 32 :=
  k0_pay343 -- `v1235`
def k0_pay750 (x0 : Vec F S1x2048x512 .f32) : IVec S256x1 32 :=
  k0_pay345 (k0_pay681 x0) (View.ld x0 r0_68) -- `v1243`
def k0_pay751 (x0 : Vec F S1x2048x512 .f32) : FVec F S256x512 .f32 :=
  k0_pay353 (k0_pay681 x0) (k0_pay748 x0) (k0_pay750 x0) -- `v1273`
def k0_pay752 (x0 : Vec F S1x2048x512 .f32) : IVec S256x1 32 :=
  k0_pay355 (k0_pay681 x0) (k0_pay748 x0) (k0_pay750 x0) -- `v1281`
def k0_pay753 (x0 : Vec F S1x2048x512 .f32) : FVec F S256x512 .f32 :=
  k0_pay363 (k0_pay681 x0) (k0_pay751 x0) (k0_pay752 x0) -- `v1311`
def k0_pay754 (x0 : Vec F S1x2048x512 .f32) : IVec S256 32 :=
  k0_pay365 (k0_pay681 x0) (k0_pay751 x0) (k0_pay752 x0) -- `v1318`
def k0_pay755 (x0 : Vec F S1x2048x512 .f32) : FVec F S256x512 .f32 :=
  k0_pay374 (k0_pay681 x0) (k0_pay753 x0) (k0_pay754 x0) -- `v1349`
def k0_pay756 (x0 : Vec F S1x2048x512 .f32) : IVec S256x512 32 :=
  k0_pay376 (k0_pay681 x0) (k0_pay753 x0) (k0_pay754 x0) -- `v1355`
def k0_pay757 (x0 : Vec F S1x2048x512 .f32) : FVec F S256x512 .f32 :=
  k0_pay385 (k0_pay681 x0) (k0_pay755 x0) (k0_pay756 x0) -- `v1387`
def k0_pay758 (x0 : Vec F S1x2048x512 .f32) : IVec S256x512 1 :=
  k0_pay387 (k0_pay681 x0) (k0_pay755 x0) (k0_pay756 x0) -- `v1391`
def k0_pay759 (x0 : Vec F S1x2048x512 .f32) : FVec F S256x512 .f32 :=
  k0_pay396 (k0_pay681 x0) (k0_pay757 x0) (k0_pay758 x0) 512#32 -- `v1425`
def k0_pay760 (x0 : Vec F S1x2048x512 .f32) : FVec F S256x512 .f32 :=
  k0_pay398 (k0_pay681 x0) (k0_pay757 x0) (k0_pay758 x0) 512#32 -- `v1428`
def k0_pay761 (x0 : Vec F S1x2048x512 .f32) : FVec F S256x512 .f32 :=
  k0_pay407 (k0_pay681 x0) (k0_pay759 x0) (k0_pay760 x0) -- `v1463`
def k0_pay762 (x0 : Vec F S1x2048x512 .f32) : FVec F S256 .f32 :=
  k0_pay408 (k0_pay681 x0) (k0_pay759 x0) (k0_pay760 x0) -- `v1464`
def k0_pay763 (x0 : Vec F S1x2048x512 .f32) : FVec F S256x512 .f32 :=
  k0_pay418 (k0_pay681 x0) (k0_pay761 x0) (k0_pay762 x0) -- `v1501`
def k0_pay764 (x0 : Vec F S1x2048x512 .f32) : IVec S256x1 32 :=
  k0_pay428 -- `v1542`
def k0_pay765 (x0 : Vec F S1x2048x512 .f32) : FVec F S256x512 .f32 :=
  k0_pay433 (k0_pay681 x0) (View.ld x0 r0_85) -- `v1561`
def k0_pay766 (x0 : Vec F S1x2048x512 .f32) : IVec S256x1 32 :=
  k0_pay435 (k0_pay681 x0) (View.ld x0 r0_85) -- `v1569`
def k0_pay767 (x0 : Vec F S1x2048x512 .f32) : FVec F S256x512 .f32 :=
  k0_pay444 (k0_pay681 x0) (k0_pay765 x0) (k0_pay766 x0) -- `v1599`
def k0_pay768 (x0 : Vec F S1x2048x512 .f32) : IVec S256x1 32 :=
  k0_pay446 (k0_pay681 x0) (k0_pay765 x0) (k0_pay766 x0) -- `v1607`
def k0_pay769 (x0 : Vec F S1x2048x512 .f32) : FVec F S256x512 .f32 :=
  k0_pay454 (k0_pay681 x0) (k0_pay767 x0) (k0_pay768 x0) -- `v1637`
def k0_pay770 (x0 : Vec F S1x2048x512 .f32) : IVec S256x1 32 :=
  k0_pay456 (k0_pay681 x0) (k0_pay767 x0) (k0_pay768 x0) -- `v1645`
def k0_pay771 (x0 : Vec F S1x2048x512 .f32) : FVec F S256x512 .f32 :=
  k0_pay464 (k0_pay681 x0) (k0_pay769 x0) (k0_pay770 x0) -- `v1675`
def k0_pay772 (x0 : Vec F S1x2048x512 .f32) : IVec S256x1 32 :=
  k0_pay466 (k0_pay681 x0) (k0_pay769 x0) (k0_pay770 x0) -- `v1683`
def k0_pay773 (x0 : Vec F S1x2048x512 .f32) : FVec F S256x512 .f32 :=
  k0_pay474 (k0_pay681 x0) (k0_pay771 x0) (k0_pay772 x0) -- `v1713`
def k0_pay774 (x0 : Vec F S1x2048x512 .f32) : IVec S256x1 32 :=
  k0_pay476 (k0_pay681 x0) (k0_pay771 x0) (k0_pay772 x0) -- `v1721`
def k0_pay775 (x0 : Vec F S1x2048x512 .f32) : FVec F S256x512 .f32 :=
  k0_pay484 (k0_pay681 x0) (k0_pay773 x0) (k0_pay774 x0) -- `v1751`
def k0_pay776 (x0 : Vec F S1x2048x512 .f32) : IVec S256 32 :=
  k0_pay486 (k0_pay681 x0) (k0_pay773 x0) (k0_pay774 x0) -- `v1758`
def k0_pay777 (x0 : Vec F S1x2048x512 .f32) : FVec F S256x512 .f32 :=
  k0_pay495 (k0_pay681 x0) (k0_pay775 x0) (k0_pay776 x0) -- `v1789`
def k0_pay778 (x0 : Vec F S1x2048x512 .f32) : IVec S256x512 32 :=
  k0_pay497 (k0_pay681 x0) (k0_pay775 x0) (k0_pay776 x0) -- `v1795`
def k0_pay779 (x0 : Vec F S1x2048x512 .f32) : FVec F S256x512 .f32 :=
  k0_pay511 (View.ld x0 r0_102) -- `v1844`
def k0_pay780 (x0 : Vec F S1x2048x512 .f32) : IVec S256x1 32 :=
  k0_pay512 -- `v1849`
def k0_pay781 (x0 : Vec F S1x2048x512 .f32) : IVec S256x512 1 :=
  k0_pay517 (k0_pay681 x0) (View.ld x0 r0_102) -- `v1866`
def k0_pay782 (x0 : Vec F S1x2048x512 .f32) : FVec F S256x512 .f32 :=
  k0_pay523 (k0_pay681 x0) (k0_pay779 x0) (k0_pay781 x0) -- `v1887`
def k0_pay783 (x0 : Vec F S1x2048x512 .f32) : IVec S256x1 32 :=
  k0_pay525 (k0_pay681 x0) (k0_pay779 x0) (k0_pay781 x0) -- `v1895`
def k0_pay784 (x0 : Vec F S1x2048x512 .f32) : FVec F S256x512 .f32 :=
  k0_pay533 (k0_pay681 x0) (k0_pay782 x0) (k0_pay783 x0) -- `v1925`
def k0_pay785 (x0 : Vec F S1x2048x512 .f32) : IVec S256x1 32 :=
  k0_pay535 (k0_pay681 x0) (k0_pay782 x0) (k0_pay783 x0) -- `v1933`
def k0_pay786 (x0 : Vec F S1x2048x512 .f32) : FVec F S256x512 .f32 :=
  k0_pay544 (k0_pay681 x0) (k0_pay784 x0) (k0_pay785 x0) -- `v1963`
def k0_pay787 (x0 : Vec F S1x2048x512 .f32) : IVec S256x1 32 :=
  k0_pay546 (k0_pay681 x0) (k0_pay784 x0) (k0_pay785 x0) -- `v1971`
def k0_pay788 (x0 : Vec F S1x2048x512 .f32) : FVec F S256x512 .f32 :=
  k0_pay555 (k0_pay681 x0) (k0_pay786 x0) (k0_pay787 x0) -- `v2001`
def k0_pay789 (x0 : Vec F S1x2048x512 .f32) : IVec S256x1 32 :=
  k0_pay557 (k0_pay681 x0) (k0_pay786 x0) (k0_pay787 x0) -- `v2009`
def k0_pay790 (x0 : Vec F S1x2048x512 .f32) : FVec F S256x512 .f32 :=
  k0_pay566 (k0_pay681 x0) (k0_pay788 x0) (k0_pay789 x0) -- `v2039`
def k0_pay791 (x0 : Vec F S1x2048x512 .f32) : IVec S256x1 32 :=
  k0_pay568 (k0_pay681 x0) (k0_pay788 x0) (k0_pay789 x0) -- `v2047`
def k0_pay792 (x0 : Vec F S1x2048x512 .f32) : FVec F S256x512 .f32 :=
  k0_pay576 (k0_pay681 x0) (k0_pay790 x0) (k0_pay791 x0) -- `v2077`
def k0_pay793 (x0 : Vec F S1x2048x512 .f32) : IVec S256x1 32 :=
  k0_pay578 (k0_pay681 x0) (k0_pay790 x0) (k0_pay791 x0) -- `v2085`
def k0_pay794 (x0 : Vec F S1x2048x512 .f32) : FVec F S256x512 .f32 :=
  k0_pay586 (k0_pay681 x0) (k0_pay792 x0) (k0_pay793 x0) -- `v2115`
def k0_pay795 (x0 : Vec F S1x2048x512 .f32) : IVec S256x1 32 :=
  k0_pay588 (k0_pay681 x0) (k0_pay792 x0) (k0_pay793 x0) -- `v2123`
def k0_pay796 (x0 : Vec F S1x2048x512 .f32) : FVec F S256x512 .f32 :=
  k0_pay595 (View.ld x0 r0_119) -- `v2151`
def k0_pay797 (x0 : Vec F S1x2048x512 .f32) : IVec S256x1 32 :=
  k0_pay596 -- `v2156`
def k0_pay798 (x0 : Vec F S1x2048x512 .f32) : IVec S256x512 1 :=
  k0_pay598 (View.ld x0 r0_119) -- `v2160`
def k0_pay799 (x0 : Vec F S1x2048x512 .f32) : FVec F S256x512 .f32 :=
  k0_pay607 (k0_pay681 x0) (k0_pay796 x0) (k0_pay798 x0) -- `v2194`
def k0_pay800 (x0 : Vec F S1x2048x512 .f32) : FVec F S256x1 .f32 :=
  k0_pay608 (k0_pay681 x0) (k0_pay796 x0) (k0_pay798 x0) -- `v2196`
def k0_pay801 (x0 : Vec F S1x2048x512 .f32) : FVec F S256x512 .f32 :=
  k0_pay617 (k0_pay681 x0) (k0_pay799 x0) (k0_pay800 x0) -- `v2232`
def k0_pay802 (x0 : Vec F S1x2048x512 .f32) : FVec F S256x512 .f32 :=
  k0_pay622 (k0_pay681 x0) (k0_pay801 x0) -- `v2251`
def k0_pay803 (x0 : Vec F S1x2048x512 .f32) : IVec S256x512 1 :=
  k0_pay627 (k0_pay681 x0) (k0_pay801 x0) -- `v2268`
def k0_pay804 (x0 : Vec F S1x2048x512 .f32) : FVec F S256x512 .f32 :=
  k0_pay628 (F := F) -- `v2269`
def k0_pay805 (x0 : Vec F S1x2048x512 .f32) : FVec F S256x512 .f32 :=
  k0_pay634 (k0_pay681 x0) (k0_pay802 x0) (k0_pay803 x0) (k0_pay804 x0) -- `v2289`
def k0_pay806 (x0 : Vec F S1x2048x512 .f32) : IVec S256x512 1 :=
  k0_pay639 (k0_pay681 x0) (k0_pay802 x0) (k0_pay803 x0) (k0_pay804 x0) -- `v2306`
def k0_pay807 (x0 : Vec F S1x2048x512 .f32) : FVec F S256x512 .f32 :=
  k0_pay645 (k0_pay681 x0) (k0_pay805 x0) (k0_pay806 x0) -- `v2327`
def k0_pay808 (x0 : Vec F S1x2048x512 .f32) : IVec S256x1 32 :=
  k0_pay647 (k0_pay681 x0) (k0_pay805 x0) (k0_pay806 x0) -- `v2335`
def k0_pay809 (x0 : Vec F S1x2048x512 .f32) : FVec F S256x512 .f32 :=
  k0_pay655 (k0_pay681 x0) (k0_pay807 x0) (k0_pay808 x0) -- `v2365`
def k0_pay810 (x0 : Vec F S1x2048x512 .f32) : IVec S256x1 32 :=
  k0_pay657 (k0_pay681 x0) (k0_pay807 x0) (k0_pay808 x0) -- `v2373`
def k0_pay811 (x0 : Vec F S1x2048x512 .f32) : FVec F S256x512 .f32 :=
  k0_pay666 (k0_pay681 x0) (k0_pay809 x0) (k0_pay810 x0) -- `v2403`
def k0_pay812 (x0 : Vec F S1x2048x512 .f32) : IVec S256x1 32 :=
  k0_pay668 (k0_pay681 x0) (k0_pay809 x0) (k0_pay810 x0) -- `v2411`

/-- Window 1's staging buffer after the body, from the input windows' blocks: its 128 stores as pieces, LAST
    FIRST (Lib/Pipeline/FrameBody.lean `View.canon`; the payloads are the skeleton's and the values stated above). -/
def out0_1 (x0 : Vec F S1x2048x512 .f32) : Vec F S1x2048x16 .f32 :=
  View.canon [⟨r0_135, k0_pay679 (k0_pay681 x0) (k0_pay811 x0) (k0_pay812 x0)⟩,
    ⟨r0_134, k0_pay675 (k0_pay681 x0) (k0_pay811 x0) (k0_pay812 x0)⟩,
    ⟨r0_133, k0_pay669 (k0_pay681 x0) (k0_pay809 x0) (k0_pay810 x0)⟩,
    ⟨r0_132, k0_pay664 (k0_pay681 x0) (k0_pay809 x0) (k0_pay810 x0)⟩,
    ⟨r0_131, k0_pay658 (k0_pay681 x0) (k0_pay807 x0) (k0_pay808 x0)⟩,
    ⟨r0_130, k0_pay653 (k0_pay681 x0) (k0_pay807 x0) (k0_pay808 x0)⟩,
    ⟨r0_129, k0_pay648 (k0_pay681 x0) (k0_pay805 x0) (k0_pay806 x0)⟩,
    ⟨r0_128, k0_pay643 (k0_pay805 x0) (k0_pay806 x0)⟩,
    ⟨r0_127, k0_pay637 (k0_pay681 x0) (k0_pay802 x0) (k0_pay803 x0) (k0_pay804 x0)⟩,
    ⟨r0_126, k0_pay632 (k0_pay802 x0) (k0_pay803 x0) (k0_pay804 x0)⟩,
    ⟨r0_125, k0_pay625 (k0_pay681 x0) (k0_pay801 x0)⟩,
    ⟨r0_124, k0_pay620 (k0_pay801 x0)⟩,
    ⟨r0_123, k0_pay615 (k0_pay681 x0) (k0_pay799 x0) (k0_pay800 x0)⟩,
    ⟨r0_122, k0_pay610 (k0_pay800 x0)⟩,
    ⟨r0_121, k0_pay605 (k0_pay681 x0) (k0_pay796 x0) (k0_pay798 x0)⟩,
    ⟨r0_120, k0_pay600 (k0_pay597 (View.ld x0 r0_119))⟩,
    ⟨r0_118, k0_pay593 (k0_pay681 x0) (k0_pay794 x0) (k0_pay795 x0)⟩,
    ⟨r0_117, k0_pay589 (k0_pay587 (k0_pay681 x0) (k0_pay792 x0) (k0_pay793 x0))⟩,
    ⟨r0_116, k0_pay584 (k0_pay681 x0) (k0_pay792 x0) (k0_pay793 x0)⟩,
    ⟨r0_115, k0_pay579 (k0_pay577 (k0_pay681 x0) (k0_pay790 x0) (k0_pay791 x0))⟩,
    ⟨r0_114, k0_pay574 (k0_pay681 x0) (k0_pay790 x0) (k0_pay791 x0)⟩,
    ⟨r0_113, k0_pay569 (k0_pay681 x0) (k0_pay788 x0) (k0_pay789 x0)⟩,
    ⟨r0_112, k0_pay564 (k0_pay681 x0) (k0_pay788 x0) (k0_pay789 x0)⟩,
    ⟨r0_111, k0_pay558 (k0_pay681 x0) (k0_pay786 x0) (k0_pay787 x0)⟩,
    ⟨r0_110, k0_pay553 (k0_pay681 x0) (k0_pay786 x0) (k0_pay787 x0)⟩,
    ⟨r0_109, k0_pay547 (k0_pay681 x0) (k0_pay784 x0) (k0_pay785 x0)⟩,
    ⟨r0_108, k0_pay542 (k0_pay681 x0) (k0_pay784 x0) (k0_pay785 x0)⟩,
    ⟨r0_107, k0_pay536 (k0_pay681 x0) (k0_pay782 x0) (k0_pay783 x0)⟩,
    ⟨r0_106, k0_pay531 (k0_pay681 x0) (k0_pay782 x0) (k0_pay783 x0)⟩,
    ⟨r0_105, k0_pay526 (k0_pay681 x0) (k0_pay779 x0) (k0_pay781 x0)⟩,
    ⟨r0_104, k0_pay521 (k0_pay779 x0) (k0_pay781 x0)⟩,
    ⟨r0_103, k0_pay515 (View.ld x0 r0_102)⟩,
    ⟨r0_101, k0_pay509 (k0_pay507 (k0_pay681 x0) (k0_pay777 x0) (k0_pay778 x0))⟩,
    ⟨r0_100, k0_pay504 (k0_pay681 x0) (k0_pay777 x0) (k0_pay778 x0)⟩,
    ⟨r0_99, k0_pay499 (k0_pay496 (k0_pay681 x0) (k0_pay775 x0) (k0_pay776 x0))⟩,
    ⟨r0_98, k0_pay493 (k0_pay681 x0) (k0_pay775 x0) (k0_pay776 x0)⟩,
    ⟨r0_97, k0_pay488 (k0_pay485 (k0_pay681 x0) (k0_pay773 x0) (k0_pay774 x0))⟩,
    ⟨r0_96, k0_pay482 (k0_pay681 x0) (k0_pay773 x0) (k0_pay774 x0)⟩,
    ⟨r0_95, k0_pay477 (k0_pay475 (k0_pay681 x0) (k0_pay771 x0) (k0_pay772 x0))⟩,
    ⟨r0_94, k0_pay472 (k0_pay681 x0) (k0_pay771 x0) (k0_pay772 x0)⟩,
    ⟨r0_93, k0_pay467 (k0_pay465 (k0_pay681 x0) (k0_pay769 x0) (k0_pay770 x0))⟩,
    ⟨r0_92, k0_pay462 (k0_pay681 x0) (k0_pay769 x0) (k0_pay770 x0)⟩,
    ⟨r0_91, k0_pay457 (k0_pay455 (k0_pay681 x0) (k0_pay767 x0) (k0_pay768 x0))⟩,
    ⟨r0_90, k0_pay452 (k0_pay681 x0) (k0_pay767 x0) (k0_pay768 x0)⟩,
    ⟨r0_89, k0_pay447 (k0_pay681 x0) (k0_pay765 x0) (k0_pay766 x0)⟩,
    ⟨r0_88, k0_pay442 (k0_pay681 x0) (k0_pay765 x0) (k0_pay766 x0)⟩,
    ⟨r0_87, k0_pay436 (k0_pay681 x0) (View.ld x0 r0_85)⟩,
    ⟨r0_86, k0_pay431 (View.ld x0 r0_85)⟩,
    ⟨r0_84, k0_pay425 (k0_pay681 x0) (k0_pay763 x0)⟩,
    ⟨r0_83, k0_pay421 (k0_pay763 x0)⟩,
    ⟨r0_82, k0_pay416 (k0_pay681 x0) (k0_pay761 x0) (k0_pay762 x0)⟩,
    ⟨r0_81, k0_pay411 (k0_pay762 x0)⟩,
    ⟨r0_80, k0_pay405 (k0_pay681 x0) (k0_pay759 x0) (k0_pay760 x0)⟩,
    ⟨r0_79, k0_pay400 (k0_pay397 (k0_pay681 x0) (k0_pay757 x0) (k0_pay758 x0) 512#32)⟩,
    ⟨r0_78, k0_pay394 (k0_pay681 x0) (k0_pay757 x0) (k0_pay758 x0) 512#32⟩,
    ⟨r0_77, k0_pay389 (k0_pay386 (k0_pay681 x0) (k0_pay755 x0) (k0_pay756 x0))⟩,
    ⟨r0_76, k0_pay383 (k0_pay681 x0) (k0_pay755 x0) (k0_pay756 x0)⟩,
    ⟨r0_75, k0_pay378 (k0_pay375 (k0_pay681 x0) (k0_pay753 x0) (k0_pay754 x0))⟩,
    ⟨r0_74, k0_pay372 (k0_pay681 x0) (k0_pay753 x0) (k0_pay754 x0)⟩,
    ⟨r0_73, k0_pay367 (k0_pay364 (k0_pay681 x0) (k0_pay751 x0) (k0_pay752 x0))⟩,
    ⟨r0_72, k0_pay361 (k0_pay681 x0) (k0_pay751 x0) (k0_pay752 x0)⟩,
    ⟨r0_71, k0_pay356 (k0_pay354 (k0_pay681 x0) (k0_pay748 x0) (k0_pay750 x0))⟩,
    ⟨r0_70, k0_pay351 (k0_pay681 x0) (k0_pay748 x0) (k0_pay750 x0)⟩,
    ⟨r0_69, k0_pay346 (k0_pay344 (View.ld x0 r0_68))⟩,
    ⟨r0_67, k0_pay340 (k0_pay681 x0) (k0_pay746 x0) (k0_pay747 x0)⟩,
    ⟨r0_66, k0_pay335 (k0_pay681 x0) (k0_pay744 x0) (k0_pay745 x0)⟩,
    ⟨r0_65, k0_pay330 (k0_pay681 x0) (k0_pay744 x0) (k0_pay745 x0)⟩,
    ⟨r0_64, k0_pay325 (k0_pay681 x0) (k0_pay742 x0) (k0_pay743 x0)⟩,
    ⟨r0_63, k0_pay320 (k0_pay681 x0) (k0_pay742 x0) (k0_pay743 x0)⟩,
    ⟨r0_62, k0_pay314 (k0_pay681 x0) (k0_pay740 x0) (k0_pay741 x0) (Scalar.ofBits .f32 0xFF800000#32)⟩,
    ⟨r0_61, k0_pay309 (k0_pay740 x0) (k0_pay741 x0) (Scalar.ofBits .f32 0xFF800000#32)⟩,
    ⟨r0_60, k0_pay303 (k0_pay681 x0) (k0_pay739 x0)⟩,
    ⟨r0_59, k0_pay298 (k0_pay739 x0)⟩,
    ⟨r0_58, k0_pay293 (k0_pay681 x0) (k0_pay737 x0) (k0_pay738 x0)⟩,
    ⟨r0_57, k0_pay288 (k0_pay738 x0)⟩,
    ⟨r0_56, k0_pay282 (k0_pay681 x0) (k0_pay735 x0) (k0_pay736 x0)⟩,
    ⟨r0_55, k0_pay277 (k0_pay274 (k0_pay681 x0) (k0_pay733 x0) (k0_pay734 x0) 512#32)⟩,
    ⟨r0_54, k0_pay271 (k0_pay681 x0) (k0_pay733 x0) (k0_pay734 x0) 512#32⟩,
    ⟨r0_53, k0_pay266 (k0_pay263 (k0_pay681 x0) (View.ld x0 r0_51))⟩,
    ⟨r0_52, k0_pay260 (View.ld x0 r0_51)⟩,
    ⟨r0_50, k0_pay254 (k0_pay252 (k0_pay681 x0) (k0_pay730 x0) (k0_pay731 x0))⟩,
    ⟨r0_49, k0_pay249 (k0_pay681 x0) (k0_pay730 x0) (k0_pay731 x0)⟩,
    ⟨r0_48, k0_pay244 (k0_pay681 x0) (k0_pay728 x0) (k0_pay729 x0)⟩,
    ⟨r0_47, k0_pay239 (k0_pay681 x0) (k0_pay728 x0) (k0_pay729 x0)⟩,
    ⟨r0_46, k0_pay233 (k0_pay681 x0) (k0_pay726 x0) (k0_pay727 x0)⟩,
    ⟨r0_45, k0_pay228 (k0_pay681 x0) (k0_pay726 x0) (k0_pay727 x0)⟩,
    ⟨r0_44, k0_pay222 (k0_pay681 x0) (k0_pay724 x0) (k0_pay725 x0)⟩,
    ⟨r0_43, k0_pay217 (k0_pay681 x0) (k0_pay724 x0) (k0_pay725 x0)⟩,
    ⟨r0_42, k0_pay211 (k0_pay681 x0) (k0_pay722 x0) (k0_pay723 x0)⟩,
    ⟨r0_41, k0_pay206 (k0_pay681 x0) (k0_pay722 x0) (k0_pay723 x0)⟩,
    ⟨r0_40, k0_pay201 (k0_pay681 x0) (k0_pay720 x0) (k0_pay721 x0)⟩,
    ⟨r0_39, k0_pay196 (k0_pay681 x0) (k0_pay720 x0) (k0_pay721 x0)⟩,
    ⟨r0_38, k0_pay190 (k0_pay681 x0) (k0_pay718 x0) (k0_pay719 x0) (Scalar.ofBits .f32 0xFF800000#32)⟩,
    ⟨r0_37, k0_pay185 (k0_pay718 x0) (k0_pay719 x0) (Scalar.ofBits .f32 0xFF800000#32)⟩,
    ⟨r0_36, k0_pay179 (k0_pay681 x0) (k0_pay716 x0)⟩,
    ⟨r0_35, k0_pay174 (k0_pay716 x0)⟩,
    ⟨r0_33, k0_pay168 (k0_pay681 x0) (k0_pay714 x0) (k0_pay715 x0)⟩,
    ⟨r0_32, k0_pay164 (k0_pay161 (k0_pay681 x0) (k0_pay712 x0) (k0_pay713 x0))⟩,
    ⟨r0_31, k0_pay158 (k0_pay681 x0) (k0_pay712 x0) (k0_pay713 x0)⟩,
    ⟨r0_30, k0_pay153 (k0_pay151 (k0_pay681 x0) (k0_pay710 x0) (k0_pay711 x0))⟩,
    ⟨r0_29, k0_pay148 (k0_pay681 x0) (k0_pay710 x0) (k0_pay711 x0)⟩,
    ⟨r0_28, k0_pay143 (k0_pay141 (k0_pay681 x0) (k0_pay708 x0) (k0_pay709 x0))⟩,
    ⟨r0_27, k0_pay138 (k0_pay681 x0) (k0_pay708 x0) (k0_pay709 x0)⟩,
    ⟨r0_26, k0_pay133 (k0_pay131 (k0_pay681 x0) (k0_pay706 x0) (k0_pay707 x0))⟩,
    ⟨r0_25, k0_pay128 (k0_pay681 x0) (k0_pay706 x0) (k0_pay707 x0)⟩,
    ⟨r0_24, k0_pay123 (k0_pay681 x0) (k0_pay704 x0) (k0_pay705 x0)⟩,
    ⟨r0_23, k0_pay118 (k0_pay681 x0) (k0_pay704 x0) (k0_pay705 x0)⟩,
    ⟨r0_22, k0_pay112 (k0_pay681 x0) (k0_pay702 x0) (k0_pay703 x0)⟩,
    ⟨r0_21, k0_pay107 (k0_pay681 x0) (k0_pay702 x0) (k0_pay703 x0)⟩,
    ⟨r0_20, k0_pay101 (k0_pay681 x0) (k0_pay699 x0) (k0_pay701 x0)⟩,
    ⟨r0_19, k0_pay96 (k0_pay681 x0) (k0_pay699 x0) (k0_pay701 x0)⟩,
    ⟨r0_18, k0_pay90 (View.ld x0 r0_17)⟩,
    ⟨r0_16, k0_pay84 (k0_pay698 x0)⟩,
    ⟨r0_15, k0_pay80 (k0_pay681 x0) (k0_pay696 x0) (k0_pay697 x0)⟩,
    ⟨r0_14, k0_pay75 (k0_pay697 x0)⟩,
    ⟨r0_13, k0_pay70 (k0_pay681 x0) (k0_pay694 x0) (k0_pay695 x0)⟩,
    ⟨r0_12, k0_pay65 (k0_pay62 (k0_pay681 x0) (k0_pay691 x0) (k0_pay692 x0) (k0_pay693 x0))⟩,
    ⟨r0_11, k0_pay59 (k0_pay681 x0) (k0_pay691 x0) (k0_pay692 x0) (k0_pay693 x0)⟩,
    ⟨r0_10, k0_pay54 (k0_pay50 (k0_pay681 x0) (k0_pay689 x0) (k0_pay690 x0))⟩,
    ⟨r0_9, k0_pay47 (k0_pay681 x0) (k0_pay689 x0) (k0_pay690 x0)⟩,
    ⟨r0_8, k0_pay42 (k0_pay39 (k0_pay681 x0) (k0_pay687 x0) (k0_pay688 x0))⟩,
    ⟨r0_7, k0_pay36 (k0_pay681 x0) (k0_pay687 x0) (k0_pay688 x0)⟩,
    ⟨r0_6, k0_pay31 (k0_pay29 (k0_pay681 x0) (k0_pay685 x0) (k0_pay686 x0))⟩,
    ⟨r0_5, k0_pay26 (k0_pay681 x0) (k0_pay685 x0) (k0_pay686 x0)⟩,
    ⟨r0_4, k0_pay21 (k0_pay19 (k0_pay681 x0) (k0_pay683 x0) (k0_pay684 x0))⟩,
    ⟨r0_3, k0_pay16 (k0_pay681 x0) (k0_pay683 x0) (k0_pay684 x0)⟩,
    ⟨r0_2, k0_pay11 (k0_pay9 (View.ld x0 r0_0))⟩,
    ⟨r0_1, k0_pay6 (View.ld x0 r0_0)⟩]

/-- Its stores tile the buffer (checked by evaluation), so they cover it. -/
theorem cover0_1 (p0 : Vec F S1x256x1 .f32) (p1 : Vec F S1x256x1 .f32) (p2 : Vec F S1x256x1 .f32) (p3 : Vec F S1x256x1 .f32) (p4 : Vec F S1x256x1 .f32) (p5 : Vec F S1x256x1 .f32) (p6 : Vec F S1x256x1 .f32) (p7 : Vec F S1x256x1 .f32) (p8 : Vec F S1x256x1 .f32) (p9 : Vec F S1x256x1 .f32) (p10 : Vec F S1x256x1 .f32) (p11 : Vec F S1x256x1 .f32) (p12 : Vec F S1x256x1 .f32) (p13 : Vec F S1x256x1 .f32) (p14 : Vec F S1x256x1 .f32) (p15 : Vec F S1x256x1 .f32) (p16 : Vec F S1x256x1 .f32) (p17 : Vec F S1x256x1 .f32) (p18 : Vec F S1x256x1 .f32) (p19 : Vec F S1x256x1 .f32) (p20 : Vec F S1x256x1 .f32) (p21 : Vec F S1x256x1 .f32) (p22 : Vec F S1x256x1 .f32) (p23 : Vec F S1x256x1 .f32) (p24 : Vec F S1x256x1 .f32) (p25 : Vec F S1x256x1 .f32) (p26 : Vec F S1x256x1 .f32) (p27 : Vec F S1x256x1 .f32) (p28 : Vec F S1x256x1 .f32) (p29 : Vec F S1x256x1 .f32) (p30 : Vec F S1x256x1 .f32) (p31 : Vec F S1x256x1 .f32) (p32 : Vec F S1x256x1 .f32) (p33 : Vec F S1x256x1 .f32) (p34 : Vec F S1x256x1 .f32) (p35 : Vec F S1x256x1 .f32) (p36 : Vec F S1x256x1 .f32) (p37 : Vec F S1x256x1 .f32) (p38 : Vec F S1x256x1 .f32) (p39 : Vec F S1x256x1 .f32) (p40 : Vec F S1x256x1 .f32) (p41 : Vec F S1x256x1 .f32) (p42 : Vec F S1x256x1 .f32) (p43 : Vec F S1x256x1 .f32) (p44 : Vec F S1x256x1 .f32) (p45 : Vec F S1x256x1 .f32) (p46 : Vec F S1x256x1 .f32) (p47 : Vec F S1x256x1 .f32) (p48 : Vec F S1x256x1 .f32) (p49 : Vec F S1x256x1 .f32) (p50 : Vec F S1x256x1 .f32) (p51 : Vec F S1x256x1 .f32) (p52 : Vec F S1x256x1 .f32) (p53 : Vec F S1x256x1 .f32) (p54 : Vec F S1x256x1 .f32) (p55 : Vec F S1x256x1 .f32) (p56 : Vec F S1x256x1 .f32) (p57 : Vec F S1x256x1 .f32) (p58 : Vec F S1x256x1 .f32) (p59 : Vec F S1x256x1 .f32) (p60 : Vec F S1x256x1 .f32) (p61 : Vec F S1x256x1 .f32) (p62 : Vec F S1x256x1 .f32) (p63 : Vec F S1x256x1 .f32) (p64 : Vec F S1x256x1 .f32) (p65 : Vec F S1x256x1 .f32) (p66 : Vec F S1x256x1 .f32) (p67 : Vec F S1x256x1 .f32) (p68 : Vec F S1x256x1 .f32) (p69 : Vec F S1x256x1 .f32) (p70 : Vec F S1x256x1 .f32) (p71 : Vec F S1x256x1 .f32) (p72 : Vec F S1x256x1 .f32) (p73 : Vec F S1x256x1 .f32) (p74 : Vec F S1x256x1 .f32) (p75 : Vec F S1x256x1 .f32) (p76 : Vec F S1x256x1 .f32) (p77 : Vec F S1x256x1 .f32) (p78 : Vec F S1x256x1 .f32) (p79 : Vec F S1x256x1 .f32) (p80 : Vec F S1x256x1 .f32) (p81 : Vec F S1x256x1 .f32) (p82 : Vec F S1x256x1 .f32) (p83 : Vec F S1x256x1 .f32) (p84 : Vec F S1x256x1 .f32) (p85 : Vec F S1x256x1 .f32) (p86 : Vec F S1x256x1 .f32) (p87 : Vec F S1x256x1 .f32) (p88 : Vec F S1x256x1 .f32) (p89 : Vec F S1x256x1 .f32) (p90 : Vec F S1x256x1 .f32) (p91 : Vec F S1x256x1 .f32) (p92 : Vec F S1x256x1 .f32) (p93 : Vec F S1x256x1 .f32) (p94 : Vec F S1x256x1 .f32) (p95 : Vec F S1x256x1 .f32) (p96 : Vec F S1x256x1 .f32) (p97 : Vec F S1x256x1 .f32) (p98 : Vec F S1x256x1 .f32) (p99 : Vec F S1x256x1 .f32) (p100 : Vec F S1x256x1 .f32) (p101 : Vec F S1x256x1 .f32) (p102 : Vec F S1x256x1 .f32) (p103 : Vec F S1x256x1 .f32) (p104 : Vec F S1x256x1 .f32) (p105 : Vec F S1x256x1 .f32) (p106 : Vec F S1x256x1 .f32) (p107 : Vec F S1x256x1 .f32) (p108 : Vec F S1x256x1 .f32) (p109 : Vec F S1x256x1 .f32) (p110 : Vec F S1x256x1 .f32) (p111 : Vec F S1x256x1 .f32) (p112 : Vec F S1x256x1 .f32) (p113 : Vec F S1x256x1 .f32) (p114 : Vec F S1x256x1 .f32) (p115 : Vec F S1x256x1 .f32) (p116 : Vec F S1x256x1 .f32) (p117 : Vec F S1x256x1 .f32) (p118 : Vec F S1x256x1 .f32) (p119 : Vec F S1x256x1 .f32) (p120 : Vec F S1x256x1 .f32) (p121 : Vec F S1x256x1 .f32) (p122 : Vec F S1x256x1 .f32) (p123 : Vec F S1x256x1 .f32) (p124 : Vec F S1x256x1 .f32) (p125 : Vec F S1x256x1 .f32) (p126 : Vec F S1x256x1 .f32) (p127 : Vec F S1x256x1 .f32) (y : S1x2048x16.Idx) :
    ∃ pc ∈ ([⟨r0_135, p0⟩, ⟨r0_134, p1⟩, ⟨r0_133, p2⟩, ⟨r0_132, p3⟩, ⟨r0_131, p4⟩, ⟨r0_130, p5⟩, ⟨r0_129, p6⟩, ⟨r0_128, p7⟩, ⟨r0_127, p8⟩, ⟨r0_126, p9⟩, ⟨r0_125, p10⟩, ⟨r0_124, p11⟩, ⟨r0_123, p12⟩, ⟨r0_122, p13⟩, ⟨r0_121, p14⟩, ⟨r0_120, p15⟩, ⟨r0_118, p16⟩, ⟨r0_117, p17⟩, ⟨r0_116, p18⟩, ⟨r0_115, p19⟩, ⟨r0_114, p20⟩, ⟨r0_113, p21⟩, ⟨r0_112, p22⟩, ⟨r0_111, p23⟩, ⟨r0_110, p24⟩, ⟨r0_109, p25⟩, ⟨r0_108, p26⟩, ⟨r0_107, p27⟩, ⟨r0_106, p28⟩, ⟨r0_105, p29⟩, ⟨r0_104, p30⟩, ⟨r0_103, p31⟩, ⟨r0_101, p32⟩, ⟨r0_100, p33⟩, ⟨r0_99, p34⟩, ⟨r0_98, p35⟩, ⟨r0_97, p36⟩, ⟨r0_96, p37⟩, ⟨r0_95, p38⟩, ⟨r0_94, p39⟩, ⟨r0_93, p40⟩, ⟨r0_92, p41⟩, ⟨r0_91, p42⟩, ⟨r0_90, p43⟩, ⟨r0_89, p44⟩, ⟨r0_88, p45⟩, ⟨r0_87, p46⟩, ⟨r0_86, p47⟩, ⟨r0_84, p48⟩, ⟨r0_83, p49⟩, ⟨r0_82, p50⟩, ⟨r0_81, p51⟩, ⟨r0_80, p52⟩, ⟨r0_79, p53⟩, ⟨r0_78, p54⟩, ⟨r0_77, p55⟩, ⟨r0_76, p56⟩, ⟨r0_75, p57⟩, ⟨r0_74, p58⟩, ⟨r0_73, p59⟩, ⟨r0_72, p60⟩, ⟨r0_71, p61⟩, ⟨r0_70, p62⟩, ⟨r0_69, p63⟩, ⟨r0_67, p64⟩, ⟨r0_66, p65⟩, ⟨r0_65, p66⟩, ⟨r0_64, p67⟩, ⟨r0_63, p68⟩, ⟨r0_62, p69⟩, ⟨r0_61, p70⟩, ⟨r0_60, p71⟩, ⟨r0_59, p72⟩, ⟨r0_58, p73⟩, ⟨r0_57, p74⟩, ⟨r0_56, p75⟩, ⟨r0_55, p76⟩, ⟨r0_54, p77⟩, ⟨r0_53, p78⟩, ⟨r0_52, p79⟩, ⟨r0_50, p80⟩, ⟨r0_49, p81⟩, ⟨r0_48, p82⟩, ⟨r0_47, p83⟩, ⟨r0_46, p84⟩, ⟨r0_45, p85⟩, ⟨r0_44, p86⟩, ⟨r0_43, p87⟩, ⟨r0_42, p88⟩, ⟨r0_41, p89⟩, ⟨r0_40, p90⟩, ⟨r0_39, p91⟩, ⟨r0_38, p92⟩, ⟨r0_37, p93⟩, ⟨r0_36, p94⟩, ⟨r0_35, p95⟩, ⟨r0_33, p96⟩, ⟨r0_32, p97⟩, ⟨r0_31, p98⟩, ⟨r0_30, p99⟩, ⟨r0_29, p100⟩, ⟨r0_28, p101⟩, ⟨r0_27, p102⟩, ⟨r0_26, p103⟩, ⟨r0_25, p104⟩, ⟨r0_24, p105⟩, ⟨r0_23, p106⟩, ⟨r0_22, p107⟩, ⟨r0_21, p108⟩, ⟨r0_20, p109⟩, ⟨r0_19, p110⟩, ⟨r0_18, p111⟩, ⟨r0_16, p112⟩, ⟨r0_15, p113⟩, ⟨r0_14, p114⟩, ⟨r0_13, p115⟩, ⟨r0_12, p116⟩, ⟨r0_11, p117⟩, ⟨r0_10, p118⟩, ⟨r0_9, p119⟩, ⟨r0_8, p120⟩, ⟨r0_7, p121⟩, ⟨r0_6, p122⟩, ⟨r0_5, p123⟩, ⟨r0_4, p124⟩, ⟨r0_3, p125⟩, ⟨r0_2, p126⟩, ⟨r0_1, p127⟩] : List (View.Piece (Elt F) S1x2048x16 .f32)), y ∈ pc.1.set :=
  View.cover_of_tiled [⟨r0_135, p0⟩, ⟨r0_134, p1⟩, ⟨r0_133, p2⟩, ⟨r0_132, p3⟩, ⟨r0_131, p4⟩, ⟨r0_130, p5⟩, ⟨r0_129, p6⟩, ⟨r0_128, p7⟩, ⟨r0_127, p8⟩, ⟨r0_126, p9⟩, ⟨r0_125, p10⟩, ⟨r0_124, p11⟩, ⟨r0_123, p12⟩, ⟨r0_122, p13⟩, ⟨r0_121, p14⟩, ⟨r0_120, p15⟩, ⟨r0_118, p16⟩, ⟨r0_117, p17⟩, ⟨r0_116, p18⟩, ⟨r0_115, p19⟩, ⟨r0_114, p20⟩, ⟨r0_113, p21⟩, ⟨r0_112, p22⟩, ⟨r0_111, p23⟩, ⟨r0_110, p24⟩, ⟨r0_109, p25⟩, ⟨r0_108, p26⟩, ⟨r0_107, p27⟩, ⟨r0_106, p28⟩, ⟨r0_105, p29⟩, ⟨r0_104, p30⟩, ⟨r0_103, p31⟩, ⟨r0_101, p32⟩, ⟨r0_100, p33⟩, ⟨r0_99, p34⟩, ⟨r0_98, p35⟩, ⟨r0_97, p36⟩, ⟨r0_96, p37⟩, ⟨r0_95, p38⟩, ⟨r0_94, p39⟩, ⟨r0_93, p40⟩, ⟨r0_92, p41⟩, ⟨r0_91, p42⟩, ⟨r0_90, p43⟩, ⟨r0_89, p44⟩, ⟨r0_88, p45⟩, ⟨r0_87, p46⟩, ⟨r0_86, p47⟩, ⟨r0_84, p48⟩, ⟨r0_83, p49⟩, ⟨r0_82, p50⟩, ⟨r0_81, p51⟩, ⟨r0_80, p52⟩, ⟨r0_79, p53⟩, ⟨r0_78, p54⟩, ⟨r0_77, p55⟩, ⟨r0_76, p56⟩, ⟨r0_75, p57⟩, ⟨r0_74, p58⟩, ⟨r0_73, p59⟩, ⟨r0_72, p60⟩, ⟨r0_71, p61⟩, ⟨r0_70, p62⟩, ⟨r0_69, p63⟩, ⟨r0_67, p64⟩, ⟨r0_66, p65⟩, ⟨r0_65, p66⟩, ⟨r0_64, p67⟩, ⟨r0_63, p68⟩, ⟨r0_62, p69⟩, ⟨r0_61, p70⟩, ⟨r0_60, p71⟩, ⟨r0_59, p72⟩, ⟨r0_58, p73⟩, ⟨r0_57, p74⟩, ⟨r0_56, p75⟩, ⟨r0_55, p76⟩, ⟨r0_54, p77⟩, ⟨r0_53, p78⟩, ⟨r0_52, p79⟩, ⟨r0_50, p80⟩, ⟨r0_49, p81⟩, ⟨r0_48, p82⟩, ⟨r0_47, p83⟩, ⟨r0_46, p84⟩, ⟨r0_45, p85⟩, ⟨r0_44, p86⟩, ⟨r0_43, p87⟩, ⟨r0_42, p88⟩, ⟨r0_41, p89⟩, ⟨r0_40, p90⟩, ⟨r0_39, p91⟩, ⟨r0_38, p92⟩, ⟨r0_37, p93⟩, ⟨r0_36, p94⟩, ⟨r0_35, p95⟩, ⟨r0_33, p96⟩, ⟨r0_32, p97⟩, ⟨r0_31, p98⟩, ⟨r0_30, p99⟩, ⟨r0_29, p100⟩, ⟨r0_28, p101⟩, ⟨r0_27, p102⟩, ⟨r0_26, p103⟩, ⟨r0_25, p104⟩, ⟨r0_24, p105⟩, ⟨r0_23, p106⟩, ⟨r0_22, p107⟩, ⟨r0_21, p108⟩, ⟨r0_20, p109⟩, ⟨r0_19, p110⟩, ⟨r0_18, p111⟩, ⟨r0_16, p112⟩, ⟨r0_15, p113⟩, ⟨r0_14, p114⟩, ⟨r0_13, p115⟩, ⟨r0_12, p116⟩, ⟨r0_11, p117⟩, ⟨r0_10, p118⟩, ⟨r0_9, p119⟩, ⟨r0_8, p120⟩, ⟨r0_7, p121⟩, ⟨r0_6, p122⟩, ⟨r0_5, p123⟩, ⟨r0_4, p124⟩, ⟨r0_3, p125⟩, ⟨r0_2, p126⟩, ⟨r0_1, p127⟩] S1x256x1.size (by rfl) y

/-- Window 2's staging buffer after the body, from the input windows' blocks: its 128 stores as pieces, LAST
    FIRST (Lib/Pipeline/FrameBody.lean `View.canon`; the payloads are the skeleton's and the values stated above). -/
def out0_2 (x0 : Vec F S1x2048x512 .f32) : Vec F S1x2048x16 .i32 :=
  View.canon [⟨r0_135, k0_pay1 (k0_pay680 (k0_pay681 x0) (k0_pay797 x0) (k0_pay811 x0) (k0_pay812 x0))⟩,
    ⟨r0_134, k0_pay676 (k0_pay681 x0) (k0_pay797 x0) (k0_pay811 x0) (k0_pay812 x0)⟩,
    ⟨r0_133, k0_pay671 (k0_pay670 (k0_pay681 x0) (k0_pay797 x0) (k0_pay809 x0) (k0_pay810 x0))⟩,
    ⟨r0_132, k0_pay665 (k0_pay681 x0) (k0_pay797 x0) (k0_pay809 x0) (k0_pay810 x0)⟩,
    ⟨r0_131, k0_pay660 (k0_pay659 (k0_pay681 x0) (k0_pay797 x0) (k0_pay807 x0) (k0_pay808 x0))⟩,
    ⟨r0_130, k0_pay654 (k0_pay681 x0) (k0_pay797 x0) (k0_pay807 x0) (k0_pay808 x0)⟩,
    ⟨r0_129, k0_pay649 (k0_pay681 x0) (k0_pay797 x0) (k0_pay805 x0) (k0_pay806 x0)⟩,
    ⟨r0_128, k0_pay644 (k0_pay681 x0) (k0_pay797 x0) (k0_pay805 x0) (k0_pay806 x0)⟩,
    ⟨r0_127, k0_pay638 (k0_pay681 x0) (k0_pay797 x0) (k0_pay802 x0) (k0_pay803 x0) (k0_pay804 x0)⟩,
    ⟨r0_126, k0_pay633 (k0_pay681 x0) (k0_pay797 x0) (k0_pay802 x0) (k0_pay803 x0) (k0_pay804 x0)⟩,
    ⟨r0_125, k0_pay626 (k0_pay681 x0) (k0_pay797 x0) (k0_pay801 x0)⟩,
    ⟨r0_124, k0_pay621 (k0_pay681 x0) (k0_pay797 x0) (k0_pay801 x0)⟩,
    ⟨r0_123, k0_pay616 (k0_pay681 x0) (k0_pay797 x0) (k0_pay799 x0) (k0_pay800 x0)⟩,
    ⟨r0_122, k0_pay611 (k0_pay681 x0) (k0_pay797 x0) (k0_pay799 x0) (k0_pay800 x0)⟩,
    ⟨r0_121, k0_pay606 (k0_pay681 x0) (k0_pay796 x0) (k0_pay797 x0) (k0_pay798 x0)⟩,
    ⟨r0_120, k0_pay601 (k0_pay681 x0) (k0_pay797 x0) (k0_pay798 x0)⟩,
    ⟨r0_118, k0_pay594 (k0_pay681 x0) (k0_pay780 x0) (k0_pay794 x0) (k0_pay795 x0)⟩,
    ⟨r0_117, k0_pay590 (k0_pay780 x0) (k0_pay795 x0)⟩,
    ⟨r0_116, k0_pay585 (k0_pay681 x0) (k0_pay780 x0) (k0_pay792 x0) (k0_pay793 x0)⟩,
    ⟨r0_115, k0_pay580 (k0_pay780 x0) (k0_pay793 x0)⟩,
    ⟨r0_114, k0_pay575 (k0_pay681 x0) (k0_pay780 x0) (k0_pay790 x0) (k0_pay791 x0)⟩,
    ⟨r0_113, k0_pay570 (k0_pay780 x0) (k0_pay791 x0)⟩,
    ⟨r0_112, k0_pay565 (k0_pay681 x0) (k0_pay780 x0) (k0_pay788 x0) (k0_pay789 x0)⟩,
    ⟨r0_111, k0_pay560 (k0_pay559 (k0_pay681 x0) (k0_pay780 x0) (k0_pay786 x0) (k0_pay787 x0))⟩,
    ⟨r0_110, k0_pay554 (k0_pay681 x0) (k0_pay780 x0) (k0_pay786 x0) (k0_pay787 x0)⟩,
    ⟨r0_109, k0_pay549 (k0_pay548 (k0_pay681 x0) (k0_pay780 x0) (k0_pay784 x0) (k0_pay785 x0))⟩,
    ⟨r0_108, k0_pay543 (k0_pay681 x0) (k0_pay780 x0) (k0_pay784 x0) (k0_pay785 x0)⟩,
    ⟨r0_107, k0_pay538 (k0_pay537 (k0_pay681 x0) (k0_pay780 x0) (k0_pay782 x0) (k0_pay783 x0))⟩,
    ⟨r0_106, k0_pay532 (k0_pay681 x0) (k0_pay780 x0) (k0_pay782 x0) (k0_pay783 x0)⟩,
    ⟨r0_105, k0_pay527 (k0_pay681 x0) (k0_pay779 x0) (k0_pay780 x0) (k0_pay781 x0)⟩,
    ⟨r0_104, k0_pay522 (k0_pay681 x0) (k0_pay779 x0) (k0_pay780 x0) (k0_pay781 x0)⟩,
    ⟨r0_103, k0_pay516 (k0_pay681 x0) (View.ld x0 r0_102)⟩,
    ⟨r0_101, k0_pay510 (k0_pay681 x0) (k0_pay764 x0) (k0_pay508 (k0_pay681 x0) (k0_pay777 x0) (k0_pay778 x0)) 512#32⟩,
    ⟨r0_100, k0_pay505 (k0_pay681 x0) (k0_pay764 x0) (k0_pay777 x0) (k0_pay778 x0)⟩,
    ⟨r0_99, k0_pay500 (k0_pay764 x0) (k0_pay778 x0)⟩,
    ⟨r0_98, k0_pay494 (k0_pay681 x0) (k0_pay764 x0) (k0_pay775 x0) (k0_pay776 x0)⟩,
    ⟨r0_97, k0_pay489 (k0_pay764 x0) (k0_pay776 x0)⟩,
    ⟨r0_96, k0_pay483 (k0_pay681 x0) (k0_pay764 x0) (k0_pay773 x0) (k0_pay774 x0)⟩,
    ⟨r0_95, k0_pay478 (k0_pay764 x0) (k0_pay774 x0)⟩,
    ⟨r0_94, k0_pay473 (k0_pay681 x0) (k0_pay764 x0) (k0_pay771 x0) (k0_pay772 x0)⟩,
    ⟨r0_93, k0_pay468 (k0_pay764 x0) (k0_pay772 x0)⟩,
    ⟨r0_92, k0_pay463 (k0_pay681 x0) (k0_pay764 x0) (k0_pay769 x0) (k0_pay770 x0)⟩,
    ⟨r0_91, k0_pay458 (k0_pay764 x0) (k0_pay770 x0)⟩,
    ⟨r0_90, k0_pay453 (k0_pay681 x0) (k0_pay764 x0) (k0_pay767 x0) (k0_pay768 x0)⟩,
    ⟨r0_89, k0_pay448 (k0_pay764 x0) (k0_pay768 x0)⟩,
    ⟨r0_88, k0_pay443 (k0_pay681 x0) (k0_pay764 x0) (k0_pay765 x0) (k0_pay766 x0)⟩,
    ⟨r0_87, k0_pay438 (k0_pay437 (k0_pay681 x0) (View.ld x0 r0_85))⟩,
    ⟨r0_86, k0_pay432 (k0_pay681 x0) (View.ld x0 r0_85)⟩,
    ⟨r0_84, k0_pay426 (k0_pay681 x0) (k0_pay749 x0) (k0_pay763 x0)⟩,
    ⟨r0_83, k0_pay422 (k0_pay681 x0) (k0_pay749 x0) (k0_pay763 x0)⟩,
    ⟨r0_82, k0_pay417 (k0_pay681 x0) (k0_pay749 x0) (k0_pay761 x0) (k0_pay762 x0)⟩,
    ⟨r0_81, k0_pay412 (k0_pay681 x0) (k0_pay749 x0) (k0_pay761 x0) (k0_pay762 x0)⟩,
    ⟨r0_80, k0_pay406 (k0_pay681 x0) (k0_pay749 x0) (k0_pay759 x0) (k0_pay760 x0)⟩,
    ⟨r0_79, k0_pay401 (k0_pay681 x0) (k0_pay749 x0) (k0_pay759 x0) (k0_pay760 x0)⟩,
    ⟨r0_78, k0_pay395 (k0_pay681 x0) (k0_pay749 x0) (k0_pay757 x0) (k0_pay758 x0) 512#32⟩,
    ⟨r0_77, k0_pay390 (k0_pay681 x0) (k0_pay749 x0) (k0_pay758 x0) 512#32⟩,
    ⟨r0_76, k0_pay384 (k0_pay681 x0) (k0_pay749 x0) (k0_pay755 x0) (k0_pay756 x0)⟩,
    ⟨r0_75, k0_pay379 (k0_pay749 x0) (k0_pay756 x0)⟩,
    ⟨r0_74, k0_pay373 (k0_pay681 x0) (k0_pay749 x0) (k0_pay753 x0) (k0_pay754 x0)⟩,
    ⟨r0_73, k0_pay368 (k0_pay749 x0) (k0_pay754 x0)⟩,
    ⟨r0_72, k0_pay362 (k0_pay681 x0) (k0_pay749 x0) (k0_pay751 x0) (k0_pay752 x0)⟩,
    ⟨r0_71, k0_pay357 (k0_pay749 x0) (k0_pay752 x0)⟩,
    ⟨r0_70, k0_pay352 (k0_pay681 x0) (k0_pay748 x0) (k0_pay749 x0) (k0_pay750 x0)⟩,
    ⟨r0_69, k0_pay347 (k0_pay749 x0) (k0_pay750 x0)⟩,
    ⟨r0_67, k0_pay341 (k0_pay681 x0) (k0_pay732 x0) (k0_pay746 x0) (k0_pay747 x0)⟩,
    ⟨r0_66, k0_pay337 (k0_pay336 (k0_pay681 x0) (k0_pay732 x0) (k0_pay744 x0) (k0_pay745 x0))⟩,
    ⟨r0_65, k0_pay331 (k0_pay681 x0) (k0_pay732 x0) (k0_pay744 x0) (k0_pay745 x0)⟩,
    ⟨r0_64, k0_pay326 (k0_pay681 x0) (k0_pay732 x0) (k0_pay742 x0) (k0_pay743 x0)⟩,
    ⟨r0_63, k0_pay321 (k0_pay681 x0) (k0_pay732 x0) (k0_pay742 x0) (k0_pay743 x0)⟩,
    ⟨r0_62, k0_pay315 (k0_pay681 x0) (k0_pay732 x0) (k0_pay740 x0) (k0_pay741 x0) (Scalar.ofBits .f32 0xFF800000#32)⟩,
    ⟨r0_61, k0_pay310 (k0_pay681 x0) (k0_pay732 x0) (k0_pay740 x0) (k0_pay741 x0) (Scalar.ofBits .f32 0xFF800000#32)⟩,
    ⟨r0_60, k0_pay304 (k0_pay681 x0) (k0_pay732 x0) (k0_pay739 x0)⟩,
    ⟨r0_59, k0_pay299 (k0_pay681 x0) (k0_pay732 x0) (k0_pay739 x0)⟩,
    ⟨r0_58, k0_pay294 (k0_pay681 x0) (k0_pay732 x0) (k0_pay737 x0) (k0_pay738 x0)⟩,
    ⟨r0_57, k0_pay289 (k0_pay681 x0) (k0_pay732 x0) (k0_pay737 x0) (k0_pay738 x0)⟩,
    ⟨r0_56, k0_pay283 (k0_pay681 x0) (k0_pay732 x0) (k0_pay735 x0) (k0_pay736 x0)⟩,
    ⟨r0_55, k0_pay278 (k0_pay681 x0) (k0_pay732 x0) (k0_pay735 x0) (k0_pay736 x0)⟩,
    ⟨r0_54, k0_pay272 (k0_pay681 x0) (k0_pay732 x0) (k0_pay733 x0) (k0_pay734 x0) 512#32⟩,
    ⟨r0_53, k0_pay267 (k0_pay681 x0) (k0_pay732 x0) (k0_pay734 x0) 512#32⟩,
    ⟨r0_52, k0_pay261 (k0_pay681 x0) (View.ld x0 r0_51)⟩,
    ⟨r0_50, k0_pay255 (k0_pay717 x0) (k0_pay253 (k0_pay681 x0) (k0_pay730 x0) (k0_pay731 x0))⟩,
    ⟨r0_49, k0_pay250 (k0_pay681 x0) (k0_pay717 x0) (k0_pay730 x0) (k0_pay731 x0)⟩,
    ⟨r0_48, k0_pay245 (k0_pay717 x0) (k0_pay731 x0)⟩,
    ⟨r0_47, k0_pay240 (k0_pay681 x0) (k0_pay717 x0) (k0_pay728 x0) (k0_pay729 x0)⟩,
    ⟨r0_46, k0_pay235 (k0_pay234 (k0_pay681 x0) (k0_pay717 x0) (k0_pay726 x0) (k0_pay727 x0))⟩,
    ⟨r0_45, k0_pay229 (k0_pay681 x0) (k0_pay717 x0) (k0_pay726 x0) (k0_pay727 x0)⟩,
    ⟨r0_44, k0_pay224 (k0_pay223 (k0_pay681 x0) (k0_pay717 x0) (k0_pay724 x0) (k0_pay725 x0))⟩,
    ⟨r0_43, k0_pay218 (k0_pay681 x0) (k0_pay717 x0) (k0_pay724 x0) (k0_pay725 x0)⟩,
    ⟨r0_42, k0_pay213 (k0_pay212 (k0_pay681 x0) (k0_pay717 x0) (k0_pay722 x0) (k0_pay723 x0))⟩,
    ⟨r0_41, k0_pay207 (k0_pay681 x0) (k0_pay717 x0) (k0_pay722 x0) (k0_pay723 x0)⟩,
    ⟨r0_40, k0_pay202 (k0_pay681 x0) (k0_pay717 x0) (k0_pay720 x0) (k0_pay721 x0)⟩,
    ⟨r0_39, k0_pay197 (k0_pay681 x0) (k0_pay717 x0) (k0_pay720 x0) (k0_pay721 x0)⟩,
    ⟨r0_38, k0_pay191 (k0_pay681 x0) (k0_pay717 x0) (k0_pay718 x0) (k0_pay719 x0) (Scalar.ofBits .f32 0xFF800000#32)⟩,
    ⟨r0_37, k0_pay186 (k0_pay681 x0) (k0_pay717 x0) (k0_pay718 x0) (k0_pay719 x0) (Scalar.ofBits .f32 0xFF800000#32)⟩,
    ⟨r0_36, k0_pay180 (k0_pay681 x0) (k0_pay716 x0) (k0_pay717 x0)⟩,
    ⟨r0_35, k0_pay175 (k0_pay681 x0) (k0_pay716 x0) (k0_pay717 x0)⟩,
    ⟨r0_33, k0_pay169 (k0_pay681 x0) (k0_pay700 x0) (k0_pay714 x0) (k0_pay715 x0)⟩,
    ⟨r0_32, k0_pay165 (k0_pay700 x0) (k0_pay715 x0)⟩,
    ⟨r0_31, k0_pay159 (k0_pay681 x0) (k0_pay700 x0) (k0_pay712 x0) (k0_pay713 x0)⟩,
    ⟨r0_30, k0_pay154 (k0_pay700 x0) (k0_pay713 x0)⟩,
    ⟨r0_29, k0_pay149 (k0_pay681 x0) (k0_pay700 x0) (k0_pay710 x0) (k0_pay711 x0)⟩,
    ⟨r0_28, k0_pay144 (k0_pay700 x0) (k0_pay711 x0)⟩,
    ⟨r0_27, k0_pay139 (k0_pay681 x0) (k0_pay700 x0) (k0_pay708 x0) (k0_pay709 x0)⟩,
    ⟨r0_26, k0_pay134 (k0_pay700 x0) (k0_pay709 x0)⟩,
    ⟨r0_25, k0_pay129 (k0_pay681 x0) (k0_pay700 x0) (k0_pay706 x0) (k0_pay707 x0)⟩,
    ⟨r0_24, k0_pay124 (k0_pay700 x0) (k0_pay707 x0)⟩,
    ⟨r0_23, k0_pay119 (k0_pay681 x0) (k0_pay700 x0) (k0_pay704 x0) (k0_pay705 x0)⟩,
    ⟨r0_22, k0_pay114 (k0_pay113 (k0_pay681 x0) (k0_pay700 x0) (k0_pay702 x0) (k0_pay703 x0))⟩,
    ⟨r0_21, k0_pay108 (k0_pay681 x0) (k0_pay700 x0) (k0_pay702 x0) (k0_pay703 x0)⟩,
    ⟨r0_20, k0_pay103 (k0_pay102 (k0_pay681 x0) (k0_pay699 x0) (k0_pay700 x0) (k0_pay701 x0))⟩,
    ⟨r0_19, k0_pay97 (k0_pay681 x0) (k0_pay699 x0) (k0_pay700 x0) (k0_pay701 x0)⟩,
    ⟨r0_18, k0_pay92 (k0_pay91 (k0_pay681 x0) (View.ld x0 r0_17))⟩,
    ⟨r0_16, k0_pay85 (k0_pay681 x0) (k0_pay682 x0) (k0_pay698 x0)⟩,
    ⟨r0_15, k0_pay81 (k0_pay681 x0) (k0_pay682 x0) (k0_pay696 x0) (k0_pay697 x0)⟩,
    ⟨r0_14, k0_pay76 (k0_pay681 x0) (k0_pay682 x0) (k0_pay696 x0) (k0_pay697 x0)⟩,
    ⟨r0_13, k0_pay71 (k0_pay681 x0) (k0_pay682 x0) (k0_pay694 x0) (k0_pay695 x0)⟩,
    ⟨r0_12, k0_pay66 (k0_pay681 x0) (k0_pay682 x0) (k0_pay695 x0)⟩,
    ⟨r0_11, k0_pay60 (k0_pay681 x0) (k0_pay682 x0) (k0_pay691 x0) (k0_pay692 x0) (k0_pay693 x0)⟩,
    ⟨r0_10, k0_pay55 (k0_pay681 x0) (k0_pay682 x0) (k0_pay692 x0) (k0_pay693 x0)⟩,
    ⟨r0_9, k0_pay48 (k0_pay681 x0) (k0_pay682 x0) (k0_pay689 x0) (k0_pay690 x0)⟩,
    ⟨r0_8, k0_pay43 (k0_pay682 x0) (k0_pay690 x0)⟩,
    ⟨r0_7, k0_pay37 (k0_pay681 x0) (k0_pay682 x0) (k0_pay687 x0) (k0_pay688 x0)⟩,
    ⟨r0_6, k0_pay32 (k0_pay682 x0) (k0_pay688 x0)⟩,
    ⟨r0_5, k0_pay27 (k0_pay681 x0) (k0_pay682 x0) (k0_pay685 x0) (k0_pay686 x0)⟩,
    ⟨r0_4, k0_pay22 (k0_pay682 x0) (k0_pay686 x0)⟩,
    ⟨r0_3, k0_pay17 (k0_pay681 x0) (k0_pay682 x0) (k0_pay683 x0) (k0_pay684 x0)⟩,
    ⟨r0_2, k0_pay12 (k0_pay682 x0) (k0_pay684 x0)⟩,
    ⟨r0_1, k0_pay7 (View.ld x0 r0_0)⟩]

/-- Its stores tile the buffer (checked by evaluation), so they cover it. -/
theorem cover0_2 (p0 : Vec F S1x256x1 .i32) (p1 : Vec F S1x256x1 .i32) (p2 : Vec F S1x256x1 .i32) (p3 : Vec F S1x256x1 .i32) (p4 : Vec F S1x256x1 .i32) (p5 : Vec F S1x256x1 .i32) (p6 : Vec F S1x256x1 .i32) (p7 : Vec F S1x256x1 .i32) (p8 : Vec F S1x256x1 .i32) (p9 : Vec F S1x256x1 .i32) (p10 : Vec F S1x256x1 .i32) (p11 : Vec F S1x256x1 .i32) (p12 : Vec F S1x256x1 .i32) (p13 : Vec F S1x256x1 .i32) (p14 : Vec F S1x256x1 .i32) (p15 : Vec F S1x256x1 .i32) (p16 : Vec F S1x256x1 .i32) (p17 : Vec F S1x256x1 .i32) (p18 : Vec F S1x256x1 .i32) (p19 : Vec F S1x256x1 .i32) (p20 : Vec F S1x256x1 .i32) (p21 : Vec F S1x256x1 .i32) (p22 : Vec F S1x256x1 .i32) (p23 : Vec F S1x256x1 .i32) (p24 : Vec F S1x256x1 .i32) (p25 : Vec F S1x256x1 .i32) (p26 : Vec F S1x256x1 .i32) (p27 : Vec F S1x256x1 .i32) (p28 : Vec F S1x256x1 .i32) (p29 : Vec F S1x256x1 .i32) (p30 : Vec F S1x256x1 .i32) (p31 : Vec F S1x256x1 .i32) (p32 : Vec F S1x256x1 .i32) (p33 : Vec F S1x256x1 .i32) (p34 : Vec F S1x256x1 .i32) (p35 : Vec F S1x256x1 .i32) (p36 : Vec F S1x256x1 .i32) (p37 : Vec F S1x256x1 .i32) (p38 : Vec F S1x256x1 .i32) (p39 : Vec F S1x256x1 .i32) (p40 : Vec F S1x256x1 .i32) (p41 : Vec F S1x256x1 .i32) (p42 : Vec F S1x256x1 .i32) (p43 : Vec F S1x256x1 .i32) (p44 : Vec F S1x256x1 .i32) (p45 : Vec F S1x256x1 .i32) (p46 : Vec F S1x256x1 .i32) (p47 : Vec F S1x256x1 .i32) (p48 : Vec F S1x256x1 .i32) (p49 : Vec F S1x256x1 .i32) (p50 : Vec F S1x256x1 .i32) (p51 : Vec F S1x256x1 .i32) (p52 : Vec F S1x256x1 .i32) (p53 : Vec F S1x256x1 .i32) (p54 : Vec F S1x256x1 .i32) (p55 : Vec F S1x256x1 .i32) (p56 : Vec F S1x256x1 .i32) (p57 : Vec F S1x256x1 .i32) (p58 : Vec F S1x256x1 .i32) (p59 : Vec F S1x256x1 .i32) (p60 : Vec F S1x256x1 .i32) (p61 : Vec F S1x256x1 .i32) (p62 : Vec F S1x256x1 .i32) (p63 : Vec F S1x256x1 .i32) (p64 : Vec F S1x256x1 .i32) (p65 : Vec F S1x256x1 .i32) (p66 : Vec F S1x256x1 .i32) (p67 : Vec F S1x256x1 .i32) (p68 : Vec F S1x256x1 .i32) (p69 : Vec F S1x256x1 .i32) (p70 : Vec F S1x256x1 .i32) (p71 : Vec F S1x256x1 .i32) (p72 : Vec F S1x256x1 .i32) (p73 : Vec F S1x256x1 .i32) (p74 : Vec F S1x256x1 .i32) (p75 : Vec F S1x256x1 .i32) (p76 : Vec F S1x256x1 .i32) (p77 : Vec F S1x256x1 .i32) (p78 : Vec F S1x256x1 .i32) (p79 : Vec F S1x256x1 .i32) (p80 : Vec F S1x256x1 .i32) (p81 : Vec F S1x256x1 .i32) (p82 : Vec F S1x256x1 .i32) (p83 : Vec F S1x256x1 .i32) (p84 : Vec F S1x256x1 .i32) (p85 : Vec F S1x256x1 .i32) (p86 : Vec F S1x256x1 .i32) (p87 : Vec F S1x256x1 .i32) (p88 : Vec F S1x256x1 .i32) (p89 : Vec F S1x256x1 .i32) (p90 : Vec F S1x256x1 .i32) (p91 : Vec F S1x256x1 .i32) (p92 : Vec F S1x256x1 .i32) (p93 : Vec F S1x256x1 .i32) (p94 : Vec F S1x256x1 .i32) (p95 : Vec F S1x256x1 .i32) (p96 : Vec F S1x256x1 .i32) (p97 : Vec F S1x256x1 .i32) (p98 : Vec F S1x256x1 .i32) (p99 : Vec F S1x256x1 .i32) (p100 : Vec F S1x256x1 .i32) (p101 : Vec F S1x256x1 .i32) (p102 : Vec F S1x256x1 .i32) (p103 : Vec F S1x256x1 .i32) (p104 : Vec F S1x256x1 .i32) (p105 : Vec F S1x256x1 .i32) (p106 : Vec F S1x256x1 .i32) (p107 : Vec F S1x256x1 .i32) (p108 : Vec F S1x256x1 .i32) (p109 : Vec F S1x256x1 .i32) (p110 : Vec F S1x256x1 .i32) (p111 : Vec F S1x256x1 .i32) (p112 : Vec F S1x256x1 .i32) (p113 : Vec F S1x256x1 .i32) (p114 : Vec F S1x256x1 .i32) (p115 : Vec F S1x256x1 .i32) (p116 : Vec F S1x256x1 .i32) (p117 : Vec F S1x256x1 .i32) (p118 : Vec F S1x256x1 .i32) (p119 : Vec F S1x256x1 .i32) (p120 : Vec F S1x256x1 .i32) (p121 : Vec F S1x256x1 .i32) (p122 : Vec F S1x256x1 .i32) (p123 : Vec F S1x256x1 .i32) (p124 : Vec F S1x256x1 .i32) (p125 : Vec F S1x256x1 .i32) (p126 : Vec F S1x256x1 .i32) (p127 : Vec F S1x256x1 .i32) (y : S1x2048x16.Idx) :
    ∃ pc ∈ ([⟨r0_135, p0⟩, ⟨r0_134, p1⟩, ⟨r0_133, p2⟩, ⟨r0_132, p3⟩, ⟨r0_131, p4⟩, ⟨r0_130, p5⟩, ⟨r0_129, p6⟩, ⟨r0_128, p7⟩, ⟨r0_127, p8⟩, ⟨r0_126, p9⟩, ⟨r0_125, p10⟩, ⟨r0_124, p11⟩, ⟨r0_123, p12⟩, ⟨r0_122, p13⟩, ⟨r0_121, p14⟩, ⟨r0_120, p15⟩, ⟨r0_118, p16⟩, ⟨r0_117, p17⟩, ⟨r0_116, p18⟩, ⟨r0_115, p19⟩, ⟨r0_114, p20⟩, ⟨r0_113, p21⟩, ⟨r0_112, p22⟩, ⟨r0_111, p23⟩, ⟨r0_110, p24⟩, ⟨r0_109, p25⟩, ⟨r0_108, p26⟩, ⟨r0_107, p27⟩, ⟨r0_106, p28⟩, ⟨r0_105, p29⟩, ⟨r0_104, p30⟩, ⟨r0_103, p31⟩, ⟨r0_101, p32⟩, ⟨r0_100, p33⟩, ⟨r0_99, p34⟩, ⟨r0_98, p35⟩, ⟨r0_97, p36⟩, ⟨r0_96, p37⟩, ⟨r0_95, p38⟩, ⟨r0_94, p39⟩, ⟨r0_93, p40⟩, ⟨r0_92, p41⟩, ⟨r0_91, p42⟩, ⟨r0_90, p43⟩, ⟨r0_89, p44⟩, ⟨r0_88, p45⟩, ⟨r0_87, p46⟩, ⟨r0_86, p47⟩, ⟨r0_84, p48⟩, ⟨r0_83, p49⟩, ⟨r0_82, p50⟩, ⟨r0_81, p51⟩, ⟨r0_80, p52⟩, ⟨r0_79, p53⟩, ⟨r0_78, p54⟩, ⟨r0_77, p55⟩, ⟨r0_76, p56⟩, ⟨r0_75, p57⟩, ⟨r0_74, p58⟩, ⟨r0_73, p59⟩, ⟨r0_72, p60⟩, ⟨r0_71, p61⟩, ⟨r0_70, p62⟩, ⟨r0_69, p63⟩, ⟨r0_67, p64⟩, ⟨r0_66, p65⟩, ⟨r0_65, p66⟩, ⟨r0_64, p67⟩, ⟨r0_63, p68⟩, ⟨r0_62, p69⟩, ⟨r0_61, p70⟩, ⟨r0_60, p71⟩, ⟨r0_59, p72⟩, ⟨r0_58, p73⟩, ⟨r0_57, p74⟩, ⟨r0_56, p75⟩, ⟨r0_55, p76⟩, ⟨r0_54, p77⟩, ⟨r0_53, p78⟩, ⟨r0_52, p79⟩, ⟨r0_50, p80⟩, ⟨r0_49, p81⟩, ⟨r0_48, p82⟩, ⟨r0_47, p83⟩, ⟨r0_46, p84⟩, ⟨r0_45, p85⟩, ⟨r0_44, p86⟩, ⟨r0_43, p87⟩, ⟨r0_42, p88⟩, ⟨r0_41, p89⟩, ⟨r0_40, p90⟩, ⟨r0_39, p91⟩, ⟨r0_38, p92⟩, ⟨r0_37, p93⟩, ⟨r0_36, p94⟩, ⟨r0_35, p95⟩, ⟨r0_33, p96⟩, ⟨r0_32, p97⟩, ⟨r0_31, p98⟩, ⟨r0_30, p99⟩, ⟨r0_29, p100⟩, ⟨r0_28, p101⟩, ⟨r0_27, p102⟩, ⟨r0_26, p103⟩, ⟨r0_25, p104⟩, ⟨r0_24, p105⟩, ⟨r0_23, p106⟩, ⟨r0_22, p107⟩, ⟨r0_21, p108⟩, ⟨r0_20, p109⟩, ⟨r0_19, p110⟩, ⟨r0_18, p111⟩, ⟨r0_16, p112⟩, ⟨r0_15, p113⟩, ⟨r0_14, p114⟩, ⟨r0_13, p115⟩, ⟨r0_12, p116⟩, ⟨r0_11, p117⟩, ⟨r0_10, p118⟩, ⟨r0_9, p119⟩, ⟨r0_8, p120⟩, ⟨r0_7, p121⟩, ⟨r0_6, p122⟩, ⟨r0_5, p123⟩, ⟨r0_4, p124⟩, ⟨r0_3, p125⟩, ⟨r0_2, p126⟩, ⟨r0_1, p127⟩] : List (View.Piece (Elt F) S1x2048x16 .i32)), y ∈ pc.1.set :=
  View.cover_of_tiled [⟨r0_135, p0⟩, ⟨r0_134, p1⟩, ⟨r0_133, p2⟩, ⟨r0_132, p3⟩, ⟨r0_131, p4⟩, ⟨r0_130, p5⟩, ⟨r0_129, p6⟩, ⟨r0_128, p7⟩, ⟨r0_127, p8⟩, ⟨r0_126, p9⟩, ⟨r0_125, p10⟩, ⟨r0_124, p11⟩, ⟨r0_123, p12⟩, ⟨r0_122, p13⟩, ⟨r0_121, p14⟩, ⟨r0_120, p15⟩, ⟨r0_118, p16⟩, ⟨r0_117, p17⟩, ⟨r0_116, p18⟩, ⟨r0_115, p19⟩, ⟨r0_114, p20⟩, ⟨r0_113, p21⟩, ⟨r0_112, p22⟩, ⟨r0_111, p23⟩, ⟨r0_110, p24⟩, ⟨r0_109, p25⟩, ⟨r0_108, p26⟩, ⟨r0_107, p27⟩, ⟨r0_106, p28⟩, ⟨r0_105, p29⟩, ⟨r0_104, p30⟩, ⟨r0_103, p31⟩, ⟨r0_101, p32⟩, ⟨r0_100, p33⟩, ⟨r0_99, p34⟩, ⟨r0_98, p35⟩, ⟨r0_97, p36⟩, ⟨r0_96, p37⟩, ⟨r0_95, p38⟩, ⟨r0_94, p39⟩, ⟨r0_93, p40⟩, ⟨r0_92, p41⟩, ⟨r0_91, p42⟩, ⟨r0_90, p43⟩, ⟨r0_89, p44⟩, ⟨r0_88, p45⟩, ⟨r0_87, p46⟩, ⟨r0_86, p47⟩, ⟨r0_84, p48⟩, ⟨r0_83, p49⟩, ⟨r0_82, p50⟩, ⟨r0_81, p51⟩, ⟨r0_80, p52⟩, ⟨r0_79, p53⟩, ⟨r0_78, p54⟩, ⟨r0_77, p55⟩, ⟨r0_76, p56⟩, ⟨r0_75, p57⟩, ⟨r0_74, p58⟩, ⟨r0_73, p59⟩, ⟨r0_72, p60⟩, ⟨r0_71, p61⟩, ⟨r0_70, p62⟩, ⟨r0_69, p63⟩, ⟨r0_67, p64⟩, ⟨r0_66, p65⟩, ⟨r0_65, p66⟩, ⟨r0_64, p67⟩, ⟨r0_63, p68⟩, ⟨r0_62, p69⟩, ⟨r0_61, p70⟩, ⟨r0_60, p71⟩, ⟨r0_59, p72⟩, ⟨r0_58, p73⟩, ⟨r0_57, p74⟩, ⟨r0_56, p75⟩, ⟨r0_55, p76⟩, ⟨r0_54, p77⟩, ⟨r0_53, p78⟩, ⟨r0_52, p79⟩, ⟨r0_50, p80⟩, ⟨r0_49, p81⟩, ⟨r0_48, p82⟩, ⟨r0_47, p83⟩, ⟨r0_46, p84⟩, ⟨r0_45, p85⟩, ⟨r0_44, p86⟩, ⟨r0_43, p87⟩, ⟨r0_42, p88⟩, ⟨r0_41, p89⟩, ⟨r0_40, p90⟩, ⟨r0_39, p91⟩, ⟨r0_38, p92⟩, ⟨r0_37, p93⟩, ⟨r0_36, p94⟩, ⟨r0_35, p95⟩, ⟨r0_33, p96⟩, ⟨r0_32, p97⟩, ⟨r0_31, p98⟩, ⟨r0_30, p99⟩, ⟨r0_29, p100⟩, ⟨r0_28, p101⟩, ⟨r0_27, p102⟩, ⟨r0_26, p103⟩, ⟨r0_25, p104⟩, ⟨r0_24, p105⟩, ⟨r0_23, p106⟩, ⟨r0_22, p107⟩, ⟨r0_21, p108⟩, ⟨r0_20, p109⟩, ⟨r0_19, p110⟩, ⟨r0_18, p111⟩, ⟨r0_16, p112⟩, ⟨r0_15, p113⟩, ⟨r0_14, p114⟩, ⟨r0_13, p115⟩, ⟨r0_12, p116⟩, ⟨r0_11, p117⟩, ⟨r0_10, p118⟩, ⟨r0_9, p119⟩, ⟨r0_8, p120⟩, ⟨r0_7, p121⟩, ⟨r0_6, p122⟩, ⟨r0_5, p123⟩, ⟨r0_4, p124⟩, ⟨r0_3, p125⟩, ⟨r0_2, p126⟩, ⟨r0_1, p127⟩] S1x256x1.size (by rfl) y

/-! ## The body's triple -/

set_option maxHeartbeats 56798900 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S1x2048x512 .f32) (harg1 : arg1.IsWhole) (arg2 : Memref sig .tc .vmem S1x2048x16 .f32) (harg2 : arg2.IsWhole) (arg3 : Memref sig .tc .vmem S1x2048x16 .i32) (harg3 : arg3.IsWhole)
    (x0 : Vec F S1x2048x512 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0__chunk_topk_kernel i arg1 harg1 arg2 harg2 arg3 harg3) K := by
  simp only [cc0__chunk_topk_kernel_eq_skeleton]; unfold cc0__chunk_topk_kernel_skel
  simp only [k0_part68_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (cover0_1 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)).trans ?_
    rfl
  iexists _; isplitr
  swap; · iexact H2
  ipureintro
  refine (View.read_writes_eq_canon _ _ _ (cover0_2 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Gen

end
-- ==== Proof.KernelIdealNms.lean ====
/- The NMS call of `KernelIdeal`: what one grid point leaves in each output block and the body triple, for any float
   instance. -/
module

public import proofs.«01_k».proof.Proof.KernelIdealLaunch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # The second call, from the contents `V` it finds -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 5, through which its contents are stated (`View.read_writes_of_cover`: the
    choice does not matter). -/
abbrev VO1_5 : View sig .tc .vmem S1x8x2048 .f32 := (Memref.whole cc1_stg5_0 : Memref sig .tc .vmem S1x8x2048 .f32).view
/-- One staging buffer of output window 6, through which its contents are stated (`View.read_writes_of_cover`: the
    choice does not matter). -/
abbrev VO1_6 : View sig .tc .vmem S1x1x2048 .f32 := (Memref.whole cc1_stg6_0 : Memref sig .tc .vmem S1x1x2048 .f32).view
/-- One staging buffer of output window 7, through which its contents are stated (`View.read_writes_of_cover`: the
    choice does not matter). -/
abbrev VO1_7 : View sig .tc .vmem S1x1x2048 .f32 := (Memref.whole cc1_stg7_0 : Memref sig .tc .vmem S1x1x2048 .f32).view
/-- Each window's current staging memref at point `t`, spelled as the pipeline passes it (`bodyAt1`), and its wholeness. -/
abbrev ms1_0 (t : Fin cfg1.N) : Memref sig .tc .vmem S1x8x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x8x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048x8 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2048x8 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x2048 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x8x2048 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1x2048 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x1x2048 .f32 := win1_7.stage (cfg1.slots t 7)
abbrev hs1_7 (t : Fin cfg1.N) : (ms1_7 t).IsWhole := hstage1_7 ((cfg1.slots t 7).cast nbuf1_7)
/-- The scratch operands: whole scoped buffers of the kernel's own, passed beside the windows. -/
abbrev scM1_0 : Memref sig .tc .vmem S2048x2048 .f32 := Memref.whole cc1_scratch0

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d)) ∗ (∃ r, prngReg c r)) := by
  unfold Pipeline.ΦA; rw [scopedRest1_eq]; simp only [scM1_0, owns_whole]; try rfl

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg1 : Memref sig .tc .vmem S1x8x2048 .f32) (harg1 : arg1.IsWhole) (arg2 : Memref sig .tc .vmem S1x8x2048 .f32) (harg2 : arg2.IsWhole) (arg3 : Memref sig .tc .vmem S1x2048x8 .f32) (harg3 : arg3.IsWhole) (arg4 : Memref sig .tc .vmem S1x2048x8 .f32) (harg4 : arg4.IsWhole) (arg5 : Memref sig .tc .vmem S1x1x2048 .f32) (harg5 : arg5.IsWhole) (arg6 : Memref sig .tc .vmem S1x8x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S2048x2048 .f32) (harg9 : arg9.IsWhole)
    (x0 : Vec F S1x8x2048 .f32) (x1 : Vec F S1x8x2048 .f32) (x2 : Vec F S1x2048x8 .f32) (x3 : Vec F S1x2048x8 .f32) (x4 : Vec F S1x1x2048 .f32) :
    Σ' (L5 : List (View.Piece (Elt F) S1x8x2048 .f32)), Σ' (L6 : List (View.Piece (Elt F) S1x1x2048 .f32)), { L7 : List (View.Piece (Elt F) S1x1x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ d, owns (c : Thread nD τ) arg9 fullShare d)) -∗ K ⟨⟩))
          ⊢ wp frame (wpE (defs₀ (F := F)) Variants.none c none) E (cc1__nms_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc1__nms_kernel_eq_skeleton]; unfold cc1__nms_kernel_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    iexists _, _; isplitr; swap; · iexact HS0
    ipureintro; rfl

/-- The run's pieces for output 5 are of SEVERAL sizes (6 stores of `S1x1x2048`, `S1x3x2048`): cut into blocks of `![1, 1, 2048]` they tile its block (checked by the kernel's evaluation: Lib/Ring.lean `Piece.tiledBy`), so they cover it. -/
theorem cover1_A_5 (c : Dev nD) (i : grid1.Coords) (arg1 : Memref sig .tc .vmem S1x8x2048 .f32) (harg1 : arg1.IsWhole) (arg2 : Memref sig .tc .vmem S1x8x2048 .f32) (harg2 : arg2.IsWhole) (arg3 : Memref sig .tc .vmem S1x2048x8 .f32) (harg3 : arg3.IsWhole) (arg4 : Memref sig .tc .vmem S1x2048x8 .f32) (harg4 : arg4.IsWhole) (arg5 : Memref sig .tc .vmem S1x1x2048 .f32) (harg5 : arg5.IsWhole) (arg6 : Memref sig .tc .vmem S1x8x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S2048x2048 .f32) (harg9 : arg9.IsWhole)
    (x0 : Vec F S1x8x2048 .f32) (x1 : Vec F S1x8x2048 .f32) (x2 : Vec F S1x2048x8 .f32) (x3 : Vec F S1x2048x8 .f32) (x4 : Vec F S1x1x2048 .f32) (y : S1x8x2048.Idx) :
    ∃ pc ∈ (kernelRun1_A c i arg1 harg1 arg2 harg2 arg3 harg3 arg4 harg4 arg5 harg5 arg6 harg6 arg7 harg7 arg8 harg8 arg9 harg9 x0 x1 x2 x3 x4).1, y ∈ pc.1.set :=
  View.cover_of_tiledBy (kernelRun1_A c i arg1 harg1 arg2 harg2 arg3 harg3 arg4 harg4 arg5 harg5 arg6 harg6 arg7 harg7 arg8 harg8 arg9 harg9 x0 x1 x2 x3 x4).1 ![1, 1, 2048] (by sl_kernel_rfl) y

/-- What the run leaves in output 5's staging buffer: its pieces read back over junk. -/
def out1_A_5 (c : Dev nD) (i : grid1.Coords) (arg1 : Memref sig .tc .vmem S1x8x2048 .f32) (harg1 : arg1.IsWhole) (arg2 : Memref sig .tc .vmem S1x8x2048 .f32) (harg2 : arg2.IsWhole) (arg3 : Memref sig .tc .vmem S1x2048x8 .f32) (harg3 : arg3.IsWhole) (arg4 : Memref sig .tc .vmem S1x2048x8 .f32) (harg4 : arg4.IsWhole) (arg5 : Memref sig .tc .vmem S1x1x2048 .f32) (harg5 : arg5.IsWhole) (arg6 : Memref sig .tc .vmem S1x8x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S2048x2048 .f32) (harg9 : arg9.IsWhole)
    (x0 : Vec F S1x8x2048 .f32) (x1 : Vec F S1x8x2048 .f32) (x2 : Vec F S1x2048x8 .f32) (x3 : Vec F S1x2048x8 .f32) (x4 : Vec F S1x1x2048 .f32) : Vec F S1x8x2048 .f32 :=
  VO1_5.read (Elt F) (VO1_5.writes (Elt F) VO1_5.junk (kernelRun1_A c i arg1 harg1 arg2 harg2 arg3 harg3 arg4 harg4 arg5 harg5 arg6 harg6 arg7 harg7 arg8 harg8 arg9 harg9 x0 x1 x2 x3 x4).1)

/-- The run's pieces for output 6 tile its block (1 store of `S1x1x2048`, checked by the kernel's evaluation: Lib/Ring.lean `Piece.tiledL`, linear in the pieces, through a loop's `@[irreducible]` trip theorem too), so they cover it. -/
theorem cover1_A_6 (c : Dev nD) (i : grid1.Coords) (arg1 : Memref sig .tc .vmem S1x8x2048 .f32) (harg1 : arg1.IsWhole) (arg2 : Memref sig .tc .vmem S1x8x2048 .f32) (harg2 : arg2.IsWhole) (arg3 : Memref sig .tc .vmem S1x2048x8 .f32) (harg3 : arg3.IsWhole) (arg4 : Memref sig .tc .vmem S1x2048x8 .f32) (harg4 : arg4.IsWhole) (arg5 : Memref sig .tc .vmem S1x1x2048 .f32) (harg5 : arg5.IsWhole) (arg6 : Memref sig .tc .vmem S1x8x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S2048x2048 .f32) (harg9 : arg9.IsWhole)
    (x0 : Vec F S1x8x2048 .f32) (x1 : Vec F S1x8x2048 .f32) (x2 : Vec F S1x2048x8 .f32) (x3 : Vec F S1x2048x8 .f32) (x4 : Vec F S1x1x2048 .f32) (y : S1x1x2048.Idx) :
    ∃ pc ∈ (kernelRun1_A c i arg1 harg1 arg2 harg2 arg3 harg3 arg4 harg4 arg5 harg5 arg6 harg6 arg7 harg7 arg8 harg8 arg9 harg9 x0 x1 x2 x3 x4).2.1, y ∈ pc.1.set :=
  View.cover_of_tiledL (kernelRun1_A c i arg1 harg1 arg2 harg2 arg3 harg3 arg4 harg4 arg5 harg5 arg6 harg6 arg7 harg7 arg8 harg8 arg9 harg9 x0 x1 x2 x3 x4).2.1 S1x1x2048.size (by sl_kernel_rfl) y

/-- What the run leaves in output 6's staging buffer: its pieces read back over junk. -/
def out1_A_6 (c : Dev nD) (i : grid1.Coords) (arg1 : Memref sig .tc .vmem S1x8x2048 .f32) (harg1 : arg1.IsWhole) (arg2 : Memref sig .tc .vmem S1x8x2048 .f32) (harg2 : arg2.IsWhole) (arg3 : Memref sig .tc .vmem S1x2048x8 .f32) (harg3 : arg3.IsWhole) (arg4 : Memref sig .tc .vmem S1x2048x8 .f32) (harg4 : arg4.IsWhole) (arg5 : Memref sig .tc .vmem S1x1x2048 .f32) (harg5 : arg5.IsWhole) (arg6 : Memref sig .tc .vmem S1x8x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S2048x2048 .f32) (harg9 : arg9.IsWhole)
    (x0 : Vec F S1x8x2048 .f32) (x1 : Vec F S1x8x2048 .f32) (x2 : Vec F S1x2048x8 .f32) (x3 : Vec F S1x2048x8 .f32) (x4 : Vec F S1x1x2048 .f32) : Vec F S1x1x2048 .f32 :=
  VO1_6.read (Elt F) (VO1_6.writes (Elt F) VO1_6.junk (kernelRun1_A c i arg1 harg1 arg2 harg2 arg3 harg3 arg4 harg4 arg5 harg5 arg6 harg6 arg7 harg7 arg8 harg8 arg9 harg9 x0 x1 x2 x3 x4).2.1)

/-- The run's pieces for output 7 tile its block (1 store of `S1x1x2048`, checked by the kernel's evaluation: Lib/Ring.lean `Piece.tiledL`, linear in the pieces, through a loop's `@[irreducible]` trip theorem too), so they cover it. -/
theorem cover1_A_7 (c : Dev nD) (i : grid1.Coords) (arg1 : Memref sig .tc .vmem S1x8x2048 .f32) (harg1 : arg1.IsWhole) (arg2 : Memref sig .tc .vmem S1x8x2048 .f32) (harg2 : arg2.IsWhole) (arg3 : Memref sig .tc .vmem S1x2048x8 .f32) (harg3 : arg3.IsWhole) (arg4 : Memref sig .tc .vmem S1x2048x8 .f32) (harg4 : arg4.IsWhole) (arg5 : Memref sig .tc .vmem S1x1x2048 .f32) (harg5 : arg5.IsWhole) (arg6 : Memref sig .tc .vmem S1x8x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S2048x2048 .f32) (harg9 : arg9.IsWhole)
    (x0 : Vec F S1x8x2048 .f32) (x1 : Vec F S1x8x2048 .f32) (x2 : Vec F S1x2048x8 .f32) (x3 : Vec F S1x2048x8 .f32) (x4 : Vec F S1x1x2048 .f32) (y : S1x1x2048.Idx) :
    ∃ pc ∈ (kernelRun1_A c i arg1 harg1 arg2 harg2 arg3 harg3 arg4 harg4 arg5 harg5 arg6 harg6 arg7 harg7 arg8 harg8 arg9 harg9 x0 x1 x2 x3 x4).2.2.1, y ∈ pc.1.set :=
  View.cover_of_tiledL (kernelRun1_A c i arg1 harg1 arg2 harg2 arg3 harg3 arg4 harg4 arg5 harg5 arg6 harg6 arg7 harg7 arg8 harg8 arg9 harg9 x0 x1 x2 x3 x4).2.2.1 S1x1x2048.size (by sl_kernel_rfl) y

/-- What the run leaves in output 7's staging buffer: its pieces read back over junk. -/
def out1_A_7 (c : Dev nD) (i : grid1.Coords) (arg1 : Memref sig .tc .vmem S1x8x2048 .f32) (harg1 : arg1.IsWhole) (arg2 : Memref sig .tc .vmem S1x8x2048 .f32) (harg2 : arg2.IsWhole) (arg3 : Memref sig .tc .vmem S1x2048x8 .f32) (harg3 : arg3.IsWhole) (arg4 : Memref sig .tc .vmem S1x2048x8 .f32) (harg4 : arg4.IsWhole) (arg5 : Memref sig .tc .vmem S1x1x2048 .f32) (harg5 : arg5.IsWhole) (arg6 : Memref sig .tc .vmem S1x8x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S2048x2048 .f32) (harg9 : arg9.IsWhole)
    (x0 : Vec F S1x8x2048 .f32) (x1 : Vec F S1x8x2048 .f32) (x2 : Vec F S1x2048x8 .f32) (x3 : Vec F S1x2048x8 .f32) (x4 : Vec F S1x1x2048 .f32) : Vec F S1x1x2048 .f32 :=
  VO1_7.read (Elt F) (VO1_7.writes (Elt F) VO1_7.junk (kernelRun1_A c i arg1 harg1 arg2 harg2 arg3 harg3 arg4 harg4 arg5 harg5 arg6 harg6 arg7 harg7 arg8 harg8 arg9 harg9 x0 x1 x2 x3 x4).2.2.1)

/-! ## What the outputs hold after each point -/

/-- What the outputs' staging buffers hold after the body at point `t` (as a tuple, in window order): the run's contents at
    the point's memrefs and input blocks. -/
def outsAt1 (c : Dev nD) (t : Fin cfg1.N) : Vec F S1x8x2048 .f32 × Vec F S1x1x2048 .f32 × Vec F S1x1x2048 .f32 :=
  (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (iblk1 V c 0 t) (iblk1 V c 1 t) (iblk1 V c 2 t) (iblk1 V c 3 t) (iblk1 V c 4 t), out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (iblk1 V c 0 t) (iblk1 V c 1 t) (iblk1 V c 2 t) (iblk1 V c 3 t) (iblk1 V c 4 t), out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (iblk1 V c 0 t) (iblk1 V c 1 t) (iblk1 V c 2 t) (iblk1 V c 3 t) (iblk1 V c 4 t))

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t).1
    | ⟨6, _⟩ => (outsAt1 V c t).2.1
    | ⟨7, _⟩ => (outsAt1 V c t).2.2
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t).1 := by dsimp only [dat1]
theorem after1_6 (c : Dev nD) (t : Fin cfg1.N) : (dat1 V c).after 6 t = (outsAt1 V c t).2.1 := by dsimp only [dat1]
theorem after1_7 (c : Dev nD) (t : Fin cfg1.N) : (dat1 V c).after 7 t = (outsAt1 V c t).2.2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t))

set_option maxHeartbeats 800000 in
/-- The body at any point: the inputs' memrefs hold their blocks (`before1_W`); so the
    run applies; the invariant hands the body its scratch buffers at some contents (and the generator register) and takes them back at some contents (`PhiA_eq`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  rw [show (dat1 V c).Φ t.castSucc = Pipeline.ΦA spec1 c from rfl, PhiA1_eq]
  unfold outsAt1
  unfold out1_A_5 out1_A_6 out1_A_7; (try dsimp only)
  iintro ⟨⟨⟨HR0, HR1, HR2, HR3, HR4, HR5, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun1_A c (grid1.coords t) _ _ _ _ _ _ _ _ _ _ _ _ _ _ _ _ _ _ (iblk1 V c 0 t) (iblk1 V c 1 t) (iblk1 V c 2 t) (iblk1 V c 3 t) (iblk1 V c 4 t)).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  iintro ⟨H0, H1, H2, H3, H4, ⟨%e5, H5⟩, ⟨%e6, H6⟩, ⟨%e7, H7⟩, HS0⟩
  isplitl [HR0 HR1 HR2 HR3 HR4 HR5 HS0 Hg]
  · isplitl [HR0 HR1 HR2 HR3 HR4 HR5 HS0]
    · isplitl [HR0]
      · iexact HR0
      isplitl [HR1]
      · iexact HR1
      isplitl [HR2]
      · iexact HR2
      isplitl [HR3]
      · iexact HR3
      isplitl [HR4]
      · iexact HR4
      isplitl [HR5]
      · iexact HR5
      iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover1_A_5 c _ _ _ _ _ _ _ _ _ _ _ _ _ _ _ _ _ _ _ _ _ _ _ _)
  isplitl [H6]
  · unfold owns; iexists _; isplitr
    swap; · iexact H6
    ipureintro; exact View.read_writes_of_cover _ _ _ _ _ (cover1_A_6 c _ _ _ _ _ _ _ _ _ _ _ _ _ _ _ _ _ _ _ _ _ _ _ _)
  unfold owns; iexists _; isplitr
  swap; · iexact H7
  ipureintro; exact View.read_writes_of_cover _ _ _ _ _ (cover1_A_7 c _ _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Gen

end
-- ==== Proof.KernelIdealRun.lean ====
module

public import proofs.«01_k».proof.Proof.KernelIdealChunk
public import proofs.«01_k».proof.Proof.KernelIdealNms
public import Idealize.ShloMosaic.Lib.HostLoop

/-! The run of the whole program: its stretches of host operations, the branch and the two regions composed into one
launch, with the contents of every buffer at every boundary. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The argument arrays. -/
abbrev argRefs : List (Ref sig .tc) := [main_arg0, main_arg1, main_arg2]
theorem main_part0_ops0_fresh : (main_part0_ops0 : List (HloOp τ sig (Elt F))).Forall fun op => op.fresh = ∅ := by simp only [List.Forall]; repeat' constructor
/-- What `main_part0_ops0` writes, in order. -/
abbrev main_part0_ops0_W : List (Ref sig .tc) := [main_v0, main_v1, main_v2]
theorem main_part0_ops0_writes : (main_part0_ops0 : List (HloOp τ sig (Elt F))).Forall fun op => op.writes ⊆ (main_part0_ops0_W.map (Proc.devRef (τ := τ) .tc)).toFinset :=
  StableHlo.forall_writes_sub_of_map rfl
theorem main_part0_ops1_fresh : (main_part0_ops1 : List (HloOp τ sig (Elt F))).Forall fun op => op.fresh = ∅ := by simp only [List.Forall]; repeat' constructor
/-- What `main_part0_ops1` writes, in order. -/
abbrev main_part0_ops1_W : List (Ref sig .tc) := [main_v4, main_values, main_indices, main_v5]
theorem main_part0_ops1_writes : (main_part0_ops1 : List (HloOp τ sig (Elt F))).Forall fun op => op.writes ⊆ (main_part0_ops1_W.map (Proc.devRef (τ := τ) .tc)).toFinset :=
  StableHlo.forall_writes_sub_of_map rfl
theorem main_part0_ops2_fresh : (main_part0_ops2 : List (HloOp τ sig (Elt F))).Forall fun op => op.fresh = ∅ := by simp only [List.Forall]; repeat' constructor
/-- What `main_part0_ops2` writes, in order. -/
abbrev main_part0_ops2_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_c_4, main_call0_v14, main_v6]
theorem main_part0_ops2_writes : (main_part0_ops2 : List (HloOp τ sig (Elt F))).Forall fun op => op.writes ⊆ (main_part0_ops2_W.map (Proc.devRef (τ := τ) .tc)).toFinset :=
  StableHlo.forall_writes_sub_of_map rfl
theorem main_part0_ops3_fresh : (main_part0_ops3 : List (HloOp τ sig (Elt F))).Forall fun op => op.fresh = ∅ := by simp only [List.Forall]; repeat' constructor
/-- What `main_part0_ops3` writes, in order. -/
abbrev main_part0_ops3_W : List (Ref sig .tc) := [main_v7, main_v8, main_v9, main_v10, main_v11, main_v12, main_v13, main_c, main_v14]
theorem main_part0_ops3_writes : (main_part0_ops3 : List (HloOp τ sig (Elt F))).Forall fun op => op.writes ⊆ (main_part0_ops3_W.map (Proc.devRef (τ := τ) .tc)).toFinset :=
  StableHlo.forall_writes_sub_of_map rfl
theorem main_part0_ops4_fresh : (main_part0_ops4 : List (HloOp τ sig (Elt F))).Forall fun op => op.fresh = ∅ := by simp only [List.Forall]; repeat' constructor
/-- What `main_part0_ops4` writes, in order. -/
abbrev main_part0_ops4_W : List (Ref sig .tc) := [main_c_0]
theorem main_part0_ops4_writes : (main_part0_ops4 : List (HloOp τ sig (Elt F))).Forall fun op => op.writes ⊆ (main_part0_ops4_W.map (Proc.devRef (τ := τ) .tc)).toFinset :=
  StableHlo.forall_writes_sub_of_map rfl
theorem main_part0_ops5_fresh : (main_part0_ops5 : List (HloOp τ sig (Elt F))).Forall fun op => op.fresh = ∅ := by simp only [List.Forall]; repeat' constructor
/-- What `main_part0_ops5` writes, in order. -/
abbrev main_part0_ops5_W : List (Ref sig .tc) := [main_call1_v0, main_call1_c, main_call1_v1, main_call1_c_0, main_call1_v2, main_call1_v3, main_call1_v4, main_call1_c_1, main_call1_v5, main_call1_v6, main_call1_c_2, main_call1_v7, main_call1_v8, main_call1_c_3, main_call1_v9, main_call1_v10, main_call1_v11, main_call1_v12, main_call1_v13, main_call1_v14, main_v17]
theorem main_part0_ops5_writes : (main_part0_ops5 : List (HloOp τ sig (Elt F))).Forall fun op => op.writes ⊆ (main_part0_ops5_W.map (Proc.devRef (τ := τ) .tc)).toFinset :=
  StableHlo.forall_writes_sub_of_map rfl
theorem main_part0_ops6_fresh : (main_part0_ops6 : List (HloOp τ sig (Elt F))).Forall fun op => op.fresh = ∅ := by simp only [List.Forall]; repeat' constructor
/-- What `main_part0_ops6` writes, in order. -/
abbrev main_part0_ops6_W : List (Ref sig .tc) := [main_c_1]
theorem main_part0_ops6_writes : (main_part0_ops6 : List (HloOp τ sig (Elt F))).Forall fun op => op.writes ⊆ (main_part0_ops6_W.map (Proc.devRef (τ := τ) .tc)).toFinset :=
  StableHlo.forall_writes_sub_of_map rfl
theorem main_part0_ops7_fresh : (main_part0_ops7 : List (HloOp τ sig (Elt F))).Forall fun op => op.fresh = ∅ := by simp only [List.Forall]; repeat' constructor
/-- What `main_part0_ops7` writes, in order. -/
abbrev main_part0_ops7_W : List (Ref sig .tc) := [main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v18]
theorem main_part0_ops7_writes : (main_part0_ops7 : List (HloOp τ sig (Elt F))).Forall fun op => op.writes ⊆ (main_part0_ops7_W.map (Proc.devRef (τ := τ) .tc)).toFinset :=
  StableHlo.forall_writes_sub_of_map rfl
theorem main_part0_ops8_fresh : (main_part0_ops8 : List (HloOp τ sig (Elt F))).Forall fun op => op.fresh = ∅ := by simp only [List.Forall]; repeat' constructor
/-- What `main_part0_ops8` writes, in order. -/
abbrev main_part0_ops8_W : List (Ref sig .tc) := [main_v19, main_c_2, main_v20, main_v21, main_v22, main_v23, main_v24, main_v25, main_v26, main_c_3, main_v27, main_v28, main_v29, main_v30, main_v31, main_v32, main_v33]
theorem main_part0_ops8_writes : (main_part0_ops8 : List (HloOp τ sig (Elt F))).Forall fun op => op.writes ⊆ (main_part0_ops8_W.map (Proc.devRef (τ := τ) .tc)).toFinset :=
  StableHlo.forall_writes_sub_of_map rfl
theorem main_part0_ops9_fresh : (main_part0_ops9 : List (HloOp τ sig (Elt F))).Forall fun op => op.fresh = ∅ := by simp only [List.Forall]; repeat' constructor
/-- What `main_part0_ops9` writes, in order. -/
abbrev main_part0_ops9_W : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_cst, main_call3_v14, main_v34]
theorem main_part0_ops9_writes : (main_part0_ops9 : List (HloOp τ sig (Elt F))).Forall fun op => op.writes ⊆ (main_part0_ops9_W.map (Proc.devRef (τ := τ) .tc)).toFinset :=
  StableHlo.forall_writes_sub_of_map rfl
theorem main_part0_ops10_fresh : (main_part0_ops10 : List (HloOp τ sig (Elt F))).Forall fun op => op.fresh = ∅ := by simp only [List.Forall]; repeat' constructor
/-- What `main_part0_ops10` writes, in order. -/
abbrev main_part0_ops10_W : List (Ref sig .tc) := [main_v35, main_v36]
theorem main_part0_ops10_writes : (main_part0_ops10 : List (HloOp τ sig (Elt F))).Forall fun op => op.writes ⊆ (main_part0_ops10_W.map (Proc.devRef (τ := τ) .tc)).toFinset :=
  StableHlo.forall_writes_sub_of_map rfl
theorem main_part0_ops11_fresh : (main_part0_ops11 : List (HloOp τ sig (Elt F))).Forall fun op => op.fresh = ∅ := by simp only [List.Forall]; repeat' constructor
/-- What `main_part0_ops11` writes, in order. -/
abbrev main_part0_ops11_W : List (Ref sig .tc) := [main_call4_c, main_call4_v0, main_call4_v1, main_call4_c_0, main_call4_v2, main_call4_v3, main_call4_v4, main_call4_c_1, main_call4_c_2, main_call4_v5, main_call4_v6, main_call4_v7, main_call4_v8, main_call4_v9, main_call4_v10, main_call4_c_3, main_call4_v11, main_call4_v12, main_call4_v13, main_call4_cst, main_call4_v14, main_v37]
theorem main_part0_ops11_writes : (main_part0_ops11 : List (HloOp τ sig (Elt F))).Forall fun op => op.writes ⊆ (main_part0_ops11_W.map (Proc.devRef (τ := τ) .tc)).toFinset :=
  StableHlo.forall_writes_sub_of_map rfl
theorem main_part0_ops12_fresh : (main_part0_ops12 : List (HloOp τ sig (Elt F))).Forall fun op => op.fresh = ∅ := by simp only [List.Forall]; repeat' constructor
/-- What `main_part0_ops12` writes, in order. -/
abbrev main_part0_ops12_W : List (Ref sig .tc) := [main_c_4]
theorem main_part0_ops12_writes : (main_part0_ops12 : List (HloOp τ sig (Elt F))).Forall fun op => op.writes ⊆ (main_part0_ops12_W.map (Proc.devRef (τ := τ) .tc)).toFinset :=
  StableHlo.forall_writes_sub_of_map rfl
theorem main_part0_ops13_fresh : (main_part0_ops13 : List (HloOp τ sig (Elt F))).Forall fun op => op.fresh = ∅ := by simp only [List.Forall]; repeat' constructor
/-- What `main_part0_ops13` writes, in order. -/
abbrev main_part0_ops13_W : List (Ref sig .tc) := [main_call5_v0, main_v38]
theorem main_part0_ops13_writes : (main_part0_ops13 : List (HloOp τ sig (Elt F))).Forall fun op => op.writes ⊆ (main_part0_ops13_W.map (Proc.devRef (τ := τ) .tc)).toFinset :=
  StableHlo.forall_writes_sub_of_map rfl
theorem main_part0_ops14_fresh : (main_part0_ops14 : List (HloOp τ sig (Elt F))).Forall fun op => op.fresh = ∅ := by simp only [List.Forall]; repeat' constructor
/-- What `main_part0_ops14` writes, in order. -/
abbrev main_part0_ops14_W : List (Ref sig .tc) := [main_cst]
theorem main_part0_ops14_writes : (main_part0_ops14 : List (HloOp τ sig (Elt F))).Forall fun op => op.writes ⊆ (main_part0_ops14_W.map (Proc.devRef (τ := τ) .tc)).toFinset :=
  StableHlo.forall_writes_sub_of_map rfl
theorem main_part0_ops15_fresh : (main_part0_ops15 : List (HloOp τ sig (Elt F))).Forall fun op => op.fresh = ∅ := by simp only [List.Forall]; repeat' constructor
/-- What `main_part0_ops15` writes, in order. -/
abbrev main_part0_ops15_W : List (Ref sig .tc) := [main_call6_v0, main_v39]
theorem main_part0_ops15_writes : (main_part0_ops15 : List (HloOp τ sig (Elt F))).Forall fun op => op.writes ⊆ (main_part0_ops15_W.map (Proc.devRef (τ := τ) .tc)).toFinset :=
  StableHlo.forall_writes_sub_of_map rfl
theorem main_part0_ops16_fresh : (main_part0_ops16 : List (HloOp τ sig (Elt F))).Forall fun op => op.fresh = ∅ := by simp only [List.Forall]; repeat' constructor
/-- What `main_part0_ops16` writes, in order. -/
abbrev main_part0_ops16_W : List (Ref sig .tc) := [main_cst_5]
theorem main_part0_ops16_writes : (main_part0_ops16 : List (HloOp τ sig (Elt F))).Forall fun op => op.writes ⊆ (main_part0_ops16_W.map (Proc.devRef (τ := τ) .tc)).toFinset :=
  StableHlo.forall_writes_sub_of_map rfl
theorem main_part0_ops17_fresh : (main_part0_ops17 : List (HloOp τ sig (Elt F))).Forall fun op => op.fresh = ∅ := by simp only [List.Forall]; repeat' constructor
/-- What `main_part0_ops17` writes, in order. -/
abbrev main_part0_ops17_W : List (Ref sig .tc) := [main_call7_v0, main_v40]
theorem main_part0_ops17_writes : (main_part0_ops17 : List (HloOp τ sig (Elt F))).Forall fun op => op.writes ⊆ (main_part0_ops17_W.map (Proc.devRef (τ := τ) .tc)).toFinset :=
  StableHlo.forall_writes_sub_of_map rfl
theorem main_part0_ops18_fresh : (main_part0_ops18 : List (HloOp τ sig (Elt F))).Forall fun op => op.fresh = ∅ := by simp only [List.Forall]; repeat' constructor
/-- What `main_part0_ops18` writes, in order. -/
abbrev main_part0_ops18_W : List (Ref sig .tc) := [main_v41, main_c_6]
theorem main_part0_ops18_writes : (main_part0_ops18 : List (HloOp τ sig (Elt F))).Forall fun op => op.writes ⊆ (main_part0_ops18_W.map (Proc.devRef (τ := τ) .tc)).toFinset :=
  StableHlo.forall_writes_sub_of_map rfl
theorem main_part0_ops19_fresh : (main_part0_ops19 : List (HloOp τ sig (Elt F))).Forall fun op => op.fresh = ∅ := by simp only [List.Forall]; repeat' constructor
/-- What `main_part0_ops19` writes, in order. -/
abbrev main_part0_ops19_W : List (Ref sig .tc) := [main_call8_v0, main_v42]
theorem main_part0_ops19_writes : (main_part0_ops19 : List (HloOp τ sig (Elt F))).Forall fun op => op.writes ⊆ (main_part0_ops19_W.map (Proc.devRef (τ := τ) .tc)).toFinset :=
  StableHlo.forall_writes_sub_of_map rfl
theorem main_part0_ops20_fresh : (main_part0_ops20 : List (HloOp τ sig (Elt F))).Forall fun op => op.fresh = ∅ := by simp only [List.Forall]; repeat' constructor
/-- What `main_part0_ops20` writes, in order. -/
abbrev main_part0_ops20_W : List (Ref sig .tc) := [main_v43, main_c_7]
theorem main_part0_ops20_writes : (main_part0_ops20 : List (HloOp τ sig (Elt F))).Forall fun op => op.writes ⊆ (main_part0_ops20_W.map (Proc.devRef (τ := τ) .tc)).toFinset :=
  StableHlo.forall_writes_sub_of_map rfl
theorem main_part0_ops21_fresh : (main_part0_ops21 : List (HloOp τ sig (Elt F))).Forall fun op => op.fresh = ∅ := by simp only [List.Forall]; repeat' constructor
/-- What `main_part0_ops21` writes, in order. -/
abbrev main_part0_ops21_W : List (Ref sig .tc) := [main_call9_v0, main_v44]
theorem main_part0_ops21_writes : (main_part0_ops21 : List (HloOp τ sig (Elt F))).Forall fun op => op.writes ⊆ (main_part0_ops21_W.map (Proc.devRef (τ := τ) .tc)).toFinset :=
  StableHlo.forall_writes_sub_of_map rfl
theorem main_part0_ops22_fresh : (main_part0_ops22 : List (HloOp τ sig (Elt F))).Forall fun op => op.fresh = ∅ := by simp only [List.Forall]; repeat' constructor
/-- What `main_part0_ops22` writes, in order. -/
abbrev main_part0_ops22_W : List (Ref sig .tc) := [main_c_8]
theorem main_part0_ops22_writes : (main_part0_ops22 : List (HloOp τ sig (Elt F))).Forall fun op => op.writes ⊆ (main_part0_ops22_W.map (Proc.devRef (τ := τ) .tc)).toFinset :=
  StableHlo.forall_writes_sub_of_map rfl
theorem main_part0_ops23_fresh : (main_part0_ops23 : List (HloOp τ sig (Elt F))).Forall fun op => op.fresh = ∅ := by simp only [List.Forall]; repeat' constructor
/-- What `main_part0_ops23` writes, in order. -/
abbrev main_part0_ops23_W : List (Ref sig .tc) := [main_call10_v0, main_v45]
theorem main_part0_ops23_writes : (main_part0_ops23 : List (HloOp τ sig (Elt F))).Forall fun op => op.writes ⊆ (main_part0_ops23_W.map (Proc.devRef (τ := τ) .tc)).toFinset :=
  StableHlo.forall_writes_sub_of_map rfl
theorem main_part0_ops24_fresh : (main_part0_ops24 : List (HloOp τ sig (Elt F))).Forall fun op => op.fresh = ∅ := by simp only [List.Forall]; repeat' constructor
/-- What `main_part0_ops24` writes, in order. -/
abbrev main_part0_ops24_W : List (Ref sig .tc) := [main_c_9]
theorem main_part0_ops24_writes : (main_part0_ops24 : List (HloOp τ sig (Elt F))).Forall fun op => op.writes ⊆ (main_part0_ops24_W.map (Proc.devRef (τ := τ) .tc)).toFinset :=
  StableHlo.forall_writes_sub_of_map rfl
theorem main_part1_ops0_fresh : (main_part1_ops0 : List (HloOp τ sig (Elt F))).Forall fun op => op.fresh = ∅ := by simp only [List.Forall]; repeat' constructor
/-- What `main_part1_ops0` writes, in order. -/
abbrev main_part1_ops0_W : List (Ref sig .tc) := [main_call11_v0, main_v46]
theorem main_part1_ops0_writes : (main_part1_ops0 : List (HloOp τ sig (Elt F))).Forall fun op => op.writes ⊆ (main_part1_ops0_W.map (Proc.devRef (τ := τ) .tc)).toFinset :=
  StableHlo.forall_writes_sub_of_map rfl
theorem main_part1_ops1_fresh : (main_part1_ops1 : List (HloOp τ sig (Elt F))).Forall fun op => op.fresh = ∅ := by simp only [List.Forall]; repeat' constructor
/-- What `main_part1_ops1` writes, in order. -/
abbrev main_part1_ops1_W : List (Ref sig .tc) := [main_v47]
theorem main_part1_ops1_writes : (main_part1_ops1 : List (HloOp τ sig (Elt F))).Forall fun op => op.writes ⊆ (main_part1_ops1_W.map (Proc.devRef (τ := τ) .tc)).toFinset :=
  StableHlo.forall_writes_sub_of_map rfl
theorem main_part1_ops2_fresh : (main_part1_ops2 : List (HloOp τ sig (Elt F))).Forall fun op => op.fresh = ∅ := by simp only [List.Forall]; repeat' constructor
/-- What `main_part1_ops2` writes, in order. -/
abbrev main_part1_ops2_W : List (Ref sig .tc) := [main_v49, main_v50, main_v51, main_v52, main_cst_10, main_v53, main_v54, main_v55, main_v56, main_v57, main_c_11]
theorem main_part1_ops2_writes : (main_part1_ops2 : List (HloOp τ sig (Elt F))).Forall fun op => op.writes ⊆ (main_part1_ops2_W.map (Proc.devRef (τ := τ) .tc)).toFinset :=
  StableHlo.forall_writes_sub_of_map rfl
theorem main_part1_ops3_fresh : (main_part1_ops3 : List (HloOp τ sig (Elt F))).Forall fun op => op.fresh = ∅ := by simp only [List.Forall]; repeat' constructor
/-- What `main_part1_ops3` writes, in order. -/
abbrev main_part1_ops3_W : List (Ref sig .tc) := [main_call12_v0, main_call12_v1, main_call12_v2, main_v58]
theorem main_part1_ops3_writes : (main_part1_ops3 : List (HloOp τ sig (Elt F))).Forall fun op => op.writes ⊆ (main_part1_ops3_W.map (Proc.devRef (τ := τ) .tc)).toFinset :=
  StableHlo.forall_writes_sub_of_map rfl
theorem main_part1_ops4_fresh : (main_part1_ops4 : List (HloOp τ sig (Elt F))).Forall fun op => op.fresh = ∅ := by simp only [List.Forall]; repeat' constructor
/-- What `main_part1_ops4` writes, in order. -/
abbrev main_part1_ops4_W : List (Ref sig .tc) := [main_v59]
theorem main_part1_ops4_writes : (main_part1_ops4 : List (HloOp τ sig (Elt F))).Forall fun op => op.writes ⊆ (main_part1_ops4_W.map (Proc.devRef (τ := τ) .tc)).toFinset :=
  StableHlo.forall_writes_sub_of_map rfl
theorem main_part1_ops5_fresh : (main_part1_ops5 : List (HloOp τ sig (Elt F))).Forall fun op => op.fresh = ∅ := by simp only [List.Forall]; repeat' constructor
/-- What `main_part1_ops5` writes, in order. -/
abbrev main_part1_ops5_W : List (Ref sig .tc) := [main_v60, main_c_12, main_v61, main_v62, main_c_13]
theorem main_part1_ops5_writes : (main_part1_ops5 : List (HloOp τ sig (Elt F))).Forall fun op => op.writes ⊆ (main_part1_ops5_W.map (Proc.devRef (τ := τ) .tc)).toFinset :=
  StableHlo.forall_writes_sub_of_map rfl
theorem main_part1_ops6_fresh : (main_part1_ops6 : List (HloOp τ sig (Elt F))).Forall fun op => op.fresh = ∅ := by simp only [List.Forall]; repeat' constructor
/-- What `main_part1_ops6` writes, in order. -/
abbrev main_part1_ops6_W : List (Ref sig .tc) := [main_call14_v0, main_call14_v1, main_v63]
theorem main_part1_ops6_writes : (main_part1_ops6 : List (HloOp τ sig (Elt F))).Forall fun op => op.writes ⊆ (main_part1_ops6_W.map (Proc.devRef (τ := τ) .tc)).toFinset :=
  StableHlo.forall_writes_sub_of_map rfl
theorem main_part1_ops7_fresh : (main_part1_ops7 : List (HloOp τ sig (Elt F))).Forall fun op => op.fresh = ∅ := by simp only [List.Forall]; repeat' constructor
/-- What `main_part1_ops7` writes, in order. -/
abbrev main_part1_ops7_W : List (Ref sig .tc) := [main_v64]
theorem main_part1_ops7_writes : (main_part1_ops7 : List (HloOp τ sig (Elt F))).Forall fun op => op.writes ⊆ (main_part1_ops7_W.map (Proc.devRef (τ := τ) .tc)).toFinset :=
  StableHlo.forall_writes_sub_of_map rfl
theorem main_part1_ops8_fresh : (main_part1_ops8 : List (HloOp τ sig (Elt F))).Forall fun op => op.fresh = ∅ := by simp only [List.Forall]; repeat' constructor
/-- What `main_part1_ops8` writes, in order. -/
abbrev main_part1_ops8_W : List (Ref sig .tc) := [main_call15_c, main_call15_v0, main_call15_v1, main_call15_c_0, main_call15_v2, main_call15_v3, main_call15_v4, main_call15_c_1, main_call15_c_2, main_call15_v5, main_call15_v6, main_call15_v7, main_call15_v8, main_call15_v9, main_call15_v10, main_call15_c_3, main_call15_v11, main_call15_v12, main_call15_v13, main_call15_cst, main_call15_v14, main_v65]
theorem main_part1_ops8_writes : (main_part1_ops8 : List (HloOp τ sig (Elt F))).Forall fun op => op.writes ⊆ (main_part1_ops8_W.map (Proc.devRef (τ := τ) .tc)).toFinset :=
  StableHlo.forall_writes_sub_of_map rfl
theorem main_part1_ops9_fresh : (main_part1_ops9 : List (HloOp τ sig (Elt F))).Forall fun op => op.fresh = ∅ := by simp only [List.Forall]; repeat' constructor
/-- What `main_part1_ops9` writes, in order. -/
abbrev main_part1_ops9_W : List (Ref sig .tc) := [main_call16_c, main_call16_v0, main_call16_v1, main_call16_c_0, main_call16_v2, main_call16_v3, main_call16_v4, main_call16_v5, main_call16_c_1, main_call16_c_2, main_call16_v6, main_call16_v7, main_call16_v8, main_call16_v9, main_call16_v10, main_call16_v11, main_call16_c_3, main_call16_v12, main_call16_v13, main_call16_cst, main_call16_v14, main_v66]
theorem main_part1_ops9_writes : (main_part1_ops9 : List (HloOp τ sig (Elt F))).Forall fun op => op.writes ⊆ (main_part1_ops9_W.map (Proc.devRef (τ := τ) .tc)).toFinset :=
  StableHlo.forall_writes_sub_of_map rfl

/-! ## The branch -/

/-- The operation that widens the branch's flag. -/
abbrev flagOp : HloOp τ sig (Elt F) := StableHlo.unary main_v14 main_v15 ((extui 32 · natLt_1_32) : (⟨S_, .i1⟩ : BufTy).Contents (Elt F) → (⟨S_, .i32⟩ : BufTy).Contents (Elt F))
/-- What each side of the branch runs. -/
abbrev caseOps : Fin 2 → List (HloOp τ sig (Elt F))
  | 0 => [StableHlo.unary main_v1 main_case0b0_values_14 ((fun x => (Host.topK S4x2000 1 (FloatOps.cmpfTotal .gt) x sliceFits_S4x1048576_S4x2000).1) : (⟨S4x1048576, .f32⟩ : BufTy).Contents (Elt F) → (⟨S4x2000, .f32⟩ : BufTy).Contents (Elt F)),
      StableHlo.unary main_v1 main_case0b0_indices_15 ((fun x => (Host.topK S4x2000 1 (FloatOps.cmpfTotal .gt) x sliceFits_S4x1048576_S4x2000).2) : (⟨S4x1048576, .f32⟩ : BufTy).Contents (Elt F) → (⟨S4x2000, .i32⟩ : BufTy).Contents (Elt F)),
      StableHlo.unary main_case0b0_values_14 main_v16_0 id,
      StableHlo.unary main_case0b0_indices_15 main_v16_1 id]
  | 1 => [StableHlo.unary main_values main_v16_0 id,
      StableHlo.unary main_v6 main_v16_1 id]
/-- The flag's word. -/
def flagWord (V : Valuation τ sig (Elt F)) : BitVec 32 := (extui 32 (V (Proc.devRef .tc main_v14) : (⟨S_, .i1⟩ : BufTy).Contents (Elt F)) natLt_1_32 : (⟨S_, .i32⟩ : BufTy).Contents (Elt F)) HostLoop.idx0
/-- The buffers after the branch. -/
def afterCase (V : Valuation τ sig (Elt F)) : Valuation τ sig (Elt F) :=
  StableHlo.after (caseOps (HostLoop.branch (flagWord V) 1)) (flagOp.result V)
/-- The sides of the branch as programs. -/
abbrev caseArm (i : Fin 2) : Prog (TpuEff nD τ sig (Elt F) (Pipeline.Sig Λ₀ (Fin 2) fun p => (pcfgs (F := F) p).Adm) .tc) PUnit := StableHlo.seq (caseOps i)
theorem caseOps_sub (i : Fin 2) : (caseOps i : List (HloOp τ sig (Elt F))).Forall fun op => op.bufs ⊆ StableHlo.tcRefs τ sig :=
  match i with
  | 0 => ⟨StableHlo.unary_bufs_sub .., StableHlo.unary_bufs_sub .., StableHlo.unary_bufs_sub .., StableHlo.unary_bufs_sub ..⟩
  | 1 => ⟨StableHlo.unary_bufs_sub .., StableHlo.unary_bufs_sub ..⟩
theorem caseOps_fresh (i : Fin 2) : (caseOps i : List (HloOp τ sig (Elt F))).Forall fun op => op.fresh = ∅ :=
  match i with
  | 0 => ⟨rfl, rfl, rfl, rfl⟩
  | 1 => ⟨rfl, rfl⟩
/-- What the branch writes, on either side. -/
abbrev caseProg_W : List (Ref sig .tc) := [main_v15, main_case0b0_values_14, main_case0b0_indices_15, main_v16_0, main_v16_1]
abbrev caseOps_W : Fin 2 → List (Ref sig .tc)
  | 0 => [main_case0b0_values_14, main_case0b0_indices_15, main_v16_0, main_v16_1]
  | 1 => [main_v16_0, main_v16_1]
theorem caseOps_writes (i : Fin 2) : (caseOps i : List (HloOp τ sig (Elt F))).Forall fun op => op.writes ⊆ ((caseOps_W i).map (Proc.devRef (τ := τ) .tc)).toFinset :=
  match i with
  | 0 => StableHlo.forall_writes_sub_of_map rfl
  | 1 => StableHlo.forall_writes_sub_of_map rfl
theorem afterCase_of (V : Valuation τ sig (Elt F)) (r : Ref sig .tc) (h : r ∉ caseProg_W) :
    afterCase V (Proc.devRef .tc r) = V (Proc.devRef .tc r) := by
  unfold afterCase
  have h2 : r ∉ caseOps_W (HostLoop.branch (flagWord V) 1) := by
    generalize HostLoop.branch (flagWord V) 1 = i
    match i with
    | 0 => exact fun h' => h (List.mem_cons_of_mem _ h')
    | 1 => exact fun h' => h (List.mem_cons_of_mem _ (List.mem_cons_of_mem _ (List.mem_cons_of_mem _ h')))
  rw [StableHlo.after_of_writes_sub _ _ (caseOps_writes _) h2]
  exact StableHlo.unary_result_ne _ _ _ _ _ _ (ne_of_mem_of_not_mem (List.mem_cons_self (a := main_v15)) h).symm

section Run
variable (m : (ℓ : Loc nD τ sig) → Buf (Elt F) ℓ) (ρ : Dev nD → PrngReg)
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `main_part0_ops0`. -/
abbrev W1 : Dev nD → Valuation τ sig (Elt F) := fun c => StableHlo.after main_part0_ops0 (W0 m ρ c)
theorem W1_of (c : Dev nD) (r : Ref sig .tc) (h : r ∉ main_part0_ops0_W) : W1 m ρ c (Proc.devRef .tc r) = W0 m ρ c (Proc.devRef .tc r) :=
  StableHlo.after_of_writes_sub main_part0_ops0 _ main_part0_ops0_writes h
theorem W1_args (c : Dev nD) : ∀ a ∈ argRefs, W1 m ρ c (Proc.devRef .tc a) = m ((c : Thread nD τ).loc a) :=
  fun a ha => (W1_of m ρ c a ((ListAll.forall_mem_of_all_decide (by decide +kernel) : ∀ a ∈ argRefs, a ∉ main_part0_ops0_W) a ha)).trans (W0_args m ρ c a ha)
/-- After region 0: its arrays at what its write-backs leave, every other buffer as entered. -/
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
theorem W2_args (c : Dev nD) : ∀ a ∈ argRefs, W2 m ρ c (Proc.devRef .tc a) = m ((c : Thread nD τ).loc a) :=
  fun a ha => (W2_of m ρ c a ((ListAll.forall_mem_of_all_decide (by decide +kernel) : ∀ a ∈ argRefs, ∀ w : Fin cfg0.W, Pipeline.arrRef spec0 w = a → (cfg0.win w).isOut = false) a ha)).trans (W1_args m ρ c a ha)
/-- After `main_part0_ops1`. -/
abbrev W3 : Dev nD → Valuation τ sig (Elt F) := fun c => StableHlo.after main_part0_ops1 (W2 m ρ c)
theorem W3_of (c : Dev nD) (r : Ref sig .tc) (h : r ∉ main_part0_ops1_W) : W3 m ρ c (Proc.devRef .tc r) = W2 m ρ c (Proc.devRef .tc r) :=
  StableHlo.after_of_writes_sub main_part0_ops1 _ main_part0_ops1_writes h
theorem W3_args (c : Dev nD) : ∀ a ∈ argRefs, W3 m ρ c (Proc.devRef .tc a) = m ((c : Thread nD τ).loc a) :=
  fun a ha => (W3_of m ρ c a ((ListAll.forall_mem_of_all_decide (by decide +kernel) : ∀ a ∈ argRefs, a ∉ main_part0_ops1_W) a ha)).trans (W2_args m ρ c a ha)
/-- After `main_part0_ops2`. -/
abbrev W4 : Dev nD → Valuation τ sig (Elt F) := fun c => StableHlo.after main_part0_ops2 (W3 m ρ c)
theorem W4_of (c : Dev nD) (r : Ref sig .tc) (h : r ∉ main_part0_ops2_W) : W4 m ρ c (Proc.devRef .tc r) = W3 m ρ c (Proc.devRef .tc r) :=
  StableHlo.after_of_writes_sub main_part0_ops2 _ main_part0_ops2_writes h
theorem W4_args (c : Dev nD) : ∀ a ∈ argRefs, W4 m ρ c (Proc.devRef .tc a) = m ((c : Thread nD τ).loc a) :=
  fun a ha => (W4_of m ρ c a ((ListAll.forall_mem_of_all_decide (by decide +kernel) : ∀ a ∈ argRefs, a ∉ main_part0_ops2_W) a ha)).trans (W3_args m ρ c a ha)
/-- After `main_part0_ops3`. -/
abbrev W5 : Dev nD → Valuation τ sig (Elt F) := fun c => StableHlo.after main_part0_ops3 (W4 m ρ c)
theorem W5_of (c : Dev nD) (r : Ref sig .tc) (h : r ∉ main_part0_ops3_W) : W5 m ρ c (Proc.devRef .tc r) = W4 m ρ c (Proc.devRef .tc r) :=
  StableHlo.after_of_writes_sub main_part0_ops3 _ main_part0_ops3_writes h
theorem W5_args (c : Dev nD) : ∀ a ∈ argRefs, W5 m ρ c (Proc.devRef .tc a) = m ((c : Thread nD τ).loc a) :=
  fun a ha => (W5_of m ρ c a ((ListAll.forall_mem_of_all_decide (by decide +kernel) : ∀ a ∈ argRefs, a ∉ main_part0_ops3_W) a ha)).trans (W4_args m ρ c a ha)
/-- After the branch. -/
abbrev W6 : Dev nD → Valuation τ sig (Elt F) := fun c => afterCase (W5 m ρ c)
theorem W6_of (c : Dev nD) (r : Ref sig .tc) (h : r ∉ caseProg_W) : W6 m ρ c (Proc.devRef .tc r) = W5 m ρ c (Proc.devRef .tc r) :=
  afterCase_of _ r h
theorem W6_args (c : Dev nD) : ∀ a ∈ argRefs, W6 m ρ c (Proc.devRef .tc a) = m ((c : Thread nD τ).loc a) :=
  fun a ha => (W6_of m ρ c a ((ListAll.forall_mem_of_all_decide (by decide +kernel) : ∀ a ∈ argRefs, a ∉ caseProg_W) a ha)).trans (W5_args m ρ c a ha)
/-- After `main_part0_ops4`. -/
abbrev W7 : Dev nD → Valuation τ sig (Elt F) := fun c => StableHlo.after main_part0_ops4 (W6 m ρ c)
theorem W7_of (c : Dev nD) (r : Ref sig .tc) (h : r ∉ main_part0_ops4_W) : W7 m ρ c (Proc.devRef .tc r) = W6 m ρ c (Proc.devRef .tc r) :=
  StableHlo.after_of_writes_sub main_part0_ops4 _ main_part0_ops4_writes h
theorem W7_args (c : Dev nD) : ∀ a ∈ argRefs, W7 m ρ c (Proc.devRef .tc a) = m ((c : Thread nD τ).loc a) :=
  fun a ha => (W7_of m ρ c a ((ListAll.forall_mem_of_all_decide (by decide +kernel) : ∀ a ∈ argRefs, a ∉ main_part0_ops4_W) a ha)).trans (W6_args m ρ c a ha)
/-- After `main_part0_ops5`. -/
abbrev W8 : Dev nD → Valuation τ sig (Elt F) := fun c => StableHlo.after main_part0_ops5 (W7 m ρ c)
theorem W8_of (c : Dev nD) (r : Ref sig .tc) (h : r ∉ main_part0_ops5_W) : W8 m ρ c (Proc.devRef .tc r) = W7 m ρ c (Proc.devRef .tc r) :=
  StableHlo.after_of_writes_sub main_part0_ops5 _ main_part0_ops5_writes h
theorem W8_args (c : Dev nD) : ∀ a ∈ argRefs, W8 m ρ c (Proc.devRef .tc a) = m ((c : Thread nD τ).loc a) :=
  fun a ha => (W8_of m ρ c a ((ListAll.forall_mem_of_all_decide (by decide +kernel) : ∀ a ∈ argRefs, a ∉ main_part0_ops5_W) a ha)).trans (W7_args m ρ c a ha)
/-- After `main_part0_ops6`. -/
abbrev W9 : Dev nD → Valuation τ sig (Elt F) := fun c => StableHlo.after main_part0_ops6 (W8 m ρ c)
theorem W9_of (c : Dev nD) (r : Ref sig .tc) (h : r ∉ main_part0_ops6_W) : W9 m ρ c (Proc.devRef .tc r) = W8 m ρ c (Proc.devRef .tc r) :=
  StableHlo.after_of_writes_sub main_part0_ops6 _ main_part0_ops6_writes h
theorem W9_args (c : Dev nD) : ∀ a ∈ argRefs, W9 m ρ c (Proc.devRef .tc a) = m ((c : Thread nD τ).loc a) :=
  fun a ha => (W9_of m ρ c a ((ListAll.forall_mem_of_all_decide (by decide +kernel) : ∀ a ∈ argRefs, a ∉ main_part0_ops6_W) a ha)).trans (W8_args m ρ c a ha)
/-- After `main_part0_ops7`. -/
abbrev W10 : Dev nD → Valuation τ sig (Elt F) := fun c => StableHlo.after main_part0_ops7 (W9 m ρ c)
theorem W10_of (c : Dev nD) (r : Ref sig .tc) (h : r ∉ main_part0_ops7_W) : W10 m ρ c (Proc.devRef .tc r) = W9 m ρ c (Proc.devRef .tc r) :=
  StableHlo.after_of_writes_sub main_part0_ops7 _ main_part0_ops7_writes h
theorem W10_args (c : Dev nD) : ∀ a ∈ argRefs, W10 m ρ c (Proc.devRef .tc a) = m ((c : Thread nD τ).loc a) :=
  fun a ha => (W10_of m ρ c a ((ListAll.forall_mem_of_all_decide (by decide +kernel) : ∀ a ∈ argRefs, a ∉ main_part0_ops7_W) a ha)).trans (W9_args m ρ c a ha)
/-- After `main_part0_ops8`. -/
abbrev W11 : Dev nD → Valuation τ sig (Elt F) := fun c => StableHlo.after main_part0_ops8 (W10 m ρ c)
theorem W11_of (c : Dev nD) (r : Ref sig .tc) (h : r ∉ main_part0_ops8_W) : W11 m ρ c (Proc.devRef .tc r) = W10 m ρ c (Proc.devRef .tc r) :=
  StableHlo.after_of_writes_sub main_part0_ops8 _ main_part0_ops8_writes h
theorem W11_args (c : Dev nD) : ∀ a ∈ argRefs, W11 m ρ c (Proc.devRef .tc a) = m ((c : Thread nD τ).loc a) :=
  fun a ha => (W11_of m ρ c a ((ListAll.forall_mem_of_all_decide (by decide +kernel) : ∀ a ∈ argRefs, a ∉ main_part0_ops8_W) a ha)).trans (W10_args m ρ c a ha)
/-- After `main_part0_ops9`. -/
abbrev W12 : Dev nD → Valuation τ sig (Elt F) := fun c => StableHlo.after main_part0_ops9 (W11 m ρ c)
theorem W12_of (c : Dev nD) (r : Ref sig .tc) (h : r ∉ main_part0_ops9_W) : W12 m ρ c (Proc.devRef .tc r) = W11 m ρ c (Proc.devRef .tc r) :=
  StableHlo.after_of_writes_sub main_part0_ops9 _ main_part0_ops9_writes h
theorem W12_args (c : Dev nD) : ∀ a ∈ argRefs, W12 m ρ c (Proc.devRef .tc a) = m ((c : Thread nD τ).loc a) :=
  fun a ha => (W12_of m ρ c a ((ListAll.forall_mem_of_all_decide (by decide +kernel) : ∀ a ∈ argRefs, a ∉ main_part0_ops9_W) a ha)).trans (W11_args m ρ c a ha)
/-- After `main_part0_ops10`. -/
abbrev W13 : Dev nD → Valuation τ sig (Elt F) := fun c => StableHlo.after main_part0_ops10 (W12 m ρ c)
theorem W13_of (c : Dev nD) (r : Ref sig .tc) (h : r ∉ main_part0_ops10_W) : W13 m ρ c (Proc.devRef .tc r) = W12 m ρ c (Proc.devRef .tc r) :=
  StableHlo.after_of_writes_sub main_part0_ops10 _ main_part0_ops10_writes h
theorem W13_args (c : Dev nD) : ∀ a ∈ argRefs, W13 m ρ c (Proc.devRef .tc a) = m ((c : Thread nD τ).loc a) :=
  fun a ha => (W13_of m ρ c a ((ListAll.forall_mem_of_all_decide (by decide +kernel) : ∀ a ∈ argRefs, a ∉ main_part0_ops10_W) a ha)).trans (W12_args m ρ c a ha)
/-- After `main_part0_ops11`. -/
abbrev W14 : Dev nD → Valuation τ sig (Elt F) := fun c => StableHlo.after main_part0_ops11 (W13 m ρ c)
theorem W14_of (c : Dev nD) (r : Ref sig .tc) (h : r ∉ main_part0_ops11_W) : W14 m ρ c (Proc.devRef .tc r) = W13 m ρ c (Proc.devRef .tc r) :=
  StableHlo.after_of_writes_sub main_part0_ops11 _ main_part0_ops11_writes h
theorem W14_args (c : Dev nD) : ∀ a ∈ argRefs, W14 m ρ c (Proc.devRef .tc a) = m ((c : Thread nD τ).loc a) :=
  fun a ha => (W14_of m ρ c a ((ListAll.forall_mem_of_all_decide (by decide +kernel) : ∀ a ∈ argRefs, a ∉ main_part0_ops11_W) a ha)).trans (W13_args m ρ c a ha)
/-- After `main_part0_ops12`. -/
abbrev W15 : Dev nD → Valuation τ sig (Elt F) := fun c => StableHlo.after main_part0_ops12 (W14 m ρ c)
theorem W15_of (c : Dev nD) (r : Ref sig .tc) (h : r ∉ main_part0_ops12_W) : W15 m ρ c (Proc.devRef .tc r) = W14 m ρ c (Proc.devRef .tc r) :=
  StableHlo.after_of_writes_sub main_part0_ops12 _ main_part0_ops12_writes h
theorem W15_args (c : Dev nD) : ∀ a ∈ argRefs, W15 m ρ c (Proc.devRef .tc a) = m ((c : Thread nD τ).loc a) :=
  fun a ha => (W15_of m ρ c a ((ListAll.forall_mem_of_all_decide (by decide +kernel) : ∀ a ∈ argRefs, a ∉ main_part0_ops12_W) a ha)).trans (W14_args m ρ c a ha)
/-- After `main_part0_ops13`. -/
abbrev W16 : Dev nD → Valuation τ sig (Elt F) := fun c => StableHlo.after main_part0_ops13 (W15 m ρ c)
theorem W16_of (c : Dev nD) (r : Ref sig .tc) (h : r ∉ main_part0_ops13_W) : W16 m ρ c (Proc.devRef .tc r) = W15 m ρ c (Proc.devRef .tc r) :=
  StableHlo.after_of_writes_sub main_part0_ops13 _ main_part0_ops13_writes h
theorem W16_args (c : Dev nD) : ∀ a ∈ argRefs, W16 m ρ c (Proc.devRef .tc a) = m ((c : Thread nD τ).loc a) :=
  fun a ha => (W16_of m ρ c a ((ListAll.forall_mem_of_all_decide (by decide +kernel) : ∀ a ∈ argRefs, a ∉ main_part0_ops13_W) a ha)).trans (W15_args m ρ c a ha)
/-- After `main_part0_ops14`. -/
abbrev W17 : Dev nD → Valuation τ sig (Elt F) := fun c => StableHlo.after main_part0_ops14 (W16 m ρ c)
theorem W17_of (c : Dev nD) (r : Ref sig .tc) (h : r ∉ main_part0_ops14_W) : W17 m ρ c (Proc.devRef .tc r) = W16 m ρ c (Proc.devRef .tc r) :=
  StableHlo.after_of_writes_sub main_part0_ops14 _ main_part0_ops14_writes h
theorem W17_args (c : Dev nD) : ∀ a ∈ argRefs, W17 m ρ c (Proc.devRef .tc a) = m ((c : Thread nD τ).loc a) :=
  fun a ha => (W17_of m ρ c a ((ListAll.forall_mem_of_all_decide (by decide +kernel) : ∀ a ∈ argRefs, a ∉ main_part0_ops14_W) a ha)).trans (W16_args m ρ c a ha)
/-- After `main_part0_ops15`. -/
abbrev W18 : Dev nD → Valuation τ sig (Elt F) := fun c => StableHlo.after main_part0_ops15 (W17 m ρ c)
theorem W18_of (c : Dev nD) (r : Ref sig .tc) (h : r ∉ main_part0_ops15_W) : W18 m ρ c (Proc.devRef .tc r) = W17 m ρ c (Proc.devRef .tc r) :=
  StableHlo.after_of_writes_sub main_part0_ops15 _ main_part0_ops15_writes h
theorem W18_args (c : Dev nD) : ∀ a ∈ argRefs, W18 m ρ c (Proc.devRef .tc a) = m ((c : Thread nD τ).loc a) :=
  fun a ha => (W18_of m ρ c a ((ListAll.forall_mem_of_all_decide (by decide +kernel) : ∀ a ∈ argRefs, a ∉ main_part0_ops15_W) a ha)).trans (W17_args m ρ c a ha)
/-- After `main_part0_ops16`. -/
abbrev W19 : Dev nD → Valuation τ sig (Elt F) := fun c => StableHlo.after main_part0_ops16 (W18 m ρ c)
theorem W19_of (c : Dev nD) (r : Ref sig .tc) (h : r ∉ main_part0_ops16_W) : W19 m ρ c (Proc.devRef .tc r) = W18 m ρ c (Proc.devRef .tc r) :=
  StableHlo.after_of_writes_sub main_part0_ops16 _ main_part0_ops16_writes h
theorem W19_args (c : Dev nD) : ∀ a ∈ argRefs, W19 m ρ c (Proc.devRef .tc a) = m ((c : Thread nD τ).loc a) :=
  fun a ha => (W19_of m ρ c a ((ListAll.forall_mem_of_all_decide (by decide +kernel) : ∀ a ∈ argRefs, a ∉ main_part0_ops16_W) a ha)).trans (W18_args m ρ c a ha)
/-- After `main_part0_ops17`. -/
abbrev W20 : Dev nD → Valuation τ sig (Elt F) := fun c => StableHlo.after main_part0_ops17 (W19 m ρ c)
theorem W20_of (c : Dev nD) (r : Ref sig .tc) (h : r ∉ main_part0_ops17_W) : W20 m ρ c (Proc.devRef .tc r) = W19 m ρ c (Proc.devRef .tc r) :=
  StableHlo.after_of_writes_sub main_part0_ops17 _ main_part0_ops17_writes h
theorem W20_args (c : Dev nD) : ∀ a ∈ argRefs, W20 m ρ c (Proc.devRef .tc a) = m ((c : Thread nD τ).loc a) :=
  fun a ha => (W20_of m ρ c a ((ListAll.forall_mem_of_all_decide (by decide +kernel) : ∀ a ∈ argRefs, a ∉ main_part0_ops17_W) a ha)).trans (W19_args m ρ c a ha)
/-- After `main_part0_ops18`. -/
abbrev W21 : Dev nD → Valuation τ sig (Elt F) := fun c => StableHlo.after main_part0_ops18 (W20 m ρ c)
theorem W21_of (c : Dev nD) (r : Ref sig .tc) (h : r ∉ main_part0_ops18_W) : W21 m ρ c (Proc.devRef .tc r) = W20 m ρ c (Proc.devRef .tc r) :=
  StableHlo.after_of_writes_sub main_part0_ops18 _ main_part0_ops18_writes h
theorem W21_args (c : Dev nD) : ∀ a ∈ argRefs, W21 m ρ c (Proc.devRef .tc a) = m ((c : Thread nD τ).loc a) :=
  fun a ha => (W21_of m ρ c a ((ListAll.forall_mem_of_all_decide (by decide +kernel) : ∀ a ∈ argRefs, a ∉ main_part0_ops18_W) a ha)).trans (W20_args m ρ c a ha)
/-- After `main_part0_ops19`. -/
abbrev W22 : Dev nD → Valuation τ sig (Elt F) := fun c => StableHlo.after main_part0_ops19 (W21 m ρ c)
theorem W22_of (c : Dev nD) (r : Ref sig .tc) (h : r ∉ main_part0_ops19_W) : W22 m ρ c (Proc.devRef .tc r) = W21 m ρ c (Proc.devRef .tc r) :=
  StableHlo.after_of_writes_sub main_part0_ops19 _ main_part0_ops19_writes h
theorem W22_args (c : Dev nD) : ∀ a ∈ argRefs, W22 m ρ c (Proc.devRef .tc a) = m ((c : Thread nD τ).loc a) :=
  fun a ha => (W22_of m ρ c a ((ListAll.forall_mem_of_all_decide (by decide +kernel) : ∀ a ∈ argRefs, a ∉ main_part0_ops19_W) a ha)).trans (W21_args m ρ c a ha)
/-- After `main_part0_ops20`. -/
abbrev W23 : Dev nD → Valuation τ sig (Elt F) := fun c => StableHlo.after main_part0_ops20 (W22 m ρ c)
theorem W23_of (c : Dev nD) (r : Ref sig .tc) (h : r ∉ main_part0_ops20_W) : W23 m ρ c (Proc.devRef .tc r) = W22 m ρ c (Proc.devRef .tc r) :=
  StableHlo.after_of_writes_sub main_part0_ops20 _ main_part0_ops20_writes h
theorem W23_args (c : Dev nD) : ∀ a ∈ argRefs, W23 m ρ c (Proc.devRef .tc a) = m ((c : Thread nD τ).loc a) :=
  fun a ha => (W23_of m ρ c a ((ListAll.forall_mem_of_all_decide (by decide +kernel) : ∀ a ∈ argRefs, a ∉ main_part0_ops20_W) a ha)).trans (W22_args m ρ c a ha)
/-- After `main_part0_ops21`. -/
abbrev W24 : Dev nD → Valuation τ sig (Elt F) := fun c => StableHlo.after main_part0_ops21 (W23 m ρ c)
theorem W24_of (c : Dev nD) (r : Ref sig .tc) (h : r ∉ main_part0_ops21_W) : W24 m ρ c (Proc.devRef .tc r) = W23 m ρ c (Proc.devRef .tc r) :=
  StableHlo.after_of_writes_sub main_part0_ops21 _ main_part0_ops21_writes h
theorem W24_args (c : Dev nD) : ∀ a ∈ argRefs, W24 m ρ c (Proc.devRef .tc a) = m ((c : Thread nD τ).loc a) :=
  fun a ha => (W24_of m ρ c a ((ListAll.forall_mem_of_all_decide (by decide +kernel) : ∀ a ∈ argRefs, a ∉ main_part0_ops21_W) a ha)).trans (W23_args m ρ c a ha)
/-- After `main_part0_ops22`. -/
abbrev W25 : Dev nD → Valuation τ sig (Elt F) := fun c => StableHlo.after main_part0_ops22 (W24 m ρ c)
theorem W25_of (c : Dev nD) (r : Ref sig .tc) (h : r ∉ main_part0_ops22_W) : W25 m ρ c (Proc.devRef .tc r) = W24 m ρ c (Proc.devRef .tc r) :=
  StableHlo.after_of_writes_sub main_part0_ops22 _ main_part0_ops22_writes h
theorem W25_args (c : Dev nD) : ∀ a ∈ argRefs, W25 m ρ c (Proc.devRef .tc a) = m ((c : Thread nD τ).loc a) :=
  fun a ha => (W25_of m ρ c a ((ListAll.forall_mem_of_all_decide (by decide +kernel) : ∀ a ∈ argRefs, a ∉ main_part0_ops22_W) a ha)).trans (W24_args m ρ c a ha)
/-- After `main_part0_ops23`. -/
abbrev W26 : Dev nD → Valuation τ sig (Elt F) := fun c => StableHlo.after main_part0_ops23 (W25 m ρ c)
theorem W26_of (c : Dev nD) (r : Ref sig .tc) (h : r ∉ main_part0_ops23_W) : W26 m ρ c (Proc.devRef .tc r) = W25 m ρ c (Proc.devRef .tc r) :=
  StableHlo.after_of_writes_sub main_part0_ops23 _ main_part0_ops23_writes h
theorem W26_args (c : Dev nD) : ∀ a ∈ argRefs, W26 m ρ c (Proc.devRef .tc a) = m ((c : Thread nD τ).loc a) :=
  fun a ha => (W26_of m ρ c a ((ListAll.forall_mem_of_all_decide (by decide +kernel) : ∀ a ∈ argRefs, a ∉ main_part0_ops23_W) a ha)).trans (W25_args m ρ c a ha)
/-- After `main_part0_ops24`. -/
abbrev W27 : Dev nD → Valuation τ sig (Elt F) := fun c => StableHlo.after main_part0_ops24 (W26 m ρ c)
theorem W27_of (c : Dev nD) (r : Ref sig .tc) (h : r ∉ main_part0_ops24_W) : W27 m ρ c (Proc.devRef .tc r) = W26 m ρ c (Proc.devRef .tc r) :=
  StableHlo.after_of_writes_sub main_part0_ops24 _ main_part0_ops24_writes h
theorem W27_args (c : Dev nD) : ∀ a ∈ argRefs, W27 m ρ c (Proc.devRef .tc a) = m ((c : Thread nD τ).loc a) :=
  fun a ha => (W27_of m ρ c a ((ListAll.forall_mem_of_all_decide (by decide +kernel) : ∀ a ∈ argRefs, a ∉ main_part0_ops24_W) a ha)).trans (W26_args m ρ c a ha)
/-- After `main_part1_ops0`. -/
abbrev W28 : Dev nD → Valuation τ sig (Elt F) := fun c => StableHlo.after main_part1_ops0 (W27 m ρ c)
theorem W28_of (c : Dev nD) (r : Ref sig .tc) (h : r ∉ main_part1_ops0_W) : W28 m ρ c (Proc.devRef .tc r) = W27 m ρ c (Proc.devRef .tc r) :=
  StableHlo.after_of_writes_sub main_part1_ops0 _ main_part1_ops0_writes h
theorem W28_args (c : Dev nD) : ∀ a ∈ argRefs, W28 m ρ c (Proc.devRef .tc a) = m ((c : Thread nD τ).loc a) :=
  fun a ha => (W28_of m ρ c a ((ListAll.forall_mem_of_all_decide (by decide +kernel) : ∀ a ∈ argRefs, a ∉ main_part1_ops0_W) a ha)).trans (W27_args m ρ c a ha)
/-- After `main_part1_ops1`. -/
abbrev W29 : Dev nD → Valuation τ sig (Elt F) := fun c => StableHlo.after main_part1_ops1 (W28 m ρ c)
theorem W29_of (c : Dev nD) (r : Ref sig .tc) (h : r ∉ main_part1_ops1_W) : W29 m ρ c (Proc.devRef .tc r) = W28 m ρ c (Proc.devRef .tc r) :=
  StableHlo.after_of_writes_sub main_part1_ops1 _ main_part1_ops1_writes h
theorem W29_args (c : Dev nD) : ∀ a ∈ argRefs, W29 m ρ c (Proc.devRef .tc a) = m ((c : Thread nD τ).loc a) :=
  fun a ha => (W29_of m ρ c a ((ListAll.forall_mem_of_all_decide (by decide +kernel) : ∀ a ∈ argRefs, a ∉ main_part1_ops1_W) a ha)).trans (W28_args m ρ c a ha)
/-- After region 1: its arrays at what its write-backs leave, every other buffer as entered. -/
abbrev V29 : (c : Dev nD) → (b : Ref sig .tc) → Buf (Elt F) ((c : Thread nD τ).loc b) := fun c b => W29 m ρ c b
def W30 (c : Dev nD) : Valuation τ sig (Elt F) :=
  Pipeline.withArrays spec1 c (W29 m ρ c) fun w => (dat1 (V29 m ρ) c).arrAt w cfg1.N
theorem W30_arr (c : Dev nD) (w : Fin cfg1.W) :
    W30 m ρ c (Proc.devRef .tc (Pipeline.arrRef spec1 w)) = (dat1 (V29 m ρ) c).arrAt w cfg1.N := by
  unfold W30; exact Pipeline.withArrays_arr spec1 launch1.win.arr_inj c _ _ w
theorem W30_of_ne (c : Dev nD) (b : Ref sig .tc) (hb : ∀ w, Pipeline.arrRef spec1 w ≠ b) :
    W30 m ρ c (Proc.devRef .tc b) = W29 m ρ c (Proc.devRef .tc b) := by
  unfold W30; exact Pipeline.withArrays_of_ne spec1 c _ _ b hb
theorem W30_of (c : Dev nD) (r : Ref sig .tc) (h : ∀ w : Fin cfg1.W, Pipeline.arrRef spec1 w = r → (cfg1.win w).isOut = false) :
    W30 m ρ c (Proc.devRef .tc r) = W29 m ρ c (Proc.devRef .tc r) := by
  by_cases hw : ∃ w : Fin cfg1.W, Pipeline.arrRef spec1 w = r
  · obtain ⟨w, rfl⟩ := hw
    exact (W30_arr m ρ c w).trans (((dat1 (V29 m ρ) c).arrAt_in w (h w rfl) _).trans (A_eq1 (V29 m ρ) c w))
  · exact W30_of_ne m ρ c r fun w e => hw ⟨w, e⟩
abbrev V30 : (c : Dev nD) → (b : Ref sig .tc) → Buf (Elt F) ((c : Thread nD τ).loc b) := fun c b => W30 m ρ c b
theorem hF1 (c : Dev nD) (w : Fin cfg1.W) : (dat1 (V29 m ρ) c).arrAt w cfg1.N = V30 m ρ c (Pipeline.arrRef spec1 w) :=
  (W30_arr m ρ c w).symm
theorem hrest1 (c : Dev nD) : ∀ b, b ∉ Finset.univ.image (Pipeline.arrRef spec1) → V30 m ρ c b = V29 m ρ c b :=
  fun b hb => W30_of_ne m ρ c b fun w e => hb (Finset.mem_image.mpr ⟨w, Finset.mem_univ _, e⟩)
theorem W30_args (c : Dev nD) : ∀ a ∈ argRefs, W30 m ρ c (Proc.devRef .tc a) = m ((c : Thread nD τ).loc a) :=
  fun a ha => (W30_of m ρ c a ((ListAll.forall_mem_of_all_decide (by decide +kernel) : ∀ a ∈ argRefs, ∀ w : Fin cfg1.W, Pipeline.arrRef spec1 w = a → (cfg1.win w).isOut = false) a ha)).trans (W29_args m ρ c a ha)
/-- After `main_part1_ops2`. -/
abbrev W31 : Dev nD → Valuation τ sig (Elt F) := fun c => StableHlo.after main_part1_ops2 (W30 m ρ c)
theorem W31_of (c : Dev nD) (r : Ref sig .tc) (h : r ∉ main_part1_ops2_W) : W31 m ρ c (Proc.devRef .tc r) = W30 m ρ c (Proc.devRef .tc r) :=
  StableHlo.after_of_writes_sub main_part1_ops2 _ main_part1_ops2_writes h
theorem W31_args (c : Dev nD) : ∀ a ∈ argRefs, W31 m ρ c (Proc.devRef .tc a) = m ((c : Thread nD τ).loc a) :=
  fun a ha => (W31_of m ρ c a ((ListAll.forall_mem_of_all_decide (by decide +kernel) : ∀ a ∈ argRefs, a ∉ main_part1_ops2_W) a ha)).trans (W30_args m ρ c a ha)
/-- After `main_part1_ops3`. -/
abbrev W32 : Dev nD → Valuation τ sig (Elt F) := fun c => StableHlo.after main_part1_ops3 (W31 m ρ c)
theorem W32_of (c : Dev nD) (r : Ref sig .tc) (h : r ∉ main_part1_ops3_W) : W32 m ρ c (Proc.devRef .tc r) = W31 m ρ c (Proc.devRef .tc r) :=
  StableHlo.after_of_writes_sub main_part1_ops3 _ main_part1_ops3_writes h
theorem W32_args (c : Dev nD) : ∀ a ∈ argRefs, W32 m ρ c (Proc.devRef .tc a) = m ((c : Thread nD τ).loc a) :=
  fun a ha => (W32_of m ρ c a ((ListAll.forall_mem_of_all_decide (by decide +kernel) : ∀ a ∈ argRefs, a ∉ main_part1_ops3_W) a ha)).trans (W31_args m ρ c a ha)
/-- After `main_part1_ops4`. -/
abbrev W33 : Dev nD → Valuation τ sig (Elt F) := fun c => StableHlo.after main_part1_ops4 (W32 m ρ c)
theorem W33_of (c : Dev nD) (r : Ref sig .tc) (h : r ∉ main_part1_ops4_W) : W33 m ρ c (Proc.devRef .tc r) = W32 m ρ c (Proc.devRef .tc r) :=
  StableHlo.after_of_writes_sub main_part1_ops4 _ main_part1_ops4_writes h
theorem W33_args (c : Dev nD) : ∀ a ∈ argRefs, W33 m ρ c (Proc.devRef .tc a) = m ((c : Thread nD τ).loc a) :=
  fun a ha => (W33_of m ρ c a ((ListAll.forall_mem_of_all_decide (by decide +kernel) : ∀ a ∈ argRefs, a ∉ main_part1_ops4_W) a ha)).trans (W32_args m ρ c a ha)
/-- After `main_part1_ops5`. -/
abbrev W34 : Dev nD → Valuation τ sig (Elt F) := fun c => StableHlo.after main_part1_ops5 (W33 m ρ c)
theorem W34_of (c : Dev nD) (r : Ref sig .tc) (h : r ∉ main_part1_ops5_W) : W34 m ρ c (Proc.devRef .tc r) = W33 m ρ c (Proc.devRef .tc r) :=
  StableHlo.after_of_writes_sub main_part1_ops5 _ main_part1_ops5_writes h
theorem W34_args (c : Dev nD) : ∀ a ∈ argRefs, W34 m ρ c (Proc.devRef .tc a) = m ((c : Thread nD τ).loc a) :=
  fun a ha => (W34_of m ρ c a ((ListAll.forall_mem_of_all_decide (by decide +kernel) : ∀ a ∈ argRefs, a ∉ main_part1_ops5_W) a ha)).trans (W33_args m ρ c a ha)
/-- After `main_part1_ops6`. -/
abbrev W35 : Dev nD → Valuation τ sig (Elt F) := fun c => StableHlo.after main_part1_ops6 (W34 m ρ c)
theorem W35_of (c : Dev nD) (r : Ref sig .tc) (h : r ∉ main_part1_ops6_W) : W35 m ρ c (Proc.devRef .tc r) = W34 m ρ c (Proc.devRef .tc r) :=
  StableHlo.after_of_writes_sub main_part1_ops6 _ main_part1_ops6_writes h
theorem W35_args (c : Dev nD) : ∀ a ∈ argRefs, W35 m ρ c (Proc.devRef .tc a) = m ((c : Thread nD τ).loc a) :=
  fun a ha => (W35_of m ρ c a ((ListAll.forall_mem_of_all_decide (by decide +kernel) : ∀ a ∈ argRefs, a ∉ main_part1_ops6_W) a ha)).trans (W34_args m ρ c a ha)
/-- After `main_part1_ops7`. -/
abbrev W36 : Dev nD → Valuation τ sig (Elt F) := fun c => StableHlo.after main_part1_ops7 (W35 m ρ c)
theorem W36_of (c : Dev nD) (r : Ref sig .tc) (h : r ∉ main_part1_ops7_W) : W36 m ρ c (Proc.devRef .tc r) = W35 m ρ c (Proc.devRef .tc r) :=
  StableHlo.after_of_writes_sub main_part1_ops7 _ main_part1_ops7_writes h
theorem W36_args (c : Dev nD) : ∀ a ∈ argRefs, W36 m ρ c (Proc.devRef .tc a) = m ((c : Thread nD τ).loc a) :=
  fun a ha => (W36_of m ρ c a ((ListAll.forall_mem_of_all_decide (by decide +kernel) : ∀ a ∈ argRefs, a ∉ main_part1_ops7_W) a ha)).trans (W35_args m ρ c a ha)
/-- After `main_part1_ops8`. -/
abbrev W37 : Dev nD → Valuation τ sig (Elt F) := fun c => StableHlo.after main_part1_ops8 (W36 m ρ c)
theorem W37_of (c : Dev nD) (r : Ref sig .tc) (h : r ∉ main_part1_ops8_W) : W37 m ρ c (Proc.devRef .tc r) = W36 m ρ c (Proc.devRef .tc r) :=
  StableHlo.after_of_writes_sub main_part1_ops8 _ main_part1_ops8_writes h
theorem W37_args (c : Dev nD) : ∀ a ∈ argRefs, W37 m ρ c (Proc.devRef .tc a) = m ((c : Thread nD τ).loc a) :=
  fun a ha => (W37_of m ρ c a ((ListAll.forall_mem_of_all_decide (by decide +kernel) : ∀ a ∈ argRefs, a ∉ main_part1_ops8_W) a ha)).trans (W36_args m ρ c a ha)
/-- After `main_part1_ops9`. -/
abbrev W38 : Dev nD → Valuation τ sig (Elt F) := fun c => StableHlo.after main_part1_ops9 (W37 m ρ c)
theorem W38_of (c : Dev nD) (r : Ref sig .tc) (h : r ∉ main_part1_ops9_W) : W38 m ρ c (Proc.devRef .tc r) = W37 m ρ c (Proc.devRef .tc r) :=
  StableHlo.after_of_writes_sub main_part1_ops9 _ main_part1_ops9_writes h
theorem W38_args (c : Dev nD) : ∀ a ∈ argRefs, W38 m ρ c (Proc.devRef .tc a) = m ((c : Thread nD τ).loc a) :=
  fun a ha => (W38_of m ρ c a ((ListAll.forall_mem_of_all_decide (by decide +kernel) : ∀ a ∈ argRefs, a ∉ main_part1_ops9_W) a ha)).trans (W37_args m ρ c a ha)
/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V29 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem flagOp_sub : (flagOp (F := F)).bufs ⊆ Pipeline.ucRefs τ sig := Pipeline.sub_ucRefs _ (StableHlo.unary_bufs_sub ..)
/-- The branch is the flag's reading followed by one of the two lists. -/
theorem caseProg_eq : (caseProg (F := F)) = (hlo rfl flagOp (HostLoop.elt main_v15) >>= fun x => HostLoop.case 2 x caseArm) := by
  unfold caseProg
  refine congrArg (Bind.bind _) (funext fun x => congrArg (HostLoop.case 2 x) (funext fun i => ?_))
  match i with
  | 0 => rfl
  | 1 => rfl
set_option backward.isDefEq.respectTransparency.types false in
/-- The branch as a segment: the flag is read, then the chosen side runs. -/
def caseSeg (W : Dev nD → Valuation τ sig (Elt F)) :
    Pipeline.HostSeg (Name := ℕ) (U := UR sig nD τ) (pcfgs (F := F)) defs₀ 𝒱₀ L lv where
  prog := caseProg
  pre c := iprop(StableHlo.held (c : Thread nD τ) (Pipeline.ucRefs τ sig) (W c) ∗ R c)
  post c := iprop(StableHlo.held (c : Thread nD τ) (Pipeline.ucRefs τ sig) (afterCase (W c)) ∗ R c)
  run c β k K := by
    have hseq := StableHlo.wp_seq (defs := Pipeline.defs (pcfgs (F := F)) defs₀) (Variants.lift 𝒱₀) none Set.univ c (Pipeline.ucRefs τ sig) k (K := K)
      (caseOps (HostLoop.branch (flagWord (W c)) 1))
      (fun op h => Pipeline.sub_ucRefs op ((List.forall_iff_forall_mem.mp (caseOps_sub _)) op h))
      (fun op h => (List.forall_iff_forall_mem.mp (caseOps_fresh _)) op h) (flagOp.result (W c))
    rw [caseProg_eq, Prog.bind_assoc, wp_bind]
    iintro ⟨Hk, Hbd, ⟨Hh, HR⟩, -⟩
    iapply (StableHlo.wp_hlo_within (Variants.lift 𝒱₀) (c : Thread nD τ) none Set.univ flagOp_sub) $$ [Hbd Hh]
    · isplitl [Hbd] <;> iassumption
    iintro ⟨Hbd, Hh⟩
    rw [HostLoop.elt_apply, wp_ret]; imodintro
    rw [HostLoop.case_succ]
    iapply hseq $$ [Hbd Hh]
    · isplitl [Hbd] <;> iassumption
    iintro ⟨Hbd, Hh⟩
    iapply Hk
    isplitl [Hbd]; · iexact Hbd
    unfold afterCase
    isplitl [Hh] <;> iassumption

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W38`, the generator register at some state. -/
abbrev Tₙ (c : Dev nD) : sProp 𝕄 := iprop(StableHlo.held (c : Thread nD τ) (Pipeline.ucRefs τ sig) (W38 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W29`, left at `W30`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V29 m ρ) c).loose
  hwaits := Pipeline.hwaits_of_owed_zero _ _ _ _ L lv 1 fun _ _ => rfl
  pre c := iprop(StableHlo.held (c : Thread nD τ) (Pipeline.ucRefs τ sig) (W29 m ρ c) ∗ R c)
  post c := iprop(StableHlo.held (c : Thread nD τ) (Pipeline.ucRefs τ sig) (W30 m ρ c) ∗ R c)
  X c := iprop(∃ r, prngReg c r)
  Y c := iprop(∃ r, prngReg c r)
  Z c := Pipeline.unscopedRest (Ix := Unit) (Name := ℕ) (U := UR sig nD τ) (Lvl := ℕ) spec1 c (V29 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V29 m ρ c) (A_eq1 (V29 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V29 m ρ c) (V30 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 36 segments in order: a host segment per stretch from its boundary's contents, a region per pallas_call. -/
abbrev segs : List (Pipeline.Seg (pcfgs (F := F)) adm (pdats m ρ) () defs₀ 𝒱₀ L lv) :=
  (.host (hseg main_part0_ops0 main_part0_ops0_sub main_part0_ops0_fresh (W0 m ρ)) ::
    .region (reg0 m ρ) ::
    .host (hseg main_part0_ops1 main_part0_ops1_sub main_part0_ops1_fresh (W2 m ρ)) ::
    .host (hseg main_part0_ops2 main_part0_ops2_sub main_part0_ops2_fresh (W3 m ρ)) ::
    .host (hseg main_part0_ops3 main_part0_ops3_sub main_part0_ops3_fresh (W4 m ρ)) ::
    .host (caseSeg (W5 m ρ)) ::
    .host (hseg main_part0_ops4 main_part0_ops4_sub main_part0_ops4_fresh (W6 m ρ)) ::
    .host (hseg main_part0_ops5 main_part0_ops5_sub main_part0_ops5_fresh (W7 m ρ)) ::
    .host (hseg main_part0_ops6 main_part0_ops6_sub main_part0_ops6_fresh (W8 m ρ)) ::
    .host (hseg main_part0_ops7 main_part0_ops7_sub main_part0_ops7_fresh (W9 m ρ)) ::
    .host (hseg main_part0_ops8 main_part0_ops8_sub main_part0_ops8_fresh (W10 m ρ)) ::
    .host (hseg main_part0_ops9 main_part0_ops9_sub main_part0_ops9_fresh (W11 m ρ)) ::
    .host (hseg main_part0_ops10 main_part0_ops10_sub main_part0_ops10_fresh (W12 m ρ)) ::
    .host (hseg main_part0_ops11 main_part0_ops11_sub main_part0_ops11_fresh (W13 m ρ)) ::
    .host (hseg main_part0_ops12 main_part0_ops12_sub main_part0_ops12_fresh (W14 m ρ)) ::
    .host (hseg main_part0_ops13 main_part0_ops13_sub main_part0_ops13_fresh (W15 m ρ)) ::
    .host (hseg main_part0_ops14 main_part0_ops14_sub main_part0_ops14_fresh (W16 m ρ)) ::
    .host (hseg main_part0_ops15 main_part0_ops15_sub main_part0_ops15_fresh (W17 m ρ)) ::
    .host (hseg main_part0_ops16 main_part0_ops16_sub main_part0_ops16_fresh (W18 m ρ)) ::
    .host (hseg main_part0_ops17 main_part0_ops17_sub main_part0_ops17_fresh (W19 m ρ)) ::
    .host (hseg main_part0_ops18 main_part0_ops18_sub main_part0_ops18_fresh (W20 m ρ)) ::
    .host (hseg main_part0_ops19 main_part0_ops19_sub main_part0_ops19_fresh (W21 m ρ)) ::
    .host (hseg main_part0_ops20 main_part0_ops20_sub main_part0_ops20_fresh (W22 m ρ)) ::
    .host (hseg main_part0_ops21 main_part0_ops21_sub main_part0_ops21_fresh (W23 m ρ)) ::
    .host (hseg main_part0_ops22 main_part0_ops22_sub main_part0_ops22_fresh (W24 m ρ)) ::
    .host (hseg main_part0_ops23 main_part0_ops23_sub main_part0_ops23_fresh (W25 m ρ)) ::
    .host (hseg main_part0_ops24 main_part0_ops24_sub main_part0_ops24_fresh (W26 m ρ)) ::
    .host (hseg main_part1_ops0 main_part1_ops0_sub main_part1_ops0_fresh (W27 m ρ)) ::
    .host (hseg main_part1_ops1 main_part1_ops1_sub main_part1_ops1_fresh (W28 m ρ)) ::
    .region (reg1 m ρ) ::
    .host (hseg main_part1_ops2 main_part1_ops2_sub main_part1_ops2_fresh (W30 m ρ)) ::
    .host (hseg main_part1_ops3 main_part1_ops3_sub main_part1_ops3_fresh (W31 m ρ)) ::
    .host (hseg main_part1_ops4 main_part1_ops4_sub main_part1_ops4_fresh (W32 m ρ)) ::
    .host (hseg main_part1_ops5 main_part1_ops5_sub main_part1_ops5_fresh (W33 m ρ)) ::
    .host (hseg main_part1_ops6 main_part1_ops6_sub main_part1_ops6_fresh (W34 m ρ)) ::
    .host (hseg main_part1_ops7 main_part1_ops7_sub main_part1_ops7_fresh (W35 m ρ)) ::
    .host (hseg main_part1_ops8 main_part1_ops8_sub main_part1_ops8_fresh (W36 m ρ)) ::
    .host (hseg main_part1_ops9 main_part1_ops9_sub main_part1_ops9_fresh (W37 m ρ)) :: [])
/-- @main IS the run of the segments: `Gen.main_chain`, then the segments' run against that chain by the kernel's
    definitional check (`chain_rfl`). -/
theorem main_run (c : Dev nD) : main (F := F) c = Pipeline.Seg.run (segs m ρ) := (main_chain_windows c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- Every buffer outside the scoped ones ends at the last boundary's contents, and every counter at zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W38 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W38 m ρ c b)
    (hfin := fun c s' => by
      iintro ⟨⟨Hh, -⟩, HSI⟩
      unfold StableHlo.held
      imodintro
      iapply (pointsTo_read_all (Pipeline.ucRefs τ sig) (fun b => (((c : Thread nD τ)).1, b)) (W38 m ρ c) s')
      isplitl [Hh] <;> iassumption)
    (hQ := fun s h hz => ⟨h, funext fun g => hz g (.inr (no_unscoped g.2))⟩)

/-- The program ends with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨(h.1 c _ (mem_uc main_arg0 (by decide))).trans (W38_args m ρ c main_arg0 (by decide)),
     (h.1 c _ (mem_uc main_arg1 (by decide))).trans (W38_args m ρ c main_arg1 (by decide)),
     (h.1 c _ (mem_uc main_arg2 (by decide))).trans (W38_args m ρ c main_arg2 (by decide))⟩, h.2⟩) (run m ρ)

end Run
end Cert.KernelIdeal.Gen

end
-- ==== Proof.KernelSame.lean ====
module

public import proofs.«01_k».proof.Defs
public import proofs.«01_k».proof.Proof.Gen.Kernel
public import proofs.«01_k».proof.Proof.KernelIdealRun

/-! The kernel as printed and the kernel as read at extended reals are the same program text: each definition of the one
is the other's, so what is proved of the second at any instance of the floats holds of the first. -/

@[expose] public section

set_option maxRecDepth 100000

noncomputable section

namespace Cert.Same

open Idealize.ShloMosaic Idealize.SL.Sem

variable {F : FTy → Type} [FloatOps F] [A : Cert.Kernel.Facts] [B : Cert.KernelIdeal.Facts]

theorem chunk_eq : @Cert.Kernel.cc0__chunk_topk_kernel F _ A = @Cert.KernelIdeal.cc0__chunk_topk_kernel F _ B := by
  unfold Cert.Kernel.cc0__chunk_topk_kernel Cert.KernelIdeal.cc0__chunk_topk_kernel
  rfl
theorem nms_eq : @Cert.Kernel.cc1__nms_kernel F _ A = @Cert.KernelIdeal.cc1__nms_kernel F _ B := by
  unfold Cert.Kernel.cc1__nms_kernel Cert.KernelIdeal.cc1__nms_kernel
  rfl
theorem cfg0_eq : @Cert.Kernel.cfg0 A = @Cert.KernelIdeal.cfg0 B := rfl
theorem cfg1_eq : @Cert.Kernel.cfg1 A = @Cert.KernelIdeal.cfg1 B := rfl
theorem cfgs_eq : @Cert.Kernel.cfgs A = @Cert.KernelIdeal.cfgs B := by
  funext p
  match p with
  | 0 => exact cfg0_eq
  | 1 => exact cfg1_eq
theorem pcfgs_eq : @Cert.Kernel.pcfgs F A = @Cert.KernelIdeal.pcfgs F B := by
  funext p
  exact congrArg (fun c => Pipeline.Cfg.toPCfg (c p)) cfgs_eq
/-- The kernels' bodies. -/
theorem bodies_eq : @Cert.Kernel.defs₀ F _ A = @Cert.KernelIdeal.defs₀ F _ B := by
  unfold Cert.Kernel.defs₀ Cert.KernelIdeal.defs₀
  refine congrArg Defs.onTc ?_
  funext l x
  match l, x with
  | 0, (t, s) => exact congrFun (congrFun (congrFun (congrFun (congrFun (congrFun (congrFun chunk_eq _) _) _) _) _) _) _
  | 1, (t, s) =>
    dsimp only
    rw [nms_eq]; rfl
theorem defs_eq : @Cert.Kernel.defs F _ A = @Cert.KernelIdeal.defs F _ B := by
  unfold Cert.Kernel.defs Cert.KernelIdeal.defs
  exact congrArg (Pipeline.defs (@Cert.KernelIdeal.pcfgs F B)) bodies_eq
set_option maxHeartbeats 0 in
theorem main_eq : @Cert.Kernel.main F _ A = @Cert.KernelIdeal.main F _ B := rfl

/-- The printed kernel's frame is the other's. -/
theorem frame (m : (ℓ : Loc Cert.Kernel.nD Cert.Kernel.τ Cert.Kernel.sig) → Buf (Elt F) ℓ) (g : Dev Cert.Kernel.nD → PrngReg) :
    θ_run (@Cert.Kernel.defs F _ A) (onTc (τ := Cert.Kernel.τ) (@Cert.Kernel.main F _ A)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) := by
  rw [defs_eq (B := Cert.KernelIdeal.Gen.facts), main_eq (B := Cert.KernelIdeal.Gen.facts)]
  exact Cert.KernelIdeal.Gen.frame (F := F) m g

end Cert.Same

end
-- ==== Proof.ReferenceFrame.lean ====
module

public import proofs.«01_k».proof.Defs
public import proofs.«01_k».proof.Proof.Gen.ReferenceIdeal.Run

/-! What every buffer of the reference holds at its boundaries, and that its arguments end unchanged. -/

@[expose] public section

set_option maxRecDepth 16384

noncomputable section

namespace Cert.ReferenceIdeal.Value

open Idealize.ShloMosaic Idealize.ShloMosaic.TcCoe Idealize.ShloMosaic.StableHlo
open Idealize.SL.Sem Cert.ReferenceIdeal.Gen

variable {F : FTy → Type} [FloatOps F]

/-- What `hostOps0_5` writes, in order. -/
abbrev hostOps0_5_W : List (Ref sig .tc) := [main_v132, main_v133, main_c_13]
theorem hostOps0_5_writes : (hostOps0_5 : List (HloOp τ sig (Elt F))).Forall fun op => op.writes ⊆ (hostOps0_5_W.map (Proc.devRef (τ := τ) .tc)).toFinset :=
  StableHlo.forall_writes_sub_of_map rfl
/-- What `hostOps0_6` writes, in order. -/
abbrev hostOps0_6_W : List (Ref sig .tc) := [main_call4_v0, main_call4_v1, main_call4_v2, main_v134]
theorem hostOps0_6_writes : (hostOps0_6 : List (HloOp τ sig (Elt F))).Forall fun op => op.writes ⊆ (hostOps0_6_W.map (Proc.devRef (τ := τ) .tc)).toFinset :=
  StableHlo.forall_writes_sub_of_map rfl
/-- What `hostOps0_7` writes, in order. -/
abbrev hostOps0_7_W : List (Ref sig .tc) := [main_v135]
theorem hostOps0_7_writes : (hostOps0_7 : List (HloOp τ sig (Elt F))).Forall fun op => op.writes ⊆ (hostOps0_7_W.map (Proc.devRef (τ := τ) .tc)).toFinset :=
  StableHlo.forall_writes_sub_of_map rfl
/-- What `hostOps0_8` writes, in order. -/
abbrev hostOps0_8_W : List (Ref sig .tc) := [main_v136, main_c_14, main_v137, main_v138, main_c_15]
theorem hostOps0_8_writes : (hostOps0_8 : List (HloOp τ sig (Elt F))).Forall fun op => op.writes ⊆ (hostOps0_8_W.map (Proc.devRef (τ := τ) .tc)).toFinset :=
  StableHlo.forall_writes_sub_of_map rfl
/-- What `hostOps0_9` writes, in order. -/
abbrev hostOps0_9_W : List (Ref sig .tc) := [main_call6_v0, main_call6_v1, main_v139]
theorem hostOps0_9_writes : (hostOps0_9 : List (HloOp τ sig (Elt F))).Forall fun op => op.writes ⊆ (hostOps0_9_W.map (Proc.devRef (τ := τ) .tc)).toFinset :=
  StableHlo.forall_writes_sub_of_map rfl
/-- What `hostOps0_10` writes, in order. -/
abbrev hostOps0_10_W : List (Ref sig .tc) := [main_v140]
theorem hostOps0_10_writes : (hostOps0_10 : List (HloOp τ sig (Elt F))).Forall fun op => op.writes ⊆ (hostOps0_10_W.map (Proc.devRef (τ := τ) .tc)).toFinset :=
  StableHlo.forall_writes_sub_of_map rfl
/-- What `hostOps0_11` writes, in order. -/
abbrev hostOps0_11_W : List (Ref sig .tc) := [main_call7_c, main_call7_v0, main_call7_v1, main_call7_c_0, main_call7_v2, main_call7_v3, main_call7_v4, main_call7_c_1, main_call7_c_2, main_call7_v5, main_call7_v6, main_call7_v7, main_call7_v8, main_call7_v9, main_call7_v10, main_call7_c_3, main_call7_v11, main_call7_v12, main_call7_v13, main_call7_cst, main_call7_v14, main_v141]
theorem hostOps0_11_writes : (hostOps0_11 : List (HloOp τ sig (Elt F))).Forall fun op => op.writes ⊆ (hostOps0_11_W.map (Proc.devRef (τ := τ) .tc)).toFinset :=
  StableHlo.forall_writes_sub_of_map rfl
/-- What `hostOps0_12` writes, in order. -/
abbrev hostOps0_12_W : List (Ref sig .tc) := [main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_cst, main_call8_v14, main_v142]
theorem hostOps0_12_writes : (hostOps0_12 : List (HloOp τ sig (Elt F))).Forall fun op => op.writes ⊆ (hostOps0_12_W.map (Proc.devRef (τ := τ) .tc)).toFinset :=
  StableHlo.forall_writes_sub_of_map rfl

variable (m : (ℓ : Loc nD τ sig) → Buf (Elt F) ℓ)

/-- A reference that no stretch before the loop writes is as launched at the loop's entry. -/
theorem entry_keep (c : Dev nD) (r : Ref sig .tc) (h : r ∉ hostOps0_W ++ hostOps0_1_W ++ hostOps0_2_W ++ hostOps0_3_W ++ hostOps0_4_W) :
    entryContents preI m c (Proc.devRef .tc r) = launchContents m c (Proc.devRef .tc r) := by
  simp only [List.mem_append, not_or] at h
  simp only [entryContents, preI, afterL_cons, afterL_nil]
  rw [after_of_writes_sub _ _ hostOps0_4_writes h.2, after_of_writes_sub _ _ hostOps0_3_writes h.1.2, after_of_writes_sub _ _ hostOps0_2_writes h.1.1.2,
    after_of_writes_sub _ _ hostOps0_1_writes h.1.1.1.2, after_of_writes_sub _ _ hostOps0_writes h.1.1.1.1]
/-- A reference that neither the condition nor the body writes is as at the loop's entry on every trip. -/
theorem atK_keep (c : Dev nD) (r : Ref sig .tc) (h : r ∉ condOps_W ++ while0Ops0_W ++ while0Ops0_1_W ++ while0Ops0_2_W ++ while0Ops0_3_W ++ while0Ops0_4_W) :
    ∀ k, atK m k c (Proc.devRef .tc r) = entryContents preI m c (Proc.devRef .tc r)
  | 0 => rfl
  | k + 1 => by
    refine Eq.trans ?_ (atK_keep c r h k)
    simp only [List.mem_append, not_or] at h
    simp only [atK, atTrip_succ, bodyI, afterL_cons, afterL_nil]
    rw [after_of_writes_sub _ _ while0Ops0_4_writes h.2, after_of_writes_sub _ _ while0Ops0_3_writes h.1.2, after_of_writes_sub _ _ while0Ops0_2_writes h.1.1.2,
      after_of_writes_sub _ _ while0Ops0_1_writes h.1.1.1.2, after_of_writes_sub _ _ while0Ops0_writes h.1.1.1.1.2, after_of_writes_sub _ _ condOps_writes h.1.1.1.1.1]

/-- Core `c`'s buffers once the loop is done. -/
abbrev exitContents (c : Dev nD) : Valuation τ sig (Elt F) := after condOps (atK m 2000 c)
theorem exit_keep (c : Dev nD) (r : Ref sig .tc) (h : r ∉ condOps_W) : exitContents m c (Proc.devRef .tc r) = atK m 2000 c (Proc.devRef .tc r) :=
  after_of_writes_sub _ _ condOps_writes h
abbrev final (c : Dev nD) : Valuation τ sig (Elt F) := finalContents condOps preI bodyI postI 2000 m c
/-- A reference that no stretch after the loop writes is as at the loop's exit. -/
theorem final_keep (c : Dev nD) (r : Ref sig .tc) (h : r ∉ hostOps0_5_W ++ hostOps0_6_W ++ hostOps0_7_W ++ hostOps0_8_W ++ hostOps0_9_W ++ hostOps0_10_W ++ hostOps0_11_W ++ hostOps0_12_W) :
    final m c (Proc.devRef .tc r) = exitContents m c (Proc.devRef .tc r) := by
  simp only [List.mem_append, not_or] at h
  simp only [final, finalContents, postI, afterL_cons, afterL_nil]
  rw [after_of_writes_sub _ _ hostOps0_12_writes h.2, after_of_writes_sub _ _ hostOps0_11_writes h.1.2, after_of_writes_sub _ _ hostOps0_10_writes h.1.1.2,
    after_of_writes_sub _ _ hostOps0_9_writes h.1.1.1.2, after_of_writes_sub _ _ hostOps0_8_writes h.1.1.1.1.2, after_of_writes_sub _ _ hostOps0_7_writes h.1.1.1.1.1.2,
    after_of_writes_sub _ _ hostOps0_6_writes h.1.1.1.1.1.1.2, after_of_writes_sub _ _ hostOps0_5_writes h.1.1.1.1.1.1.1]
/-- An argument ends as launched. -/
theorem final_arg (c : Dev nD) (r : Ref sig .tc) (hr : r = main_arg0 ∨ r = main_arg1 ∨ r = main_arg2) :
    final m c (Proc.devRef .tc r) = m ((c.tc : Thread nD τ).loc r) := by
  have h1 : r ∉ hostOps0_5_W ++ hostOps0_6_W ++ hostOps0_7_W ++ hostOps0_8_W ++ hostOps0_9_W ++ hostOps0_10_W ++ hostOps0_11_W ++ hostOps0_12_W := by
    rcases hr with rfl | rfl | rfl <;> decide +kernel
  have h2 : r ∉ condOps_W ++ while0Ops0_W ++ while0Ops0_1_W ++ while0Ops0_2_W ++ while0Ops0_3_W ++ while0Ops0_4_W := by
    rcases hr with rfl | rfl | rfl <;> decide +kernel
  have h3 : r ∉ hostOps0_W ++ hostOps0_1_W ++ hostOps0_2_W ++ hostOps0_3_W ++ hostOps0_4_W := by
    rcases hr with rfl | rfl | rfl <;> decide +kernel
  have h4 : r ∉ condOps_W := by
    rcases hr with rfl | rfl | rfl <;> decide +kernel
  rw [final_keep m c r h1, exit_keep m c r h4, atK_keep m c r h2, entry_keep m c r h3]

/-- The reference ends with its arguments unchanged; it has no semaphore. -/
theorem frame (ρ : Dev nD → PrngReg) : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c =>
    ⟨(h c main_arg0 (by decide)).trans (final_arg m c _ (.inl rfl)), (h c main_arg1 (by decide)).trans (final_arg m c _ (.inr (.inl rfl))),
      (h c main_arg2 (by decide)).trans (final_arg m c _ (.inr (.inr rfl)))⟩, sem_eq_zero_of_no_sems (by decide) r.2⟩) (run_fold m ρ)

end Cert.ReferenceIdeal.Value

end
-- ==== Proof.ChunkRounds.lean ====
module

public import proofs.«01_k».proof.Proof.KernelIdealChunk

/-! The first region's two outputs as families over the slab and the round: the body takes eight slabs of 256 chunks, and on
each slab sixteen rounds, all by the same three functions of what is left of the slab. -/

@[expose] public section

set_option maxRecDepth 100000

noncomputable section

namespace Cert.KernelIdeal.Rounds

open Idealize.ShloMosaic Cert.KernelIdeal Cert.KernelIdeal.Gen

variable {F : FTy → Type} [FloatOps F]

/-- The lane of each entry. -/
abbrev lanes : IVec S256x512 32 := iota .tc S256x512 32 [1] iota_S256x512_d1_w32
/-- Each chunk's greatest entry. -/
def rowMax (y : FVec F S256x512 .f32) : FVec F S256x1 .f32 :=
  shapeCast S256x1 (multiReduction .maximumf [1] S256 y 0xFF800000#32 reduces_S256x512_S256 (.inl rfl) rfl) shapeCasts_S256_S256x1
/-- The first lane that holds it. -/
def rowArg (y : FVec F S256x512 .f32) : IVec S256x1 32 :=
  shapeCast S256x1 (multiReductionI .minsi [1] S256 (select (cmpf .oeq y (broadcastTo S256x512 (rowMax y) broadcasts_S256x1_S256x512))
    lanes (broadcast S256x512 512#32)) 2147483647#32 reduces_S256x512_S256 rfl) shapeCasts_S256_S256x1
/-- What is left when that lane is put at −∞. -/
def dropped (y : FVec F S256x512 .f32) : FVec F S256x512 .f32 :=
  select (cmpi .eq lanes (broadcastTo S256x512 (rowArg y) broadcasts_S256x1_S256x512))
    (broadcast S256x512 (Scalar.ofBits .f32 0xFF800000#32)) y

theorem slab_inb (q : Fin 8) : ∀ a, (![0, 256 * q.val, 0] : Fin 3 → Nat) a + S1x256x512.size a ≤ S1x2048x512.size a := by
  intro a
  have := q.isLt
  match a with
  | 0 => show 0 + 1 ≤ 1; omega
  | 1 => show 256 * q.val + 256 ≤ 2048; omega
  | 2 => show 0 + 512 ≤ 512; omega
/-- A slab of 256 chunks. -/
def slab (x0 : Vec F S1x2048x512 .f32) (q : Fin 8) : FVec F S256x512 .f32 :=
  shapeCast S256x512 (View.ld x0 (Rect.unit (s := S1x2048x512) ![0, 256 * q.val, 0] S1x256x512.size (slab_inb q)))
    shapeCasts_S1x256x512_S256x512
/-- What is left of a slab at the start of a round. -/
def left (x0 : Vec F S1x2048x512 .f32) (q : Fin 8) (r : ℕ) : FVec F S256x512 .f32 :=
  Nat.rec (slab x0 q) (fun _ y => dropped y) r
/-- The position of each chunk's lane 0 in the image's flat scores. -/
def base (q : Fin 8) : IVec S256x1 32 :=
  muli (addi (iota .tc S256x1 32 [0] iota_S256x1_d0_w32) (broadcast S256x1 (BitVec.ofNat 32 (256 * q.val)))) (broadcast S256x1 512#32)

/-- The slab and the round of the `k`-th store from the last. -/
def slabOf (k : Fin 128) : Fin 8 := ⟨(127 - k.val) / 16, by omega⟩
def roundOf (k : Fin 128) : ℕ := (127 - k.val) % 16
theorem out_inb (k : Fin 128) : ∀ a, (![0, 256 * (slabOf k).val, roundOf k] : Fin 3 → Nat) a + S1x256x1.size a ≤ S1x2048x16.size a := by
  intro a
  have := (slabOf k).isLt
  have h : roundOf k < 16 := Nat.mod_lt _ (by decide)
  match a with
  | 0 => show 0 + 1 ≤ 1; omega
  | 1 => show 256 * (slabOf k).val + 256 ≤ 2048; omega
  | 2 => show roundOf k + 1 ≤ 16; omega

/-- The first output, store by store. -/
theorem out0_1_eq (x0 : Vec F S1x2048x512 .f32) : out0_1 x0 = View.canon (List.ofFn fun k : Fin 128 =>
    (⟨Rect.unit (s := S1x2048x16) ![0, 256 * (slabOf k).val, roundOf k] S1x256x1.size (out_inb k),
      shapeCast S1x256x1 (rowMax (left x0 (slabOf k) (roundOf k))) shapeCasts_S256x1_S1x256x1⟩ : View.Piece (Elt F) S1x2048x16 .f32)) := by
  rfl
/-- The second output, store by store. -/
theorem out0_2_eq (x0 : Vec F S1x2048x512 .f32) : out0_2 x0 = View.canon (List.ofFn fun k : Fin 128 =>
    (⟨Rect.unit (s := S1x2048x16) ![0, 256 * (slabOf k).val, roundOf k] S1x256x1.size (out_inb k),
      shapeCast S1x256x1 (addi (base (slabOf k)) (rowArg (left x0 (slabOf k) (roundOf k)))) shapeCasts_S256x1_S1x256x1⟩ : View.Piece (Elt F) S1x2048x16 .i32)) := by
  rfl

end Cert.KernelIdeal.Rounds

end
-- ==== Proof.ChunkSelect.lean ====
module

public import Idealize.ShloMosaic.Lib.SortPrefix
public import Mathlib.Data.EReal.Basic

/-! The `k` greatest of a long row from the few greatest of each of its chunks. A chunk's greatest entries are taken one
round at a time, each round removing what it took. If the last round of every chunk finds less than the `k`-th greatest
candidate, then the stable descending sort of all candidates starts with the entries, in the order, of the stable descending
sort of the whole row. -/

@[expose] public section

noncomputable section

namespace Cert.Select

open Idealize.ShloMosaic

/-- Position `k` sorts before `k'`: its entry is greater. -/
def greater {n : ℕ} (x : Fin n → EReal) (k k' : Fin n) : Bool := decide (x k' < x k)
/-- The same with ties broken by position. -/
def greaterFirst {n : ℕ} (x : Fin n → EReal) (k k' : Fin n) : Bool :=
  decide (x k' < x k) || (decide (x k = x k') && decide (k < k'))

theorem greaterFirst_total {n : ℕ} (x : Fin n → EReal) : StrictTotalBefore (greaterFirst x) :=
  StrictTotalBefore.of_key_then_position (fun a b => decide (b < a)) x (fun a => by simp)
    (fun a b c h h' => by simp only [decide_eq_true_eq] at h h' ⊢; exact h'.trans h)
    (fun a b => by
      simp only [decide_eq_true_eq]
      rcases lt_trichotomy a b with h | h | h
      · exact .inr (.inr h)
      · exact .inr (.inl h)
      · exact .inl h)

/-- Two relations that agree on `b` against every earlier `a` insert alike. -/
theorem insertBefore_congr {ι : Type} {B B' : ι → ι → Bool} (a : ι) (l : List ι) (h : ∀ b ∈ l, B b a = B' b a) :
    insertBefore B a l = insertBefore B' a l := by
  induction l with
  | nil => rfl
  | cons b l ih =>
    unfold insertBefore
    rw [h b (by simp), ih fun c hc => h c (by simp [hc])]

theorem stableSort_congr {ι : Type} {B B' : ι → ι → Bool} (l : List ι) (h : l.Pairwise fun a b => B b a = B' b a) :
    stableSort B l = stableSort B' l := by
  induction l with
  | nil => rfl
  | cons a l ih =>
    rw [List.pairwise_cons] at h
    unfold stableSort
    rw [ih h.2]
    exact insertBefore_congr a _ fun b hb => h.1 b ((perm_stableSort B' l).mem_iff.mp hb)

/-- The stable sort by the greater entry is the sort by the greater entry and then the position. -/
theorem sortedFrom_greater {n : ℕ} (x : Fin n → EReal) : sortedFrom (greater x) = sortedFrom (greaterFirst x) := by
  have h : sortPositions n (greater x) = sortPositions n (greaterFirst x) := by
    refine stableSort_congr _ ?_
    refine (List.pairwise_lt_finRange n).imp fun {a b} hab => ?_
    have : ¬ b < a := not_lt.mpr hab.le
    simp [greater, greaterFirst, this]
  funext k
  unfold sortedFrom
  simp only [List.get_eq_getElem, h]
  rfl

theorem sortedFrom_before {n : ℕ} {B : Fin n → Fin n → Bool} (hB : StrictTotalBefore B) (i j : Fin n) (hij : i < j) :
    B (sortedFrom B i) (sortedFrom B j) = true := by
  have h := sortedFrom_noInversion B B (fun a b h => hB.asymm a b h) (fun _ _ h => h) hB.negTrans i j hij
  rcases hB.total (sortedFrom B i) (sortedFrom B j) fun e => hij.ne (sortedFrom_injective B e) with h' | h'
  · exact h'
  · rw [h'] at h; exact absurd h (by decide)

/-- What the rounds on one chunk do: round `r` finds the greatest `m r` of what is left, `y r`, at its first lane `a r`, and
leaves `y (r + 1)` with that lane at −∞. -/
structure Rounds {n : ℕ} (x : Fin n → EReal) (y : ℕ → Fin n → EReal) (m : ℕ → EReal) (a : ℕ → Fin n) : Prop where
  start : y 0 = x
  next : ∀ r l, y (r + 1) l = if l = a r then ⊥ else y r l
  le : ∀ r l, y r l ≤ m r
  at_pick : ∀ r, y r (a r) = m r
  first : ∀ r l, y r l = m r → a r ≤ l

namespace Rounds

variable {n : ℕ} {x : Fin n → EReal} {y : ℕ → Fin n → EReal} {m : ℕ → EReal} {a : ℕ → Fin n} (H : Rounds x y m a)
include H

theorem y_le (r : ℕ) (l : Fin n) : y (r + 1) l ≤ y r l := by
  rw [H.next]; split
  · exact bot_le
  · exact le_rfl
theorem y_anti {r s : ℕ} (h : r ≤ s) (l : Fin n) : y s l ≤ y r l := by
  induction s, h using Nat.le_induction with
  | base => exact le_rfl
  | succ s _ ih => exact (H.y_le s l).trans ih
theorem m_anti {r s : ℕ} (h : r ≤ s) : m s ≤ m r := by
  rw [← H.at_pick s]; exact (H.y_anti h _).trans (H.le r _)
/-- A lane taken in an earlier round stays at −∞. -/
theorem y_taken {r s : ℕ} (h : r < s) : y s (a r) = ⊥ := by
  refine le_bot_iff.mp ((H.y_anti h (a r)).trans ?_)
  rw [H.next, if_pos rfl]
/-- A lane not taken keeps its entry. -/
theorem y_kept (s : ℕ) (l : Fin n) (h : ∀ r < s, a r ≠ l) : y s l = x l := by
  induction s with
  | zero => rw [H.start]
  | succ s ih =>
    rw [H.next, if_neg fun e => h s (Nat.lt_succ_self s) e.symm]
    exact ih fun r hr => h r (hr.trans (Nat.lt_succ_self s))
/-- A round that finds more than −∞ finds a lane not taken before. -/
theorem ne_of_lt {r s : ℕ} (h : r < s) (hs : ⊥ < m s) : a r ≠ a s := by
  intro e
  have := H.y_taken h
  rw [e, H.at_pick] at this
  exact absurd this hs.ne'
theorem x_pick {r : ℕ} (hr : ⊥ < m r) : x (a r) = m r := by
  rw [← H.at_pick r, H.y_kept r (a r) fun s hs => H.ne_of_lt hs hr]
/-- Of two rounds that find the same, the earlier finds the lower lane. -/
theorem pick_lt {r s : ℕ} (h : r < s) (e : m r = m s) (hs : ⊥ < m s) : a r < a s := by
  refine lt_of_le_of_ne (H.first r (a s) ?_) (H.ne_of_lt h hs)
  rw [H.y_kept r (a s) fun t ht => H.ne_of_lt (ht.trans h) hs, H.x_pick hs, e]
/-- A lane with more than the last round's find was taken in an earlier round, which found its entry. -/
theorem taken_of_lt {t : ℕ} {l : Fin n} (h : m t < x l) : ∃ r, r < t ∧ a r = l ∧ m r = x l := by
  by_cases hl : ∃ r, r < t ∧ a r = l
  · classical
    let r := Nat.find hl
    have hr := Nat.find_spec hl
    refine ⟨r, hr.1, hr.2, ?_⟩
    rw [← H.at_pick r, hr.2]
    exact H.y_kept r l fun s hs e => Nat.find_min hl hs ⟨hs.trans hr.1, e⟩
  · refine absurd (H.le t l) (not_le.mpr ?_)
    rw [H.y_kept t l fun r hr e => hl ⟨r, hr, e⟩]
    exact h

end Rounds

/-- A lexicographic position: chunk, then lane. -/
theorem pos_lt {c q q' l l' : ℕ} (hl : l < c) (h : q < q') : q * c + l < q' * c + l' := by
  have : (q + 1) * c ≤ q' * c := Nat.mul_le_mul_right c h
  have e : (q + 1) * c = q * c + c := by ring
  omega

/-- A lane's position lies in the row. -/
theorem lane_bound {Q C q l : ℕ} (hq : q < Q) (hl : l < C) : q * C + l < Q * C := by
  have h : (q + 1) * C ≤ Q * C := Nat.mul_le_mul_right C hq
  have e : (q + 1) * C = q * C + C := by ring
  omega
theorem div_bound {Q C p : ℕ} (h : p < Q * C) : p / C < Q :=
  Nat.div_lt_of_lt_mul ((mul_comm Q C) ▸ h)

section chunks

variable {Q C R K : ℕ}
variable (X : Fin (Q * C) → EReal) (y : Fin Q → ℕ → Fin C → EReal) (m : Fin Q → ℕ → EReal) (a : Fin Q → ℕ → Fin C)

/-- Lane `l` of chunk `q`. -/
def lane (q : Fin Q) (l : Fin C) : Fin (Q * C) := ⟨q * C + l, lane_bound q.isLt l.isLt⟩
/-- The chunk and the round of a candidate. -/
def chunkOf (c : Fin (Q * R)) : Fin Q := ⟨c / R, div_bound c.isLt⟩

theorem lane_surj (p : Fin (Q * C)) : ∃ q l, lane q l = p := by
  have hc : 0 < C := by
    rcases Nat.eq_zero_or_pos C with e | h
    · have := p.isLt; subst e; simp at this
    · exact h
  refine ⟨⟨p / C, div_bound p.isLt⟩, ⟨p % C, Nat.mod_lt _ hc⟩, Fin.ext ?_⟩
  show (p.val / C) * C + p.val % C = p.val
  exact Nat.div_add_mod' _ _
theorem lane_val_inj {q q' : Fin Q} {l l' : Fin C} (h : lane q l = lane q' l') : q = q' ∧ l = l' := by
  have h : q.val * C + l.val = q'.val * C + l'.val := congrArg Fin.val h
  have h1 := l.isLt
  have h2 := l'.isLt
  rcases lt_trichotomy q.val q'.val with hq | hq | hq
  · exact absurd h (pos_lt h1 hq).ne
  · rw [hq] at h; exact ⟨Fin.ext hq, Fin.ext (by omega)⟩
  · exact absurd h.symm (pos_lt h2 hq).ne

variable (cand : Fin (Q * R) → EReal)

/-- Where a candidate sits in the row. -/
def source (c : Fin (Q * R)) : Fin (Q * C) := lane (chunkOf c) (a (chunkOf c) (c % R))

variable (H : ∀ q, Rounds (fun l => X (lane q l)) (y q) (m q) (a q))
  (hcand : ∀ c : Fin (Q * R), cand c = m (chunkOf c) (c % R))
include H hcand

theorem X_source (c : Fin (Q * R)) (h : ⊥ < cand c) : X (source a c) = cand c := by
  rw [hcand] at h ⊢
  exact (H _).x_pick h
theorem source_lt (c c' : Fin (Q * R)) (h : c < c') (e : cand c = cand c') (hb : ⊥ < cand c') : source a c < source a c' := by
  have h0 : c.val < c'.val := h
  have h1 : c.val / R ≤ c'.val / R := Nat.div_le_div_right h0.le
  rcases h1.lt_or_eq with h1 | h1
  · exact pos_lt (a _ _).isLt h1
  · have hq : chunkOf c = chunkOf c' := Fin.ext h1
    have h2 : c.val % R < c'.val % R := by
      have e1 := Nat.div_add_mod c.val R
      have e2 := Nat.div_add_mod c'.val R
      rw [h1] at e1
      omega
    rw [hcand, hcand, hq] at e
    rw [hcand] at hb
    have := (H (chunkOf c')).pick_lt h2 e hb
    show chunkOf c * C + (a (chunkOf c) (c % R)).val < chunkOf c' * C + (a (chunkOf c') (c' % R)).val
    rw [hq]
    exact Nat.add_lt_add_left this _

/-- THE SELECTION: the sorted candidates' first `K` sources are the sorted row's first `K` positions. -/
theorem sortedFrom_source (hR : 1 < R) (hK : K < Q * R) (hKC : K < Q * C)
    (hok : ∀ q, m q (R - 1) < cand (sortedFrom (greater cand) ⟨K, hK⟩)) (i : Fin (K + 1)) :
    sortedFrom (greater X) (i.castLE hKC) = source a (sortedFrom (greater cand) (i.castLE hK)) := by
  rw [sortedFrom_greater] at hok ⊢
  rw [sortedFrom_greater]
  set π : Fin (Q * R) → Fin (Q * R) := sortedFrom (greaterFirst cand) with hπ
  set T : EReal := cand (π ⟨K, hK⟩) with hT
  have hc := greaterFirst_total cand
  have hsel : ∀ i : Fin (K + 1), T ≤ cand (π (i.castLE hK)) := by
    intro i
    rcases (show i.val ≤ K from Nat.le_of_lt_succ i.isLt).lt_or_eq with h | h
    · have := sortedFrom_before hc (i.castLE hK) ⟨K, hK⟩ h
      simp only [greaterFirst, Bool.or_eq_true, Bool.and_eq_true, decide_eq_true_eq] at this
      rcases this with h' | h'
      · exact h'.le
      · exact h'.1.ge
    · rw [hT]; exact le_of_eq (congrArg (fun k => cand (π k)) (Fin.ext h.symm))
  have hTb : ∀ q : Fin Q, ⊥ < T := fun q => lt_of_le_of_lt bot_le (hok q)
  have hbot : ∀ i : Fin (K + 1), ⊥ < cand (π (i.castLE hK)) := fun i => (hTb (chunkOf (π (i.castLE hK)))).trans_le (hsel i)
  have hX : ∀ i : Fin (K + 1), X (source a (π (i.castLE hK))) = cand (π (i.castLE hK)) := fun i =>
    X_source X y m a cand H hcand _ (hbot i)
  have hlt : ∀ i j : Fin (K + 1), i < j → greaterFirst X (source a (π (i.castLE hK))) (source a (π (j.castLE hK))) = true := by
    intro i j hij
    have := sortedFrom_before hc (i.castLE hK) (j.castLE hK) hij
    simp only [greaterFirst, Bool.or_eq_true, Bool.and_eq_true, decide_eq_true_eq] at this ⊢
    rw [hX, hX]
    rcases this with h | ⟨h, h'⟩
    · exact .inl h
    · exact .inr ⟨h, source_lt X y m a cand H hcand _ _ h' h (hbot j)⟩
  have hinj : Function.Injective fun i : Fin (K + 1) => source a (π (i.castLE hK)) := by
    intro i j e
    have e : source a (π (i.castLE hK)) = source a (π (j.castLE hK)) := e
    rcases lt_trichotomy i j with h | h | h
    · have := hlt i j h; rw [e, (greaterFirst_total X).irrefl] at this; exact absurd this (by decide)
    · exact h
    · have := hlt j i h; rw [e, (greaterFirst_total X).irrefl] at this; exact absurd this (by decide)
  refine (greaterFirst_total X).sortedFrom_eq_of_prefix hKC (fun i => source a (π (i.castLE hK))) hinj
    (fun i j hij => (greaterFirst_total X).asymm _ _ (hlt i j hij)) (fun i p hp => ?_) i
  obtain ⟨q, l, rfl⟩ := lane_surj p
  by_cases hl : m q (R - 1) < X (lane q l)
  · obtain ⟨r, hr, har, hmr⟩ := (H q).taken_of_lt (t := R - 1) (l := l) hl
    have hcl : q.val * R + r < Q * R := by
      have h : (q.val + 1) * R ≤ Q * R := Nat.mul_le_mul_right R q.isLt
      have e : (q.val + 1) * R = q.val * R + R := by ring
      omega
    let c : Fin (Q * R) := ⟨q * R + r, hcl⟩
    have hcq : chunkOf c = q := Fin.ext (by
      show (q.val * R + r) / R = q.val
      rw [mul_comm, Nat.mul_add_div (by omega), Nat.div_eq_of_lt (by omega), add_zero])
    have hcr : c.val % R = r := by
      show (q.val * R + r) % R = r
      rw [mul_comm, Nat.mul_add_mod, Nat.mod_eq_of_lt (by omega)]
    have hsrc : source a c = lane q l := by unfold source; rw [hcq, hcr, har]
    have hcc : cand c = X (lane q l) := by rw [hcand, hcq, hcr, hmr]
    obtain ⟨k, hk⟩ := sortedFrom_surjective (greaterFirst cand) c
    have hkK : K < k.val := by
      by_contra hk'
      refine hp ⟨k, by omega⟩ ?_
      show source a (π _) = _
      rw [← hsrc]
      exact congrArg (source a) ((congrArg π (Fin.ext rfl)).trans hk)
    have hb := sortedFrom_before hc (i.castLE hK) k (show (i.castLE hK).val < k.val from lt_of_le_of_lt (Nat.le_of_lt_succ i.isLt) hkK)
    rw [hk] at hb
    refine (greaterFirst_total X).asymm _ _ ?_
    simp only [greaterFirst, Bool.or_eq_true, Bool.and_eq_true, decide_eq_true_eq] at hb ⊢
    rw [hX, ← hcc]
    rcases hb with h | ⟨h, h'⟩
    · exact .inl h
    · refine .inr ⟨h, ?_⟩
      have := source_lt X y m a cand H hcand _ _ h' h (by rw [hcc]; exact lt_of_le_of_lt bot_le hl)
      rwa [hsrc] at this
  · have : X (lane q l) < X (source a (π (i.castLE hK))) := by
      rw [hX]; exact ((not_lt.mp hl).trans_lt (hok q)).trans_le (hsel i)
    refine (greaterFirst_total X).asymm _ _ ?_
    simp [greaterFirst, this]

end chunks

end Cert.Select

end
-- ==== Proof.RoundsValue.lean ====
module

public import proofs.«01_k».proof.Proof.ChunkRounds
public import proofs.«01_k».proof.Proof.ChunkSelect
public import Idealize.ShloMosaic.Lib.ValueIdxCore
public import Idealize.ShloMosaic.Lib.ValueLayout
public import Idealize.ShloMosaic.Lib.ValueLayoutCasts
public import Idealize.ShloMosaic.Lib.SortNet.Extract
public import Idealize.ShloMosaic.Lib.IdealHost
public import Idealize.ShloMosaic.Lib.Pipeline.ValueKit.Tiles

/-! What the first region computes over the extended reals: on each chunk, sixteen rounds of taking the greatest score left at
its first lane (`Cert.Select.Rounds`). -/

@[expose] public section

set_option maxRecDepth 10000

noncomputable section

namespace Cert.KernelIdeal.Rounds

open Idealize.ShloMosaic Idealize.ShloMosaic.ValueIdx Cert.KernelIdeal Cert.KernelIdeal.Gen

theorem lift_row {a b : ℕ} (h : (⟨2, ![a, b]⟩ : Shape).Reduces [1] ⟨1, ![a]⟩) (p : Fin a) (k : Fin b) :
    h.lift (ix1 p) k = ix2 p k := by
  funext c
  match c with
  | 0 => rfl
  | 1 => rfl

theorem ofBits_bot : Ideal.ofBits .f32 0xFF800000#32 = ⊥ := by
  simp [Ideal.ofBits, Ideal.ieee]

theorem lanes_apply (p : Fin 256) (l : Fin 512) : lanes (ix2 p l) = BitVec.ofNat 32 l.val := by
  show BitVec.ofNat 32 (0 * 512 + l.val) = _
  rw [Nat.zero_mul, Nat.zero_add]
theorem base_apply (s : Fin 8) (p : Fin 256) : base s (ix2 p 0) = (BitVec.ofNat 32 p.val + BitVec.ofNat 32 (256 * s.val)) * 512#32 := by
  show (BitVec.ofNat 32 (0 * 256 + p.val) + _) * _ = _
  rw [Nat.zero_mul, Nat.zero_add]
  rfl

variable (y : FVec Ideal S256x512 .f32) (p : Fin 256)

theorem rowMax_apply (u : Fin 1) :
    rowMax y (ix2 p u) = (Finset.univ : Finset (Fin 512)).fold max ⊥ fun l => y (ix2 p l) := by
  unfold rowMax
  rw [shapeCast_a_a1_apply]
  refine (Ideal.multiReduction_maximumf_single _ _ _ _ _ _).trans ?_
  refine congrArg₂ (fun b f => Finset.fold max b f Finset.univ) ofBits_bot ?_
  funext l
  exact congrArg y (lift_row _ p l)
theorem le_rowMax (l : Fin 512) : y (ix2 p l) ≤ rowMax y (ix2 p 0) := by
  rw [rowMax_apply]
  exact (Finset.le_fold_max _).mpr (.inr ⟨l, Finset.mem_univ l, le_rfl⟩)
theorem rowMax_mem : ∃ l : Fin 512, y (ix2 p l) = rowMax y (ix2 p 0) := by
  have h := (Finset.le_fold_max (s := Finset.univ) (f := fun l : Fin 512 => y (ix2 p l)) (b := ⊥) (rowMax y (ix2 p 0))).mp
    (rowMax_apply y p 0).le
  rcases h with h | ⟨l, -, h⟩
  · exact ⟨0, (le_bot_iff.mp ((le_rowMax y p 0).trans h)).trans (le_bot_iff.mp h).symm⟩
  · exact ⟨l, le_antisymm (le_rowMax y p l) h⟩

/-- The lane word where the chunk's greatest entry stands, 512 elsewhere. -/
def laneWord (l : Fin 512) : BitVec 32 := if y (ix2 p l) = rowMax y (ix2 p 0) then BitVec.ofNat 32 l.val else 512#32

theorem rowArg_apply (u : Fin 1) :
    rowArg y (ix2 p u) = (Finset.univ : Finset (Fin 512)).fold IntOp.minsi 2147483647#32 (laneWord y p) := by
  unfold rowArg
  rw [shapeCast_a_a1_apply]
  refine (multiReductionI_eq_fold _ _ _ _ _ _).trans ?_
  refine (Shape.Reduces.fold_filter_drop_single _ _ _ _ _).trans ?_
  refine congrArg (fun f => Finset.fold IntOp.minsi 2147483647#32 f Finset.univ) ?_
  funext l
  change Fin 512 at l
  refine (congrArg (select _ _ _ : IVec S256x512 32) (lift_row _ p l)).trans ?_
  have hb : (broadcastTo S256x512 (rowMax y) broadcasts_S256x1_S256x512 : FVec Ideal S256x512 .f32) (ix2 p l) = rowMax y (ix2 p 0) :=
    broadcastTo_apply _ _ _ (ix2 p 0) fun ax => by
      match ax with
      | 0 => rfl
      | 1 => rfl
  have hl := lanes_apply p l
  unfold laneWord
  show (if BitVec.ofBool (decide (y (ix2 p l) = _)) = 1#1 then lanes (ix2 p l) else 512#32) = _
  rw [hb, hl]
  by_cases h : y (ix2 p l) = rowMax y (ix2 p 0) <;> simp [h]

theorem laneWord_toInt (l : Fin 512) :
    (laneWord y p l).toInt = if y (ix2 p l) = rowMax y (ix2 p 0) then (l.val : ℤ) else 512 := by
  unfold laneWord
  split
  · rw [BitVec.toInt_eq_toNat_cond, BitVec.toNat_ofNat]; have := l.isLt; split <;> omega
  · rfl

/-- The round's lane: the first that holds the chunk's greatest entry. -/
theorem rowArg_spec : ∃ l : Fin 512, (∀ u, rowArg y (ix2 p u) = BitVec.ofNat 32 l.val) ∧ y (ix2 p l) = rowMax y (ix2 p 0)
    ∧ ∀ l', y (ix2 p l') = rowMax y (ix2 p 0) → l ≤ l' := by
  classical
  obtain ⟨l0, h0⟩ := rowMax_mem y p
  have hex : ∃ n, ∃ h : n < 512, y (ix2 p ⟨n, h⟩) = rowMax y (ix2 p 0) := ⟨l0.val, l0.isLt, h0⟩
  obtain ⟨hlt, hy⟩ := Nat.find_spec hex
  have hfirst : ∀ l' : Fin 512, y (ix2 p l') = rowMax y (ix2 p 0) → Nat.find hex ≤ l'.val := fun l' h' =>
    Nat.find_min' hex ⟨l'.isLt, h'⟩
  refine ⟨⟨Nat.find hex, hlt⟩, fun u => ?_, hy, fun l' h' => hfirst l' h'⟩
  have hf : ((Finset.univ : Finset (Fin 512)).fold IntOp.minsi 2147483647#32 (laneWord y p)).toInt
      = (Finset.univ : Finset (Fin 512)).fold min (2147483647#32 : BitVec 32).toInt fun l => (laneWord y p l).toInt :=
    (Finset.fold_hom (op' := min) (m := BitVec.toInt) (fun a b => SortNet.toInt_minsi a b)).symm
  apply BitVec.eq_of_toInt_eq
  rw [rowArg_apply, hf]
  have hr : (BitVec.ofNat 32 (Nat.find hex)).toInt = (Nat.find hex : ℤ) := by
    rw [BitVec.toInt_eq_toNat_cond, BitVec.toNat_ofNat]; split <;> omega
  have hacc : (2147483647#32 : BitVec 32).toInt = 2147483647 := by decide
  show _ = (BitVec.ofNat 32 (Nat.find hex)).toInt
  rw [hr, hacc]
  refine le_antisymm ((Finset.fold_min_le _).mpr (.inr ⟨⟨Nat.find hex, hlt⟩, Finset.mem_univ _, ?_⟩))
    ((Finset.le_fold_min _).mpr ⟨by omega, fun l _ => ?_⟩)
  · rw [laneWord_toInt, if_pos hy]
  · rw [laneWord_toInt]
    split
    · next h => exact_mod_cast hfirst l h
    · omega

/-- That lane. -/
def pick : Fin 512 := (rowArg_spec y p).choose
theorem rowArg_eq (u : Fin 1) : rowArg y (ix2 p u) = BitVec.ofNat 32 (pick y p).val := (rowArg_spec y p).choose_spec.1 u
theorem at_pick : y (ix2 p (pick y p)) = rowMax y (ix2 p 0) := (rowArg_spec y p).choose_spec.2.1
theorem pick_le (l : Fin 512) (h : y (ix2 p l) = rowMax y (ix2 p 0)) : pick y p ≤ l := (rowArg_spec y p).choose_spec.2.2 l h

theorem dropped_apply (l : Fin 512) : dropped y (ix2 p l) = if l = pick y p then ⊥ else y (ix2 p l) := by
  have hb : (broadcastTo S256x512 (rowArg y) broadcasts_S256x1_S256x512 : IVec S256x512 32) (ix2 p l) = BitVec.ofNat 32 (pick y p).val :=
    (broadcastTo_apply _ _ _ (ix2 p (0 : Fin 1)) fun ax => by
      match ax with
      | 0 => rfl
      | 1 => rfl).trans (rowArg_eq y p 0)
  have hl := lanes_apply p l
  show (if IntOp.cmpi .eq (lanes (ix2 p l)) (broadcastTo S256x512 (rowArg y) broadcasts_S256x1_S256x512 (ix2 p l)) = 1#1
    then Ideal.ofBits .f32 0xFF800000#32 else y (ix2 p l)) = _
  rw [hb, hl, ofBits_bot]
  refine if_congr (IntOp.cmpi_eq.trans ⟨fun h => Fin.ext ?_, fun h => by rw [h]⟩) rfl rfl
  have h' := congrArg BitVec.toNat h
  rw [BitVec.toNat_ofNat, BitVec.toNat_ofNat] at h'
  have := l.isLt
  have := (pick y p).isLt
  omega

/-! ## The rounds of one chunk -/

variable (x0 : Vec Ideal S1x2048x512 .f32)

/-- The slab of a chunk, and the chunk's row in it. -/
def slabIx (q : Fin 2048) : Fin 8 := ⟨q.val / 256, by omega⟩
def rowIx (q : Fin 2048) : Fin 256 := ⟨q.val % 256, by omega⟩

theorem left_zero (q : Fin 2048) (l : Fin 512) : left x0 (slabIx q) 0 (ix2 (rowIx q) l) = x0 (ix3 0 q l) := by
  show slab x0 (slabIx q) (ix2 (rowIx q) l) = _
  unfold slab
  rw [shapeCast_1ab_ab_apply]
  refine congrArg x0 ?_
  funext a
  refine Fin.ext ?_
  match a with
  | 0 => rfl
  | 1 =>
    show 256 * (q.val / 256) + 1 * (q.val % 256) = q.val
    omega
  | 2 => exact (Nat.zero_add _).trans (Nat.one_mul _)

/-- Round `r` on a chunk: its scores left, the value found and the lane. -/
def lefts (q : Fin 2048) (r : ℕ) (l : Fin 512) : EReal := left x0 (slabIx q) r (ix2 (rowIx q) l)
def found (q : Fin 2048) (r : ℕ) : EReal := rowMax (left x0 (slabIx q) r) (ix2 (rowIx q) 0)
def foundAt (q : Fin 2048) (r : ℕ) : Fin 512 := pick (left x0 (slabIx q) r) (rowIx q)

theorem rounds (q : Fin 2048) : Cert.Select.Rounds (fun l => x0 (ix3 0 q l)) (lefts x0 q) (found x0 q) (foundAt x0 q) where
  start := funext fun l => left_zero x0 q l
  next r l := dropped_apply (left x0 (slabIx q) r) (rowIx q) l
  le r l := le_rowMax (left x0 (slabIx q) r) (rowIx q) l
  at_pick r := at_pick (left x0 (slabIx q) r) (rowIx q)
  first r l h := pick_le (left x0 (slabIx q) r) (rowIx q) l h

/-- An entry of either output lies in its slab's and round's store alone. -/
theorem canon_store {e : EltTy} (P : Fin 8 → ℕ → S256x1.Idx → Elt Ideal e) (q : Fin 2048) (r : Fin 16) :
    View.canon (List.ofFn fun k : Fin 128 =>
      (⟨Rect.unit (s := S1x2048x16) ![0, 256 * (slabOf k).val, roundOf k] S1x256x1.size (out_inb k),
        shapeCast S1x256x1 (P (slabOf k) (roundOf k)) shapeCasts_S256x1_S1x256x1⟩ : View.Piece (Elt Ideal) S1x2048x16 e)) (ix3 0 q r)
    = P (slabIx q) r.val (ix2 (rowIx q) 0) := by
  refine View.canon_ofFn_unit_eq_of_forall _ _ _ _ _ _ ⟨⟨127 - (16 * (q.val / 256) + r.val), by omega⟩, fun a => ?_⟩ fun k x hx => ?_
  · have hs : (slabOf ⟨127 - (16 * (q.val / 256) + r.val), by omega⟩).val = q.val / 256 := by
      show (127 - (127 - (16 * (q.val / 256) + r.val))) / 16 = _; omega
    have hr : roundOf ⟨127 - (16 * (q.val / 256) + r.val), by omega⟩ = r.val := by
      show (127 - (127 - (16 * (q.val / 256) + r.val))) % 16 = _; omega
    match a with
    | 0 => exact ⟨le_rfl, Nat.one_pos⟩
    | 1 =>
      show 256 * (slabOf _).val ≤ q.val ∧ q.val < 256 * (slabOf _).val + 256
      rw [hs]; omega
    | 2 =>
      show roundOf _ ≤ r.val ∧ r.val < roundOf _ + 1
      rw [hr]; omega
  · have h1 : q.val = 256 * (slabOf k).val + (x 1).val := hx 1
    have h2 : r.val = roundOf k + (x 2).val := hx 2
    have x1 : (x 1).val < 256 := (x 1).isLt
    have x2 : (x 2).val < 1 := (x 2).isLt
    have e1 : slabOf k = slabIx q := Fin.ext (by show (slabOf k).val = q.val / 256; omega)
    have e2 : roundOf k = r.val := by omega
    have e3 : x = ix3 0 (rowIx q) 0 := by
      funext a
      refine Fin.ext ?_
      match a with
      | 0 => have : (x 0).val < 1 := (x 0).isLt; show (x 0).val = 0; omega
      | 1 => show (x 1).val = q.val % 256; omega
      | 2 => show (x 2).val = 0; omega
    rw [e1, e2, e3, shapeCast_ab_1ab_apply]

theorem out0_1_apply (q : Fin 2048) (r : Fin 16) : out0_1 x0 (ix3 0 q r) = found x0 q r.val := by
  rw [out0_1_eq]
  exact canon_store (e := .f32) (fun s n => rowMax (left x0 s n)) q r
theorem out0_2_apply (q : Fin 2048) (r : Fin 16) :
    out0_2 x0 (ix3 0 q r) = BitVec.ofNat 32 (512 * q.val + (foundAt x0 q r.val).val) := by
  rw [out0_2_eq]
  refine (canon_store (e := .i32) (fun s n => addi (base s) (rowArg (left x0 s n))) q r).trans ?_
  refine (congrArg₂ (· + ·) (base_apply (slabIx q) (rowIx q)) (rowArg_eq (left x0 (slabIx q) r.val) (rowIx q) 0)).trans ?_
  apply BitVec.eq_of_toNat_eq
  simp only [BitVec.toNat_add, BitVec.toNat_mul, BitVec.toNat_ofNat]
  have := (foundAt x0 q r.val).isLt
  have hq := q.isLt
  show ((q.val % 256 % 2 ^ 32 + 256 * (q.val / 256) % 2 ^ 32) % 2 ^ 32 * (512 % 2 ^ 32) % 2 ^ 32 + (foundAt x0 q r.val).val % 2 ^ 32) % 2 ^ 32 = _
  omega

end Cert.KernelIdeal.Rounds

end
-- ==== Proof.Take.lean ====
module

public import Idealize.ShloMosaic.Lib.ValueIdxCore
public import Idealize.ShloMosaic.Lib.ValueLayout
public import Idealize.ShloMosaic.Lib.DynamicIndex
public import Idealize.ShloMosaic.Lib.ReduceAll
public import Idealize.ShloMosaic.Lib.Affine

/-! `jnp.take_along_axis` along the middle or the last axis, as it prints, read at an index: where every index word is in
range, the wrap of negative indices and the fill outside the range change nothing, and the entry is the operand's there. -/

@[expose] public section

noncomputable section

namespace Cert.Take

open Idealize.ShloMosaic Idealize.ShloMosaic.ValueIdx

theorem toInt_small {x : BitVec 32} {N : ℕ} (hN : N < 2 ^ 31) (h : x.toNat < N) : x.toInt = x.toNat := by
  rw [BitVec.toInt_eq_toNat_cond]; split <;> omega

/-- The wrap of negative indices changes no index in range. -/
theorem wrap_eq {s : Shape} {N : ℕ} (hN : N < 2 ^ 31) (I z n : IVec s 32) (hI : ∀ i, (I i).toNat < N) (hz : ∀ i, z i = 0#32) :
    select (cmpi .slt I z) (addi I n) I = I := by
  funext i
  refine if_neg fun h => ?_
  have h' := IntOp.cmpi_slt.mp h
  rw [hz, toInt_small hN (hI i)] at h'
  simp at h'
  omega

/-- The range test holds of every index in range. -/
theorem inRange_eq_one {s : Shape} {N : ℕ} (hN : N < 2 ^ 31) (I z n : IVec s 32) (hI : ∀ i, (I i).toNat < N) (hz : ∀ i, z i = 0#32)
    (hn : ∀ i, n i = BitVec.ofNat 32 (N - 1)) (i : s.Idx) : andi (cmpi .sge I z) (cmpi .sle I n) i = 1#1 := by
  have h0 := hI i
  have h1 : IntOp.cmpi .sge (I i) (z i) = 1#1 := IntOp.cmpi_sge.mpr (by rw [hz, toInt_small hN h0]; simp)
  have h2 : IntOp.cmpi .sle (I i) (n i) = 1#1 := IntOp.cmpi_sle.mpr (by
    rw [hn, toInt_small hN h0, toInt_small (N := N) hN (by rw [BitVec.toNat_ofNat]; omega), BitVec.toNat_ofNat]; omega)
  show IntOp.andi _ _ = 1#1
  have h1' : cmpi .sge I z i = 1#1 := h1
  have h2' : cmpi .sle I n i = 1#1 := h2
  rw [h1', h2']; rfl

variable {α : Type}

section Rank2
variable {B N K : ℕ}

/-- The dimension numbers of the gather along axis 1 of a rank-2 operand, one entry per index. -/
abbrev dims2 (B N K : ℕ) (wf : GatherDims.WF ⟨2, ![B, N]⟩ ⟨3, ![B, K, 1]⟩ ⟨2, ![B, K]⟩ [] [1] [0] [1] [0] 2 ![1, 1]) :
    GatherDims ⟨2, ![B, N]⟩ ⟨3, ![B, K, 1]⟩ ⟨2, ![B, K]⟩ where
  offsetDims := []
  collapsedSliceDims := [1]
  operandBatchingDims := [0]
  startIndicesBatchingDims := [0]
  startIndexMap := [1]
  indexVectorDim := 2
  sliceSizes := ![1, 1]
  wf := wf

theorem gather2 (hN : N < 2 ^ 31) (wf) (x : (⟨2, ![B, N]⟩ : Shape).Idx → α) (I : IVec ⟨3, ![B, K, 1]⟩ 32) (b : Fin B) (k : Fin K)
    (h : (I (ix3 b k 0)).toNat < N) : Host.gather (dims2 B N K wf) x I (ix2 b k) = x (ix2 b ⟨(I (ix3 b k 0)).toNat, h⟩) := by
  unfold Host.gather
  congr 1
  funext a
  refine Fin.ext ?_
  show (dims2 B N K wf).start (ix2 b k) I a + (dims2 B N K wf).batchCoord (ix2 b k) a + (dims2 B N K wf).offCoord (ix2 b k) a = _
  match a with
  | 0 =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    rfl
  | 1 =>
    rw [GatherDims.batchCoord_eq_zero _ _ _ (by simp),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (dims2 B N K wf).startIndexMap from List.mem_singleton.mpr rfl)]
    have hsi : (dims2 B N K wf).siIdx (ix2 b k) ⟨List.idxOf (1 : Fin 2) (dims2 B N K wf).startIndexMap,
        List.idxOf_lt_length_iff.2 (List.mem_singleton.mpr rfl)⟩ = ix3 b k 0 := by
      funext c; refine Fin.ext ?_
      match c with
      | 0 => rfl
      | 1 => rfl
      | 2 => rfl
    rw [hsi]
    show min (I (ix3 b k 0)).toInt.toNat (N - 1) = (I (ix3 b k 0)).toNat
    rw [toInt_small hN h]
    simp only [Int.toNat_natCast]
    omega

/-- The whole of it, at an index. -/
theorem take2 (hN : N < 2 ^ 31) (wf) (x : (⟨2, ![B, N]⟩ : Shape).Idx → α) (I c0 cN : IVec ⟨2, ![B, K]⟩ 32) (hI : ∀ i, (I i).toNat < N)
    (hc0 : ∀ i, c0 i = 0#32) (z lim : IVec ⟨3, ![B, K, 1]⟩ 32) (hz : ∀ i, z i = 0#32) (hlim : ∀ i, lim i = BitVec.ofNat 32 (N - 1))
    (hsc : (⟨2, ![B, K]⟩ : Shape).ShapeCasts ⟨3, ![B, K, 1]⟩) {u : Shape} (init : IVec u 1) (hinit : ∀ i, init i = 1#1)
    (hr : (⟨3, ![B, K, 1]⟩ : Shape).ReducesTo [2] ⟨2, ![B, K]⟩) (hu : 0 < u.numel) (fill : (⟨2, ![B, K]⟩ : Shape).Idx → α) (b : Fin B) (k : Fin K) :
    select (Host.reduce IntOp.andi (andi (cmpi .sge (fun i => shapeCast ⟨3, ![B, K, 1]⟩ (select (cmpi .slt I c0) (addi I cN) I) hsc i) z)
        (cmpi .sle (fun i => shapeCast ⟨3, ![B, K, 1]⟩ (select (cmpi .slt I c0) (addi I cN) I) hsc i) lim)) init hr hu)
      (Host.gather (dims2 B N K wf) x (fun i => shapeCast ⟨3, ![B, K, 1]⟩ (select (cmpi .slt I c0) (addi I cN) I) hsc i)) fill (ix2 b k)
    = x (ix2 b ⟨(I (ix2 b k)).toNat, hI _⟩) := by
  rw [wrap_eq hN I c0 cN hI hc0]
  have hJ : ∀ i, ((fun i => shapeCast ⟨3, ![B, K, 1]⟩ I hsc i : IVec ⟨3, ![B, K, 1]⟩ 32) i).toNat < N := fun i => hI _
  have hat : shapeCast ⟨3, ![B, K, 1]⟩ I hsc (ix3 b k 0) = I (ix2 b k) := shapeCast_apply _ _ _ _ (by
    rw [Shape.rowMajor_val_three, Shape.rowMajor_val_two]
    show b.val * K + k.val = (b.val * K + k.val) * 1 + 0
    omega)
  have hm : Host.reduce IntOp.andi (andi (cmpi .sge (fun i => shapeCast ⟨3, ![B, K, 1]⟩ I hsc i) z)
      (cmpi .sle (fun i => shapeCast ⟨3, ![B, K, 1]⟩ I hsc i) lim)) init hr hu (ix2 b k) = 1#1 := by
    apply Host.reduce_andi_one
    · exact hinit _
    · intro i; exact inRange_eq_one hN _ z lim hJ hz hlim i
  refine (if_pos hm).trans ((gather2 hN wf x _ b k (hJ _)).trans ?_)
  congr 3
  exact congrArg BitVec.toNat hat

end Rank2

section Rank3
variable {B N K C : ℕ}

/-- The dimension numbers of the gather along axis 1 of a rank-3 operand, a whole row of the last axis per index. -/
abbrev dims3 (B N K C : ℕ) (wf : GatherDims.WF ⟨3, ![B, N, C]⟩ ⟨3, ![B, K, 1]⟩ ⟨3, ![B, K, C]⟩ [2] [1] [0] [1] [0] 2 ![1, 1, C]) :
    GatherDims ⟨3, ![B, N, C]⟩ ⟨3, ![B, K, 1]⟩ ⟨3, ![B, K, C]⟩ where
  offsetDims := [2]
  collapsedSliceDims := [1]
  operandBatchingDims := [0]
  startIndicesBatchingDims := [0]
  startIndexMap := [1]
  indexVectorDim := 2
  sliceSizes := ![1, 1, C]
  wf := wf

theorem gather3 (hN : N < 2 ^ 31) (wf) (x : (⟨3, ![B, N, C]⟩ : Shape).Idx → α) (I : IVec ⟨3, ![B, K, 1]⟩ 32) (b : Fin B) (k : Fin K) (c : Fin C)
    (h : (I (ix3 b k 0)).toNat < N) : Host.gather (dims3 B N K C wf) x I (ix3 b k c) = x (ix3 b ⟨(I (ix3 b k 0)).toNat, h⟩ c) := by
  unfold Host.gather
  congr 1
  funext a
  refine Fin.ext ?_
  show (dims3 B N K C wf).start (ix3 b k c) I a + (dims3 B N K C wf).batchCoord (ix3 b k c) a + (dims3 B N K C wf).offCoord (ix3 b k c) a = _
  match a with
  | 0 =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    rfl
  | 1 =>
    rw [GatherDims.batchCoord_eq_zero _ _ _ (by simp),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (dims3 B N K C wf).startIndexMap from List.mem_singleton.mpr rfl)]
    have hsi : (dims3 B N K C wf).siIdx (ix3 b k c) ⟨List.idxOf (1 : Fin 3) (dims3 B N K C wf).startIndexMap,
        List.idxOf_lt_length_iff.2 (List.mem_singleton.mpr rfl)⟩ = ix3 b k 0 := by
      funext d; refine Fin.ext ?_
      match d with
      | 0 => rfl
      | 1 => rfl
      | 2 => rfl
    rw [hsi]
    show min (I (ix3 b k 0)).toInt.toNat (N - 1) = (I (ix3 b k 0)).toNat
    rw [toInt_small hN h]
    simp only [Int.toNat_natCast]
    omega
  | 2 =>
    rw [GatherDims.batchCoord_eq_zero _ _ _ (by simp)]
    unfold GatherDims.start
    rw [dif_neg (show (2 : Fin 3) ∉ (dims3 B N K C wf).startIndexMap by simp)]
    simp only [Nat.zero_add, Nat.add_zero]
    rfl

/-- The whole of it, at an index. -/
theorem take3 (hN : N < 2 ^ 31) (wf) (x : (⟨3, ![B, N, C]⟩ : Shape).Idx → α) (I c0 cN : IVec ⟨3, ![B, K, 1]⟩ 32) (hI : ∀ i, (I i).toNat < N)
    (hc0 : ∀ i, c0 i = 0#32) (z lim : IVec ⟨3, ![B, K, 1]⟩ 32) (hz : ∀ i, z i = 0#32) (hlim : ∀ i, lim i = BitVec.ofNat 32 (N - 1))
    {u : Shape} (init : IVec u 1) (hinit : ∀ i, init i = 1#1)
    (hr : (⟨3, ![B, K, 1]⟩ : Shape).ReducesTo [2] ⟨2, ![B, K]⟩) (hu : 0 < u.numel)
    (hb : (⟨2, ![B, K]⟩ : Shape).BroadcastsInDim ⟨3, ![B, K, C]⟩ ![0, 1]) (fill : (⟨3, ![B, K, C]⟩ : Shape).Idx → α) (b : Fin B) (k : Fin K) (c : Fin C) :
    select (broadcastInDim ⟨3, ![B, K, C]⟩ ![0, 1] hb (Host.reduce IntOp.andi (andi (cmpi .sge (select (cmpi .slt I c0) (addi I cN) I) z)
        (cmpi .sle (select (cmpi .slt I c0) (addi I cN) I) lim)) init hr hu))
      (Host.gather (dims3 B N K C wf) x (select (cmpi .slt I c0) (addi I cN) I)) fill (ix3 b k c)
    = x (ix3 b ⟨(I (ix3 b k 0)).toNat, hI _⟩ c) := by
  rw [wrap_eq hN I c0 cN hI hc0]
  refine (if_pos ?_).trans (gather3 hN wf x I b k c (hI _))
  show Host.reduce IntOp.andi _ init hr hu _ = 1#1
  apply Host.reduce_andi_one
  · exact hinit _
  · intro i; exact inRange_eq_one hN _ z lim hI hz hlim i

end Rank3

end Cert.Take

end
-- ==== Proof.Choice.lean ====
module

public import proofs.«01_k».proof.Proof.RoundsValue
public import proofs.«01_k».proof.Proof.Take
public import proofs.«01_k».proof.Proof.KernelIdealRun
public import Idealize.ShloMosaic.Lib.Pipeline.ValueKit.Geometry

/-! Which entries of a row the selection takes: the host's selection of the greatest, and the same
made from the candidates the chunks leave. -/

@[expose] public section

set_option maxRecDepth 16384

noncomputable section

namespace Cert.Choice

open Idealize.ShloMosaic Idealize.ShloMosaic.ValueIdx Cert.Select

section Host
variable {B N K : ℕ} (hKN : K ≤ N) (x : (⟨2, ![B, N]⟩ : Shape).Idx → Ideal .f32)
  (h : (⟨2, ![B, N]⟩ : Shape).Slices (fun _ => 0) ⟨2, ![B, K]⟩) (b : Fin B) (i : Fin K)

/-- The position the `i`-th of the greatest comes from. -/
def place : Fin N := sortedFrom (greater fun n => x (ix2 b n)) (i.castLE hKN)

theorem gt_eq (u v : Ideal .f32) : (FloatOps.cmpfTotal .gt u v == 1#1) = decide ((v : EReal) < u) := by
  show (BitVec.ofBool (decide ((v : EReal) < u)) == 1#1) = _
  by_cases e : (v : EReal) < u
  · rw [decide_eq_true e]; rfl
  · rw [decide_eq_false e]; rfl

theorem along_eq (n : Fin N) (j : (⟨2, ![B, N]⟩ : Shape).Idx) (hj : (j 0 : Fin B) = b) : j.along (1 : Fin 2) n = ix2 b n := by
  funext a
  match a with
  | 0 => exact hj
  | 1 => rfl

theorem sorted_along (J : (⟨2, ![B, N]⟩ : Shape).Idx) (h0 : (J 0 : Fin B) = b) (h1 : (J 1 : Fin N) = i.castLE hKN) :
    (sortedFrom (fun k k' : Fin N => FloatOps.cmpfTotal .gt (x (J.along (1 : Fin 2) k)) (x (J.along (1 : Fin 2) k')) == 1#1) (J 1) : Fin N) = place hKN x b i := by
  have e : (fun k k' : Fin N => FloatOps.cmpfTotal .gt (x (J.along (1 : Fin 2) k)) (x (J.along (1 : Fin 2) k')) == 1#1) = greater fun n => x (ix2 b n) := by
    funext k k'
    rw [gt_eq, along_eq b k J h0, along_eq b k' J h0]; rfl
  unfold place
  rw [e, h1]

theorem topK_value : (Host.topK ⟨2, ![B, K]⟩ 1 (FloatOps.cmpfTotal .gt) x h).1 (ix2 b i) = x (ix2 b (place hKN x b i)) := by
  have key : ∀ J : (⟨2, ![B, N]⟩ : Shape).Idx, (J 0 : Fin B) = b → (J 1 : Fin N) = i.castLE hKN →
      x (J.along (1 : Fin 2) (sortedFrom (fun k k' : Fin N => FloatOps.cmpfTotal .gt (x (J.along (1 : Fin 2) k)) (x (J.along (1 : Fin 2) k')) == 1#1) (J 1)))
        = x (ix2 b (place hKN x b i)) := fun J h0 h1 => by
    exact (congrArg (fun n : Fin N => x (J.along (1 : Fin 2) n)) (sorted_along hKN x b i J h0 h1)).trans (congrArg x (along_eq b _ J h0))
  exact key (fun a => ⟨0 + (ix2 b i (a.cast h.1.symm)).val, Nat.lt_of_lt_of_le (Nat.add_lt_add_left (ix2 b i _).isLt _) (h.2 a)⟩)
    (Fin.ext (Nat.zero_add _)) (Fin.ext (Nat.zero_add _))

theorem topK_index : (Host.topK ⟨2, ![B, K]⟩ 1 (FloatOps.cmpfTotal .gt) x h).2 (ix2 b i) = BitVec.ofNat 32 (place hKN x b i).val := by
  have key : ∀ J : (⟨2, ![B, N]⟩ : Shape).Idx, (J 0 : Fin B) = b → (J 1 : Fin N) = i.castLE hKN →
      iotaInDim ⟨2, ![B, N]⟩ 32 (1 : Fin 2) (J.along (1 : Fin 2) (sortedFrom (fun k k' : Fin N => FloatOps.cmpfTotal .gt (x (J.along (1 : Fin 2) k)) (x (J.along (1 : Fin 2) k')) == 1#1) (J 1)))
        = BitVec.ofNat 32 (place hKN x b i).val := fun J h0 h1 => by
    exact congrArg (fun n : Fin N => BitVec.ofNat 32 n.val) (sorted_along hKN x b i J h0 h1)
  exact key (fun a => ⟨0 + (ix2 b i (a.cast h.1.symm)).val, Nat.lt_of_lt_of_le (Nat.add_lt_add_left (ix2 b i _).isLt _) (h.2 a)⟩)
    (Fin.ext (Nat.zero_add _)) (Fin.ext (Nat.zero_add _))
end Host

end Cert.Choice

namespace Cert.KernelIdeal.Gen
open Idealize.ShloMosaic Idealize.ShloMosaic.ValueIdx Idealize.ShloMosaic.TcCoe Cert.KernelIdeal.Rounds
open Idealize.SL.Sem
variable (V : (c : Dev nD) → (b : Ref sig .tc) → Buf (Elt Ideal) ((c : Thread nD τ).loc b)) (c : Dev nD)

/-- Image `b`'s scores as the chunks see them. -/
def chunked (b : Fin 4) : S1x2048x512.Idx → Ideal .f32 := fun j => (V c main_v2 : S4x2048x512.Idx → Ideal .f32) (ix3 b (j 1) (j 2))

theorem block_chunked (t : Fin cfg0.N) (b : Fin 4) (hb : b.val = win0_0.index t 0) : iblk0 V c 0 t = chunked V c b := by
  funext j
  refine congrArg (V c main_v2 : S4x2048x512.Idx → Ideal .f32) ?_
  have hz : win0_0.index t 1 = 0 ∧ win0_0.index t 2 = 0 :=
    (by decide +kernel : ∀ t : Fin grid0.N, win0_0.index t 1 = 0 ∧ win0_0.index t 2 = 0) t
  have hj : (j 0).val = 0 := Nat.lt_one_iff.mp (j 0).isLt
  funext a
  apply Fin.ext
  refine (Pipeline.Window.rect_emb_val win0_0 t j a).trans ?_
  match a with
  | 0 => show win0_0.index t 0 * 1 + (j 0).val = b.val; omega
  | 1 => show win0_0.index t 1 * 2048 + (j 1).val = (j 1).val; omega
  | 2 => show win0_0.index t 2 * 512 + (j 2).val = (j 2).val; omega

theorem index_same (t : Fin grid0.N) : (win0_1.index t = win0_0.index t ∧ win0_2.index t = win0_0.index t) ∧ win0_0.index t 1 = 0 ∧ win0_0.index t 2 = 0 :=
  (by decide +kernel : ∀ t : Fin grid0.N, (win0_1.index t = win0_0.index t ∧ win0_2.index t = win0_0.index t) ∧ win0_0.index t 1 = 0 ∧ win0_0.index t 2 = 0) t

/-- What the chunks' rounds find. -/
theorem chunk_values (b : Fin 4) (q : Fin 2048) (r : Fin 16) :
    ((dat0 V c).arrAt 1 cfg0.N : S4x2048x16.Idx → Ideal .f32) (ix3 b q r) = found (chunked V c b) q r.val := by
  refine ((dat0 V c).arrAt_forall_of_covers 1 (fun y v => ∀ b q (r : Fin 16), y = ix3 b q r → (v : Ideal .f32) = found (chunked V c b) q r.val) (by decide +kernel) (fun t hf y b q r e => ?_) (ix3 b q r)) b q r rfl
  blk_simp; rw [after0_1]
  have hi := index_same t
  have v0 : b.val = win0_0.index t 0 * 1 + (y 0).val := (congrArg Fin.val (congrFun e 0)).symm.trans ((Pipeline.Window.rect_emb_val win0_1 t y 0).trans (by rw [hi.1.1]; rfl))
  have v1 : q.val = win0_0.index t 1 * 2048 + (y 1).val := (congrArg Fin.val (congrFun e 1)).symm.trans ((Pipeline.Window.rect_emb_val win0_1 t y 1).trans (by rw [hi.1.1]; rfl))
  have v2 : r.val = win0_0.index t 2 * 16 + (y 2).val := (congrArg Fin.val (congrFun e 2)).symm.trans ((Pipeline.Window.rect_emb_val win0_1 t y 2).trans (by rw [hi.1.1]; rfl))
  have hj : (y 0).val = 0 := Nat.lt_one_iff.mp (y 0).isLt
  have hy : y = ix3 0 q r := by
    funext a
    apply Fin.ext
    match a with
    | 0 => exact hj
    | 1 => show (y 1).val = q.val; omega
    | 2 => show (y 2).val = r.val; omega
  rw [block_chunked V c t b (by omega)]
  exact (congrArg _ hy).trans (out0_1_apply _ q r)

/-- Where they find it. -/
theorem chunk_places (b : Fin 4) (q : Fin 2048) (r : Fin 16) :
    ((dat0 V c).arrAt 2 cfg0.N : S4x2048x16.Idx → BitVec 32) (ix3 b q r) = BitVec.ofNat 32 (512 * q.val + (foundAt (chunked V c b) q r.val).val) := by
  refine ((dat0 V c).arrAt_forall_of_covers 2 (fun y v => ∀ b q (r : Fin 16), y = ix3 b q r → (v : BitVec 32) = BitVec.ofNat 32 (512 * q.val + (foundAt (chunked V c b) q r.val).val)) (by decide +kernel) (fun t hf y b q r e => ?_) (ix3 b q r)) b q r rfl
  blk_simp; rw [after0_2]
  have hi := index_same t
  have v0 : b.val = win0_0.index t 0 * 1 + (y 0).val := (congrArg Fin.val (congrFun e 0)).symm.trans ((Pipeline.Window.rect_emb_val win0_2 t y 0).trans (by rw [hi.1.2]; rfl))
  have v1 : q.val = win0_0.index t 1 * 2048 + (y 1).val := (congrArg Fin.val (congrFun e 1)).symm.trans ((Pipeline.Window.rect_emb_val win0_2 t y 1).trans (by rw [hi.1.2]; rfl))
  have v2 : r.val = win0_0.index t 2 * 16 + (y 2).val := (congrArg Fin.val (congrFun e 2)).symm.trans ((Pipeline.Window.rect_emb_val win0_2 t y 2).trans (by rw [hi.1.2]; rfl))
  have hj : (y 0).val = 0 := Nat.lt_one_iff.mp (y 0).isLt
  have hy : y = ix3 0 q r := by
    funext a
    apply Fin.ext
    match a with
    | 0 => exact hj
    | 1 => show (y 1).val = q.val; omega
    | 2 => show (y 2).val = r.val; omega
  rw [block_chunked V c t b (by omega)]
  exact (congrArg _ hy).trans (out0_2_apply _ q r)
end Cert.KernelIdeal.Gen
-- ==== Proof.Chosen.lean ====
module

public import proofs.«01_k».proof.Proof.Choice
public import Idealize.ShloMosaic.Lib.ReduceAll

/-! The candidates the chunks leave hold a row's 2000 greatest scores, when each chunk's sixteenth find
lies under the last score chosen. -/

@[expose] public section

set_option maxRecDepth 16384

noncomputable section

namespace Cert.Choice

open Idealize.ShloMosaic Idealize.ShloMosaic.ValueIdx Cert.Select Cert.KernelIdeal Cert.KernelIdeal.Rounds

section Casts
variable {α : Type} {A B C N : ℕ}

/-- A row cut into chunks. -/
theorem cut_apply (x : (⟨2, ![A, N]⟩ : Shape).Idx → α) (h : (⟨2, ![A, N]⟩ : Shape).ShapeCasts ⟨3, ![A, B, C]⟩) (hN : N = B * C)
    (b : Fin A) (q : Fin B) (l : Fin C) : shapeCast ⟨3, ![A, B, C]⟩ x h (ix3 b q l) = x (ix2 b ⟨q.val * C + l.val, hN ▸ lane_bound q.isLt l.isLt⟩) := by
  refine shapeCast_apply x h _ _ ?_
  rw [Shape.rowMajor_val_three, Shape.rowMajor_val_two]
  show b.val * N + (q.val * C + l.val) = (b.val * B + q.val) * C + l.val
  subst hN; ring

/-- Chunks joined to a row. -/
theorem join_apply (x : (⟨3, ![A, B, C]⟩ : Shape).Idx → α) (h : (⟨3, ![A, B, C]⟩ : Shape).ShapeCasts ⟨2, ![A, N]⟩) (hN : N = B * C) (hC : 0 < C)
    (b : Fin A) (n : Fin N) : shapeCast ⟨2, ![A, N]⟩ x h (ix2 b n) = x (ix3 b ⟨n.val / C, div_bound (hN ▸ n.isLt)⟩ ⟨n.val % C, Nat.mod_lt _ hC⟩) := by
  refine shapeCast_apply x h _ _ ?_
  rw [Shape.rowMajor_val_three, Shape.rowMajor_val_two]
  show (b.val * B + n.val / C) * C + n.val % C = b.val * N + n.val
  have := Nat.div_add_mod' n.val C
  subst hN
  calc _ = b.val * (B * C) + (n.val / C * C + n.val % C) := by ring
    _ = _ := by rw [this]

end Casts

/-- Image `b`'s scores cut into chunks. -/
def chunks (X : S4x1048576.Idx → Ideal .f32) (b : Fin 4) : S1x2048x512.Idx → Ideal .f32 :=
  fun j => X (ix2 b (lane (Q := 2048) (C := 512) (j 1) (j 2)))

theorem fits : 2000 ≤ 32768 := by decide
theorem fitsAll : 2000 ≤ 1048576 := by decide
theorem fitsLast : 1999 < 2000 := by decide

section Pick
variable (X : S4x1048576.Idx → Ideal .f32) (cand : S4x32768.Idx → Ideal .f32) (at_ : S4x32768.Idx → BitVec 32)
  (hcand : ∀ b (n : Fin 32768), cand (ix2 b n) = found (chunks X b) ⟨n.val / 16, div_bound (Q := 2048) n.isLt⟩ (n.val % 16))
  (hat : ∀ b (n : Fin 32768), at_ (ix2 b n) = BitVec.ofNat 32 (512 * (n.val / 16) + (foundAt (chunks X b) ⟨n.val / 16, div_bound (Q := 2048) n.isLt⟩ (n.val % 16)).val))
  (hok : ∀ (b : Fin 4) (q : Fin 2048), (found (chunks X b) q 15 : EReal) < cand (ix2 b (place fits cand b ⟨1999, fitsLast⟩)))
  (b : Fin 4) (i : Fin 2000)
include hcand hok

theorem source_place :
    (place fitsAll X b i : Fin 1048576) = source (Q := 2048) (C := 512) (R := 16) (fun q r => foundAt (chunks X b) q r) (place fits cand b i) :=
  sortedFrom_source (Q := 2048) (C := 512) (R := 16) (K := 1999) (fun n => X (ix2 b n)) (lefts (chunks X b)) (found (chunks X b)) (fun q r => foundAt (chunks X b) q r)
    (fun n => cand (ix2 b n)) (fun q => rounds (chunks X b) q) (fun n => hcand b n) (by decide) (by decide) (by decide) (fun q => hok b q) i

include hat in
theorem at_place : at_ (ix2 b (place fits cand b i)) = BitVec.ofNat 32 (place fitsAll X b i).val := by
  rw [hat, source_place X cand hcand hok b i]
  refine congrArg (BitVec.ofNat 32) ?_
  exact congrArg (· + _) (Nat.mul_comm _ _)

theorem value_place : cand (ix2 b (place fits cand b i)) = X (ix2 b (place fitsAll X b i)) := by
  rw [source_place X cand hcand hok b i]
  refine (X_source (Q := 2048) (C := 512) (R := 16) (fun n => X (ix2 b n)) (lefts (chunks X b)) (found (chunks X b)) (fun q r => foundAt (chunks X b) q r)
    (fun n => cand (ix2 b n)) (fun q => rounds (chunks X b) q) (fun n => hcand b n) _ ?_).symm
  refine lt_of_lt_of_le (lt_of_le_of_lt bot_le (hok b 0)) ?_
  rcases lt_or_eq_of_le (show i ≤ ⟨1999, by decide⟩ by show i.val ≤ 1999; omega) with h | h
  · have := sortedFrom_before (greaterFirst_total fun n : Fin 32768 => (cand (ix2 b n) : EReal)) (i.castLE (by decide)) ((⟨1999, by decide⟩ : Fin 2000).castLE (by decide)) h
    rw [← sortedFrom_greater] at this
    unfold greaterFirst at this
    simp only [Bool.or_eq_true, Bool.and_eq_true, decide_eq_true_eq] at this
    rcases this with h' | h'
    · exact h'.le
    · exact h'.1.ge
  · rw [h]

end Pick

end Cert.Choice
-- ==== Proof.Selected.lean ====
module

public import proofs.«01_k».proof.Proof.Chosen
public import Idealize.ShloMosaic.Lib.StableHlo.ReadAt

/-! The scores and places the program holds after its choice between the two ways of selecting. -/

@[expose] public section

set_option maxRecDepth 16384

noncomputable section

namespace Cert.KernelIdeal.Gen

open Idealize.ShloMosaic hiding ix1 ix2 ix3 ix4 ix5
open Idealize.ShloMosaic.ValueIdx Idealize.ShloMosaic.TcCoe Idealize.ShloMosaic.StableHlo Cert.KernelIdeal.Rounds Cert.Choice
open Idealize.SL.Sem

section Stretch
variable (V : Valuation τ sig (Elt Ideal))

theorem branch_word (w : BitVec 1) : HostLoop.branch (w.setWidth 32) 1 = (if w = 1#1 then 1 else 0 : Fin 2) := by
  revert w; decide

theorem afterCase_one (h : (V (Proc.devRef .tc main_v14) : S_.Idx → BitVec 1) HostLoop.idx0 = 1#1) :
    afterCase V (Proc.devRef .tc main_v16_0) = V (Proc.devRef .tc main_values) ∧ afterCase V (Proc.devRef .tc main_v16_1) = V (Proc.devRef .tc main_v6) := by
  have hb : HostLoop.branch (flagWord V) 1 = (1 : Fin 2) := (branch_word _).trans (if_pos h)
  unfold afterCase
  rw [hb]
  constructor
  · after_reads_simp; exact StableHlo.unary_result_ne _ _ _ _ _ _ (by decide)
  · after_reads_simp; exact StableHlo.unary_result_ne _ _ _ _ _ _ (by decide)

theorem afterCase_zero (x : S4x1048576.Idx → Ideal .f32) (hx : V (Proc.devRef .tc main_v1) = x) (h : ¬ (V (Proc.devRef .tc main_v14) : S_.Idx → BitVec 1) HostLoop.idx0 = 1#1) :
    afterCase V (Proc.devRef .tc main_v16_0) = (Host.topK S4x2000 1 (FloatOps.cmpfTotal .gt) x sliceFits_S4x1048576_S4x2000).1
    ∧ afterCase V (Proc.devRef .tc main_v16_1) = (Host.topK S4x2000 1 (FloatOps.cmpfTotal .gt) x sliceFits_S4x1048576_S4x2000).2 := by
  have hb : HostLoop.branch (flagWord V) 1 = (0 : Fin 2) := (branch_word _).trans (if_neg h)
  have e : flagOp.result V (Proc.devRef .tc main_v1) = V (Proc.devRef .tc main_v1) := StableHlo.unary_result_ne _ _ _ _ _ _ (by decide)
  unfold afterCase
  rw [hb]
  constructor
  · after_reads_simp; rw [e, hx]; rfl
  · after_reads_simp; rw [e, hx]; rfl

variable (x30 : S4x2048x16.Idx → Ideal .f32) (x31 : S4x2048x16.Idx → BitVec 32)
  (h0 : V (Proc.devRef .tc main_v3_0) = x30) (h1 : V (Proc.devRef .tc main_v3_1) = x31)

include h0 in
theorem ops1_values : (after main_part0_ops1 V (Proc.devRef .tc main_values) : S4x2000.Idx → Ideal .f32)
    = (Host.topK S4x2000 1 (FloatOps.cmpfTotal .gt) (shapeCast S4x32768 x30 shapeCasts_S4x2048x16_S4x32768) sliceFits_S4x32768_S4x2000).1 := by
  after_reads_simp; rw [h0]; rfl
include h0 in
theorem ops1_indices : (after main_part0_ops1 V (Proc.devRef .tc main_indices) : S4x2000.Idx → BitVec 32)
    = (Host.topK S4x2000 1 (FloatOps.cmpfTotal .gt) (shapeCast S4x32768 x30 shapeCasts_S4x2048x16_S4x32768) sliceFits_S4x32768_S4x2000).2 := by
  after_reads_simp; rw [h0]; rfl
include h1 in
theorem ops1_at : (after main_part0_ops1 V (Proc.devRef .tc main_v5) : S4x32768.Idx → BitVec 32) = shapeCast S4x32768 x31 shapeCasts_S4x2048x16_S4x32768 := by
  after_reads_simp; rw [h1]; rfl

/-- The places looked up. -/
theorem ops2_v6 [Cert.KernelIdeal.Facts] (x : S4x32768.Idx → BitVec 32) (hx : V (Proc.devRef .tc main_v5) = x) (I : S4x2000.Idx → BitVec 32) (hI : V (Proc.devRef .tc main_indices) = I)
    (hr : ∀ i, (I i).toNat < 32768) (b : Fin 4) (k : Fin 2000) :
    (after main_part0_ops2 V (Proc.devRef .tc main_v6) : S4x2000.Idx → BitVec 32) (ix2 b k) = x (ix2 b ⟨(I (ix2 b k)).toNat, hr _⟩) := by
  after_reads_simp
  (try simp -implicitDefEqProofs only [StableHlo.TRef.toBuf, StableHlo.TRef.ofBuf, cast_cast, cast_eq])
  (try clean_types)
  rw [hx, hI]
  exact Cert.Take.take2 (by decide) _ x I _ _ hr (fun _ => rfl) _ _ (fun _ => rfl) (fun _ => rfl) _ _ (fun _ => rfl) _ _ _ b k

/-- The flag says of every chunk that its sixteenth find lies under the last score chosen. -/
theorem ops3_flag [Cert.KernelIdeal.Facts] (vs : S4x2000.Idx → Ideal .f32) (h0 : V (Proc.devRef .tc main_v3_0) = x30) (hv : V (Proc.devRef .tc main_values) = vs)
    (h : (after main_part0_ops3 V (Proc.devRef .tc main_v14) : S_.Idx → BitVec 1) HostLoop.idx0 = 1#1) (b : Fin 4) (q : Fin 2048) :
    (x30 (ix3 b q 15) : EReal) < vs (ix2 b ⟨1999, by decide⟩) := by
  revert h
  after_reads_simp
  (try simp -implicitDefEqProofs only [StableHlo.TRef.toBuf, StableHlo.TRef.ofBuf, cast_cast, cast_eq])
  (try clean_types)
  rw [h0, hv]
  intro h
  have := Host.reduce_andi_eq_one _ _ _ _ _ h (ix2 b q) (Subsingleton.elim _ _)
  have e1 : shapeCast S4x2048 (extractStridedSlice S4x2048x1 ![0, 0, 15] x30 slices_S4x2048x16_S4x2048x1_0_0_15) shapeCasts_S4x2048x1_S4x2048 (ix2 b q)
      = x30 (ix3 b q 15) := by
    refine (shapeCast_apply _ _ _ (ix3 b q 0) ?_).trans (congrArg x30 ?_)
    · rw [Shape.rowMajor_val_three, Shape.rowMajor_val_two]; show (b.val * 2048 + q.val) * 1 + 0 = b.val * 2048 + q.val; omega
    · funext a
      apply Fin.ext
      match a with
      | 0 => exact Nat.zero_add _
      | 1 => exact Nat.zero_add _
      | 2 => rfl
  have e2 : shapeCast S4 (extractStridedSlice S4x1 ![0, 1999] vs slices_S4x2000_S4x1_0_1999) shapeCasts_S4x1_S4 (ix1 b) = vs (ix2 b ⟨1999, by decide⟩) := by
    refine (shapeCast_apply _ _ _ (ix2 b 0) ?_).trans (congrArg vs ?_)
    · rw [Shape.rowMajor_val_one, Shape.rowMajor_val_two]; show b.val * 1 + 0 = b.val; omega
    · funext a
      apply Fin.ext
      match a with
      | 0 => exact Nat.zero_add _
      | 1 => rfl
  have e3 : broadcastInDim S4x2048 ![0, 1] bcast_S4x1_S4x2048_0_1 (broadcastInDim S4x1 ![0] bcast_S4_S4x1_0
      (shapeCast S4 (extractStridedSlice S4x1 ![0, 1999] vs slices_S4x2000_S4x1_0_1999) shapeCasts_S4x1_S4)) (ix2 b q)
      = shapeCast S4 (extractStridedSlice S4x1 ![0, 1999] vs slices_S4x2000_S4x1_0_1999) shapeCasts_S4x1_S4 (ix1 b) := by
    refine (broadcastInDim_apply _ _ _ _ (ix2 b 0) fun a => ?_).trans (broadcastInDim_apply _ _ _ _ (ix1 b) fun a => ?_)
    · match a with
      | 0 => rfl
      | 1 => rfl
    · match a with
      | 0 => rfl
  rw [← e1, ← e2, ← e3]
  have t : ∀ u v : EReal, BitVec.ofBool (decide (u < v)) = 1#1 → u < v := fun u v huv => by
    by_contra hn
    rw [decide_eq_false hn] at huv
    exact absurd huv (by decide)
  exact t _ _ this
end Stretch

section Chosen
variable [Cert.KernelIdeal.Facts] (m : (ℓ : Loc nD τ sig) → Buf (Elt Ideal) ℓ) (ρ : Dev nD → PrngReg) (c : Dev nD)

/-- The scores of the four images, each in a row. -/
def rowsOf : S4x1048576.Idx → Ideal .f32 := W1 m ρ c (Proc.devRef .tc main_v1)

theorem chunked_eq (b : Fin 4) : chunked (V1 m ρ) c b = chunks (rowsOf m ρ c) b := by
  funext j
  have e : (V1 m ρ c main_v2 : S4x2048x512.Idx → Ideal .f32) = shapeCast S4x2048x512 (rowsOf m ρ c) shapeCasts_S4x1048576_S4x2048x512 := by
    unfold rowsOf
    after_reads_simp; rfl
  unfold chunked
  rw [e]
  exact cut_apply _ _ rfl b (j 1) (j 2)

theorem values_W2 (b : Fin 4) (q : Fin 2048) (r : Fin 16) :
    (W2 m ρ c (Proc.devRef .tc main_v3_0) : S4x2048x16.Idx → Ideal .f32) (ix3 b q r) = found (chunks (rowsOf m ρ c) b) q r.val := by
  rw [← chunked_eq]
  exact (congrFun (W2_arr m ρ c 1) _).trans (chunk_values (V1 m ρ) c b q r)
theorem places_W2 (b : Fin 4) (q : Fin 2048) (r : Fin 16) :
    (W2 m ρ c (Proc.devRef .tc main_v3_1) : S4x2048x16.Idx → BitVec 32) (ix3 b q r) = BitVec.ofNat 32 (512 * q.val + (foundAt (chunks (rowsOf m ρ c) b) q r.val).val) := by
  rw [← chunked_eq]
  exact (congrFun (W2_arr m ρ c 2) _).trans (chunk_places (V1 m ρ) c b q r)

/-- The candidates in a row. -/
def cands : S4x32768.Idx → Ideal .f32 := shapeCast S4x32768 (W2 m ρ c (Proc.devRef .tc main_v3_0) : S4x2048x16.Idx → Ideal .f32) shapeCasts_S4x2048x16_S4x32768
/-- Their places in a row. -/
def spots : S4x32768.Idx → BitVec 32 := shapeCast S4x32768 (W2 m ρ c (Proc.devRef .tc main_v3_1) : S4x2048x16.Idx → BitVec 32) shapeCasts_S4x2048x16_S4x32768

theorem cands_apply (b : Fin 4) (n : Fin 32768) : cands m ρ c (ix2 b n) = found (chunks (rowsOf m ρ c) b) ⟨n.val / 16, by omega⟩ (n.val % 16) :=
  (join_apply (A := 4) (B := 2048) (C := 16) (N := 32768) _ _ rfl (by decide) b n).trans (values_W2 m ρ c b ⟨n.val / 16, by omega⟩ ⟨n.val % 16, by omega⟩)
theorem spots_apply (b : Fin 4) (n : Fin 32768) :
    spots m ρ c (ix2 b n) = BitVec.ofNat 32 (512 * (n.val / 16) + (foundAt (chunks (rowsOf m ρ c) b) ⟨n.val / 16, by omega⟩ (n.val % 16)).val) :=
  (join_apply (A := 4) (B := 2048) (C := 16) (N := 32768) _ _ rfl (by decide) b n).trans (places_W2 m ρ c b ⟨n.val / 16, by omega⟩ ⟨n.val % 16, by omega⟩)

theorem values_W3 (b : Fin 4) (i : Fin 2000) : (W3 m ρ c (Proc.devRef .tc main_values) : S4x2000.Idx → Ideal .f32) (ix2 b i)
    = cands m ρ c (ix2 b (place fits (cands m ρ c) b i)) :=
  (congrFun (ops1_values (W2 m ρ c) _ rfl) _).trans (topK_value (by decide) (cands m ρ c) _ b i)
theorem indices_W3 (b : Fin 4) (i : Fin 2000) : (W3 m ρ c (Proc.devRef .tc main_indices) : S4x2000.Idx → BitVec 32) (ix2 b i)
    = BitVec.ofNat 32 (place fits (cands m ρ c) b i).val :=
  (congrFun (ops1_indices (W2 m ρ c) _ rfl) _).trans (topK_index (by decide) (cands m ρ c) _ b i)
theorem at_W3 : (W3 m ρ c (Proc.devRef .tc main_v5) : S4x32768.Idx → BitVec 32) = spots m ρ c := ops1_at (W2 m ρ c) _ rfl

theorem word_small {N : ℕ} (hN : N ≤ 2 ^ 31) (n : Fin N) : (BitVec.ofNat 32 n.val).toNat = n.val := by
  rw [BitVec.toNat_ofNat]; omega

theorem indices_range (i : S4x2000.Idx) : ((W3 m ρ c (Proc.devRef .tc main_indices) : S4x2000.Idx → BitVec 32) i).toNat < 32768 := by
  have h : i = ix2 (i 0 : Fin 4) (i 1 : Fin 2000) := ValueIdx.eq_ix2 i
  have e := (congrArg (W3 m ρ c (Proc.devRef .tc main_indices) : S4x2000.Idx → BitVec 32) h).trans (indices_W3 m ρ c _ _)
  rw [e, word_small (by decide)]
  exact Fin.isLt _

theorem v6_W4 (b : Fin 4) (i : Fin 2000) : (W4 m ρ c (Proc.devRef .tc main_v6) : S4x2000.Idx → BitVec 32) (ix2 b i)
    = spots m ρ c (ix2 b (place fits (cands m ρ c) b i)) := by
  refine (ops2_v6 (W3 m ρ c) _ (at_W3 m ρ c) _ rfl (indices_range m ρ c) b i).trans ?_
  refine congrArg (fun n => spots m ρ c (ix2 b n)) (Fin.ext ?_)
  show BitVec.toNat _ = _
  rw [indices_W3, word_small (by decide)]

/-- The scores chosen and where they come from. -/
theorem chosen_W6 (b : Fin 4) (i : Fin 2000) :
    (W6 m ρ c (Proc.devRef .tc main_v16_0) : S4x2000.Idx → Ideal .f32) (ix2 b i) = rowsOf m ρ c (ix2 b (place fitsAll (rowsOf m ρ c) b i))
    ∧ (W6 m ρ c (Proc.devRef .tc main_v16_1) : S4x2000.Idx → BitVec 32) (ix2 b i) = BitVec.ofNat 32 (place fitsAll (rowsOf m ρ c) b i).val := by
  by_cases h : (W5 m ρ c (Proc.devRef .tc main_v14) : S_.Idx → BitVec 1) HostLoop.idx0 = 1#1
  · have hv : W4 m ρ c (Proc.devRef .tc main_values) = W3 m ρ c (Proc.devRef .tc main_values) := W4_of m ρ c _ (by decide)
    have h0 : W4 m ρ c (Proc.devRef .tc main_v3_0) = W2 m ρ c (Proc.devRef .tc main_v3_0) := (W4_of m ρ c _ (by decide)).trans (W3_of m ρ c _ (by decide))
    have hok : ∀ (b : Fin 4) (q : Fin 2048), (found (chunks (rowsOf m ρ c) b) q 15 : EReal) < cands m ρ c (ix2 b (place fits (cands m ρ c) b ⟨1999, fitsLast⟩)) := by
      intro b q
      have := ops3_flag (W4 m ρ c) _ _ h0 hv h b q
      rw [values_W3] at this
      exact (values_W2 m ρ c b q 15) ▸ this
    have hc := afterCase_one (W5 m ρ c) h
    have ev : W5 m ρ c (Proc.devRef .tc main_values) = W3 m ρ c (Proc.devRef .tc main_values) := (W5_of m ρ c _ (by decide)).trans hv
    have e6 : W5 m ρ c (Proc.devRef .tc main_v6) = W4 m ρ c (Proc.devRef .tc main_v6) := W5_of m ρ c _ (by decide)
    constructor
    · refine (congrFun (hc.1.trans ev) _).trans ((values_W3 m ρ c b i).trans ?_)
      exact value_place (rowsOf m ρ c) (cands m ρ c) (cands_apply m ρ c) hok b i
    · refine (congrFun (hc.2.trans e6) _).trans ((v6_W4 m ρ c b i).trans ?_)
      exact at_place (rowsOf m ρ c) (cands m ρ c) (spots m ρ c) (cands_apply m ρ c) (spots_apply m ρ c) hok b i
  · have e1 : W5 m ρ c (Proc.devRef .tc main_v1) = rowsOf m ρ c :=
      (W5_of m ρ c _ (by decide)).trans ((W4_of m ρ c _ (by decide)).trans ((W3_of m ρ c _ (by decide)).trans (W2_of m ρ c _ (by decide))))
    have hc := afterCase_zero (W5 m ρ c) _ e1 h
    constructor
    · exact (congrFun hc.1 _).trans (topK_value (by decide) (rowsOf m ρ c) _ b i)
    · exact (congrFun hc.2 _).trans (topK_index (by decide) (rowsOf m ρ c) _ b i)
end Chosen

end Cert.KernelIdeal.Gen
-- ==== Proof.Boxes.lean ====
module

public import Idealize.ShloMosaic.PureOps.Ideal

/-!
# The decode and the overlap test, one box at a time

Each of the two programs decodes a box from five codes and five anchor numbers, surrounds it by an
axis-parallel rectangle, and tests pairs of rectangles for an overlap above seven tenths.
Both programs do so with the same constants in the same order. The functions below state this
once, on single numbers, so that each program's arrays are read against them.
-/

@[expose] public section

noncomputable section

namespace Cert.Boxes

open Idealize.ShloMosaic

/-- One number. -/
abbrev Num : Type := Ideal .f32

/-- A constant from its bit pattern. -/
def lit (b : BitVec 32) : Num := FloatOps.ofBits (F := Ideal) .f32 b

section Decode
variable (d a : Fin 5 → Num)

/-- The centre's first coordinate. -/
def cx : Num := FloatOps.addf (FloatOps.mulf (d 0) (a 2)) (a 0)
/-- The centre's second coordinate. -/
def cy : Num := FloatOps.addf (FloatOps.mulf (d 1) (a 3)) (a 1)
/-- The width. -/
def wd : Num := FloatOps.mulf (FloatOps.exp (FloatOps.minimumf (d 2) (lit 0x40845349#32))) (a 2)
/-- The height. -/
def ht : Num := FloatOps.mulf (FloatOps.exp (FloatOps.minimumf (d 3) (lit 0x40845349#32))) (a 3)
/-- The angle in degrees. -/
def ang : Num := FloatOps.addf (FloatOps.mulf (d 4) (lit 0x42652EE1#32)) (a 4)

/-- The decoded box. -/
def box : Fin 5 → Num := ![cx d a, cy d a, wd d a, ht d a, ang d a]

end Decode

section Envelope
variable (p : Fin 5 → Num)

/-- The angle in radians. -/
def rad : Num := FloatOps.mulf (p 4) (lit 0x3C8EFA35#32)
/-- The size of the angle's cosine. -/
def co : Num := FloatOps.absf (FloatOps.cos (rad p))
/-- The size of the angle's sine. -/
def si : Num := FloatOps.absf (FloatOps.sin (rad p))
/-- Half the rectangle's width. -/
def ex : Num := FloatOps.mulf (FloatOps.addf (FloatOps.mulf (p 2) (co p)) (FloatOps.mulf (p 3) (si p))) (lit 0x3F000000#32)
/-- Half the rectangle's height. -/
def ey : Num := FloatOps.mulf (FloatOps.addf (FloatOps.mulf (p 2) (si p)) (FloatOps.mulf (p 3) (co p))) (lit 0x3F000000#32)
/-- Left edge. -/
def x1 : Num := FloatOps.subf (p 0) (ex p)
/-- Lower edge. -/
def y1 : Num := FloatOps.subf (p 1) (ey p)
/-- Right edge. -/
def x2 : Num := FloatOps.addf (p 0) (ex p)
/-- Upper edge. -/
def y2 : Num := FloatOps.addf (p 1) (ey p)
/-- The rectangle's area. -/
def area : Num := FloatOps.mulf (FloatOps.subf (x2 p) (x1 p)) (FloatOps.subf (y2 p) (y1 p))

end Envelope

section Overlap
variable (p q : Fin 5 → Num)

/-- The area two rectangles share. -/
def shared : Num :=
  FloatOps.mulf
    (FloatOps.maximumf (FloatOps.subf (FloatOps.minimumf (x2 p) (x2 q)) (FloatOps.maximumf (x1 p) (x1 q))) (lit 0#32))
    (FloatOps.maximumf (FloatOps.subf (FloatOps.minimumf (y2 p) (y2 q)) (FloatOps.maximumf (y1 p) (y1 q))) (lit 0#32))

/-- Does their overlap exceed the threshold? -/
def over : BitVec 1 :=
  FloatOps.cmpf .ogt
    (FloatOps.divf (shared p q)
      (FloatOps.addf (FloatOps.subf (FloatOps.addf (area p) (area q)) (shared p q)) (lit 0x3089705F#32)))
    (lit 0x3F333333#32)

end Overlap

/-! ## The greedy pass -/

/-- Which boxes are struck out after the first `i` boxes have had their turn, from the start `s`:
box `i`, unless struck out itself, strikes out every later box it overlaps. -/
def struck (ov : ℕ → ℕ → Prop) (s : ℕ → Prop) : ℕ → ℕ → Prop
  | 0 => s
  | i + 1 => fun l => struck ov s i l ∨ (i < l ∧ ov i l ∧ ¬ struck ov s i i)

end Cert.Boxes
-- ==== Proof.Picked.lean ====
module

public import proofs.«01_k».proof.Proof.Boxes
public import Idealize.ShloMosaic.Lib.ValueIdxCore

/-! The five codes and the five anchor numbers of an entry of the row, read off the arrays given. -/

@[expose] public section

noncomputable section

namespace Cert.Boxes

open Idealize.ShloMosaic Idealize.ShloMosaic.ValueIdx

theorem code_row (n : Fin 1048576) (k : Fin 5) : n.val % 16 * 5 + k.val < 80 := by omega
theorem code_line (n : Fin 1048576) : n.val / 16 / 256 < 256 := by omega
theorem code_col (n : Fin 1048576) : n.val / 16 % 256 < 256 := by omega

/-- The codes of entry `n` of image `b`. -/
def codesAt (B : (⟨4, ![4, 80, 256, 256]⟩ : Shape).Idx → Num) (b : Fin 4) (n : Fin 1048576) : Fin 5 → Num :=
  fun k => B (ix4 b ⟨n.val % 16 * 5 + k.val, code_row n k⟩ ⟨n.val / 16 / 256, code_line n⟩ ⟨n.val / 16 % 256, code_col n⟩)
/-- The anchor of entry `n` of image `b`. -/
def anchorAt (A : (⟨3, ![4, 1048576, 5]⟩ : Shape).Idx → Num) (b : Fin 4) (n : Fin 1048576) : Fin 5 → Num := fun k => A (ix3 b n k)
/-- The box of entry `n` of image `b`. -/
def boxAt (B : (⟨4, ![4, 80, 256, 256]⟩ : Shape).Idx → Num) (A : (⟨3, ![4, 1048576, 5]⟩ : Shape).Idx → Num) (b : Fin 4) (n : Fin 1048576) : Fin 5 → Num :=
  box (codesAt B b n) (anchorAt A b n)

end Cert.Boxes
-- ==== Proof.Codes.lean ====
module

public import proofs.«01_k».proof.Proof.Selected
public import proofs.«01_k».proof.Proof.Picked
public import Idealize.ShloMosaic.Lib.Routing.Words

/-! The codes and anchors of the entries chosen, as the program looks them up. -/

@[expose] public section

set_option maxRecDepth 16384

noncomputable section

namespace Cert.KernelIdeal.Gen

open Idealize.ShloMosaic hiding ix1 ix2 ix3 ix4 ix5
open Idealize.ShloMosaic.ValueIdx Idealize.ShloMosaic.TcCoe Idealize.ShloMosaic.StableHlo Cert.Choice Cert.Boxes
open Idealize.SL.Sem

/-- The floored remainder is the remainder: nothing here is negative. -/
theorem floor_rem (r : Fin 16) (d : BitVec 32) (hd : d = 16#32) :
    Scalar.select (IntOp.andi (IntOp.cmpi .ne (IntOp.cmpi .slt (BitVec.ofNat 32 r.val) 0#32) (IntOp.cmpi .slt d 0#32)) (IntOp.cmpi .ne (BitVec.ofNat 32 r.val) 0#32))
      (BitVec.ofNat 32 r.val + d) (BitVec.ofNat 32 r.val) = BitVec.ofNat 32 r.val := by
  subst hd; revert r; decide

theorem floor_div (n : ℕ) (hn : n < 1048576) (q s : BitVec 32) (hs : s = 1#32) :
    Scalar.select (IntOp.andi (IntOp.cmpi .ne (if BitVec.ofNat 32 n = 0 then 0 else if (BitVec.ofNat 32 n).msb then -1 else 1 : BitVec 32) s) (IntOp.cmpi .ne (BitVec.ofNat 32 (n % 16)) 0#32))
      (q - 1#32) q = q := by
  subst hs
  rcases Nat.eq_zero_or_pos n with rfl | h
  · exact if_neg (by decide)
  · have h1 : ¬ BitVec.ofNat 32 n = 0 := fun e => by
      have := congrArg BitVec.toNat e
      rw [BitVec.toNat_ofNat] at this
      simp at this; omega
    have h2 : (BitVec.ofNat 32 n).msb = false := by
      rw [BitVec.msb_eq_false_iff_two_mul_lt, BitVec.toNat_ofNat]; omega
    rw [if_neg h1, h2]
    refine if_neg ?_
    have e : IntOp.cmpi .ne (if (false : Bool) = true then -1 else 1 : BitVec 32) 1#32 = 0#1 := by decide
    rw [e]
    generalize IntOp.cmpi .ne (BitVec.ofNat 32 (n % 16)) 0#32 = z
    revert z; decide

section Stretch
variable (V : Valuation τ sig (Elt Ideal)) [Cert.KernelIdeal.Facts] (I : S4x2000.Idx → BitVec 32) (n : S4x2000.Idx → Fin 1048576) (hI : ∀ i, I i = BitVec.ofNat 32 (n i).val)
include hI

theorem ops5_v17 (hc : V (Proc.devRef .tc main_c_0) = constantI S_ 32 16#32) (hx : V (Proc.devRef .tc main_v16_1) = I) (i : S4x2000.Idx) :
    (after main_part0_ops5 V (Proc.devRef .tc main_v17) : S4x2000.Idx → BitVec 32) i = BitVec.ofNat 32 ((n i).val % 16) := by
  after_reads_simp
  (try simp -implicitDefEqProofs only [StableHlo.TRef.toBuf, StableHlo.TRef.ofBuf, cast_cast, cast_eq])
  (try clean_types)
  rw [hc, hx]
  have hr : IntOp.remsi .host (I i) 16#32 = BitVec.ofNat 32 ((n i).val % 16) := by
    rw [hI]; exact Routing.remsi_word .host (by have := (n i).isLt; omega) (by decide) (by decide)
  have := floor_rem ⟨(n i).val % 16, Nat.mod_lt _ (by decide)⟩ 16#32 rfl
  rw [← hr] at this
  refine Eq.trans ?_ (this.trans hr)
  rfl

theorem ops7_v18 (hc : V (Proc.devRef .tc main_c_1) = constantI S_ 32 16#32) (hx : V (Proc.devRef .tc main_v16_1) = I) (i : S4x2000.Idx) :
    (after main_part0_ops7 V (Proc.devRef .tc main_v18) : S4x2000.Idx → BitVec 32) i = BitVec.ofNat 32 ((n i).val / 16) := by
  after_reads_simp
  (try simp -implicitDefEqProofs only [StableHlo.TRef.toBuf, StableHlo.TRef.ofBuf, cast_cast, cast_eq])
  (try clean_types)
  rw [hc, hx]
  have hr : IntOp.remsi .host (I i) 16#32 = BitVec.ofNat 32 ((n i).val % 16) := by
    rw [hI]; exact Routing.remsi_word .host (by have := (n i).isLt; omega) (by decide) (by decide)
  have hd : IntOp.divsi .host (I i) 16#32 = BitVec.ofNat 32 ((n i).val / 16) := by
    rw [hI]; exact Routing.divsi_word .host (by have := (n i).isLt; omega) (by decide) (by decide)
  have := floor_div (n i).val (n i).isLt (IntOp.divsi .host (I i) 16#32) (signi (constantI S_ 32 16#32) HostLoop.idx0) (by decide)
  rw [← hr, ← hI] at this
  refine Eq.trans ?_ (this.trans hd)
  rfl

omit hI in
theorem ops8_v33 (v17 v18 : S4x2000.Idx → BitVec 32) (h17 : V (Proc.devRef .tc main_v17) = v17) (h18 : V (Proc.devRef .tc main_v18) = v18)
    (e17 : ∀ i, v17 i = BitVec.ofNat 32 ((n i).val % 16)) (e18 : ∀ i, v18 i = BitVec.ofNat 32 ((n i).val / 16)) (b : Fin 4) (j : Fin 10000) :
    (after main_part0_ops8 V (Proc.devRef .tc main_v33) : S4x10000.Idx → BitVec 32) (ix2 b j)
      = BitVec.ofNat 32 (((n (ix2 b ⟨j.val / 5, by omega⟩)).val % 16 * 5 + j.val % 5) * 65536 + (n (ix2 b ⟨j.val / 5, by omega⟩)).val / 16) := by
  after_reads_simp
  (try simp -implicitDefEqProofs only [StableHlo.TRef.toBuf, StableHlo.TRef.ofBuf, cast_cast, cast_eq])
  (try clean_types)
  rw [h17, h18]
  refine (join_apply (A := 4) (B := 2000) (C := 5) (N := 10000) _ _ rfl (by decide) b j).trans ?_
  have a1 : ∀ (x : S4x2000x1.Idx → BitVec 32) (i : Fin 2000) (k : Fin 5), broadcastInDim S4x2000x5 ![0, 1, 2] bcast_S4x2000x1_S4x2000x5_0_1_2 x (ix3 b i k) = x (ix3 b i 0) := fun x i k => by
    refine broadcastInDim_apply _ _ _ _ _ fun a => ?_
    match a with
    | 0 => rfl
    | 1 => rfl
    | 2 => rfl
  have a2 : ∀ (x : S4x2000.Idx → BitVec 32) (i : Fin 2000), broadcastInDim S4x2000x1 ![0, 1] bcast_S4x2000_S4x2000x1_0_1 x (ix3 b i 0) = x (ix2 b i) := fun x i => by
    refine broadcastInDim_apply _ _ _ _ _ fun a => ?_
    match a with
    | 0 => rfl
    | 1 => rfl
  have a3 : ∀ (i : Fin 2000) (k : Fin 5), broadcastInDim S4x2000x5 ![0, 1, 2] bcast_S1x1x5_S4x2000x5_0_1_2 (broadcastInDim S1x1x5 ![2] bcast_S5_S1x1x5_2 (iotaInDim S5 32 0)) (ix3 b i k) = BitVec.ofNat 32 k.val := fun i k => by
    refine (broadcastInDim_apply _ _ _ _ (ix3 0 0 k) fun a => ?_).trans ((broadcastInDim_apply _ _ _ _ (ix1 k) fun a => ?_).trans rfl)
    · match a with
      | 0 => rfl
      | 1 => rfl
      | 2 => rfl
    · match a with
      | 0 => rfl
  have e1 := (a1 (muli (broadcastInDim S4x2000x1 ![0, 1] bcast_S4x2000_S4x2000x1_0_1 v17) (broadcastInDim S4x2000x1 ![] bcast_S_S4x2000x1 (constantI S_ 32 5#32))) ⟨j.val / 5, by omega⟩ ⟨j.val % 5, by omega⟩).trans
    (congrArg (· * 5#32) ((a2 v17 ⟨j.val / 5, by omega⟩).trans (e17 _)))
  have e2 := a3 ⟨j.val / 5, by omega⟩ ⟨j.val % 5, by omega⟩
  have e3 := (a1 (broadcastInDim S4x2000x1 ![0, 1] bcast_S4x2000_S4x2000x1_0_1 v18) ⟨j.val / 5, by omega⟩ ⟨j.val % 5, by omega⟩).trans ((a2 v18 ⟨j.val / 5, by omega⟩).trans (e18 _))
  refine (congrArg₂ (· + ·) (congrArg (· * 65536#32) (congrArg₂ (· + ·) e1 e2)) e3).trans ?_
  apply BitVec.eq_of_toNat_eq
  simp only [BitVec.toNat_add, BitVec.toNat_mul, BitVec.toNat_ofNat]
  omega

omit hI in
theorem ops8_v32 (x : S4x80x256x256.Idx → Ideal .f32) (hx : V (Proc.devRef .tc main_arg2) = x) (b : Fin 4) (p : Fin 1048576) (k : Fin 5)
    (h : (p.val % 16 * 5 + k.val) * 65536 + p.val / 16 < 5242880) :
    (after main_part0_ops8 V (Proc.devRef .tc main_v32) : S4x5242880.Idx → Ideal .f32) (ix2 b ⟨(p.val % 16 * 5 + k.val) * 65536 + p.val / 16, h⟩) = codesAt x b p k := by
  after_reads_simp
  rw [hx]
  refine shapeCast_apply (t := S4x5242880) _ _ _ (ix4 b ⟨p.val % 16 * 5 + k.val, code_row p k⟩ ⟨p.val / 16 / 256, code_line p⟩ ⟨p.val / 16 % 256, code_col p⟩) ?_
  rw [Shape.rowMajor_val_four, Shape.rowMajor_val_two]
  show ((b.val * 80 + (p.val % 16 * 5 + k.val)) * 256 + p.val / 16 / 256) * 256 + p.val / 16 % 256 = b.val * 5242880 + ((p.val % 16 * 5 + k.val) * 65536 + p.val / 16)
  omega

omit hI in
theorem ops9_v34 (x : S4x5242880.Idx → Ideal .f32) (hx : V (Proc.devRef .tc main_v32) = x) (J : S4x10000.Idx → BitVec 32) (hJ : V (Proc.devRef .tc main_v33) = J)
    (hr : ∀ i, (J i).toNat < 5242880) (b : Fin 4) (j : Fin 10000) :
    (after main_part0_ops9 V (Proc.devRef .tc main_v34) : S4x10000.Idx → Ideal .f32) (ix2 b j) = x (ix2 b ⟨(J (ix2 b j)).toNat, hr _⟩) := by
  after_reads_simp
  (try simp -implicitDefEqProofs only [StableHlo.TRef.toBuf, StableHlo.TRef.ofBuf, cast_cast, cast_eq])
  (try clean_types)
  rw [hx, hJ]
  exact Cert.Take.take2 (by decide) _ x J _ _ hr (fun _ => rfl) _ _ (fun _ => rfl) (fun _ => rfl) _ _ (fun _ => rfl) _ _ _ b j

omit hI in
theorem ops10_v35 (x : S4x10000.Idx → Ideal .f32) (hx : V (Proc.devRef .tc main_v34) = x) (b : Fin 4) (i : Fin 2000) (k : Fin 5) :
    (after main_part0_ops10 V (Proc.devRef .tc main_v35) : S4x2000x5.Idx → Ideal .f32) (ix3 b i k) = x (ix2 b ⟨i.val * 5 + k.val, by omega⟩) := by
  after_reads_simp
  rw [hx]
  exact cut_apply (A := 4) (B := 2000) (C := 5) (N := 10000) x _ rfl b i k

omit hI in
theorem ops10_v36 (hx : V (Proc.devRef .tc main_v16_1) = I) (b : Fin 4) (i : Fin 2000) :
    (after main_part0_ops10 V (Proc.devRef .tc main_v36) : S4x2000x1.Idx → BitVec 32) (ix3 b i 0) = I (ix2 b i) := by
  after_reads_simp
  rw [hx]
  refine broadcastInDim_apply _ _ _ _ _ fun a => ?_
  match a with
  | 0 => rfl
  | 1 => rfl

omit hI in
theorem ops11_v37 (x : S4x1048576x5.Idx → Ideal .f32) (hx : V (Proc.devRef .tc main_arg0) = x) (J : S4x2000x1.Idx → BitVec 32) (hJ : V (Proc.devRef .tc main_v36) = J)
    (hr : ∀ i, (J i).toNat < 1048576) (b : Fin 4) (i : Fin 2000) (k : Fin 5) :
    (after main_part0_ops11 V (Proc.devRef .tc main_v37) : S4x2000x5.Idx → Ideal .f32) (ix3 b i k) = x (ix3 b ⟨(J (ix3 b i 0)).toNat, hr _⟩ k) := by
  after_reads_simp
  (try simp -implicitDefEqProofs only [StableHlo.TRef.toBuf, StableHlo.TRef.ofBuf, cast_cast, cast_eq])
  (try clean_types)
  rw [hx, hJ]
  exact Cert.Take.take3 (by decide) _ x J _ _ hr (fun _ => rfl) _ _ (fun _ => rfl) (fun _ => rfl) _ (fun _ => rfl) _ _ _ _ b i k
end Stretch

section Chosen
variable [Cert.KernelIdeal.Facts] (m : (ℓ : Loc nD τ sig) → Buf (Elt Ideal) ℓ) (ρ : Dev nD → PrngReg) (c : Dev nD)

/-- The place of the `i`-th chosen. -/
def spotOf (i : S4x2000.Idx) : Fin 1048576 := place fitsAll (rowsOf m ρ c) (i 0) (i 1)
/-- The three arrays given. -/
def anchorsOf : S4x1048576x5.Idx → Ideal .f32 := m ((c : Thread nD τ).loc main_arg0)
def codesOf : S4x80x256x256.Idx → Ideal .f32 := m ((c : Thread nD τ).loc main_arg2)

/-- The words of the places chosen. -/
theorem spots_W6 (i : S4x2000.Idx) : (W6 m ρ c (Proc.devRef .tc main_v16_1) : S4x2000.Idx → BitVec 32) i = BitVec.ofNat 32 (spotOf m ρ c i).val := by
  have h : i = ix2 (i 0 : Fin 4) (i 1 : Fin 2000) := ValueIdx.eq_ix2 i
  exact (congrArg _ h).trans (chosen_W6 m ρ c (i 0) (i 1)).2

theorem v17_W8 (i : S4x2000.Idx) : (W8 m ρ c (Proc.devRef .tc main_v17) : S4x2000.Idx → BitVec 32) i = BitVec.ofNat 32 ((spotOf m ρ c i).val % 16) :=
  ops5_v17 (W7 m ρ c) _ (spotOf m ρ c) (spots_W6 m ρ c) (by unfold W7; after_reads_simp) (W7_of m ρ c _ (by decide)) i
theorem v18_W10 (i : S4x2000.Idx) : (W10 m ρ c (Proc.devRef .tc main_v18) : S4x2000.Idx → BitVec 32) i = BitVec.ofNat 32 ((spotOf m ρ c i).val / 16) :=
  ops7_v18 (W9 m ρ c) _ (spotOf m ρ c) (spots_W6 m ρ c) (by unfold W9; after_reads_simp)
    ((W9_of m ρ c _ (by decide)).trans ((W8_of m ρ c _ (by decide)).trans (W7_of m ρ c _ (by decide)))) i
theorem v33_W11 (b : Fin 4) (j : Fin 10000) : (W11 m ρ c (Proc.devRef .tc main_v33) : S4x10000.Idx → BitVec 32) (ix2 b j)
      = BitVec.ofNat 32 (((spotOf m ρ c (ix2 b ⟨j.val / 5, by omega⟩)).val % 16 * 5 + j.val % 5) * 65536 + (spotOf m ρ c (ix2 b ⟨j.val / 5, by omega⟩)).val / 16) :=
  ops8_v33 (W10 m ρ c) (spotOf m ρ c) _ _ ((W10_of m ρ c _ (by decide)).trans (W9_of m ρ c _ (by decide))) rfl (v17_W8 m ρ c) (v18_W10 m ρ c) b j
theorem off_range (p : Fin 1048576) (k : ℕ) (hk : k < 5) : (p.val % 16 * 5 + k) * 65536 + p.val / 16 < 5242880 := by omega
theorem v33_small (b : Fin 4) (j : Fin 10000) : ((W11 m ρ c (Proc.devRef .tc main_v33) : S4x10000.Idx → BitVec 32) (ix2 b j)).toNat < 5242880 := by
  rw [v33_W11, BitVec.toNat_ofNat]
  exact lt_of_le_of_lt (Nat.mod_le _ _) (off_range _ _ (Nat.mod_lt _ (by decide)))
theorem v33_range (i : S4x10000.Idx) : ((W11 m ρ c (Proc.devRef .tc main_v33) : S4x10000.Idx → BitVec 32) i).toNat < 5242880 := by
  have h : i = ix2 (i 0 : Fin 4) (i 1 : Fin 10000) := ValueIdx.eq_ix2 i
  exact h ▸ v33_small m ρ c _ _
theorem v33_at (b : Fin 4) (i : Fin 2000) (k : Fin 5) (h : i.val * 5 + k.val < 10000) :
    ((W11 m ρ c (Proc.devRef .tc main_v33) : S4x10000.Idx → BitVec 32) (ix2 b ⟨i.val * 5 + k.val, h⟩)).toNat
      = ((spotOf m ρ c (ix2 b i)).val % 16 * 5 + k.val) * 65536 + (spotOf m ρ c (ix2 b i)).val / 16 := by
  rw [v33_W11, BitVec.toNat_ofNat]
  have e1 : (i.val * 5 + k.val) / 5 = i.val := by omega
  have e2 : (i.val * 5 + k.val) % 5 = k.val := by omega
  simp only [e1, e2]
  exact Nat.mod_eq_of_lt (lt_trans (off_range _ _ k.isLt) (by decide))

theorem spot_word (p : Fin 1048576) : (BitVec.ofNat 32 p.val).toNat = p.val := word_small (by decide) p
/-- The codes of the `i`-th chosen. -/
theorem codes_W13 (b : Fin 4) (i : Fin 2000) (k : Fin 5) :
    (W13 m ρ c (Proc.devRef .tc main_v35) : S4x2000x5.Idx → Ideal .f32) (ix3 b i k) = codesAt (codesOf m c) b (spotOf m ρ c (ix2 b i)) k := by
  have h : i.val * 5 + k.val < 10000 := by omega
  have e1 := ops10_v35 (W12 m ρ c) _ rfl b i k
  have e2 := ops9_v34 (W11 m ρ c) _ rfl _ rfl (v33_range m ρ c) b ⟨i.val * 5 + k.val, h⟩
  have e3 := ops8_v32 (W10 m ρ c) (codesOf m c) (W10_args m ρ c main_arg2 (by decide)) b (spotOf m ρ c (ix2 b i)) k (off_range _ _ k.isLt)
  refine e1.trans (e2.trans (Eq.trans ?_ e3))
  exact congrArg (fun n => (W11 m ρ c (Proc.devRef .tc main_v32) : S4x5242880.Idx → Ideal .f32) (ix2 b n)) (Fin.ext (v33_at m ρ c b i k h))

theorem at_same {α : Type} {B N C : ℕ} (x : Shape.Idx ⟨3, ![B, N, C]⟩ → α) (b : Fin B) (n n' : Fin N) (h : n.val = n'.val) (k : Fin C) :
    x (ix3 b n k) = x (ix3 b n' k) := by rw [Fin.ext h]
theorem places_W12 : W12 m ρ c (Proc.devRef .tc main_v16_1) = W6 m ρ c (Proc.devRef .tc main_v16_1) :=
  (W12_of m ρ c _ (by decide)).trans ((W11_of m ρ c _ (by decide)).trans ((W10_of m ρ c _ (by decide)).trans ((W9_of m ρ c _ (by decide)).trans
    ((W8_of m ρ c _ (by decide)).trans (W7_of m ρ c _ (by decide))))))
theorem v36_W13 (b : Fin 4) (i : Fin 2000) : (W13 m ρ c (Proc.devRef .tc main_v36) : S4x2000x1.Idx → BitVec 32) (ix3 b i 0) = BitVec.ofNat 32 (spotOf m ρ c (ix2 b i)).val :=
  (ops10_v36 (W12 m ρ c) _ (places_W12 m ρ c) b i).trans (spots_W6 m ρ c _)
theorem thin {A B : ℕ} (i : Shape.Idx ⟨3, ![A, B, 1]⟩) : i = ix3 (i 0 : Fin A) (i 1 : Fin B) (0 : Fin 1) := by
  funext a
  match a with
  | 0 => rfl
  | 1 => rfl
  | 2 => exact Fin.ext (Nat.lt_one_iff.mp (i 2).isLt)
theorem v36_range (i : S4x2000x1.Idx) : ((W13 m ρ c (Proc.devRef .tc main_v36) : S4x2000x1.Idx → BitVec 32) i).toNat < 1048576 := by
  have e := (congrArg BitVec.toNat ((congrArg (W13 m ρ c (Proc.devRef .tc main_v36) : S4x2000x1.Idx → BitVec 32) (thin i)).trans (v36_W13 m ρ c _ _))).trans (spot_word _)
  exact e ▸ Fin.isLt _

/-- The anchors of the `i`-th chosen. -/
theorem anchors_W14 (b : Fin 4) (i : Fin 2000) (k : Fin 5) :
    (W14 m ρ c (Proc.devRef .tc main_v37) : S4x2000x5.Idx → Ideal .f32) (ix3 b i k) = anchorAt (anchorsOf m c) b (spotOf m ρ c (ix2 b i)) k := by
  obtain ⟨J, hJ⟩ : ∃ J : S4x2000x1.Idx → BitVec 32, W13 m ρ c (Proc.devRef .tc main_v36) = J := ⟨_, rfl⟩
  have hr : ∀ i, (J i).toNat < 1048576 := fun i => hJ ▸ v36_range m ρ c i
  have h : (J (ix3 b i 0)).toNat = (spotOf m ρ c (ix2 b i)).val := (congrArg BitVec.toNat ((congrFun hJ.symm _).trans (v36_W13 m ρ c b i))).trans (spot_word _)
  have e := ops11_v37 (W13 m ρ c) (anchorsOf m c) (W13_args m ρ c main_arg0 (by decide)) J hJ hr b i k
  exact e.trans (at_same (B := 4) (N := 1048576) (C := 5) (anchorsOf m c) b ⟨(J (ix3 b i 0)).toNat, hr _⟩ (spotOf m ρ c (ix2 b i)) h k)
end Chosen

end Cert.KernelIdeal.Gen
-- ==== Proof.Padded.lean ====
module

public import proofs.«01_k».proof.Proof.Codes
public import Idealize.ShloMosaic.Lib.KernelVsHost

/-! The chosen codes, anchors and scores as the second region takes them: padded to its tiles, one copy of the codes and
anchors turned over. -/

@[expose] public section

set_option maxRecDepth 16384

noncomputable section

namespace Cert.KernelIdeal.Gen

open Idealize.ShloMosaic hiding ix1 ix2 ix3 ix4 ix5
open Idealize.ShloMosaic.ValueIdx Idealize.ShloMosaic.TcCoe Idealize.ShloMosaic.StableHlo Cert.Choice Cert.Boxes
open Idealize.SL.Sem

theorem lane_of (i : Fin 2000) : i.val < 2048 := by omega
theorem row_of (k : Fin 5) : k.val < 8 := by omega

section Stretch
variable (V : Valuation τ sig (Elt Ideal))

theorem ops13_v38 (x : S4x2000x5.Idx → Ideal .f32) (hx : V (Proc.devRef .tc main_v35) = x) (b : Fin 4) (i : Fin 2000) (k : Fin 5) :
    (after main_part0_ops13 V (Proc.devRef .tc main_v38) : S4x2048x5.Idx → Ideal .f32) (ix3 b ⟨i.val, lane_of i⟩ k) = x (ix3 b i k) := by
  after_reads_simp
  (try simp -implicitDefEqProofs only [StableHlo.TRef.toBuf, StableHlo.TRef.ofBuf, cast_cast, cast_eq])
  (try clean_types)
  rw [hx]
  refine pad_apply_of_inside _ _ _ x _ _ _ _ (ix3 b i k) fun a => ?_
  match a with
  | 0 => show b.val = 0 + b.val * 1; omega
  | 1 => show i.val = 0 + i.val * 1; omega
  | 2 => show k.val = 0 + k.val * 1; omega

theorem ops15_v39 (x : S4x2000x5.Idx → Ideal .f32) (hx : V (Proc.devRef .tc main_v37) = x) (b : Fin 4) (i : Fin 2000) (k : Fin 5) :
    (after main_part0_ops15 V (Proc.devRef .tc main_v39) : S4x2048x5.Idx → Ideal .f32) (ix3 b ⟨i.val, lane_of i⟩ k) = x (ix3 b i k) := by
  after_reads_simp
  (try simp -implicitDefEqProofs only [StableHlo.TRef.toBuf, StableHlo.TRef.ofBuf, cast_cast, cast_eq])
  (try clean_types)
  rw [hx]
  refine pad_apply_of_inside _ _ _ x _ _ _ _ (ix3 b i k) fun a => ?_
  match a with
  | 0 => show b.val = 0 + b.val * 1; omega
  | 1 => show i.val = 0 + i.val * 1; omega
  | 2 => show k.val = 0 + k.val * 1; omega

theorem ops17_v40 (x : S4x2000.Idx → Ideal .f32) (hx : V (Proc.devRef .tc main_v16_0) = x) (b : Fin 4) (i : Fin 2000) :
    (after main_part0_ops17 V (Proc.devRef .tc main_v40) : S4x2048.Idx → Ideal .f32) (ix2 b ⟨i.val, lane_of i⟩) = x (ix2 b i) := by
  after_reads_simp
  (try simp -implicitDefEqProofs only [StableHlo.TRef.toBuf, StableHlo.TRef.ofBuf, cast_cast, cast_eq])
  (try clean_types)
  rw [hx]
  refine pad_apply_of_inside _ _ _ x _ _ _ _ (ix2 b i) fun a => ?_
  match a with
  | 0 => show b.val = 0 + b.val * 1; omega
  | 1 => show i.val = 0 + i.val * 1; omega

theorem turned (x : S4x2048x5.Idx → Ideal .f32) (h) (b : Fin 4) (l : Fin 2048) (k : Fin 5) :
    transpose S4x5x2048 [0, 2, 1] x h (ix3 b k l) = x (ix3 b l k) := by
  refine transpose_apply _ x h _ _ fun a => ?_
  match a with
  | 0 => rfl
  | 1 => rfl
  | 2 => rfl

theorem row_padded (x : S4x5x2048.Idx → Ideal .f32) (v : S_.Idx → Ideal .f32) (h) (hu) (b : Fin 4) (l : Fin 2048) (k : Fin 5) :
    pad S4x8x2048 ![0, 0, 0] ![0, 3, 0] ![0, 0, 0] x v h hu (ix3 b ⟨k.val, row_of k⟩ l) = x (ix3 b k l) := by
  refine pad_apply_of_inside _ _ _ x _ _ _ _ (ix3 b k l) fun a => ?_
  match a with
  | 0 => show b.val = 0 + b.val * 1; omega
  | 1 => show k.val = 0 + k.val * 1; omega
  | 2 => show l.val = 0 + l.val * 1; omega

theorem column_padded (x : S4x2048x5.Idx → Ideal .f32) (v : S_.Idx → Ideal .f32) (h) (hu) (b : Fin 4) (l : Fin 2048) (k : Fin 5) :
    pad S4x2048x8 ![0, 0, 0] ![0, 0, 3] ![0, 0, 0] x v h hu (ix3 b l ⟨k.val, row_of k⟩) = x (ix3 b l k) := by
  refine pad_apply_of_inside _ _ _ x _ _ _ _ (ix3 b l k) fun a => ?_
  match a with
  | 0 => show b.val = 0 + b.val * 1; omega
  | 1 => show l.val = 0 + l.val * 1; omega
  | 2 => show k.val = 0 + k.val * 1; omega

theorem ops18_v41 (x : S4x2048x5.Idx → Ideal .f32) (hx : V (Proc.devRef .tc main_v38) = x) (b : Fin 4) (l : Fin 2048) (k : Fin 5) :
    (after main_part0_ops18 V (Proc.devRef .tc main_v41) : S4x5x2048.Idx → Ideal .f32) (ix3 b k l) = x (ix3 b l k) := by
  after_reads_simp
  rw [hx]; exact turned x _ b l k
theorem ops19_v42 (x : S4x5x2048.Idx → Ideal .f32) (hx : V (Proc.devRef .tc main_v41) = x) (b : Fin 4) (l : Fin 2048) (k : Fin 5) :
    (after main_part0_ops19 V (Proc.devRef .tc main_v42) : S4x8x2048.Idx → Ideal .f32) (ix3 b ⟨k.val, row_of k⟩ l) = x (ix3 b k l) := by
  after_reads_simp
  (try simp -implicitDefEqProofs only [StableHlo.TRef.toBuf, StableHlo.TRef.ofBuf, cast_cast, cast_eq])
  (try clean_types)
  rw [hx]; exact row_padded x _ _ _ b l k
theorem ops20_v43 (x : S4x2048x5.Idx → Ideal .f32) (hx : V (Proc.devRef .tc main_v39) = x) (b : Fin 4) (l : Fin 2048) (k : Fin 5) :
    (after main_part0_ops20 V (Proc.devRef .tc main_v43) : S4x5x2048.Idx → Ideal .f32) (ix3 b k l) = x (ix3 b l k) := by
  after_reads_simp
  rw [hx]; exact turned x _ b l k
theorem ops21_v44 (x : S4x5x2048.Idx → Ideal .f32) (hx : V (Proc.devRef .tc main_v43) = x) (b : Fin 4) (l : Fin 2048) (k : Fin 5) :
    (after main_part0_ops21 V (Proc.devRef .tc main_v44) : S4x8x2048.Idx → Ideal .f32) (ix3 b ⟨k.val, row_of k⟩ l) = x (ix3 b k l) := by
  after_reads_simp
  (try simp -implicitDefEqProofs only [StableHlo.TRef.toBuf, StableHlo.TRef.ofBuf, cast_cast, cast_eq])
  (try clean_types)
  rw [hx]; exact row_padded x _ _ _ b l k
theorem ops23_v45 (x : S4x2048x5.Idx → Ideal .f32) (hx : V (Proc.devRef .tc main_v38) = x) (b : Fin 4) (l : Fin 2048) (k : Fin 5) :
    (after main_part0_ops23 V (Proc.devRef .tc main_v45) : S4x2048x8.Idx → Ideal .f32) (ix3 b l ⟨k.val, row_of k⟩) = x (ix3 b l k) := by
  after_reads_simp
  (try simp -implicitDefEqProofs only [StableHlo.TRef.toBuf, StableHlo.TRef.ofBuf, cast_cast, cast_eq])
  (try clean_types)
  rw [hx]; exact column_padded x _ _ _ b l k
theorem ops0_v46 (x : S4x2048x5.Idx → Ideal .f32) (hx : V (Proc.devRef .tc main_v39) = x) (b : Fin 4) (l : Fin 2048) (k : Fin 5) :
    (after main_part1_ops0 V (Proc.devRef .tc main_v46) : S4x2048x8.Idx → Ideal .f32) (ix3 b l ⟨k.val, row_of k⟩) = x (ix3 b l k) := by
  after_reads_simp
  (try simp -implicitDefEqProofs only [StableHlo.TRef.toBuf, StableHlo.TRef.ofBuf, cast_cast, cast_eq])
  (try clean_types)
  rw [hx]; exact column_padded x _ _ _ b l k
theorem ops1_v47 (x : S4x2048.Idx → Ideal .f32) (hx : V (Proc.devRef .tc main_v40) = x) (b : Fin 4) (l : Fin 2048) :
    (after main_part1_ops1 V (Proc.devRef .tc main_v47) : S4x1x2048.Idx → Ideal .f32) (ix3 b 0 l) = x (ix2 b l) := by
  after_reads_simp
  rw [hx]
  refine shapeCast_apply (s := S4x2048) (t := S4x1x2048) x _ _ (ix2 b l) ?_
  rw [Shape.rowMajor_val_two, Shape.rowMajor_val_three]
  show b.val * 2048 + l.val = (b.val * 1 + 0) * 2048 + l.val
  omega
end Stretch

section Held
variable [Cert.KernelIdeal.Facts] (m : (ℓ : Loc nD τ sig) → Buf (Elt Ideal) ℓ) (ρ : Dev nD → PrngReg) (c : Dev nD)

/-- The padded codes, anchors and scores. -/
def paddedCodes : S4x2048x5.Idx → Ideal .f32 := W16 m ρ c (Proc.devRef .tc main_v38)
def paddedAnchors : S4x2048x5.Idx → Ideal .f32 := W18 m ρ c (Proc.devRef .tc main_v39)
def paddedScores : S4x2048.Idx → Ideal .f32 := W20 m ρ c (Proc.devRef .tc main_v40)

theorem codes_of (b : Fin 4) (i : Fin 2000) (k : Fin 5) :
    paddedCodes m ρ c (ix3 b ⟨i.val, lane_of i⟩ k) = codesAt (codesOf m c) b (spotOf m ρ c (ix2 b i)) k :=
  (ops13_v38 (W15 m ρ c) _ ((W15_of m ρ c _ (by decide)).trans (W14_of m ρ c _ (by decide))) b i k).trans (codes_W13 m ρ c b i k)
theorem anchors_of (b : Fin 4) (i : Fin 2000) (k : Fin 5) :
    paddedAnchors m ρ c (ix3 b ⟨i.val, lane_of i⟩ k) = anchorAt (anchorsOf m c) b (spotOf m ρ c (ix2 b i)) k :=
  (ops15_v39 (W17 m ρ c) _ ((W17_of m ρ c _ (by decide)).trans ((W16_of m ρ c _ (by decide)).trans (W15_of m ρ c _ (by decide)))) b i k).trans (anchors_W14 m ρ c b i k)
theorem scores_W12 : W12 m ρ c (Proc.devRef .tc main_v16_0) = W6 m ρ c (Proc.devRef .tc main_v16_0) :=
  (W12_of m ρ c _ (by decide)).trans ((W11_of m ρ c _ (by decide)).trans ((W10_of m ρ c _ (by decide)).trans ((W9_of m ρ c _ (by decide)).trans
    ((W8_of m ρ c _ (by decide)).trans (W7_of m ρ c _ (by decide))))))
theorem scores_W19 : W19 m ρ c (Proc.devRef .tc main_v16_0) = W12 m ρ c (Proc.devRef .tc main_v16_0) :=
  (W19_of m ρ c _ (by decide)).trans ((W18_of m ρ c _ (by decide)).trans ((W17_of m ρ c _ (by decide)).trans ((W16_of m ρ c _ (by decide)).trans
    ((W15_of m ρ c _ (by decide)).trans ((W14_of m ρ c _ (by decide)).trans (W13_of m ρ c _ (by decide)))))))
theorem scores_of (b : Fin 4) (i : Fin 2000) :
    paddedScores m ρ c (ix2 b ⟨i.val, lane_of i⟩) = rowsOf m ρ c (ix2 b (spotOf m ρ c (ix2 b i))) :=
  (ops17_v40 (W19 m ρ c) _ ((scores_W19 m ρ c).trans (scores_W12 m ρ c)) b i).trans (chosen_W6 m ρ c b i).1

theorem v38_W20 : W20 m ρ c (Proc.devRef .tc main_v38) = paddedCodes m ρ c :=
  (W20_of m ρ c _ (by decide)).trans ((W19_of m ρ c _ (by decide)).trans ((W18_of m ρ c _ (by decide)).trans (W17_of m ρ c _ (by decide))))
theorem v38_W25 : W25 m ρ c (Proc.devRef .tc main_v38) = paddedCodes m ρ c :=
  (W25_of m ρ c _ (by decide)).trans ((W24_of m ρ c _ (by decide)).trans ((W23_of m ρ c _ (by decide)).trans ((W22_of m ρ c _ (by decide)).trans
    ((W21_of m ρ c _ (by decide)).trans (v38_W20 m ρ c)))))
theorem v39_W22 : W22 m ρ c (Proc.devRef .tc main_v39) = paddedAnchors m ρ c :=
  (W22_of m ρ c _ (by decide)).trans ((W21_of m ρ c _ (by decide)).trans ((W20_of m ρ c _ (by decide)).trans (W19_of m ρ c _ (by decide))))
theorem v39_W27 : W27 m ρ c (Proc.devRef .tc main_v39) = paddedAnchors m ρ c :=
  (W27_of m ρ c _ (by decide)).trans ((W26_of m ρ c _ (by decide)).trans ((W25_of m ρ c _ (by decide)).trans ((W24_of m ρ c _ (by decide)).trans
    ((W23_of m ρ c _ (by decide)).trans (v39_W22 m ρ c)))))
theorem v40_W24 : W24 m ρ c (Proc.devRef .tc main_v40) = paddedScores m ρ c :=
  (W24_of m ρ c _ (by decide)).trans ((W23_of m ρ c _ (by decide)).trans ((W22_of m ρ c _ (by decide)).trans (W21_of m ρ c _ (by decide))))
theorem v40_W28 : W28 m ρ c (Proc.devRef .tc main_v40) = paddedScores m ρ c :=
  (W28_of m ρ c _ (by decide)).trans ((W27_of m ρ c _ (by decide)).trans ((W26_of m ρ c _ (by decide)).trans ((W25_of m ρ c _ (by decide)).trans (v40_W24 m ρ c))))
theorem v42_W29 : W29 m ρ c (Proc.devRef .tc main_v42) = W22 m ρ c (Proc.devRef .tc main_v42) :=
  (W29_of m ρ c _ (by decide)).trans ((W28_of m ρ c _ (by decide)).trans ((W27_of m ρ c _ (by decide)).trans ((W26_of m ρ c _ (by decide)).trans
    ((W25_of m ρ c _ (by decide)).trans ((W24_of m ρ c _ (by decide)).trans (W23_of m ρ c _ (by decide)))))))
theorem v44_W29 : W29 m ρ c (Proc.devRef .tc main_v44) = W24 m ρ c (Proc.devRef .tc main_v44) :=
  (W29_of m ρ c _ (by decide)).trans ((W28_of m ρ c _ (by decide)).trans ((W27_of m ρ c _ (by decide)).trans ((W26_of m ρ c _ (by decide)).trans
    (W25_of m ρ c _ (by decide)))))
theorem v45_W29 : W29 m ρ c (Proc.devRef .tc main_v45) = W26 m ρ c (Proc.devRef .tc main_v45) :=
  (W29_of m ρ c _ (by decide)).trans ((W28_of m ρ c _ (by decide)).trans (W27_of m ρ c _ (by decide)))

/-- What the second region's five inputs hold. -/
theorem in0_W29 (b : Fin 4) (k : Fin 5) (l : Fin 2048) :
    (W29 m ρ c (Proc.devRef .tc main_v42) : S4x8x2048.Idx → Ideal .f32) (ix3 b ⟨k.val, row_of k⟩ l) = paddedCodes m ρ c (ix3 b l k) :=
  (congrFun (v42_W29 m ρ c) _).trans ((ops19_v42 (W21 m ρ c) _ rfl b l k).trans (ops18_v41 (W20 m ρ c) _ (v38_W20 m ρ c) b l k))
theorem in1_W29 (b : Fin 4) (k : Fin 5) (l : Fin 2048) :
    (W29 m ρ c (Proc.devRef .tc main_v44) : S4x8x2048.Idx → Ideal .f32) (ix3 b ⟨k.val, row_of k⟩ l) = paddedAnchors m ρ c (ix3 b l k) :=
  (congrFun (v44_W29 m ρ c) _).trans ((ops21_v44 (W23 m ρ c) _ rfl b l k).trans (ops20_v43 (W22 m ρ c) _ (v39_W22 m ρ c) b l k))
theorem in2_W29 (b : Fin 4) (k : Fin 5) (l : Fin 2048) :
    (W29 m ρ c (Proc.devRef .tc main_v45) : S4x2048x8.Idx → Ideal .f32) (ix3 b l ⟨k.val, row_of k⟩) = paddedCodes m ρ c (ix3 b l k) :=
  (congrFun (v45_W29 m ρ c) _).trans (ops23_v45 (W25 m ρ c) _ (v38_W25 m ρ c) b l k)
theorem in3_W29 (b : Fin 4) (k : Fin 5) (l : Fin 2048) :
    (W29 m ρ c (Proc.devRef .tc main_v46) : S4x2048x8.Idx → Ideal .f32) (ix3 b l ⟨k.val, row_of k⟩) = paddedAnchors m ρ c (ix3 b l k) :=
  (congrFun (W29_of m ρ c _ (by decide)) _).trans (ops0_v46 (W27 m ρ c) _ (v39_W27 m ρ c) b l k)
theorem in4_W29 (b : Fin 4) (l : Fin 2048) :
    (W29 m ρ c (Proc.devRef .tc main_v47) : S4x1x2048.Idx → Ideal .f32) (ix3 b 0 l) = paddedScores m ρ c (ix2 b l) :=
  ops1_v47 (W28 m ρ c) _ (v40_W28 m ρ c) b l
end Held

end Cert.KernelIdeal.Gen
-- ==== Proof.NmsTile.lean ====
module

public import proofs.«01_k».proof.Proof.KernelIdealNms
public import proofs.«01_k».proof.Proof.Boxes
public import Idealize.ShloMosaic.Lib.ValueIdxCore
public import Idealize.ShloMosaic.Lib.ValueLayout
public import Idealize.ShloMosaic.Lib.ValueLayoutCasts
public import Idealize.ShloMosaic.Lib.WholeRead
public import Idealize.ShloMosaic.Lib.Pipeline.ValueKit.Tiles

/-! What the second region puts into its table of overlaps: the entry at row `i` and lane `l` is one
when box `i` overlaps box `l` enough, and zero otherwise (`table_apply`). The table is made in eight
bands of 256 rows, each by the same formula (`band`). -/

@[expose] public section

set_option maxRecDepth 10000

noncomputable section

namespace Cert.KernelIdeal.Nms

open Idealize.ShloMosaic Idealize.ShloMosaic.ValueIdx Cert.KernelIdeal Cert.KernelIdeal.Gen Cert.Boxes
open Idealize.SL.Sem

/-! ## Lanes: boxes side by side -/

section Lanes
variable (v0 v2 : Vec Ideal S1x8x2048 .f32) (l : Fin 2048)

/-- The five numbers standing at lane `l`. -/
def laneOf (v : Vec Ideal S1x8x2048 .f32) (l : Fin 2048) : Fin 5 → Num := fun k => v (ix3 0 ⟨k.val, by omega⟩ l)

theorem lane_slice5 (o : ℕ) (ho : o < 8) (h : S8x2048.Slices ![o, 0] S1x2048) :
    extractStridedSlice S1x2048 ![o, 0] (k1_pay5 v0) h (ix2 0 l) = v0 (ix3 0 ⟨o, ho⟩ l) := by
  refine (extractStridedSlice_apply _ _ _ _ (ix2 ⟨o, ho⟩ l) fun a => ?_).trans ?_
  · match a with
    | 0 => rfl
    | 1 => exact (Nat.zero_add _).symm
  · exact shapeCast_1ab_ab_apply _ _ _ _

theorem lane_slice6 (o : ℕ) (ho : o < 8) (h : S8x2048.Slices ![o, 0] S1x2048) :
    extractStridedSlice S1x2048 ![o, 0] (k1_pay6 v2) h (ix2 0 l) = v2 (ix3 0 ⟨o, ho⟩ l) :=
  lane_slice5 v2 l o ho h

theorem lane_box :
    ![k1_pay9 v0 v2 (ix2 0 l), k1_pay10 v0 v2 (ix2 0 l), k1_pay11 v0 v2 (ix2 0 l), k1_pay12 v0 v2 (ix2 0 l), k1_pay13 v0 v2 (ix2 0 l)]
      = box (laneOf v0 l) (laneOf v2 l) := by
  have h0 := lane_slice5 v0 l
  have h2 := lane_slice6 v2 l
  have e0 : k1_pay9 v0 v2 (ix2 0 l) = cx (laneOf v0 l) (laneOf v2 l) := by
    simp only [k1_pay9, k1_pay7, addf, mulf]
    rw [h0 0 (by decide), h2 0 (by decide), h2 2 (by decide)]; rfl
  have e1 : k1_pay10 v0 v2 (ix2 0 l) = cy (laneOf v0 l) (laneOf v2 l) := by
    simp only [k1_pay10, k1_pay8, addf, mulf]
    rw [h0 1 (by decide), h2 1 (by decide), h2 3 (by decide)]; rfl
  have e2 : k1_pay11 v0 v2 (ix2 0 l) = wd (laneOf v0 l) (laneOf v2 l) := by
    simp only [k1_pay11, k1_pay7, mulf, exp, minimumf]
    rw [h0 2 (by decide), h2 2 (by decide)]; rfl
  have e3 : k1_pay12 v0 v2 (ix2 0 l) = ht (laneOf v0 l) (laneOf v2 l) := by
    simp only [k1_pay12, k1_pay8, mulf, exp, minimumf]
    rw [h0 3 (by decide), h2 3 (by decide)]; rfl
  have e4 : k1_pay13 v0 v2 (ix2 0 l) = ang (laneOf v0 l) (laneOf v2 l) := by
    simp only [k1_pay13, addf, mulf]
    rw [h0 4 (by decide), h2 4 (by decide)]; rfl
  rw [e0, e1, e2, e3, e4]; rfl

/-- The rectangle's five numbers over the lanes. -/
structure LaneRects where
  x1 : FVec Ideal S1x2048 .f32
  y1 : FVec Ideal S1x2048 .f32
  x2 : FVec Ideal S1x2048 .f32
  y2 : FVec Ideal S1x2048 .f32
  ar : FVec Ideal S1x2048 .f32

/-- The rectangles the program computes over the lanes. -/
def laneRects : LaneRects where
  x1 := k1_pay26 (k1_pay9 v0 v2) (k1_pay11 v0 v2) (k1_pay12 v0 v2) (k1_pay13 v0 v2)
  y1 := k1_pay27 (k1_pay10 v0 v2) (k1_pay11 v0 v2) (k1_pay12 v0 v2) (k1_pay13 v0 v2)
  x2 := k1_pay28 (k1_pay9 v0 v2) (k1_pay11 v0 v2) (k1_pay12 v0 v2) (k1_pay13 v0 v2)
  y2 := k1_pay29 (k1_pay10 v0 v2) (k1_pay11 v0 v2) (k1_pay12 v0 v2) (k1_pay13 v0 v2)
  ar := k1_pay31 (k1_pay27 (k1_pay10 v0 v2) (k1_pay11 v0 v2) (k1_pay12 v0 v2) (k1_pay13 v0 v2))
    (k1_pay29 (k1_pay10 v0 v2) (k1_pay11 v0 v2) (k1_pay12 v0 v2) (k1_pay13 v0 v2))
    (k1_pay30 (k1_pay9 v0 v2) (k1_pay11 v0 v2) (k1_pay12 v0 v2) (k1_pay13 v0 v2))

theorem laneRects_x1 : (laneRects v0 v2).x1 (ix2 0 l) = x1 (box (laneOf v0 l) (laneOf v2 l)) := by rw [← lane_box]; rfl
theorem laneRects_y1 : (laneRects v0 v2).y1 (ix2 0 l) = y1 (box (laneOf v0 l) (laneOf v2 l)) := by rw [← lane_box]; rfl
theorem laneRects_x2 : (laneRects v0 v2).x2 (ix2 0 l) = x2 (box (laneOf v0 l) (laneOf v2 l)) := by rw [← lane_box]; rfl
theorem laneRects_y2 : (laneRects v0 v2).y2 (ix2 0 l) = y2 (box (laneOf v0 l) (laneOf v2 l)) := by rw [← lane_box]; rfl
theorem laneRects_ar : (laneRects v0 v2).ar (ix2 0 l) = area (box (laneOf v0 l) (laneOf v2 l)) := by rw [← lane_box]; rfl

end Lanes

/-! ## Rows: boxes one below the other -/

section Rows
variable (w0 w2 : Vec Ideal S1x2048x8 .f32) (i : Fin 2048)

/-- The five numbers standing in row `i`. -/
def rowOf (w : Vec Ideal S1x2048x8 .f32) (i : Fin 2048) : Fin 5 → Num := fun k => w (ix3 0 i ⟨k.val, by omega⟩)

theorem row_slice32 (o : ℕ) (ho : o < 8) (h : S2048x8.Slices ![0, o] S2048x1) :
    extractStridedSlice S2048x1 ![0, o] (k1_pay32 w0) h (ix2 i 0) = w0 (ix3 0 i ⟨o, ho⟩) := by
  refine (extractStridedSlice_apply _ _ _ _ (ix2 i ⟨o, ho⟩) fun a => ?_).trans ?_
  · match a with
    | 0 => exact (Nat.zero_add _).symm
    | 1 => rfl
  · exact shapeCast_1ab_ab_apply _ _ _ _

theorem row_slice33 (o : ℕ) (ho : o < 8) (h : S2048x8.Slices ![0, o] S2048x1) :
    extractStridedSlice S2048x1 ![0, o] (k1_pay33 w2) h (ix2 i 0) = w2 (ix3 0 i ⟨o, ho⟩) :=
  row_slice32 w2 i o ho h

/-- The angle over the rows, in degrees. -/
def rowAng : FVec Ideal S2048x1 .f32 :=
  addf (mulf (extractStridedSlice S2048x1 ![0, 4] (k1_pay32 w0) slices_S2048x8_o0_4_S2048x1) (broadcast S2048x1 (Scalar.ofBits .f32 0x42652EE1#32)))
    (extractStridedSlice S2048x1 ![0, 4] (k1_pay33 w2) slices_S2048x8_o0_4_S2048x1)

theorem row_box :
    ![k1_pay36 w0 w2 (ix2 i 0), k1_pay37 w0 w2 (ix2 i 0), k1_pay38 w0 w2 (ix2 i 0), k1_pay39 w0 w2 (ix2 i 0), rowAng w0 w2 (ix2 i 0)]
      = box (rowOf w0 i) (rowOf w2 i) := by
  have h0 := row_slice32 w0 i
  have h2 := row_slice33 w2 i
  have e0 : k1_pay36 w0 w2 (ix2 i 0) = cx (rowOf w0 i) (rowOf w2 i) := by
    simp only [k1_pay36, k1_pay34, addf, mulf]
    rw [h0 0 (by decide), h2 0 (by decide), h2 2 (by decide)]; rfl
  have e1 : k1_pay37 w0 w2 (ix2 i 0) = cy (rowOf w0 i) (rowOf w2 i) := by
    simp only [k1_pay37, k1_pay35, addf, mulf]
    rw [h0 1 (by decide), h2 1 (by decide), h2 3 (by decide)]; rfl
  have e2 : k1_pay38 w0 w2 (ix2 i 0) = wd (rowOf w0 i) (rowOf w2 i) := by
    simp only [k1_pay38, k1_pay34, mulf, exp, minimumf]
    rw [h0 2 (by decide), h2 2 (by decide)]; rfl
  have e3 : k1_pay39 w0 w2 (ix2 i 0) = ht (rowOf w0 i) (rowOf w2 i) := by
    simp only [k1_pay39, k1_pay35, mulf, exp, minimumf]
    rw [h0 3 (by decide), h2 3 (by decide)]; rfl
  have e4 : rowAng w0 w2 (ix2 i 0) = ang (rowOf w0 i) (rowOf w2 i) := by
    simp only [rowAng, addf, mulf]
    rw [h0 4 (by decide), h2 4 (by decide)]; rfl
  rw [e0, e1, e2, e3, e4]; rfl

/-- The rectangle's five numbers over the rows. -/
structure RowRects where
  x1 : FVec Ideal S2048x1 .f32
  y1 : FVec Ideal S2048x1 .f32
  x2 : FVec Ideal S2048x1 .f32
  y2 : FVec Ideal S2048x1 .f32
  ar : FVec Ideal S2048x1 .f32

/-- The rectangles the program computes over the rows. -/
def rowRects : RowRects where
  x1 := k1_pay45 w0 w2
  y1 := k1_pay46 (k1_pay37 w0 w2) (k1_pay44 w0 w2)
  x2 := k1_pay47 (k1_pay36 w0 w2) (k1_pay43 w0 w2)
  y2 := k1_pay48 (k1_pay37 w0 w2) (k1_pay44 w0 w2)
  ar := k1_pay49 (k1_pay36 w0 w2) (k1_pay37 w0 w2) (k1_pay43 w0 w2) (k1_pay44 w0 w2) (k1_pay45 w0 w2)

theorem rowRects_x1 : (rowRects w0 w2).x1 (ix2 i 0) = x1 (box (rowOf w0 i) (rowOf w2 i)) := by rw [← row_box]; rfl
theorem rowRects_y1 : (rowRects w0 w2).y1 (ix2 i 0) = y1 (box (rowOf w0 i) (rowOf w2 i)) := by rw [← row_box]; rfl
theorem rowRects_x2 : (rowRects w0 w2).x2 (ix2 i 0) = x2 (box (rowOf w0 i) (rowOf w2 i)) := by rw [← row_box]; rfl
theorem rowRects_y2 : (rowRects w0 w2).y2 (ix2 i 0) = y2 (box (rowOf w0 i) (rowOf w2 i)) := by rw [← row_box]; rfl
theorem rowRects_ar : (rowRects w0 w2).ar (ix2 i 0) = area (box (rowOf w0 i) (rowOf w2 i)) := by rw [← row_box]; rfl

end Rows

/-! ## The bands of the table -/

section Band
variable (o : ℕ) (h : S2048x1.Slices ![o, 0] S256x1) (R : RowRects) (L : LaneRects)

/-- A column of numbers, its 256 rows from row `o`, repeated over the lanes. -/
def spreadRow (v : FVec Ideal S2048x1 .f32) : FVec Ideal S256x2048 .f32 :=
  broadcastTo S256x2048 (extractStridedSlice S256x1 ![o, 0] v h) broadcasts_S256x1_S256x2048
/-- A line of numbers repeated over 256 rows. -/
def spreadLane (v : FVec Ideal S1x2048 .f32) : FVec Ideal S256x2048 .f32 :=
  broadcastTo S256x2048 v broadcasts_S1x2048_S256x2048

/-- The shared areas of one band. -/
def bandShared : FVec Ideal S256x2048 .f32 :=
  mulf
    (maximumf (subf (minimumf (spreadRow o h R.x2) (spreadLane L.x2)) (maximumf (spreadRow o h R.x1) (spreadLane L.x1)))
      (broadcast S256x2048 (Scalar.ofBits .f32 0x00000000#32)))
    (maximumf (subf (minimumf (spreadRow o h R.y2) (spreadLane L.y2)) (maximumf (spreadRow o h R.y1) (spreadLane L.y1)))
      (broadcast S256x2048 (Scalar.ofBits .f32 0x00000000#32)))

/-- One band of the table. -/
def band : FVec Ideal S256x2048 .f32 :=
  shapeCast S256x2048
    (sitofp .f32 (extui 32
      (cmpf .ogt
        (divf (bandShared o h R L)
          (addf (subf (addf (spreadRow o h R.ar) (spreadLane L.ar)) (bandShared o h R L))
            (broadcast S256x2048 (Scalar.ofBits .f32 0x3089705F#32))))
        (broadcast S256x2048 (Scalar.ofBits .f32 0x3F333333#32))) natLt_1_32))
    shapeCasts_S256x2048_S256x2048

/-- The number a truth value is turned into. -/
def mark (b : BitVec 1) : Num := FloatOps.sitofp (F := Ideal) .f32 (b.setWidth 32)

theorem spreadRow_apply (v : FVec Ideal S2048x1 .f32) (p : Fin 256) (l : Fin 2048) (i : Fin 2048) (hi : i.val = o + p.val) :
    spreadRow o h v (ix2 p l) = v (ix2 i 0) := by
  refine (broadcastTo_apply _ _ _ (ix2 p 0) fun a => ?_).trans ?_
  · match a with
    | 0 => rfl
    | 1 => rfl
  · refine extractStridedSlice_apply _ _ _ _ _ fun a => ?_
    match a with
    | 0 => exact hi
    | 1 => rfl

theorem spreadLane_apply (v : FVec Ideal S1x2048 .f32) (p : Fin 256) (l : Fin 2048) :
    spreadLane v (ix2 p l) = v (ix2 0 l) := by
  refine broadcastTo_apply _ _ _ (ix2 0 l) fun a => ?_
  match a with
  | 0 => rfl
  | 1 => rfl

variable (v0 v2 : Vec Ideal S1x8x2048 .f32) (w0 w2 : Vec Ideal S1x2048x8 .f32)

theorem band_apply (p : Fin 256) (l : Fin 2048) (i : Fin 2048) (hi : i.val = o + p.val) :
    band o h (rowRects w0 w2) (laneRects v0 v2) (ix2 p l)
      = mark (over (box (rowOf w0 i) (rowOf w2 i)) (box (laneOf v0 l) (laneOf v2 l))) := by
  unfold band
  refine (shapeCast_apply _ _ _ (ix2 p l) rfl).trans ?_
  have hs : bandShared o h (rowRects w0 w2) (laneRects v0 v2) (ix2 p l)
      = shared (box (rowOf w0 i) (rowOf w2 i)) (box (laneOf v0 l) (laneOf v2 l)) := by
    simp only [bandShared, mulf, maximumf, subf, minimumf]
    rw [spreadRow_apply o h _ p l i hi, spreadRow_apply o h _ p l i hi, spreadRow_apply o h _ p l i hi, spreadRow_apply o h _ p l i hi,
      spreadLane_apply, spreadLane_apply, spreadLane_apply, spreadLane_apply, rowRects_x1, rowRects_x2, rowRects_y1, rowRects_y2,
      laneRects_x1, laneRects_x2, laneRects_y1, laneRects_y2]
    rfl
  simp only [sitofp, extui, cmpf, divf, addf, subf]
  rw [hs, spreadRow_apply o h _ p l i hi, spreadLane_apply, rowRects_ar, laneRects_ar]
  rfl

end Band

end Cert.KernelIdeal.Nms
-- ==== Proof.NmsTable.lean ====
module

public import proofs.«01_k».proof.Proof.NmsTile

/-! The whole table of overlaps of the second region, and the pass over it. -/

@[expose] public section

set_option maxRecDepth 16384

noncomputable section

namespace Cert.KernelIdeal.Nms

open Idealize.ShloMosaic Idealize.ShloMosaic.TcCoe Idealize.ShloMosaic.ValueIdx Cert.KernelIdeal Cert.KernelIdeal.Gen Cert.Boxes
open Idealize.SL.Sem

section Table
variable (c : Dev nD)
  (m0 : Memref sig .tc .vmem S1x8x2048 .f32) (h0 : m0.IsWhole) (m1 : Memref sig .tc .vmem S1x8x2048 .f32) (h1 : m1.IsWhole)
  (m2 : Memref sig .tc .vmem S1x2048x8 .f32) (h2 : m2.IsWhole) (m3 : Memref sig .tc .vmem S1x2048x8 .f32) (h3 : m3.IsWhole)
  (x0 x1 : S1x8x2048.Idx → Elt Ideal .f32) (x2 x3 : S1x2048x8.Idx → Elt Ideal .f32)

/-- A load of a whole buffer reads its contents. -/
theorem load_whole {s : Shape} {e : EltTy} (m : Memref sig .tc .vmem s e) (h : m.IsWhole) (x : s.Idx → Elt Ideal e)
    (off : Fin s.rank → ℕ) (hoff : off = fun _ => 0) (inb : ∀ a, off a + s.size a ≤ s.size a) :
    View.readAt (Elt Ideal) m.view (Rect.unit off s.size inb).toLoadRect (h.unread x) = x := by
  rw [View.readAt_eq_ld, h.read_unread]
  exact View.ld_unit_zero hoff inb x

/-- The table's bands, the last first. -/
def bands (L : LaneRects) (R : RowRects) : List (View.Piece (Elt Ideal) S2048x2048 .f32) :=
  [⟨Rect.unit ![1792, 0] S256x2048.size (by decide), band 1792 slices_S2048x1_o1792_0_S256x1 R L⟩,
   ⟨Rect.unit ![1536, 0] S256x2048.size (by decide), band 1536 slices_S2048x1_o1536_0_S256x1 R L⟩,
   ⟨Rect.unit ![1280, 0] S256x2048.size (by decide), band 1280 slices_S2048x1_o1280_0_S256x1 R L⟩,
   ⟨Rect.unit ![1024, 0] S256x2048.size (by decide), band 1024 slices_S2048x1_o1024_0_S256x1 R L⟩,
   ⟨Rect.unit ![768, 0] S256x2048.size (by decide), band 768 slices_S2048x1_o768_0_S256x1 R L⟩,
   ⟨Rect.unit ![512, 0] S256x2048.size (by decide), band 512 slices_S2048x1_o512_0_S256x1 R L⟩,
   ⟨Rect.unit ![256, 0] S256x2048.size (by decide), band 256 slices_S2048x1_o256_0_S256x1 R L⟩,
   ⟨Rect.unit ![0, 0] S256x2048.size (by decide), band 0 slices_S2048x1_o0_0_S256x1 R L⟩]

theorem table_bands :
    kernelRun1_A.sl.HS0_8 c m0 h0 m1 h1 m2 h2 m3 h3 x0 x1 x2 x3 = bands (laneRects x0 x1) (rowRects x2 x3) := by
  have e : kernelRun1_A.sl.HS0_8 c m0 h0 m1 h1 m2 h2 m3 h3 x0 x1 x2 x3
      = bands
        (laneRects (View.readAt (Elt Ideal) m0.view (Rect.unit ![0, 0, 0] S1x8x2048.size (by decide)).toLoadRect (h0.unread x0))
          (View.readAt (Elt Ideal) m1.view (Rect.unit ![0, 0, 0] S1x8x2048.size (by decide)).toLoadRect (h1.unread x1)))
        (rowRects (View.readAt (Elt Ideal) m2.view (Rect.unit ![0, 0, 0] S1x2048x8.size (by decide)).toLoadRect (h2.unread x2))
          (View.readAt (Elt Ideal) m3.view (Rect.unit ![0, 0, 0] S1x2048x8.size (by decide)).toLoadRect (h3.unread x3))) := rfl
  rw [e, load_whole m0 h0 x0 _ (by decide), load_whole m1 h1 x1 _ (by decide), load_whole m2 h2 x2 _ (by decide), load_whole m3 h3 x3 _ (by decide)]

end Table

section Entry
variable (v0 v2 : Vec Ideal S1x8x2048 .f32) (w0 w2 : Vec Ideal S1x2048x8 .f32)

/-- The table's entry at row `y 0` and lane `y 1`. -/
def entry (y : S2048x2048.Idx) : Elt Ideal .f32 :=
  mark (over (box (rowOf w0 (y 0)) (rowOf w2 (y 0))) (box (laneOf v0 (y 1)) (laneOf v2 (y 1))))

theorem band_entry (o : ℕ) (h : S2048x1.Slices ![o, 0] S256x1) (inb : ∀ a, (![o, 0] : Fin 2 → ℕ) a + S256x2048.size a ≤ S2048x2048.size a)
    (x : S256x2048.Idx) :
    band o h (rowRects w0 w2) (laneRects v0 v2) x
      = entry v0 v2 w0 w2 ((Rect.unit (s := S2048x2048) ![o, 0] S256x2048.size inb).emb x) := by
  have e1 : ((Rect.unit (s := S2048x2048) ![o, 0] S256x2048.size inb).emb x 1 : Fin 2048) = (x 1 : Fin 2048) :=
    Fin.ext (by rw [Rect.emb_apply]; show 0 + 1 * (x 1).val = _; omega)
  have e0 : ((Rect.unit (s := S2048x2048) ![o, 0] S256x2048.size inb).emb x 0 : Fin 2048).val = o + (x 0 : Fin 256).val := by
    rw [Rect.emb_apply]; show o + 1 * (x 0).val = _; omega
  have hx : x = ix2 (x 0 : Fin 256) (x 1 : Fin 2048) := eq_ix2 x
  unfold entry
  rw [e1]
  exact (congrArg _ hx).trans (band_apply o h v0 v2 w0 w2 _ _ _ e0)

theorem mem_band (o : ℕ) (inb : ∀ a, (![o, 0] : Fin 2 → ℕ) a + S256x2048.size a ≤ S2048x2048.size a) (i l : Fin 2048)
    (h : o ≤ i.val ∧ i.val < o + 256) : ix2 i l ∈ (Rect.unit (s := S2048x2048) ![o, 0] S256x2048.size inb).set := by
  refine Rect.mem_set_unit.mpr fun a => ?_
  match a with
  | 0 => exact h
  | 1 => exact ⟨Nat.zero_le _, (Nat.zero_add 2048).symm ▸ l.isLt⟩

/-- Each entry of the table. -/
theorem table_apply (i l : Fin 2048) :
    View.canon (bands (laneRects v0 v2) (rowRects w0 w2)) (ix2 i l)
      = mark (over (box (rowOf w0 i) (rowOf w2 i)) (box (laneOf v0 l) (laneOf v2 l))) := by
  refine View.canon_apply_of_pieces (entry v0 v2 w0 w2) _ (fun p hp x => ?_) (ix2 i l) ?_
  · simp only [bands, List.mem_cons, List.not_mem_nil, or_false] at hp
    rcases hp with rfl | rfl | rfl | rfl | rfl | rfl | rfl | rfl <;> exact band_entry v0 v2 w0 w2 _ _ (by decide) x
  · have key : ∀ k : Fin 8, i.val / 256 = 7 - k.val → ∃ p ∈ bands (laneRects v0 v2) (rowRects w0 w2), ix2 i l ∈ p.1.set := by
      intro k hk
      refine ⟨(bands (laneRects v0 v2) (rowRects w0 w2)).get k, List.get_mem _ _, ?_⟩
      match k with
      | 0 | 1 | 2 | 3 | 4 | 5 | 6 | 7 => exact mem_band _ (by decide) i l (by simp at hk; omega)
    exact key ⟨7 - i.val / 256, by omega⟩ (by show _ = 7 - (7 - i.val / 256); omega)

end Entry

end Cert.KernelIdeal.Nms
-- ==== Proof.NmsLoop.lean ====
module

public import proofs.«01_k».proof.Proof.NmsTable
public import Idealize.ShloMosaic.Lib.IdealHost
public import Idealize.ShloMosaic.PureOps.Ideal.Laws

/-! The second region's pass over its table: after the first `i` rows the lane of a struck-out box
holds one and every other lane zero (`Cert.Boxes.struck`). -/

@[expose] public section

set_option maxRecDepth 16384

noncomputable section

namespace Cert.KernelIdeal.Nms

open Idealize.ShloMosaic Idealize.ShloMosaic.TcCoe Idealize.ShloMosaic.ValueIdx Cert.KernelIdeal Cert.KernelIdeal.Gen Cert.Boxes
open Idealize.SL.Sem

/-- One for true, zero for false. -/
def tf (p : Prop) : Num := open Classical in if p then (1 : EReal) else (0 : EReal)

theorem tf_true {p : Prop} (h : p) : tf p = (1 : EReal) := if_pos h
theorem tf_false {p : Prop} (h : ¬ p) : tf p = (0 : EReal) := if_neg h

theorem mark_eq (b : BitVec 1) : mark b = tf (b = 1#1) := by
  have hb : b = 0#1 ∨ b = 1#1 := by
    revert b; decide
  rcases hb with rfl | rfl
  · rw [tf_false (by decide)]
    show ((((0#1).setWidth 32).toInt : ℝ) : EReal) = 0
    simp
  · rw [tf_true rfl]
    show ((((1#1).setWidth 32).toInt : ℝ) : EReal) = 1
    simp

/-- The greatest of a line of numbers, all of it reduced. -/
theorem line_max (y : FVec Ideal S1x1x2048 .f32) (v : EReal) (hub : ∀ l : Fin 2048, y (ix3 0 0 l) ≤ v) (hmem : ∃ l : Fin 2048, y (ix3 0 0 l) = v)
    (j : S1.Idx) :
    multiReduction .maximumf [1, 2] S1 y 0xFF800000#32 reduces_S1x1x2048_S1 (.inl rfl) rfl j = v := by
  refine (multiReduction_maximumf_eq_fold _ _ _ _ _ _).trans (le_antisymm ?_ ?_)
  · refine (Finset.fold_max_le _).mpr ⟨?_, fun x _ => ?_⟩
    · show Ideal.ofBits .f32 0xFF800000#32 ≤ v
      simp [Ideal.ofBits, Ideal.ieee]
    · have hx : x = ix3 0 0 (x 2 : Fin 2048) := by
        funext a
        match a with
        | 0 => exact Subsingleton.elim (α := Fin 1) _ _
        | 1 => exact Subsingleton.elim (α := Fin 1) _ _
        | 2 => rfl
      exact (congrArg y hx).le.trans (hub _)
  · obtain ⟨l, hl⟩ := hmem
    refine (Finset.le_fold_max _).mpr (.inr ⟨ix3 0 0 l, ?_, hl.ge⟩)
    refine Finset.mem_filter.mpr ⟨Finset.mem_univ _, ?_⟩
    funext a
    match a with
    | 0 => exact Subsingleton.elim (α := Fin 1) _ _

theorem lane_word (l : Fin 2048) : (iota .tc S1x2048 32 [1] iota_S1x2048_d1_w32 : IVec S1x2048 32) (ix2 0 l) = BitVec.ofNat 32 l.val := by
  show BitVec.ofNat 32 (0 * 2048 + l.val) = _
  rw [Nat.zero_mul, Nat.zero_add]

theorem trip_word (k : ℕ) : Scf.iv 0#32 1#32 k = BitVec.ofNat 32 k := by
  show 0#32 + BitVec.ofNat 32 k * 1#32 = _
  rw [BitVec.mul_one, BitVec.zero_add]

theorem ofBool_eq_one (p : Prop) [Decidable p] : BitVec.ofBool (decide p) = 1#1 ↔ p := by
  by_cases h : p <;> simp [h]

theorem select_pos {α : Type} {c : BitVec 1} (h : c = 1#1) (a b : α) : Scalar.select c a b = a := if_pos h
theorem select_neg {α : Type} {c : BitVec 1} (h : ¬ c = 1#1) (a b : α) : Scalar.select c a b = b := if_neg h

theorem trip_apply (k : Fin k1_t1_loop.trips) (acc row : FVec Ideal S1x2048 .f32) (k' : Fin 2048) (hk : k'.val = k.val)
    (h0 : (0 : EReal) ≤ acc (ix2 0 k')) (l : Fin 2048) :
    k1_pay3 k acc row (ix2 0 l)
      = max (acc (ix2 0 l) : EReal) ((if k'.val < l.val then (row (ix2 0 l) : EReal) else 0) * ((1 : EReal) - acc (ix2 0 k'))) := by
  have hz : (Ideal.ofBits .f32 0x00000000#32 : EReal) = 0 := Ideal.ofBits_zero_f32
  have ho : (Ideal.ofBits .f32 0x3F800000#32 : EReal) = 1 := Ideal.ofBits_one_f32
  have hw : ∀ m : Fin 2048, IntOp.cmpi .eq ((iota .tc S1x2048 32 [1] iota_S1x2048_d1_w32 : IVec S1x2048 32) (ix2 0 m)) (Scf.iv 0#32 1#32 k) = 1#1 ↔ m = k' := by
    intro m
    rw [lane_word, trip_word, ← hk, WordCmp.cmpi_eq_ofNat (by omega) (by omega), ofBool_eq_one, Fin.ext_iff]
  have hg : IntOp.cmpi .sgt ((iota .tc S1x2048 32 [1] iota_S1x2048_d1_w32 : IVec S1x2048 32) (ix2 0 l)) (Scf.iv 0#32 1#32 k) = 1#1 ↔ k'.val < l.val := by
    rw [lane_word, trip_word, ← hk, WordCmp.cmpi_sgt_ofNat (by omega) (by omega), ofBool_eq_one]
  have hm := line_max
    (shapeCast S1x1x2048 (select (cmpi .eq (iota .tc S1x2048 32 [1] iota_S1x2048_d1_w32) (broadcast S1x2048 (Scf.iv 0#32 1#32 k)))
      acc (broadcast S1x2048 (Scalar.ofBits .f32 0x00000000#32))) shapeCasts_S1x2048_S1x1x2048) (acc (ix2 0 k')) ?_ ?_
  · unfold k1_pay3
    simp only [maximumf, mulf, select, cmpi, broadcast]
    refine congrArg₂ (fun x y : EReal => max x y) rfl (congrArg₂ (fun x y : EReal => x * y) ?_ ?_)
    · by_cases h : k'.val < l.val
      · rw [if_pos h]; exact select_pos (hg.mpr h) _ _
      · rw [if_neg h]; exact (select_neg (fun e => h (hg.mp e)) _ _).trans hz
    · refine congrArg₂ (fun x y : EReal => x - y) ho ?_
      refine Eq.trans ?_ (hm (ix1 0))
      refine shapeCast_apply _ _ _ (ix1 0) rfl
  · intro m
    rw [shapeCast_ab_1ab_apply]
    by_cases h : m = k'
    · exact (select_pos ((hw m).mpr h) _ _).le.trans (congrArg (fun m => acc (ix2 0 m)) h).le
    · exact (select_neg (fun e => h ((hw m).mp e)) _ _).le.trans (hz.le.trans h0)
  · refine ⟨k', ?_⟩
    rw [shapeCast_ab_1ab_apply]
    exact select_pos ((hw k').mpr rfl) _ _

theorem start_apply (l : Fin 2048) : (k1_pay2 (F := Ideal)) (ix2 0 l) = tf (2000 ≤ l.val) := by
  have h : (k1_pay2 (F := Ideal)) (ix2 0 l) = mark (IntOp.cmpi .sge ((iota .tc S1x2048 32 [1] iota_S1x2048_d1_w32 : IVec S1x2048 32) (ix2 0 l)) 2000#32) := rfl
  rw [h, mark_eq, lane_word, WordCmp.cmpi_sge_ofNat (by omega) (by omega)]
  exact congrArg tf (propext (ofBool_eq_one _))

/-- One trip keeps the reading: struck-out lanes hold one, the others zero. -/
theorem trip_struck (ov : ℕ → ℕ → Prop) (s : ℕ → Prop) (k : Fin k1_t1_loop.trips) (acc row : FVec Ideal S1x2048 .f32) (hk : k.val < 2048)
    (hacc : ∀ l : Fin 2048, acc (ix2 0 l) = tf (struck ov s k.val l.val))
    (hrow : ∀ l : Fin 2048, row (ix2 0 l) = tf (ov k.val l.val)) (l : Fin 2048) :
    k1_pay3 k acc row (ix2 0 l) = tf (struck ov s (k.val + 1) l.val) := by
  have h0 : ∀ p : Prop, (0 : EReal) ≤ tf p := fun p => by
    by_cases h : p
    · rw [tf_true h]; exact zero_le_one
    · rw [tf_false h]
  have h1 : ∀ p : Prop, (tf p : EReal) ≤ 1 := fun p => by
    by_cases h : p
    · rw [tf_true h]
    · rw [tf_false h]; exact zero_le_one
  rw [trip_apply k acc row ⟨k.val, hk⟩ rfl ((h0 _).trans (hacc ⟨k.val, hk⟩).ge) l, hacc l, hacc ⟨k.val, hk⟩, hrow l]
  show max (tf (struck ov s k.val l.val) : EReal) ((if k.val < l.val then (tf (ov k.val l.val) : EReal) else 0) * ((1 : EReal) - tf (struck ov s k.val k.val))) = _
  have hS : struck ov s (k.val + 1) l.val ↔ struck ov s k.val l.val ∨ (k.val < l.val ∧ ov k.val l.val ∧ ¬ struck ov s k.val k.val) := Iff.rfl
  have z1 : (1 : EReal) - 1 = 0 := EReal.sub_self (by decide) (by decide)
  by_cases ha : struck ov s k.val l.val
  · rw [tf_true ha, tf_true (hS.mpr (.inl ha))]
    refine max_eq_left ?_
    by_cases hb : struck ov s k.val k.val
    · rw [tf_true hb, z1, mul_zero]; exact zero_le_one
    · rw [tf_false hb, sub_zero, mul_one]
      split
      · exact h1 _
      · exact zero_le_one
  · rw [tf_false ha, max_eq_right]
    · by_cases hb : struck ov s k.val k.val
      · rw [tf_true hb, z1, mul_zero, tf_false (fun h => (hS.mp h).elim ha fun h => h.2.2 hb)]
      · rw [tf_false hb, sub_zero, mul_one]
        by_cases hl : k.val < l.val
        · rw [if_pos hl]
          exact congrArg tf (propext ⟨fun h => hS.mpr (.inr ⟨hl, h, hb⟩), fun h => (hS.mp h).elim (fun h => absurd h ha) fun h => h.2.1⟩)
        · rw [if_neg hl, tf_false (fun h => (hS.mp h).elim ha fun h => hl h.1)]
    · by_cases hb : struck ov s k.val k.val
      · rw [tf_true hb, z1, mul_zero]
      · rw [tf_false hb, sub_zero, mul_one]
        split
        · exact h0 _
        · exact le_rfl

end Cert.KernelIdeal.Nms
-- ==== Proof.NmsValue.lean ====
module

public import proofs.«01_k».proof.Proof.NmsLoop

/-! What each of the second region's three result blocks holds: the decoded boxes, the scores, and
one for every box struck out. -/

@[expose] public section

set_option maxRecDepth 16384

noncomputable section

namespace Cert.KernelIdeal.Nms

open Idealize.ShloMosaic Idealize.ShloMosaic.TcCoe Idealize.ShloMosaic.ValueIdx Cert.KernelIdeal Cert.KernelIdeal.Gen Cert.Boxes
open Idealize.SL.Sem

theorem trips_eq : k1_t1_loop.trips = 2000 := by decide

section Pass
variable (𝒱 : Variants) (c : Dev nD) (bd : Option 𝒱.V) (i : grid1.Coords)
  (arg1 : Memref sig .tc .vmem S1x8x2048 .f32) (harg1 : arg1.IsWhole) (arg2 : Memref sig .tc .vmem S1x8x2048 .f32) (harg2 : arg2.IsWhole)
  (arg3 : Memref sig .tc .vmem S1x2048x8 .f32) (harg3 : arg3.IsWhole) (arg4 : Memref sig .tc .vmem S1x2048x8 .f32) (harg4 : arg4.IsWhole)
  (arg5 : Memref sig .tc .vmem S1x1x2048 .f32) (harg5 : arg5.IsWhole) (arg6 : Memref sig .tc .vmem S1x8x2048 .f32) (harg6 : arg6.IsWhole)
  (arg7 : Memref sig .tc .vmem S1x1x2048 .f32) (harg7 : arg7.IsWhole) (arg8 : Memref sig .tc .vmem S1x1x2048 .f32) (harg8 : arg8.IsWhole)
  (arg9 : Memref sig .tc .vmem S2048x2048 .f32) (harg9 : arg9.IsWhole) (X : BufTy.Contents (Elt Ideal) arg9.view.ty)

/-- The pass over a table of ones and zeros strikes out what it should. -/
theorem pass_apply (ov : ℕ → ℕ → Prop)
    (hX : ∀ k l : Fin 2048, arg9.view.read (Elt Ideal) X (ix2 k l) = tf (ov k.val l.val)) :
    ∀ k : ℕ, k ≤ 2000 → ∀ l : Fin 2048,
      st_k1_t1 (F := Ideal) 𝒱 c bd i arg1 harg1 arg2 harg2 arg3 harg3 arg4 harg4 arg5 harg5 arg6 harg6 arg7 harg7 arg8 harg8 arg9 harg9 X
        (k1_pay2 (F := Ideal)) k (ix2 0 l) = tf (struck ov (fun l => 2000 ≤ l) k l.val)
  | 0, _, l => start_apply l
  | k + 1, hk, l => by
    have ih := pass_apply ov hX k (by omega)
    have e := st_k1_t1_succ (F := Ideal) 𝒱 c bd i arg1 harg1 arg2 harg2 arg3 harg3 arg4 harg4 arg5 harg5 arg6 harg6 arg7 harg7 arg8 harg8 arg9 harg9 X
      (k1_pay2 (F := Ideal)) ⟨k, by rw [trips_eq]; omega⟩
    refine (congrFun e (ix2 0 l)).trans ?_
    unfold tripR_k1_t1
    unfold trip_k1_t1
    dsimp only
    refine trip_struck ov _ ⟨k, by rw [trips_eq]; omega⟩ _ _ (by show k < 2048; omega) ih (fun l => ?_) l
    refine Eq.trans (congrArg (arg9.view.read (Elt Ideal) X) ?_) (hX ⟨k, by omega⟩ l)
    funext a
    apply Fin.ext
    have ho := congrFun (k1_off1_eq ⟨k, by rw [trips_eq]; omega⟩) a
    refine (Rect.idx_unit_val ..).trans ?_
    rw [ho]
    match a with
    | 0 => rfl
    | 1 => exact Nat.zero_add _

end Pass

variable (V : (c : Dev nD) → (b : Ref sig .tc) → Buf (Elt Ideal) ((c : Thread nD τ).loc b)) (c : Dev nD) (t : Fin cfg1.N)

/-- The struck-out boxes. -/
theorem after_struck (P : ℕ → Fin 5 → Num)
    (hl : ∀ l : Fin 2048, box (laneOf (iblk1 V c 0 t) l) (laneOf (iblk1 V c 1 t) l) = P l.val)
    (hr : ∀ i : Fin 2048, box (rowOf (iblk1 V c 2 t) i) (rowOf (iblk1 V c 3 t) i) = P i.val) (l : Fin 2048) :
    (dat1 V c).after 7 t (ix3 0 0 l) = tf (struck (fun i l => over (P i) (P l) = 1#1) (fun l => 2000 ≤ l) 2000 l.val) := by
  rw [after1_7]
  unfold outsAt1; dsimp only
  unfold out1_A_7
  refine (congrFun (View.read_writes_eq_canon _ _ _ (cover1_A_7 c _ _ _ _ _ _ _ _ _ _ _ _ _ _ _ _ _ _ _ _ _ _ _ _)) _).trans ?_
  unfold kernelRun1_A; dsimp only
  refine (congrFun (View.canon_unit_zero (S := S1x1x2048) (by decide) _ _) _).trans ?_
  unfold k1_pay4
  refine (shapeCast_ab_1ab_apply _ _ _ _ _).trans ?_
  have ht : Scf.trips 0#32 (Scalar.addi 0#32 2000#32) 1#32 = 2000 := by decide
  rw [ht]
  refine pass_apply _ _ _ _ _ _ _ _ _ _ _ _ _ _ _ _ _ _ _ _ _ _ _ (fun i l => over (P i) (P l) = 1#1) (fun k l => ?_) 2000 le_rfl l
  refine (View.read_writes_junk_apply_eq_canon _ _ _).trans ?_
  rw [table_bands, table_apply, mark_eq, hl, hr]

/-- The scores. -/
theorem after_scores (l : Fin 2048) :
    (dat1 V c).after 6 t (ix3 0 0 l) = Ideal.logistic (iblk1 V c 4 t (ix3 0 0 l)) := by
  rw [after1_6]
  unfold outsAt1; dsimp only
  unfold out1_A_6
  refine (congrFun (View.read_writes_eq_canon _ _ _ (cover1_A_6 c _ _ _ _ _ _ _ _ _ _ _ _ _ _ _ _ _ _ _ _ _ _ _ _)) _).trans ?_
  unfold kernelRun1_A; dsimp only
  unfold kernelRun1_A.sl.H6_1
  refine (congrFun (View.canon_unit_zero (S := S1x1x2048) (by decide) _ _) _).trans ?_
  unfold k1_pay20
  refine (shapeCast_ab_1ab_apply _ _ _ _ _).trans ?_
  refine congrArg Ideal.logistic ?_
  refine (shapeCast_1ab_ab_apply _ _ _ _).trans ?_
  exact congrFun (load_whole _ (hs1_4 t) _ _ (by decide) _) _

/-- A row's own write is what that row holds. -/
theorem row_hit (o : ℕ) (ho : o < 8) (inb : ∀ a, (![0, o, 0] : Fin 3 → ℕ) a + S1x1x2048.size a ≤ S1x8x2048.size a)
    (w : (Rect.unit (s := S1x8x2048) ![0, o, 0] S1x1x2048.size inb).shape.Idx → Elt Ideal .f32) (L : List (View.Piece (Elt Ideal) S1x8x2048 .f32)) (l : Fin 2048) :
    View.canon (⟨Rect.unit (s := S1x8x2048) ![0, o, 0] S1x1x2048.size inb, w⟩ :: L) (ix3 0 ⟨o, ho⟩ l)
      = (w : S1x1x2048.Idx → Elt Ideal .f32) (ix3 0 0 l) := by
  refine Eq.trans (congrArg _ ?_) (View.canon_cons_emb _ w L (ix3 0 0 l : S1x1x2048.Idx))
  funext a
  apply Fin.ext
  rw [Rect.emb_apply]
  match a with
  | 0 => rfl
  | 1 => rfl
  | 2 => show l.val = 0 + 1 * l.val; omega

/-- A write to other rows changes nothing in this one. -/
theorem row_miss (o n k : ℕ) (hk : k < 8) (sz : Fin 3 → ℕ) (hS : sz 1 = n) (inb : ∀ a, (![0, o, 0] : Fin 3 → ℕ) a + sz a ≤ S1x8x2048.size a)
    (w : (Rect.unit (s := S1x8x2048) ![0, o, 0] sz inb).shape.Idx → Elt Ideal .f32) (L : List (View.Piece (Elt Ideal) S1x8x2048 .f32)) (l : Fin 2048)
    (h : k < o ∨ o + n ≤ k) :
    View.canon (⟨Rect.unit (s := S1x8x2048) ![0, o, 0] sz inb, w⟩ :: L) (ix3 0 ⟨k, hk⟩ l) = View.canon L (ix3 0 ⟨k, hk⟩ l) := by
  refine View.canon_cons_of_not_mem _ _ fun hm => ?_
  have hm' := (Rect.mem_set_unit (s := S1x8x2048) (inb := inb) |>.mp hm) 1
  have h1 : o ≤ k := hm'.1
  have h2 : k < o + sz 1 := hm'.2
  omega

/-- The decoded boxes. -/
theorem after_boxes (l : Fin 2048) (k : Fin 5) :
    (dat1 V c).after 5 t (ix3 0 ⟨k.val, by omega⟩ l) = box (laneOf (iblk1 V c 0 t) l) (laneOf (iblk1 V c 1 t) l) k := by
  rw [after1_5, ← lane_box]
  unfold outsAt1; dsimp only
  unfold out1_A_5
  refine (congrFun (View.read_writes_eq_canon _ _ _ (cover1_A_5 c _ _ _ _ _ _ _ _ _ _ _ _ _ _ _ _ _ _ _ _ _ _ _ _)) _).trans ?_
  unfold kernelRun1_A; dsimp only
  unfold kernelRun1_A.sl.H5_6
  refine (row_miss 5 3 k.val _ S1x3x2048.size rfl _ _ _ l (by omega)).trans ?_
  match k with
  | 4 =>
    refine (row_hit 4 _ _ _ _ l).trans ?_
    unfold k1_pay18
    refine (shapeCast_ab_1ab_apply _ _ _ _ _).trans ?_
    unfold kernelRun1_A.sl.r_4
    rw [load_whole _ (hs1_0 t) _ _ (by decide), load_whole _ (hs1_1 t) _ _ (by decide)]; rfl
  | 3 =>
    refine (row_miss 4 1 3 _ S1x1x2048.size rfl _ _ _ l (by omega)).trans ?_
    refine (row_hit 3 _ _ _ _ l).trans ?_
    unfold k1_pay17
    refine (shapeCast_ab_1ab_apply _ _ _ _ _).trans ?_
    unfold kernelRun1_A.sl.r_3
    rw [load_whole _ (hs1_0 t) _ _ (by decide), load_whole _ (hs1_1 t) _ _ (by decide)]; rfl
  | 2 =>
    refine (row_miss 4 1 2 _ S1x1x2048.size rfl _ _ _ l (by omega)).trans ?_
    refine (row_miss 3 1 2 _ S1x1x2048.size rfl _ _ _ l (by omega)).trans ?_
    refine (row_hit 2 _ _ _ _ l).trans ?_
    unfold k1_pay16
    refine (shapeCast_ab_1ab_apply _ _ _ _ _).trans ?_
    rw [load_whole _ (hs1_0 t) _ _ (by decide), load_whole _ (hs1_1 t) _ _ (by decide)]; rfl
  | 1 =>
    refine (row_miss 4 1 1 _ S1x1x2048.size rfl _ _ _ l (by omega)).trans ?_
    refine (row_miss 3 1 1 _ S1x1x2048.size rfl _ _ _ l (by omega)).trans ?_
    refine (row_miss 2 1 1 _ S1x1x2048.size rfl _ _ _ l (by omega)).trans ?_
    refine (row_hit 1 _ _ _ _ l).trans ?_
    unfold k1_pay15
    refine (shapeCast_ab_1ab_apply _ _ _ _ _).trans ?_
    rw [load_whole _ (hs1_0 t) _ _ (by decide), load_whole _ (hs1_1 t) _ _ (by decide)]; rfl
  | 0 =>
    refine (row_miss 4 1 0 _ S1x1x2048.size rfl _ _ _ l (by omega)).trans ?_
    refine (row_miss 3 1 0 _ S1x1x2048.size rfl _ _ _ l (by omega)).trans ?_
    refine (row_miss 2 1 0 _ S1x1x2048.size rfl _ _ _ l (by omega)).trans ?_
    refine (row_miss 1 1 0 _ S1x1x2048.size rfl _ _ _ l (by omega)).trans ?_
    refine (row_hit 0 _ _ _ _ l).trans ?_
    unfold k1_pay14
    refine (shapeCast_ab_1ab_apply _ _ _ _ _).trans ?_
    rw [load_whole _ (hs1_0 t) _ _ (by decide), load_whole _ (hs1_1 t) _ _ (by decide)]; rfl

end Cert.KernelIdeal.Nms
-- ==== Proof.Arrays.lean ====
module

public import proofs.«01_k».proof.Proof.Padded
public import proofs.«01_k».proof.Proof.NmsValue
public import Idealize.ShloMosaic.Lib.Pipeline.ValueKit.Geometry

/-! The three arrays the second region leaves, on the lanes that hold chosen entries. -/

@[expose] public section

set_option maxRecDepth 16384

noncomputable section

namespace Cert.KernelIdeal.Nms

open Idealize.ShloMosaic hiding ix1 ix2 ix3 ix4 ix5
open Idealize.ShloMosaic.ValueIdx Idealize.ShloMosaic.TcCoe Cert.KernelIdeal Cert.KernelIdeal.Gen Cert.Boxes Cert.Choice
open Idealize.SL.Sem

section Region
variable (V : (c : Dev nD) → (b : Ref sig .tc) → Buf (Elt Ideal) ((c : Thread nD τ).loc b)) (c : Dev nD)

/-- Every window's block at a step is the step's image, whole. -/
theorem index_zero (t : Fin grid1.N) : (win1_0.index t 1 = 0 ∧ win1_0.index t 2 = 0) ∧ win1_1.index t = win1_0.index t ∧ win1_2.index t = win1_0.index t
    ∧ win1_3.index t = win1_0.index t ∧ win1_4.index t = win1_0.index t ∧ win1_5.index t = win1_0.index t ∧ win1_6.index t = win1_0.index t
    ∧ win1_7.index t = win1_0.index t :=
  (by decide +kernel : ∀ t : Fin grid1.N, (win1_0.index t 1 = 0 ∧ win1_0.index t 2 = 0) ∧ win1_1.index t = win1_0.index t ∧ win1_2.index t = win1_0.index t
    ∧ win1_3.index t = win1_0.index t ∧ win1_4.index t = win1_0.index t ∧ win1_5.index t = win1_0.index t ∧ win1_6.index t = win1_0.index t
    ∧ win1_7.index t = win1_0.index t) t

theorem block0 (t : Fin cfg1.N) (b : Fin 4) (hb : b.val = win1_0.index t 0) (k : Fin 8) (l : Fin 2048) :
    iblk1 V c 0 t (ix3 0 k l) = (V c main_v42 : S4x8x2048.Idx → Ideal .f32) (ix3 b k l) := by
  refine congrArg (V c main_v42 : S4x8x2048.Idx → Ideal .f32) ?_
  have hz := (index_zero t).1
  funext a
  apply Fin.ext
  refine (Pipeline.Window.rect_emb_val win1_0 t _ a).trans ?_
  match a with
  | 0 => show win1_0.index t 0 * 1 + 0 = b.val; omega
  | 1 => show win1_0.index t 1 * 8 + k.val = k.val; omega
  | 2 => show win1_0.index t 2 * 2048 + l.val = l.val; omega
theorem block1 (t : Fin cfg1.N) (b : Fin 4) (hb : b.val = win1_0.index t 0) (k : Fin 8) (l : Fin 2048) :
    iblk1 V c 1 t (ix3 0 k l) = (V c main_v44 : S4x8x2048.Idx → Ideal .f32) (ix3 b k l) := by
  refine congrArg (V c main_v44 : S4x8x2048.Idx → Ideal .f32) ?_
  have hz := (index_zero t).1
  have he : ∀ a, win1_1.index t a = win1_0.index t a := congrFun (index_zero t).2.1
  funext a
  apply Fin.ext
  refine (Pipeline.Window.rect_emb_val win1_1 t _ a).trans ?_
  match a with
  | 0 => show win1_1.index t 0 * 1 + 0 = b.val; rw [he]; omega
  | 1 => show win1_1.index t 1 * 8 + k.val = k.val; rw [he]; omega
  | 2 => show win1_1.index t 2 * 2048 + l.val = l.val; rw [he]; omega
theorem block2 (t : Fin cfg1.N) (b : Fin 4) (hb : b.val = win1_0.index t 0) (k : Fin 8) (l : Fin 2048) :
    iblk1 V c 2 t (ix3 0 l k) = (V c main_v45 : S4x2048x8.Idx → Ideal .f32) (ix3 b l k) := by
  refine congrArg (V c main_v45 : S4x2048x8.Idx → Ideal .f32) ?_
  have hz := (index_zero t).1
  have he : ∀ a, win1_2.index t a = win1_0.index t a := congrFun (index_zero t).2.2.1
  funext a
  apply Fin.ext
  refine (Pipeline.Window.rect_emb_val win1_2 t _ a).trans ?_
  match a with
  | 0 => show win1_2.index t 0 * 1 + 0 = b.val; rw [he]; omega
  | 1 => show win1_2.index t 1 * 2048 + l.val = l.val; rw [he]; omega
  | 2 => show win1_2.index t 2 * 8 + k.val = k.val; rw [he]; omega
theorem block3 (t : Fin cfg1.N) (b : Fin 4) (hb : b.val = win1_0.index t 0) (k : Fin 8) (l : Fin 2048) :
    iblk1 V c 3 t (ix3 0 l k) = (V c main_v46 : S4x2048x8.Idx → Ideal .f32) (ix3 b l k) := by
  refine congrArg (V c main_v46 : S4x2048x8.Idx → Ideal .f32) ?_
  have hz := (index_zero t).1
  have he : ∀ a, win1_3.index t a = win1_0.index t a := congrFun (index_zero t).2.2.2.1
  funext a
  apply Fin.ext
  refine (Pipeline.Window.rect_emb_val win1_3 t _ a).trans ?_
  match a with
  | 0 => show win1_3.index t 0 * 1 + 0 = b.val; rw [he]; omega
  | 1 => show win1_3.index t 1 * 2048 + l.val = l.val; rw [he]; omega
  | 2 => show win1_3.index t 2 * 8 + k.val = k.val; rw [he]; omega
theorem block4 (t : Fin cfg1.N) (b : Fin 4) (hb : b.val = win1_0.index t 0) (l : Fin 2048) :
    iblk1 V c 4 t (ix3 0 0 l) = (V c main_v47 : S4x1x2048.Idx → Ideal .f32) (ix3 b 0 l) := by
  refine congrArg (V c main_v47 : S4x1x2048.Idx → Ideal .f32) ?_
  have hz := (index_zero t).1
  have he : ∀ a, win1_4.index t a = win1_0.index t a := congrFun (index_zero t).2.2.2.2.1
  funext a
  apply Fin.ext
  refine (Pipeline.Window.rect_emb_val win1_4 t _ a).trans ?_
  match a with
  | 0 => show win1_4.index t 0 * 1 + 0 = b.val; rw [he]; omega
  | 1 => show win1_4.index t 1 * 1 + 0 = 0; rw [he]; omega
  | 2 => show win1_4.index t 2 * 2048 + l.val = l.val; rw [he]; omega

variable (D A : S4x2048x5.Idx → Ideal .f32) (X : S4x2048.Idx → Ideal .f32)
/-- The box a lane's five codes and five anchor numbers give. -/
def laneBox (b : Fin 4) (l : Fin 2048) : Fin 5 → Num := box (fun k => D (ix3 b l k)) (fun k => A (ix3 b l k))
def laneBoxes (b : Fin 4) (l : ℕ) : Fin 5 → Num := if h : l < 2048 then laneBox D A b ⟨l, h⟩ else fun _ => lit 0
theorem laneBoxes_val (b : Fin 4) (l : Fin 2048) : laneBox D A b l = laneBoxes D A b l.val := by
  unfold laneBoxes; rw [dif_pos l.isLt]

variable (h0 : ∀ b (k : Fin 5) l, (V c main_v42 : S4x8x2048.Idx → Ideal .f32) (ix3 b ⟨k.val, row_of k⟩ l) = D (ix3 b l k))
  (h1 : ∀ b (k : Fin 5) l, (V c main_v44 : S4x8x2048.Idx → Ideal .f32) (ix3 b ⟨k.val, row_of k⟩ l) = A (ix3 b l k))
  (h2 : ∀ b (k : Fin 5) l, (V c main_v45 : S4x2048x8.Idx → Ideal .f32) (ix3 b l ⟨k.val, row_of k⟩) = D (ix3 b l k))
  (h3 : ∀ b (k : Fin 5) l, (V c main_v46 : S4x2048x8.Idx → Ideal .f32) (ix3 b l ⟨k.val, row_of k⟩) = A (ix3 b l k))
  (h4 : ∀ b l, (V c main_v47 : S4x1x2048.Idx → Ideal .f32) (ix3 b 0 l) = X (ix2 b l))

include h0 h1 in
theorem lane_block (t : Fin cfg1.N) (b : Fin 4) (hb : b.val = win1_0.index t 0) (l : Fin 2048) :
    box (laneOf (iblk1 V c 0 t) l) (laneOf (iblk1 V c 1 t) l) = laneBox D A b l := by
  have e0 : laneOf (iblk1 V c 0 t) l = fun k => D (ix3 b l k) := funext fun k => (block0 V c t b hb ⟨k.val, row_of k⟩ l).trans (h0 b k l)
  have e1 : laneOf (iblk1 V c 1 t) l = fun k => A (ix3 b l k) := funext fun k => (block1 V c t b hb ⟨k.val, row_of k⟩ l).trans (h1 b k l)
  unfold laneBox; rw [e0, e1]
include h2 h3 in
theorem row_block (t : Fin cfg1.N) (b : Fin 4) (hb : b.val = win1_0.index t 0) (l : Fin 2048) :
    box (rowOf (iblk1 V c 2 t) l) (rowOf (iblk1 V c 3 t) l) = laneBox D A b l := by
  have e0 : rowOf (iblk1 V c 2 t) l = fun k => D (ix3 b l k) := funext fun k => (block2 V c t b hb ⟨k.val, row_of k⟩ l).trans (h2 b k l)
  have e1 : rowOf (iblk1 V c 3 t) l = fun k => A (ix3 b l k) := funext fun k => (block3 V c t b hb ⟨k.val, row_of k⟩ l).trans (h3 b k l)
  unfold laneBox; rw [e0, e1]

include h0 h1 in
theorem boxes_array (b : Fin 4) (k : Fin 5) (l : Fin 2048) :
    ((dat1 V c).arrAt 5 cfg1.N : S4x8x2048.Idx → Ideal .f32) (ix3 b ⟨k.val, row_of k⟩ l) = laneBox D A b l k := by
  refine ((dat1 V c).arrAt_forall_of_covers 5 (fun y v => ∀ b (k : Fin 5) l, y = ix3 b ⟨k.val, row_of k⟩ l → (v : Ideal .f32) = laneBox D A b l k) (by decide +kernel) (fun t hf y b k l e => ?_) (ix3 b ⟨k.val, row_of k⟩ l)) b k l rfl
  blk_simp
  have hz := (index_zero t).1
  have he : ∀ a, win1_5.index t a = win1_0.index t a := congrFun (index_zero t).2.2.2.2.2.1
  have v0 : b.val = win1_0.index t 0 * 1 + (y 0).val := (congrArg Fin.val (congrFun e 0)).symm.trans ((Pipeline.Window.rect_emb_val win1_5 t y 0).trans (by rw [he]; rfl))
  have v1 : k.val = win1_0.index t 1 * 8 + (y 1).val := (congrArg Fin.val (congrFun e 1)).symm.trans ((Pipeline.Window.rect_emb_val win1_5 t y 1).trans (by rw [he]; rfl))
  have v2 : l.val = win1_0.index t 2 * 2048 + (y 2).val := (congrArg Fin.val (congrFun e 2)).symm.trans ((Pipeline.Window.rect_emb_val win1_5 t y 2).trans (by rw [he]; rfl))
  have hj : (y 0).val = 0 := Nat.lt_one_iff.mp (y 0).isLt
  have hy : y = ix3 0 ⟨k.val, row_of k⟩ l := by
    funext a
    apply Fin.ext
    match a with
    | 0 => exact hj
    | 1 => show (y 1).val = k.val; omega
    | 2 => show (y 2).val = l.val; omega
  refine (congrArg _ hy).trans ((after_boxes V c t l k).trans ?_)
  exact congrFun (lane_block V c D A h0 h1 t b (by omega) l) k

include h4 in
theorem scores_array (b : Fin 4) (l : Fin 2048) :
    ((dat1 V c).arrAt 6 cfg1.N : S4x1x2048.Idx → Ideal .f32) (ix3 b 0 l) = Ideal.logistic (X (ix2 b l)) := by
  refine ((dat1 V c).arrAt_forall_of_covers 6 (fun y v => ∀ b l, y = ix3 b (0 : Fin 1) l → (v : Ideal .f32) = Ideal.logistic (X (ix2 b l))) (by decide +kernel) (fun t hf y b l e => ?_) (ix3 b 0 l)) b l rfl
  blk_simp
  have hz := (index_zero t).1
  have he : ∀ a, win1_6.index t a = win1_0.index t a := congrFun (index_zero t).2.2.2.2.2.2.1
  have v0 : b.val = win1_0.index t 0 * 1 + (y 0).val := (congrArg Fin.val (congrFun e 0)).symm.trans ((Pipeline.Window.rect_emb_val win1_6 t y 0).trans (by rw [he]; rfl))
  have v2 : l.val = win1_0.index t 2 * 2048 + (y 2).val := (congrArg Fin.val (congrFun e 2)).symm.trans ((Pipeline.Window.rect_emb_val win1_6 t y 2).trans (by rw [he]; rfl))
  have hj : (y 0).val = 0 := Nat.lt_one_iff.mp (y 0).isLt
  have hy : y = ix3 0 0 l := by
    funext a
    apply Fin.ext
    match a with
    | 0 => exact hj
    | 1 => exact Nat.lt_one_iff.mp (y 1).isLt
    | 2 => show (y 2).val = l.val; omega
  refine (congrArg _ hy).trans ((after_scores V c t l).trans (congrArg Ideal.logistic ?_))
  exact (block4 V c t b (by omega) l).trans (h4 b l)

include h0 h1 h2 h3 in
theorem struck_array (b : Fin 4) (l : Fin 2048) :
    ((dat1 V c).arrAt 7 cfg1.N : S4x1x2048.Idx → Ideal .f32) (ix3 b 0 l)
      = tf (struck (fun i l => over (laneBoxes D A b i) (laneBoxes D A b l) = 1#1) (fun l => 2000 ≤ l) 2000 l.val) := by
  refine ((dat1 V c).arrAt_forall_of_covers 7 (fun y v => ∀ b (l : Fin 2048), y = ix3 b (0 : Fin 1) l → (v : Ideal .f32)
      = tf (struck (fun i l => over (laneBoxes D A b i) (laneBoxes D A b l) = 1#1) (fun l => 2000 ≤ l) 2000 l.val)) (by decide +kernel) (fun t hf y b l e => ?_) (ix3 b 0 l)) b l rfl
  blk_simp
  have hz := (index_zero t).1
  have he : ∀ a, win1_7.index t a = win1_0.index t a := congrFun (index_zero t).2.2.2.2.2.2.2
  have v0 : b.val = win1_0.index t 0 * 1 + (y 0).val := (congrArg Fin.val (congrFun e 0)).symm.trans ((Pipeline.Window.rect_emb_val win1_7 t y 0).trans (by rw [he]; rfl))
  have v2 : l.val = win1_0.index t 2 * 2048 + (y 2).val := (congrArg Fin.val (congrFun e 2)).symm.trans ((Pipeline.Window.rect_emb_val win1_7 t y 2).trans (by rw [he]; rfl))
  have hj : (y 0).val = 0 := Nat.lt_one_iff.mp (y 0).isLt
  have hy : y = ix3 0 0 l := by
    funext a
    apply Fin.ext
    match a with
    | 0 => exact hj
    | 1 => exact Nat.lt_one_iff.mp (y 1).isLt
    | 2 => show (y 2).val = l.val; omega
  refine (congrArg _ hy).trans (after_struck V c t (laneBoxes D A b) (fun l => ?_) (fun i => ?_) l)
  · exact (lane_block V c D A h0 h1 t b (by omega) l).trans (laneBoxes_val D A b l)
  · exact (row_block V c D A h2 h3 t b (by omega) i).trans (laneBoxes_val D A b i)
end Region

section Held
variable [Cert.KernelIdeal.Facts] (m : (ℓ : Loc nD τ sig) → Buf (Elt Ideal) ℓ) (ρ : Dev nD → PrngReg) (c : Dev nD)

theorem boxes_W30 (b : Fin 4) (k : Fin 5) (l : Fin 2048) :
    (W30 m ρ c (Proc.devRef .tc main_v48_0) : S4x8x2048.Idx → Ideal .f32) (ix3 b ⟨k.val, row_of k⟩ l) = laneBox (paddedCodes m ρ c) (paddedAnchors m ρ c) b l k :=
  (congrFun (W30_arr m ρ c 5) _).trans (boxes_array (V29 m ρ) c _ _ (in0_W29 m ρ c) (in1_W29 m ρ c) b k l)
theorem scores_W30 (b : Fin 4) (l : Fin 2048) :
    (W30 m ρ c (Proc.devRef .tc main_v48_1) : S4x1x2048.Idx → Ideal .f32) (ix3 b 0 l) = Ideal.logistic (paddedScores m ρ c (ix2 b l)) :=
  (congrFun (W30_arr m ρ c 6) _).trans (scores_array (V29 m ρ) c _ (in4_W29 m ρ c) b l)
theorem struck_W30 (b : Fin 4) (l : Fin 2048) :
    (W30 m ρ c (Proc.devRef .tc main_v48_2) : S4x1x2048.Idx → Ideal .f32) (ix3 b 0 l)
      = tf (struck (fun i l => over (laneBoxes (paddedCodes m ρ c) (paddedAnchors m ρ c) b i) (laneBoxes (paddedCodes m ρ c) (paddedAnchors m ρ c) b l) = 1#1) (fun l => 2000 ≤ l) 2000 l.val) :=
  (congrFun (W30_arr m ρ c 7) _).trans (struck_array (V29 m ρ) c _ _ (in0_W29 m ρ c) (in1_W29 m ρ c) (in2_W29 m ρ c) (in3_W29 m ρ c) b l)

/-- A lane below two thousand holds the box of the entry chosen there. -/
theorem chosen_box (b : Fin 4) (i : Fin 2000) :
    laneBox (paddedCodes m ρ c) (paddedAnchors m ρ c) b ⟨i.val, lane_of i⟩ = boxAt (codesOf m c) (anchorsOf m c) b (spotOf m ρ c (ix2 b i)) := by
  unfold laneBox boxAt
  rw [show (fun k => paddedCodes m ρ c (ix3 b ⟨i.val, lane_of i⟩ k)) = codesAt (codesOf m c) b (spotOf m ρ c (ix2 b i)) from funext (codes_of m ρ c b i),
    show (fun k => paddedAnchors m ρ c (ix3 b ⟨i.val, lane_of i⟩ k)) = anchorAt (anchorsOf m c) b (spotOf m ρ c (ix2 b i)) from funext (anchors_of m ρ c b i)]
end Held

end Cert.KernelIdeal.Nms
-- ==== Proof.Keep.lean ====
module

public import Idealize.ShloMosaic.Lib.SortFacts
public import Idealize.ShloMosaic.Lib.ValueIdxCore
public import Idealize.ShloMosaic.Lib.Affine
public import Mathlib.Order.Interval.Finset.Fin
public import Mathlib.Data.Finset.Card

/-! The list of the entries kept, made by sorting: an entry kept stands for itself, any other for a number beyond them all.
Sorted lists of two lengths agree as far as both go. -/

@[expose] public section

noncomputable section

namespace Cert.Keep

open Idealize.ShloMosaic Idealize.ShloMosaic.ValueIdx

section Rank
variable {N : ℕ} (key : Fin N → ℕ)

/-- The number at place `j` of the sorted list. -/
def rank (j : Fin N) : ℕ := key (sortedFrom (fun k k' : Fin N => decide (key k < key k')) j)

theorem rank_mono (i j : Fin N) (h : i < j) : rank key i ≤ rank key j := by
  have := sortedFrom_noInversion (fun k k' : Fin N => decide (key k < key k')) (fun k k' : Fin N => decide (key k < key k'))
    (fun a b h => by simp only [decide_eq_true_eq, decide_eq_false_iff_not] at h ⊢; omega) (fun a b h => h)
    (fun a b c h h' => by simp only [decide_eq_false_iff_not] at h h' ⊢; omega) i j h
  simp only [decide_eq_false_iff_not] at this
  exact Nat.le_of_not_lt this

/-- How many keys lie below `v`. -/
def below (v : ℕ) : ℕ := (Finset.univ.filter fun l : Fin N => key l < v).card

theorem below_rank (v : ℕ) : (Finset.univ.filter fun j : Fin N => rank key j < v).card = below key v := by
  refine Finset.card_bij (fun j _ => sortedFrom (fun k k' : Fin N => decide (key k < key k')) j) (fun j hj => ?_) (fun a _ b _ h => sortedFrom_injective _ h) (fun l hl => ?_)
  · simp only [Finset.mem_filter, Finset.mem_univ, true_and] at hj ⊢
    exact hj
  · obtain ⟨j, rfl⟩ := sortedFrom_surjective (fun k k' : Fin N => decide (key k < key k')) l
    simp only [Finset.mem_filter, Finset.mem_univ, true_and] at hl
    exact ⟨j, by simp only [Finset.mem_filter, Finset.mem_univ, true_and]; exact hl, rfl⟩

theorem rank_lt (v : ℕ) (j : Fin N) : rank key j < v ↔ j.val < below key v := by
  rw [← below_rank]
  constructor
  · intro h
    have hs : Finset.Iic j ⊆ Finset.univ.filter fun j : Fin N => rank key j < v := fun i hi => by
      simp only [Finset.mem_filter, Finset.mem_univ, true_and]
      rcases (Finset.mem_Iic.mp hi).lt_or_eq with h' | h'
      · exact lt_of_le_of_lt (rank_mono key i j h') h
      · rw [h']; exact h
    have := Finset.card_le_card hs
    rw [Fin.card_Iic] at this
    omega
  · intro h
    by_contra hn
    have hs : (Finset.univ.filter fun j : Fin N => rank key j < v) ⊆ Finset.Iio j := fun i hi => by
      simp only [Finset.mem_filter, Finset.mem_univ, true_and] at hi
      refine Finset.mem_Iio.mpr (not_le.mp fun hji => hn ?_)
      rcases hji.lt_or_eq with h' | h'
      · exact lt_of_le_of_lt (rank_mono key j i h') hi
      · rw [h']; exact hi
    have := Finset.card_le_card hs
    rw [Fin.card_Iio] at this
    omega

theorem rank_mem (j : Fin N) : ∃ l, rank key j = key l := ⟨_, rfl⟩
end Rank

/-- The key of an entry: itself if it is kept. -/
def keyOf (N : ℕ) (kept : ℕ → Prop) (l : Fin N) : ℕ := open Classical in if kept l.val then l.val else N

theorem keyOf_pos (N : ℕ) (kept : ℕ → Prop) (l : Fin N) (h : kept l.val) : keyOf N kept l = l.val := if_pos h
theorem keyOf_neg (N : ℕ) (kept : ℕ → Prop) (l : Fin N) (h : ¬ kept l.val) : keyOf N kept l = N := if_neg h
theorem keyOf_le (N : ℕ) (kept : ℕ → Prop) (l : Fin N) : keyOf N kept l ≤ N := by
  by_cases h : kept l.val
  · rw [keyOf_pos _ _ _ h]; exact l.isLt.le
  · rw [keyOf_neg _ _ _ h]

/-- The `j`-th kept entry; entry 0 once they run out. -/
def pickOf (N : ℕ) (kept : ℕ → Prop) (j : Fin N) : ℕ := if rank (keyOf N kept) j < N then rank (keyOf N kept) j else 0

theorem pickOf_lt {N : ℕ} (kept : ℕ → Prop) (j : Fin N) : pickOf N kept j < N := by
  unfold pickOf; split
  · assumption
  · exact lt_of_le_of_lt (Nat.zero_le _) j.isLt

theorem below_same {N M : ℕ} (hNM : N ≤ M) (kept : ℕ → Prop) (kept' : ℕ → Prop) (h : ∀ l, l < N → (kept' l ↔ kept l)) (h' : ∀ l, N ≤ l → ¬ kept' l) (v : ℕ) (hv : v ≤ N) :
    below (keyOf N kept) v = below (keyOf M kept') v := by
  refine Finset.card_bij (fun l _ => l.castLE hNM) (fun l hl => ?_) (fun a _ b _ e => Fin.ext (congrArg Fin.val e :)) (fun l hl => ?_)
  · have hl' : keyOf N kept l < v := (Finset.mem_filter.mp hl).2
    refine Finset.mem_filter.mpr ⟨Finset.mem_univ _, ?_⟩
    by_cases hk : kept l.val
    · rw [keyOf_pos _ _ _ hk] at hl'
      have hk' : kept' (l.castLE hNM).val := (h _ l.isLt).mpr hk
      rw [keyOf_pos _ _ _ hk']; exact hl'
    · rw [keyOf_neg _ _ _ hk] at hl'; omega
  · have hl' : keyOf M kept' l < v := (Finset.mem_filter.mp hl).2
    by_cases hk : kept' l.val
    · have hlN : l.val < N := by by_contra hc; exact h' _ (by omega) hk
      refine ⟨⟨l.val, hlN⟩, Finset.mem_filter.mpr ⟨Finset.mem_univ _, ?_⟩, rfl⟩
      have hk' : kept (⟨l.val, hlN⟩ : Fin N).val := (h _ hlN).mp hk
      rw [keyOf_pos _ _ _ hk] at hl'
      rw [keyOf_pos _ _ _ hk']; exact hl'
    · rw [keyOf_neg _ _ _ hk] at hl'; omega

theorem pick_same {N M : ℕ} (hNM : N ≤ M) (kept : ℕ → Prop) (kept' : ℕ → Prop) (h : ∀ l, l < N → (kept' l ↔ kept l)) (h' : ∀ l, N ≤ l → ¬ kept' l) (j : Fin N) :
    pickOf M kept' (j.castLE hNM) = pickOf N kept j := by
  have key : ∀ v, v ≤ N → (rank (keyOf M kept') (j.castLE hNM) < v ↔ rank (keyOf N kept) j < v) := fun v hv => by
    rw [rank_lt, rank_lt, below_same hNM kept kept' h h' v hv]; rfl
  have hN := key N le_rfl
  unfold pickOf
  by_cases hr : rank (keyOf N kept) j < N
  · have h1 := key _ (le_of_lt hr)
    have h2 := key _ (Nat.succ_le_of_lt hr)
    have h3 := hN.mpr hr
    rw [if_pos hr, if_pos (by omega)]
    omega
  · rw [if_neg hr, if_neg]
    obtain ⟨l, hl⟩ := rank_mem (keyOf M kept') (j.castLE hNM)
    have h3 := mt hN.mp hr
    rw [hl] at h3 ⊢
    by_cases hk : kept' l.val
    · rw [keyOf_pos _ _ _ hk] at h3; exact absurd hk (h' _ (by omega))
    · rw [keyOf_neg _ _ _ hk]; omega

section Sorting
variable {B N : ℕ} (hN : N < 2 ^ 31) (x : (⟨2, ![B, N]⟩ : Shape).Idx → BitVec 32) (b : Fin B) (key : Fin N → ℕ) (hk : ∀ l, key l ≤ N)
  (hx : ∀ l, x (ix2 b l) = BitVec.ofNat 32 (key l)) (cmp : BitVec 32 → BitVec 32 → BitVec 1) (hcmp : ∀ u v, cmp u v = IntOp.cmpi .slt u v)

include hN in
theorem small_toInt (n : ℕ) (h : n ≤ N) : (BitVec.ofNat 32 n).toInt = n := by
  have e : (BitVec.ofNat 32 n).toNat = n := by rw [BitVec.toNat_ofNat]; omega
  rw [BitVec.toInt_eq_toNat_cond, e]; split <;> omega

include hN hk hx hcmp in
/-- The host's sort of a row of keys. -/
theorem sort_row (j : Fin N) : Host.sort ⟨2, ![B, N]⟩ 1 cmp x (ix2 b j) = BitVec.ofNat 32 (rank key j) := by
  have ha : ∀ n : Fin N, (ix2 b j : (⟨2, ![B, N]⟩ : Shape).Idx).along (1 : Fin 2) n = ix2 b n := fun n => by
    funext a
    match a with
    | 0 => rfl
    | 1 => rfl
  have e : (fun k k' : Fin N => cmp (x ((ix2 b j : (⟨2, ![B, N]⟩ : Shape).Idx).along (1 : Fin 2) k)) (x ((ix2 b j : (⟨2, ![B, N]⟩ : Shape).Idx).along (1 : Fin 2) k')) == 1#1)
      = fun k k' : Fin N => decide (key k < key k') := by
    funext k k'
    rw [ha, ha, hx, hx, hcmp]
    have := IntOp.cmpi_slt (x := BitVec.ofNat 32 (key k)) (y := BitVec.ofNat 32 (key k'))
    rw [small_toInt hN _ (hk k), small_toInt hN _ (hk k')] at this
    rw [Bool.eq_iff_iff, beq_iff_eq, decide_eq_true_iff, this]; omega
  show x ((ix2 b j : (⟨2, ![B, N]⟩ : Shape).Idx).along (1 : Fin 2) (sortedFrom (fun k k' : Fin N => cmp (x ((ix2 b j : (⟨2, ![B, N]⟩ : Shape).Idx).along (1 : Fin 2) k)) (x ((ix2 b j : (⟨2, ![B, N]⟩ : Shape).Idx).along (1 : Fin 2) k')) == 1#1) j)) = _
  exact (congrArg (fun before : Fin N → Fin N → Bool => x ((ix2 b j : (⟨2, ![B, N]⟩ : Shape).Idx).along (1 : Fin 2) (sortedFrom before j))) e).trans
    ((congrArg x (ha _)).trans (hx _))
end Sorting

end Cert.Keep
-- ==== Proof.Tail.lean ====
module

public import proofs.«01_k».proof.Proof.Arrays
public import proofs.«01_k».proof.Proof.Keep
public import Mathlib.Tactic.NormNum

/-! What the program returns: the boxes and scores of the first thousand entries kept. -/

@[expose] public section

set_option maxRecDepth 16384

noncomputable section

namespace Cert.KernelIdeal.Nms

open Idealize.ShloMosaic hiding ix1 ix2 ix3 ix4 ix5
open Idealize.ShloMosaic.ValueIdx Idealize.ShloMosaic.TcCoe Idealize.ShloMosaic.StableHlo Cert.KernelIdeal Cert.KernelIdeal.Gen Cert.Boxes Cert.Choice Cert.Keep
open Idealize.SL.Sem

theorem ofBits_half : Ideal.ofBits .f32 0x3F000000#32 = ((1 / 2 : ℝ) : EReal) := by
  simp [Ideal.ofBits, Ideal.ieee, -EReal.coe_mul]; norm_num

/-- Whether a lane is kept, from its mark. -/
theorem unmarked (p : Prop) : ~~~ (FloatOps.cmpf (F := Ideal) (φ := .f32) .ogt (tf p) (FloatOps.ofBits (F := Ideal) .f32 0x3F000000#32)) = 1#1 ↔ ¬ p := by
  have e : FloatOps.cmpf (F := Ideal) (φ := .f32) .ogt (tf p) (FloatOps.ofBits (F := Ideal) .f32 0x3F000000#32)
      = BitVec.ofBool (decide ((Ideal.ofBits .f32 0x3F000000#32 : EReal) < tf p)) := rfl
  rw [e, ofBits_half]
  by_cases h : p
  · rw [tf_true h, decide_eq_true (by exact_mod_cast (by norm_num : (1 / 2 : ℝ) < 1))]
    exact ⟨fun hc => absurd hc (by decide), fun hn => absurd h hn⟩
  · rw [tf_false h, decide_eq_false (by exact_mod_cast (by norm_num : ¬ (1 / 2 : ℝ) < 0))]
    exact ⟨fun _ => h, fun _ => by decide⟩

section Stretch
variable (V : Valuation τ sig (Elt Ideal))

theorem ops2_v50 (x : S4x8x2048.Idx → Ideal .f32) (hx : V (Proc.devRef .tc main_v48_0) = x) (b : Fin 4) (l : Fin 2048) (k : Fin 5) :
    (after main_part1_ops2 V (Proc.devRef .tc main_v50) : S4x2048x5.Idx → Ideal .f32) (ix3 b l k) = x (ix3 b ⟨k.val, row_of k⟩ l) := by
  after_reads_simp
  rw [hx]
  refine (transpose_apply (s := S4x5x2048) (t := S4x2048x5) _ _ _ _ (ix3 b k l) fun a => ?_).trans (extractStridedSlice_apply _ _ _ _ _ fun a => ?_)
  · match a with
    | 0 => rfl
    | 1 => rfl
    | 2 => rfl
  · match a with
    | 0 => exact (Nat.zero_add _).symm
    | 1 => exact (Nat.zero_add _).symm
    | 2 => exact (Nat.zero_add _).symm

theorem line_flat (x : S4x1x2048.Idx → Ideal .f32) (h) (b : Fin 4) (l : Fin 2048) : shapeCast S4x2048 x h (ix2 b l) = x (ix3 b 0 l) := by
  refine shapeCast_apply (s := S4x1x2048) (t := S4x2048) x _ _ (ix3 b 0 l) ?_
  rw [Shape.rowMajor_val_two, Shape.rowMajor_val_three]
  show (b.val * 1 + 0) * 2048 + l.val = b.val * 2048 + l.val
  omega

theorem ops2_v51 (x : S4x1x2048.Idx → Ideal .f32) (hx : V (Proc.devRef .tc main_v48_1) = x) (b : Fin 4) (l : Fin 2048) :
    (after main_part1_ops2 V (Proc.devRef .tc main_v51) : S4x2048.Idx → Ideal .f32) (ix2 b l) = x (ix3 b 0 l) := by
  after_reads_simp
  rw [hx]
  exact line_flat x _ b l

theorem ops2_v57 (x : S4x1x2048.Idx → Ideal .f32) (hx : V (Proc.devRef .tc main_v48_2) = x) (b : Fin 4) (l : Fin 2048) :
    (after main_part1_ops2 V (Proc.devRef .tc main_v57) : S4x2048.Idx → BitVec 1) (ix2 b l)
      = ~~~ (FloatOps.cmpf (F := Ideal) (φ := .f32) .ogt (x (ix3 b 0 l)) (FloatOps.ofBits (F := Ideal) .f32 0x3F000000#32)) := by
  after_reads_simp
  rw [hx]
  have e := line_flat x shapeCasts_S4x1x2048_S4x2048 b l
  rw [← e]
  rfl

theorem ops2_v56 (l : Fin 2048) : (after main_part1_ops2 V (Proc.devRef .tc main_v56) : S1x2048.Idx → BitVec 32) (ix2 0 l) = BitVec.ofNat 32 l.val := by
  after_reads_simp
  refine (broadcastInDim_apply _ _ _ _ (ix1 l) fun a => ?_).trans rfl
  match a with
  | 0 => rfl
theorem ops2_c11 (i : S_.Idx) : (after main_part1_ops2 V (Proc.devRef .tc main_c_11) : S_.Idx → BitVec 32) i = 2048#32 := by
  after_reads_simp
  rfl

theorem ops3_v58 (M : S4x2048.Idx → BitVec 1) (hM : V (Proc.devRef .tc main_v57) = M) (I : S1x2048.Idx → BitVec 32) (hI : V (Proc.devRef .tc main_v56) = I)
    (n : S_.Idx → BitVec 32) (hn : V (Proc.devRef .tc main_c_11) = n) (b : Fin 4) (l : Fin 2048) :
    (after main_part1_ops3 V (Proc.devRef .tc main_v58) : S4x2048.Idx → BitVec 32) (ix2 b l) = if M (ix2 b l) = 1#1 then I (ix2 0 l) else n HostLoop.idx0 := by
  after_reads_simp
  (try simp -implicitDefEqProofs only [StableHlo.TRef.toBuf, StableHlo.TRef.ofBuf, cast_cast, cast_eq])
  (try clean_types)
  rw [hM, hI, hn]
  have e1 : broadcastInDim S4x2048 ![0, 1] bcast_S1x2048_S4x2048_0_1 I (ix2 b l) = I (ix2 0 l) := by
    refine broadcastInDim_apply _ _ _ _ (ix2 0 l) fun a => ?_
    match a with
    | 0 => rfl
    | 1 => rfl
  have e2 : broadcastInDim S4x2048 ![] bcast_S_S4x2048 (id n) (ix2 b l) = n HostLoop.idx0 :=
    broadcastInDim_apply _ _ _ _ HostLoop.idx0 fun a => a.elim0
  rw [← e1, ← e2]
  rfl

theorem ops4_v59 (x : S4x2048.Idx → BitVec 32) (hx : V (Proc.devRef .tc main_v58) = x) :
    (after main_part1_ops4 V (Proc.devRef .tc main_v59) : S4x2048.Idx → BitVec 32) = Host.sort S4x2048 1 comparator_i32_d1 x := by
  after_reads_simp
  (try simp -implicitDefEqProofs only [StableHlo.TRef.toBuf, StableHlo.TRef.ofBuf, cast_cast, cast_eq])
  (try clean_types)
  rw [hx]

theorem first_of (j : Fin 1000) : j.val < 2048 := by omega

theorem ops5_v60 (x : S4x2048.Idx → BitVec 32) (hx : V (Proc.devRef .tc main_v59) = x) (b : Fin 4) (j : Fin 1000) :
    (after main_part1_ops5 V (Proc.devRef .tc main_v60) : S4x1000.Idx → BitVec 32) (ix2 b j) = x (ix2 b ⟨j.val, first_of j⟩) := by
  after_reads_simp
  rw [hx]
  refine extractStridedSlice_apply _ _ _ _ _ fun a => ?_
  match a with
  | 0 => exact (Nat.zero_add _).symm
  | 1 => exact (Nat.zero_add _).symm
theorem ops5_v62 (x : S4x2048.Idx → BitVec 32) (hx : V (Proc.devRef .tc main_v59) = x) (b : Fin 4) (j : Fin 1000) :
    (after main_part1_ops5 V (Proc.devRef .tc main_v62) : S4x1000.Idx → BitVec 1) (ix2 b j) = IntOp.cmpi .slt (x (ix2 b ⟨j.val, first_of j⟩)) 2048#32 := by
  rw [← ops5_v60 V x hx b j]
  after_reads_simp
  rfl
theorem ops5_c13 (i : S_.Idx) : (after main_part1_ops5 V (Proc.devRef .tc main_c_13) : S_.Idx → BitVec 32) i = 0#32 := by
  after_reads_simp
  rfl

theorem ops6_v63 (M : S4x1000.Idx → BitVec 1) (hM : V (Proc.devRef .tc main_v62) = M) (I : S4x1000.Idx → BitVec 32) (hI : V (Proc.devRef .tc main_v60) = I)
    (n : S_.Idx → BitVec 32) (hn : V (Proc.devRef .tc main_c_13) = n) (b : Fin 4) (j : Fin 1000) :
    (after main_part1_ops6 V (Proc.devRef .tc main_v63) : S4x1000.Idx → BitVec 32) (ix2 b j) = if M (ix2 b j) = 1#1 then I (ix2 b j) else n HostLoop.idx0 := by
  after_reads_simp
  (try simp -implicitDefEqProofs only [StableHlo.TRef.toBuf, StableHlo.TRef.ofBuf, cast_cast, cast_eq])
  (try clean_types)
  rw [hM, hI, hn]
  have e2 : broadcastInDim S4x1000 ![] bcast_S_S4x1000 (id n) (ix2 b j) = n HostLoop.idx0 :=
    broadcastInDim_apply _ _ _ _ HostLoop.idx0 fun a => a.elim0
  rw [← e2]
  rfl

theorem ops7_v64 (x : S4x1000.Idx → BitVec 32) (hx : V (Proc.devRef .tc main_v63) = x) (b : Fin 4) (j : Fin 1000) :
    (after main_part1_ops7 V (Proc.devRef .tc main_v64) : S4x1000x1.Idx → BitVec 32) (ix3 b j 0) = x (ix2 b j) := by
  after_reads_simp
  rw [hx]
  refine broadcastInDim_apply _ _ _ _ (ix2 b j) fun a => ?_
  match a with
  | 0 => rfl
  | 1 => rfl

theorem ops8_v65 [Cert.KernelIdeal.Facts] (x : S4x2048x5.Idx → Ideal .f32) (hx : V (Proc.devRef .tc main_v50) = x) (J : S4x1000x1.Idx → BitVec 32) (hJ : V (Proc.devRef .tc main_v64) = J)
    (hr : ∀ i, (J i).toNat < 2048) (b : Fin 4) (j : Fin 1000) (k : Fin 5) :
    (after main_part1_ops8 V (Proc.devRef .tc main_v65) : S4x1000x5.Idx → Ideal .f32) (ix3 b j k) = x (ix3 b ⟨(J (ix3 b j 0)).toNat, hr _⟩ k) := by
  after_reads_simp
  (try simp -implicitDefEqProofs only [StableHlo.TRef.toBuf, StableHlo.TRef.ofBuf, cast_cast, cast_eq])
  (try clean_types)
  rw [hx, hJ]
  exact Cert.Take.take3 (by decide) _ x J _ _ hr (fun _ => rfl) _ _ (fun _ => rfl) (fun _ => rfl) _ (fun _ => rfl) _ _ _ _ b j k

theorem ops9_v66 [Cert.KernelIdeal.Facts] (x : S4x2048.Idx → Ideal .f32) (hx : V (Proc.devRef .tc main_v51) = x) (J : S4x1000.Idx → BitVec 32) (hJ : V (Proc.devRef .tc main_v63) = J)
    (hr : ∀ i, (J i).toNat < 2048) (b : Fin 4) (j : Fin 1000) :
    (after main_part1_ops9 V (Proc.devRef .tc main_v66) : S4x1000.Idx → Ideal .f32) (ix2 b j) = x (ix2 b ⟨(J (ix2 b j)).toNat, hr _⟩) := by
  after_reads_simp
  (try simp -implicitDefEqProofs only [StableHlo.TRef.toBuf, StableHlo.TRef.ofBuf, cast_cast, cast_eq])
  (try clean_types)
  rw [hx, hJ]
  exact Cert.Take.take2 (by decide) _ x J _ _ hr (fun _ => rfl) _ _ (fun _ => rfl) (fun _ => rfl) _ _ (fun _ => rfl) _ _ _ b j
end Stretch

section Held
variable [Cert.KernelIdeal.Facts] (m : (ℓ : Loc nD τ sig) → Buf (Elt Ideal) ℓ) (ρ : Dev nD → PrngReg) (c : Dev nD)

/-- Which lanes image `b` keeps. -/
def keptOf (b : Fin 4) (l : ℕ) : Prop :=
  ¬ struck (fun i l => over (laneBoxes (paddedCodes m ρ c) (paddedAnchors m ρ c) b i) (laneBoxes (paddedCodes m ρ c) (paddedAnchors m ρ c) b l) = 1#1) (fun l => 2000 ≤ l) 2000 l

theorem kept_W31 (b : Fin 4) (l : Fin 2048) : (W31 m ρ c (Proc.devRef .tc main_v57) : S4x2048.Idx → BitVec 1) (ix2 b l) = 1#1 ↔ keptOf m ρ c b l.val := by
  rw [show (W31 m ρ c (Proc.devRef .tc main_v57) : S4x2048.Idx → BitVec 1) (ix2 b l) = _ from ops2_v57 (W30 m ρ c) _ rfl b l, struck_W30, unmarked]
  rfl

theorem key_W32 (b : Fin 4) (l : Fin 2048) : (W32 m ρ c (Proc.devRef .tc main_v58) : S4x2048.Idx → BitVec 32) (ix2 b l) = BitVec.ofNat 32 (keyOf 2048 (keptOf m ρ c b) l) := by
  refine (ops3_v58 (W31 m ρ c) _ rfl _ rfl _ rfl b l).trans ?_
  by_cases h : keptOf m ρ c b l.val
  · rw [if_pos ((kept_W31 m ρ c b l).mpr h), keyOf_pos _ _ _ h]
    exact ops2_v56 (W30 m ρ c) l
  · rw [if_neg (fun e => h ((kept_W31 m ρ c b l).mp e)), keyOf_neg _ _ _ h]
    exact ops2_c11 (W30 m ρ c) _

theorem sorted_W33 (b : Fin 4) (j : Fin 2048) :
    (W33 m ρ c (Proc.devRef .tc main_v59) : S4x2048.Idx → BitVec 32) (ix2 b j) = BitVec.ofNat 32 (rank (keyOf 2048 (keptOf m ρ c b)) j) := by
  refine (congrFun (ops4_v59 (W32 m ρ c) _ rfl) _).trans ?_
  exact sort_row (B := 4) (N := 2048) (by decide) _ b _ (keyOf_le _ _) (key_W32 m ρ c b) _ (fun _ _ => rfl) j

/-- The lane of the `j`-th result. -/
def laneAt (b : Fin 4) (j : Fin 1000) : ℕ := pickOf 2048 (keptOf m ρ c b) ⟨j.val, first_of j⟩

theorem lane_W35 (b : Fin 4) (j : Fin 1000) :
    (W35 m ρ c (Proc.devRef .tc main_v63) : S4x1000.Idx → BitVec 32) (ix2 b j) = BitVec.ofNat 32 (laneAt m ρ c b j) := by
  refine (ops6_v63 (W34 m ρ c) _ rfl _ rfl _ rfl b j).trans ?_
  have e0 : (W34 m ρ c (Proc.devRef .tc main_v60) : S4x1000.Idx → BitVec 32) (ix2 b j) = _ := (ops5_v60 (W33 m ρ c) _ rfl b j).trans (sorted_W33 m ρ c b _)
  have e1 : (W34 m ρ c (Proc.devRef .tc main_v62) : S4x1000.Idx → BitVec 1) (ix2 b j) = _ :=
    (ops5_v62 (W33 m ρ c) _ rfl b j).trans (congrArg (fun w => IntOp.cmpi .slt w 2048#32) (sorted_W33 m ρ c b _))
  have e2 := ops5_c13 (W33 m ρ c) HostLoop.idx0
  have hle : rank (keyOf 2048 (keptOf m ρ c b)) ⟨j.val, first_of j⟩ ≤ 2048 := by
    obtain ⟨l, hl⟩ := rank_mem (keyOf 2048 (keptOf m ρ c b)) ⟨j.val, first_of j⟩
    rw [hl]; exact keyOf_le _ _ _
  have hc := IntOp.cmpi_slt (x := BitVec.ofNat 32 (rank (keyOf 2048 (keptOf m ρ c b)) ⟨j.val, first_of j⟩)) (y := 2048#32)
  rw [small_toInt (N := 2048) (by decide) _ hle, small_toInt (N := 2048) (by decide) 2048 le_rfl] at hc
  unfold laneAt pickOf
  rw [e0, e1]
  by_cases h : rank (keyOf 2048 (keptOf m ρ c b)) ⟨j.val, first_of j⟩ < 2048
  · rw [if_pos (hc.mpr (by omega)), if_pos h]
  · rw [if_neg (fun e => h (by have := hc.mp e; omega)), if_neg h]
    exact e2

theorem lane_lt (b : Fin 4) (j : Fin 1000) : laneAt m ρ c b j < 2048 := pickOf_lt _ _
theorem laneAt_word (b : Fin 4) (j : Fin 1000) : (BitVec.ofNat 32 (laneAt m ρ c b j)).toNat = laneAt m ρ c b j :=
  word_small (N := 2048) (by decide) ⟨_, lane_lt m ρ c b j⟩

theorem lane_range (i : S4x1000.Idx) : ((W35 m ρ c (Proc.devRef .tc main_v63) : S4x1000.Idx → BitVec 32) i).toNat < 2048 := by
  have h : i = ix2 (i 0 : Fin 4) (i 1 : Fin 1000) := ValueIdx.eq_ix2 i
  have e := (congrArg BitVec.toNat ((congrArg (W35 m ρ c (Proc.devRef .tc main_v63) : S4x1000.Idx → BitVec 32) h).trans (lane_W35 m ρ c _ _))).trans (laneAt_word m ρ c _ _)
  exact e ▸ lane_lt m ρ c _ _
theorem lane_W36 (b : Fin 4) (j : Fin 1000) : (W36 m ρ c (Proc.devRef .tc main_v64) : S4x1000x1.Idx → BitVec 32) (ix3 b j 0) = BitVec.ofNat 32 (laneAt m ρ c b j) :=
  (ops7_v64 (W35 m ρ c) _ rfl b j).trans (lane_W35 m ρ c b j)
theorem lane_range' (i : S4x1000x1.Idx) : ((W36 m ρ c (Proc.devRef .tc main_v64) : S4x1000x1.Idx → BitVec 32) i).toNat < 2048 := by
  have e := (congrArg BitVec.toNat ((congrArg (W36 m ρ c (Proc.devRef .tc main_v64) : S4x1000x1.Idx → BitVec 32) (thin i)).trans (lane_W36 m ρ c _ _))).trans (laneAt_word m ρ c _ _)
  exact e ▸ lane_lt m ρ c _ _

theorem v50_W36 : W36 m ρ c (Proc.devRef .tc main_v50) = W31 m ρ c (Proc.devRef .tc main_v50) :=
  (W36_of m ρ c _ (by decide)).trans ((W35_of m ρ c _ (by decide)).trans ((W34_of m ρ c _ (by decide)).trans ((W33_of m ρ c _ (by decide)).trans (W32_of m ρ c _ (by decide)))))
theorem v51_W37 : W37 m ρ c (Proc.devRef .tc main_v51) = W31 m ρ c (Proc.devRef .tc main_v51) :=
  (W37_of m ρ c _ (by decide)).trans ((W36_of m ρ c _ (by decide)).trans ((W35_of m ρ c _ (by decide)).trans ((W34_of m ρ c _ (by decide)).trans
    ((W33_of m ρ c _ (by decide)).trans (W32_of m ρ c _ (by decide))))))
theorem v63_W37 : W37 m ρ c (Proc.devRef .tc main_v63) = W35 m ρ c (Proc.devRef .tc main_v63) :=
  (W37_of m ρ c _ (by decide)).trans (W36_of m ρ c _ (by decide))

/-- The first result: boxes. -/
theorem result_boxes (b : Fin 4) (j : Fin 1000) (k : Fin 5) :
    (W38 m ρ c (Proc.devRef .tc main_v65) : S4x1000x5.Idx → Ideal .f32) (ix3 b j k)
      = laneBox (paddedCodes m ρ c) (paddedAnchors m ρ c) b ⟨laneAt m ρ c b j, lane_lt m ρ c b j⟩ k := by
  obtain ⟨J, hJ⟩ : ∃ J : S4x1000x1.Idx → BitVec 32, W36 m ρ c (Proc.devRef .tc main_v64) = J := ⟨_, rfl⟩
  have hr : ∀ i, (J i).toNat < 2048 := fun i => hJ ▸ lane_range' m ρ c i
  have h : (J (ix3 b j 0)).toNat = laneAt m ρ c b j := (congrArg BitVec.toNat ((congrFun hJ.symm _).trans (lane_W36 m ρ c b j))).trans (laneAt_word m ρ c b j)
  obtain ⟨x, hx⟩ : ∃ x : S4x2048x5.Idx → Ideal .f32, W36 m ρ c (Proc.devRef .tc main_v50) = x := ⟨_, rfl⟩
  have e := ops8_v65 (W36 m ρ c) x hx J hJ hr b j k
  refine (congrFun (W38_of m ρ c main_v65 (by decide)) _).trans (e.trans ?_)
  refine (at_same (B := 4) (N := 2048) (C := 5) x b ⟨(J (ix3 b j 0)).toNat, hr _⟩ ⟨laneAt m ρ c b j, lane_lt m ρ c b j⟩ h k).trans ?_
  rw [← hx, v50_W36]
  exact (ops2_v50 (W30 m ρ c) _ rfl b _ k).trans (boxes_W30 m ρ c b k _)

/-- The second result: scores. -/
theorem result_scores (b : Fin 4) (j : Fin 1000) :
    (W38 m ρ c (Proc.devRef .tc main_v66) : S4x1000.Idx → Ideal .f32) (ix2 b j)
      = Ideal.logistic (paddedScores m ρ c (ix2 b ⟨laneAt m ρ c b j, lane_lt m ρ c b j⟩)) := by
  obtain ⟨J, hJ⟩ : ∃ J : S4x1000.Idx → BitVec 32, W37 m ρ c (Proc.devRef .tc main_v63) = J := ⟨_, rfl⟩
  have hr : ∀ i, (J i).toNat < 2048 := fun i => hJ ▸ (congrFun (v63_W37 m ρ c) i) ▸ lane_range m ρ c i
  have h : (J (ix2 b j)).toNat = laneAt m ρ c b j :=
    (congrArg BitVec.toNat ((congrFun hJ.symm _).trans ((congrFun (v63_W37 m ρ c) _).trans (lane_W35 m ρ c b j)))).trans (laneAt_word m ρ c b j)
  obtain ⟨x, hx⟩ : ∃ x : S4x2048.Idx → Ideal .f32, W37 m ρ c (Proc.devRef .tc main_v51) = x := ⟨_, rfl⟩
  have e := ops9_v66 (W37 m ρ c) x hx J hJ hr b j
  have hf : (⟨(J (ix2 b j)).toNat, hr _⟩ : Fin 2048) = ⟨laneAt m ρ c b j, lane_lt m ρ c b j⟩ := Fin.ext h
  refine e.trans ((congrArg (fun n : Fin 2048 => x (ix2 b n)) hf).trans ?_)
  rw [← hx, v51_W37]
  exact (ops2_v51 (W30 m ρ c) _ rfl b _).trans (scores_W30 m ρ c b _)
end Held

end Cert.KernelIdeal.Nms
-- ==== Proof.ReferenceBoxes.lean ====
module

public import proofs.«01_k».proof.Proof.ReferenceFrame
public import proofs.«01_k».proof.Proof.Picked
public import Idealize.ShloMosaic.Lib.StableHlo.ReadAt
public import Idealize.ShloMosaic.Lib.Pipeline.Value

/-! The reference's decode and its test of every pair of boxes, number by number. -/

@[expose] public section

set_option maxRecDepth 16384

noncomputable section

namespace Cert.ReferenceIdeal.Value

open Idealize.ShloMosaic hiding ix1 ix2 ix3 ix4 ix5
open Idealize.ShloMosaic.ValueIdx Idealize.ShloMosaic.TcCoe Idealize.ShloMosaic.StableHlo Cert.ReferenceIdeal Cert.ReferenceIdeal.Gen Cert.Boxes
open Idealize.SL.Sem

/-- The decode, column by column. -/
abbrev boxOps : List (HloOp τ sig (Elt Ideal)) := List.take 43 hostOps0_4
/-- The columns joined. -/
abbrev joinOps : List (HloOp τ sig (Elt Ideal)) := List.take 1 (List.drop 43 hostOps0_4)
/-- The rectangles around the boxes. -/
abbrev edgeOps : List (HloOp τ sig (Elt Ideal)) := List.take 36 (List.drop 44 hostOps0_4)
/-- The test of every pair, and the loop's start. -/
abbrev overOps : List (HloOp τ sig (Elt Ideal)) := List.drop 80 hostOps0_4

section Columns
variable (x : S4x2000x5.Idx → Num) (b : Fin 4) (i : Fin 2000)

theorem colFits : ∀ k : Fin 5, S4x2000x5.Slices ![0, 0, k.val] S4x2000x1
  | 0 => slices_S4x2000x5_S4x2000x1_0_0_0
  | 1 => slices_S4x2000x5_S4x2000x1_0_0_1
  | 2 => slices_S4x2000x5_S4x2000x1_0_0_2
  | 3 => slices_S4x2000x5_S4x2000x1_0_0_3
  | 4 => slices_S4x2000x5_S4x2000x1_0_0_4

/-- The columns at one entry, as the reference takes them. -/
def cols (k : Fin 5) : Num := shapeCast S4x2000 (extractStridedSlice S4x2000x1 ![0, 0, k.val] x (colFits k)) shapeCasts_S4x2000x1_S4x2000 (ix2 b i)

theorem cols_eq : cols x b i = fun k => x (ix3 b i k) := by
  funext k
  refine (shapeCast_apply (s := S4x2000x1) (t := S4x2000) _ _ _ (ix3 b i 0) ?_).trans (extractStridedSlice_apply _ _ _ _ (ix3 b i k) fun a => ?_)
  · rw [Shape.rowMajor_val_two, Shape.rowMajor_val_three]
    show (b.val * 2000 + i.val) * 1 + 0 = b.val * 2000 + i.val
    omega
  · match a with
    | 0 => exact (Nat.zero_add _).symm
    | 1 => exact (Nat.zero_add _).symm
    | 2 => rfl

theorem thick (y : S4x2000.Idx → Num) : broadcastInDim S4x2000x1 ![0, 1] bcast_S4x2000_S4x2000x1_0_1 y (ix3 b i 0) = y (ix2 b i) := by
  refine broadcastInDim_apply _ _ _ _ (ix2 b i) fun a => ?_
  match a with
  | 0 => rfl
  | 1 => rfl

theorem firstOf (y : S4x2000.Idx → Num) (j : Fin 2000) :
    broadcastInDim S4x2000x2000 ![0, 1, 2] bcast_S4x2000x1_S4x2000x2000_0_1_2 (broadcastInDim S4x2000x1 ![0, 1] bcast_S4x2000_S4x2000x1_0_1 y) (ix3 b i j) = y (ix2 b i) := by
  refine (broadcastInDim_apply _ _ _ _ (ix3 b i 0) fun a => ?_).trans (thick b i y)
  match a with
  | 0 => rfl
  | 1 => rfl
  | 2 => rfl

theorem secondOf (y : S4x2000.Idx → Num) (j : Fin 2000) :
    broadcastInDim S4x2000x2000 ![0, 1, 2] bcast_S4x1x2000_S4x2000x2000_0_1_2 (broadcastInDim S4x1x2000 ![0, 2] bcast_S4x2000_S4x1x2000_0_2 y) (ix3 b i j) = y (ix2 b j) := by
  refine (broadcastInDim_apply _ _ _ _ (ix3 b 0 j) fun a => ?_).trans (broadcastInDim_apply _ _ _ _ (ix2 b j) fun a => ?_)
  · match a with
    | 0 => rfl
    | 1 => rfl
    | 2 => rfl
  · match a with
    | 0 => rfl
    | 1 => rfl

theorem joined (y : Fin 5 → S4x2000x1.Idx → Num) (h) (k : Fin 5) :
    concatenate S4x2000x5 2 [⟨S4x2000x1, y 0⟩, ⟨S4x2000x1, y 1⟩, ⟨S4x2000x1, y 2⟩, ⟨S4x2000x1, y 3⟩, ⟨S4x2000x1, y 4⟩] h (ix3 b i k) = y k (ix3 b i 0) := by
  have side : ∀ k : Fin 5, ∀ a : Fin 3, a.cast rfl ≠ (2 : Fin 3) → ((ix3 b i (0 : Fin 1) : S4x2000x1.Idx) a).val = ((ix3 b i k : S4x2000x5.Idx) (a.cast rfl)).val := fun k a ha => by
    match a, ha with
    | 0, _ => rfl
    | 1, _ => rfl
    | 2, ha => exact absurd rfl ha
  match k with
  | 0 => exact concatenate_apply_piece (t := S4x2000x5) 2 _ h (ix3 b i 0) 0 (show 0 < 5 by decide) S4x2000x1 (y 0) rfl rfl 0 rfl (ix3 b i 0) (side 0) rfl
  | 1 => exact concatenate_apply_piece (t := S4x2000x5) 2 _ h (ix3 b i 1) 1 (show 1 < 5 by decide) S4x2000x1 (y 1) rfl rfl 1 rfl (ix3 b i 0) (side 1) rfl
  | 2 => exact concatenate_apply_piece (t := S4x2000x5) 2 _ h (ix3 b i 2) 2 (show 2 < 5 by decide) S4x2000x1 (y 2) rfl rfl 2 rfl (ix3 b i 0) (side 2) rfl
  | 3 => exact concatenate_apply_piece (t := S4x2000x5) 2 _ h (ix3 b i 3) 3 (show 3 < 5 by decide) S4x2000x1 (y 3) rfl rfl 3 rfl (ix3 b i 0) (side 3) rfl
  | 4 => exact concatenate_apply_piece (t := S4x2000x5) 2 _ h (ix3 b i 4) 4 (show 4 < 5 by decide) S4x2000x1 (y 4) rfl rfl 4 rfl (ix3 b i 0) (side 4) rfl
end Columns

section Stretch
variable (V : Valuation τ sig (Elt Ideal))

theorem split : after hostOps0_4 V = after overOps (after edgeOps (after joinOps (after boxOps V))) := by
  rw [← StableHlo.after_append, ← StableHlo.after_append, ← StableHlo.after_append]
  rfl

section Decode
variable (d a : S4x2000x5.Idx → Num) (hd : V (Proc.devRef .tc main_v14) = d) (ha : V (Proc.devRef .tc main_v16) = a) (b : Fin 4) (i : Fin 2000)
include hd ha
theorem box_v52 : (after boxOps V (Proc.devRef .tc main_v52) : S4x2000x1.Idx → Num) (ix3 b i 0) = cx (fun k => d (ix3 b i k)) (fun k => a (ix3 b i k)) := by
  simp only [boxOps, List.take]
  after_reads_simp
  rw [hd, ha, ← cols_eq d, ← cols_eq a]
  exact (thick b i _).trans rfl
theorem box_v53 : (after boxOps V (Proc.devRef .tc main_v53) : S4x2000x1.Idx → Num) (ix3 b i 0) = cy (fun k => d (ix3 b i k)) (fun k => a (ix3 b i k)) := by
  simp only [boxOps, List.take]
  after_reads_simp
  rw [hd, ha, ← cols_eq d, ← cols_eq a]
  exact (thick b i _).trans rfl
theorem box_v54 : (after boxOps V (Proc.devRef .tc main_v54) : S4x2000x1.Idx → Num) (ix3 b i 0) = wd (fun k => d (ix3 b i k)) (fun k => a (ix3 b i k)) := by
  simp only [boxOps, List.take]
  after_reads_simp
  rw [hd, ha, ← cols_eq d, ← cols_eq a]
  exact (thick b i _).trans rfl
theorem box_v55 : (after boxOps V (Proc.devRef .tc main_v55) : S4x2000x1.Idx → Num) (ix3 b i 0) = ht (fun k => d (ix3 b i k)) (fun k => a (ix3 b i k)) := by
  simp only [boxOps, List.take]
  after_reads_simp
  rw [hd, ha, ← cols_eq d, ← cols_eq a]
  exact (thick b i _).trans rfl
theorem box_v56 : (after boxOps V (Proc.devRef .tc main_v56) : S4x2000x1.Idx → Num) (ix3 b i 0) = ang (fun k => d (ix3 b i k)) (fun k => a (ix3 b i k)) := by
  simp only [boxOps, List.take]
  after_reads_simp
  rw [hd, ha, ← cols_eq d, ← cols_eq a]
  exact (thick b i _).trans rfl
end Decode

/-- The columns, one by one. -/
def piece (k : Fin 5) : S4x2000x1.Idx → Num :=
  match k with
  | 0 => V (Proc.devRef .tc main_v52)
  | 1 => V (Proc.devRef .tc main_v53)
  | 2 => V (Proc.devRef .tc main_v54)
  | 3 => V (Proc.devRef .tc main_v55)
  | 4 => V (Proc.devRef .tc main_v56)

theorem join_v57 (b : Fin 4) (i : Fin 2000) (k : Fin 5) : (after joinOps V (Proc.devRef .tc main_v57) : S4x2000x5.Idx → Num) (ix3 b i k) = piece V k (ix3 b i 0) := by
  simp only [joinOps, List.drop, List.take]
  after_reads_simp
  exact joined b i (piece V) _ k

/-- The decoded boxes. -/
theorem boxes_v57 (d a : S4x2000x5.Idx → Num) (hd : V (Proc.devRef .tc main_v14) = d) (ha : V (Proc.devRef .tc main_v16) = a) (b : Fin 4) (i : Fin 2000) (k : Fin 5) :
    (after joinOps (after boxOps V) (Proc.devRef .tc main_v57) : S4x2000x5.Idx → Num) (ix3 b i k) = box (fun k => d (ix3 b i k)) (fun k => a (ix3 b i k)) k := by
  refine (join_v57 (after boxOps V) b i k).trans ?_
  match k with
  | 0 => exact box_v52 V d a hd ha b i
  | 1 => exact box_v53 V d a hd ha b i
  | 2 => exact box_v54 V d a hd ha b i
  | 3 => exact box_v55 V d a hd ha b i
  | 4 => exact box_v56 V d a hd ha b i

section Edges
variable (x : S4x2000x5.Idx → Num) (hx : V (Proc.devRef .tc main_v57) = x) (b : Fin 4) (i : Fin 2000)
include hx
theorem edge_v84 : (after edgeOps V (Proc.devRef .tc main_v84) : S4x2000.Idx → Num) (ix2 b i) = x1 (fun k => x (ix3 b i k)) := by
  simp only [edgeOps, List.drop, List.take]
  after_reads_simp
  rw [hx, ← cols_eq x]
  rfl
theorem edge_v85 : (after edgeOps V (Proc.devRef .tc main_v85) : S4x2000.Idx → Num) (ix2 b i) = y1 (fun k => x (ix3 b i k)) := by
  simp only [edgeOps, List.drop, List.take]
  after_reads_simp
  rw [hx, ← cols_eq x]
  rfl
theorem edge_v86 : (after edgeOps V (Proc.devRef .tc main_v86) : S4x2000.Idx → Num) (ix2 b i) = x2 (fun k => x (ix3 b i k)) := by
  simp only [edgeOps, List.drop, List.take]
  after_reads_simp
  rw [hx, ← cols_eq x]
  rfl
theorem edge_v87 : (after edgeOps V (Proc.devRef .tc main_v87) : S4x2000.Idx → Num) (ix2 b i) = y2 (fun k => x (ix3 b i k)) := by
  simp only [edgeOps, List.drop, List.take]
  after_reads_simp
  rw [hx, ← cols_eq x]
  rfl
theorem edge_v90 : (after edgeOps V (Proc.devRef .tc main_v90) : S4x2000.Idx → Num) (ix2 b i) = area (fun k => x (ix3 b i k)) := by
  simp only [edgeOps, List.drop, List.take]
  after_reads_simp
  rw [hx, ← cols_eq x]
  rfl
end Edges

/-- The test of one pair from its edges and areas. -/
def pairTest (l l' r r' b b' t t' s s' : Num) : BitVec 1 :=
  FloatOps.cmpf .ogt
    (FloatOps.divf
      (FloatOps.mulf (FloatOps.maximumf (FloatOps.subf (FloatOps.minimumf r r') (FloatOps.maximumf l l')) (lit 0#32))
        (FloatOps.maximumf (FloatOps.subf (FloatOps.minimumf t t') (FloatOps.maximumf b b')) (lit 0#32)))
      (FloatOps.addf
        (FloatOps.subf (FloatOps.addf s s')
          (FloatOps.mulf (FloatOps.maximumf (FloatOps.subf (FloatOps.minimumf r r') (FloatOps.maximumf l l')) (lit 0#32))
            (FloatOps.maximumf (FloatOps.subf (FloatOps.minimumf t t') (FloatOps.maximumf b b')) (lit 0#32))))
        (lit 0x3089705F#32)))
    (lit 0x3F333333#32)

theorem over_v128 (e84 e85 e86 e87 e90 : S4x2000.Idx → Num) (h84 : V (Proc.devRef .tc main_v84) = e84) (h85 : V (Proc.devRef .tc main_v85) = e85)
    (h86 : V (Proc.devRef .tc main_v86) = e86) (h87 : V (Proc.devRef .tc main_v87) = e87) (h90 : V (Proc.devRef .tc main_v90) = e90) (b : Fin 4) (i j : Fin 2000) :
    (after overOps V (Proc.devRef .tc main_v131_0) : S4x2000x2000.Idx → BitVec 1) (ix3 b i j)
      = pairTest (e84 (ix2 b i)) (e84 (ix2 b j)) (e86 (ix2 b i)) (e86 (ix2 b j)) (e85 (ix2 b i)) (e85 (ix2 b j)) (e87 (ix2 b i)) (e87 (ix2 b j)) (e90 (ix2 b i)) (e90 (ix2 b j)) := by
  simp only [overOps, List.drop]
  after_reads_simp
  rw [h84, h85, h86, h87, h90]
  rw [← firstOf b i e84 j, ← firstOf b i e85 j, ← firstOf b i e86 j, ← firstOf b i e87 j, ← firstOf b i e90 j,
    ← secondOf b i e84 j, ← secondOf b i e85 j, ← secondOf b i e86 j, ← secondOf b i e87 j, ← secondOf b i e90 j]
  rfl

/-- Whether each pair overlaps. -/
theorem pairs_v128 (x : S4x2000x5.Idx → Num) (hx : V (Proc.devRef .tc main_v57) = x) (b : Fin 4) (i j : Fin 2000) :
    (after overOps (after edgeOps V) (Proc.devRef .tc main_v131_0) : S4x2000x2000.Idx → BitVec 1) (ix3 b i j) = over (fun k => x (ix3 b i k)) (fun k => x (ix3 b j k)) := by
  refine (over_v128 (after edgeOps V) _ _ _ _ _ rfl rfl rfl rfl rfl b i j).trans ?_
  rw [edge_v84 V x hx, edge_v84 V x hx, edge_v85 V x hx, edge_v85 V x hx, edge_v86 V x hx, edge_v86 V x hx, edge_v87 V x hx, edge_v87 V x hx, edge_v90 V x hx, edge_v90 V x hx]
  rfl

theorem over_v131_1 (j : Fin 2000) : (after overOps V (Proc.devRef .tc main_v131_1) : S2000.Idx → BitVec 32) (ix1 j) = BitVec.ofNat 32 j.val := by
  simp only [overOps, List.drop]
  after_reads_simp
  rfl
theorem over_v131_3 (j : S_.Idx) : (after overOps V (Proc.devRef .tc main_v131_3) : S_.Idx → BitVec 32) j = 0#32 := by
  simp only [overOps, List.drop]
  after_reads_simp
  rfl
theorem over_v131_4 (b : Fin 4) (j : Fin 2000) : (after overOps V (Proc.devRef .tc main_v131_4) : S4x2000.Idx → BitVec 1) (ix2 b j) = 0#1 := by
  simp only [overOps, List.drop]
  after_reads_simp
  rfl
theorem over_v129 (j : Fin 2000) : (after overOps V (Proc.devRef .tc main_v129) : S2000.Idx → BitVec 32) (ix1 j) = BitVec.ofNat 32 j.val := by
  simp only [overOps, List.drop]
  after_reads_simp
  rfl
theorem over_v57 : after overOps (after edgeOps V) (Proc.devRef .tc main_v57) = V (Proc.devRef .tc main_v57) := by
  simp only [overOps, edgeOps, List.drop, List.take]
  after_reads_simp
end Stretch

end Cert.ReferenceIdeal.Value
-- ==== Proof.ReferencePick.lean ====
module

public import proofs.«01_k».proof.Proof.ReferenceFrame
public import proofs.«01_k».proof.Proof.Codes

/-! The boxes the reference chooses, and what it looks up for each. -/

@[expose] public section

set_option maxRecDepth 16384

noncomputable section

namespace Cert.Choice

open Idealize.ShloMosaic hiding ix1 ix2 ix3 ix4 ix5
open Idealize.ShloMosaic.ValueIdx Cert.Boxes Cert.Select

theorem logistic_strict : StrictMono Ideal.logistic := by
  intro x y h
  have pos : ∀ r : ℝ, 0 < (1 + Real.exp r) := fun r => by positivity
  induction x using EReal.rec with
  | top => exact absurd h not_top_lt
  | bot =>
    induction y using EReal.rec with
    | bot => exact absurd h (lt_irrefl _)
    | top => rw [Ideal.logistic_bot, Ideal.logistic_top]; exact zero_lt_one
    | coe s =>
      rw [Ideal.logistic_bot, Ideal.logistic_coe]
      exact EReal.coe_pos.mpr (inv_pos.mpr (pos _))
  | coe r =>
    induction y using EReal.rec with
    | bot => exact absurd h not_lt_bot
    | top =>
      rw [Ideal.logistic_coe, Ideal.logistic_top, ← EReal.coe_one]
      exact EReal.coe_lt_coe_iff.mpr (inv_lt_one_of_one_lt₀ (lt_add_of_pos_right _ (Real.exp_pos _)))
    | coe s =>
      rw [Ideal.logistic_coe, Ideal.logistic_coe]
      have hrs : r < s := EReal.coe_lt_coe_iff.mp h
      exact EReal.coe_lt_coe_iff.mpr (inv_strictAnti₀ (pos _) (by gcongr))

/-- Choosing by the scores chooses as by what they are made from. -/
theorem place_logistic {B N K : ℕ} (hKN : K ≤ N) (x y : (⟨2, ![B, N]⟩ : Shape).Idx → Ideal .f32) (b : Fin B) (h : ∀ n, y (ix2 b n) = Ideal.logistic (x (ix2 b n))) (i : Fin K) :
    place hKN y b i = place hKN x b i := by
  have e : (greater fun n => y (ix2 b n)) = greater fun n => x (ix2 b n) := by
    funext k k'
    show decide (y (ix2 b k') < y (ix2 b k)) = decide (x (ix2 b k') < x (ix2 b k))
    rw [h, h]
    exact decide_eq_decide.mpr logistic_strict.lt_iff_lt
  unfold place
  rw [e]

theorem spread_col {C R : ℕ} (hR : R = 16 * C) (n : Fin 1048576) (k : Fin C) : n.val % 16 * C + k.val < R := by
  have h1 : n.val % 16 + 1 ≤ 16 := Nat.mod_lt _ (by decide)
  have h2 : (n.val % 16 + 1) * C ≤ 16 * C := Nat.mul_le_mul_right _ h1
  rw [Nat.add_mul, Nat.one_mul] at h2
  have := k.isLt
  omega

/-- The maps, laid out by entry. -/
theorem spread {α : Type} {C R : ℕ} (hR : R = 16 * C) (x : (⟨4, ![4, R, 256, 256]⟩ : Shape).Idx → α) (h1) (h2) (h3) (b : Fin 4) (n : Fin 1048576) (k : Fin C) :
    shapeCast ⟨3, ![4, 1048576, C]⟩ (transpose ⟨5, ![4, 256, 256, 16, C]⟩ [0, 3, 4, 1, 2] (shapeCast ⟨5, ![4, 16, C, 256, 256]⟩ x h1) h2) h3 (ix3 b n k)
      = x (ix4 b ⟨n.val % 16 * C + k.val, spread_col hR n k⟩ ⟨n.val / 16 / 256, code_line n⟩ ⟨n.val / 16 % 256, code_col n⟩) := by
  have hn : n.val % 16 < 16 := Nat.mod_lt _ (by decide)
  refine (shapeCast_apply (s := ⟨5, ![4, 256, 256, 16, C]⟩) (t := ⟨3, ![4, 1048576, C]⟩) _ _ _ (ix5 b ⟨n.val / 16 / 256, code_line n⟩ ⟨n.val / 16 % 256, code_col n⟩ ⟨n.val % 16, hn⟩ k) ?_).trans
    ((transpose_apply _ _ _ _ (ix5 b ⟨n.val % 16, hn⟩ k ⟨n.val / 16 / 256, code_line n⟩ ⟨n.val / 16 % 256, code_col n⟩) fun a => ?_).trans
      (shapeCast_apply (s := ⟨4, ![4, R, 256, 256]⟩) (t := ⟨5, ![4, 16, C, 256, 256]⟩) _ _ _ _ ?_))
  · rw [Shape.rowMajor_val_five, Shape.rowMajor_val_three]
    show (((b.val * 256 + n.val / 16 / 256) * 256 + n.val / 16 % 256) * 16 + n.val % 16) * C + k.val = (b.val * 1048576 + n.val) * C + k.val
    congr 2
    omega
  · match a with
    | 0 => rfl
    | 1 => rfl
    | 2 => rfl
    | 3 => rfl
    | 4 => rfl
  · rw [Shape.rowMajor_val_five, Shape.rowMajor_val_four]
    show ((b.val * R + (n.val % 16 * C + k.val)) * 256 + n.val / 16 / 256) * 256 + n.val / 16 % 256
      = (((b.val * 16 + n.val % 16) * C + k.val) * 256 + n.val / 16 / 256) * 256 + n.val / 16 % 256
    congr 3
    rw [hR]; ring

/-- What the score of entry `n` of image `b` is made from. -/
def scoreAt (O : (⟨4, ![4, 16, 256, 256]⟩ : Shape).Idx → Num) (b : Fin 4) (n : Fin 1048576) : Num :=
  O (ix4 b ⟨n.val % 16, Nat.mod_lt _ (by decide)⟩ ⟨n.val / 16 / 256, code_line n⟩ ⟨n.val / 16 % 256, code_col n⟩)
end Cert.Choice

namespace Cert.KernelIdeal.Gen
open Idealize.ShloMosaic hiding ix1 ix2 ix3 ix4 ix5
open Idealize.ShloMosaic.ValueIdx Idealize.ShloMosaic.TcCoe Idealize.ShloMosaic.StableHlo Cert.Choice Cert.Boxes
open Idealize.SL.Sem
variable [Cert.KernelIdeal.Facts] (m : (ℓ : Loc nD τ sig) → Buf (Elt Ideal) ℓ) (ρ : Dev nD → PrngReg) (c : Dev nD)
/-- The objectness map given. -/
def scoresGiven : S4x16x256x256.Idx → Ideal .f32 := m ((c : Thread nD τ).loc main_arg1)

theorem rowsOf_apply (b : Fin 4) (n : Fin 1048576) : rowsOf m ρ c (ix2 b n) = scoreAt (scoresGiven m c) b n := by
  have e : rowsOf m ρ c = shapeCast S4x1048576 (transpose S4x256x256x16 [0, 2, 3, 1] (scoresGiven m c) transposes_S4x16x256x256_S4x256x256x16_0_2_3_1) shapeCasts_S4x256x256x16_S4x1048576 := by
    unfold rowsOf
    after_reads_simp
    rfl
  have hn : n.val % 16 < 16 := Nat.mod_lt _ (by decide)
  rw [e]
  refine (shapeCast_apply (s := S4x256x256x16) (t := S4x1048576) _ _ _ (ix4 b ⟨n.val / 16 / 256, code_line n⟩ ⟨n.val / 16 % 256, code_col n⟩ ⟨n.val % 16, hn⟩) ?_).trans
    (transpose_apply _ _ _ _ _ fun a => ?_)
  · rw [Shape.rowMajor_val_four, Shape.rowMajor_val_two]
    show ((b.val * 256 + n.val / 16 / 256) * 256 + n.val / 16 % 256) * 16 + n.val % 16 = b.val * 1048576 + n.val
    omega
  · match a with
    | 0 => rfl
    | 1 => rfl
    | 2 => rfl
    | 3 => rfl
end Cert.KernelIdeal.Gen

namespace Cert.ReferenceIdeal.Value

open Idealize.ShloMosaic hiding ix1 ix2 ix3 ix4 ix5
open Idealize.ShloMosaic.ValueIdx Idealize.ShloMosaic.TcCoe Idealize.ShloMosaic.StableHlo Cert.ReferenceIdeal Cert.ReferenceIdeal.Gen Cert.Choice Cert.Boxes
open Cert.KernelIdeal.Gen (word_small at_same thin)
open Idealize.SL.Sem

section Stretch
variable (V : Valuation τ sig (Elt Ideal))

/-- The scores in a row, from the map. -/
def scoreRow (O : S4x16x256x256.Idx → Num) : S4x1048576.Idx → Num :=
  Host.divf (broadcastInDim S4x1048576 ![] bcast_S_S4x1048576 (constant S_ FTy.f32 0x3F800000#32))
    (addf (broadcastInDim S4x1048576 ![] bcast_S_S4x1048576 (constant S_ FTy.f32 0x3F800000#32))
      (Host.exp (Host.negf (shapeCast S4x1048576 (shapeCast S4x1048576x1 (transpose S4x256x256x16x1 [0, 3, 4, 1, 2] (shapeCast S4x16x1x256x256 O shapeCasts_S4x16x256x256_S4x16x1x256x256)
        transposes_S4x16x1x256x256_S4x256x256x16x1_0_3_4_1_2) shapeCasts_S4x256x256x16x1_S4x1048576x1) shapeCasts_S4x1048576x1_S4x1048576))))

theorem scoreRow_apply (O : S4x16x256x256.Idx → Num) (b : Fin 4) (n : Fin 1048576) : scoreRow O (ix2 b n) = Ideal.logistic (scoreAt O b n) := by
  obtain ⟨x, hx⟩ : ∃ x : S4x1048576.Idx → Num, (shapeCast S4x1048576 (shapeCast S4x1048576x1 (transpose S4x256x256x16x1 [0, 3, 4, 1, 2] (shapeCast S4x16x1x256x256 O shapeCasts_S4x16x256x256_S4x16x1x256x256)
        transposes_S4x16x1x256x256_S4x256x256x16x1_0_3_4_1_2) shapeCasts_S4x256x256x16x1_S4x1048576x1) shapeCasts_S4x1048576x1_S4x1048576) = x := ⟨_, rfl⟩
  have e : x (ix2 b n) = scoreAt O b n := by
    rw [← hx]
    refine (shapeCast_apply (s := S4x1048576x1) (t := S4x1048576) _ _ _ (ix3 b n 0) ?_).trans ((spread (C := 1) (R := 16) rfl O _ _ _ b n 0).trans ?_)
    · rw [Shape.rowMajor_val_two, Shape.rowMajor_val_three]
      show (b.val * 1048576 + n.val) * 1 + 0 = b.val * 1048576 + n.val
      omega
    · unfold scoreAt
      exact congrArg (fun r : Fin 16 => O (ix4 b r _ _)) (Fin.ext (by show n.val % 16 * 1 + 0 = n.val % 16; omega))
  unfold scoreRow
  rw [hx, ← e]
  show Ideal.div (Ideal.ofBits .f32 0x3F800000#32) (Ideal.ofBits .f32 0x3F800000#32 + Ideal.exp (-(x (ix2 b n)))) = _
  rw [Ideal.ofBits_one_f32]
  rfl

theorem ops_values (O : S4x16x256x256.Idx → Num) (hO : V (Proc.devRef .tc main_arg1) = O) :
    (after hostOps0 V (Proc.devRef .tc main_values) : S4x2000.Idx → Num) = (Host.topK S4x2000 1 (FloatOps.cmpfTotal .gt) (scoreRow O) sliceFits_S4x1048576_S4x2000).1 := by
  after_reads_simp
  rw [hO]; rfl
theorem ops_v13 (O : S4x16x256x256.Idx → Num) (hO : V (Proc.devRef .tc main_arg1) = O) (b : Fin 4) (i : Fin 2000) :
    (after hostOps0 V (Proc.devRef .tc main_v13) : S4x2000x1.Idx → BitVec 32) (ix3 b i 0) = (Host.topK S4x2000 1 (FloatOps.cmpfTotal .gt) (scoreRow O) sliceFits_S4x1048576_S4x2000).2 (ix2 b i) := by
  after_reads_simp
  rw [hO]
  refine (broadcastInDim_apply _ _ _ _ (ix2 b i) fun a => ?_).trans rfl
  match a with
  | 0 => rfl
  | 1 => rfl
theorem ops_indices (O : S4x16x256x256.Idx → Num) (hO : V (Proc.devRef .tc main_arg1) = O) :
    (after hostOps0 V (Proc.devRef .tc main_indices) : S4x2000.Idx → BitVec 32) = (Host.topK S4x2000 1 (FloatOps.cmpfTotal .gt) (scoreRow O) sliceFits_S4x1048576_S4x2000).2 := by
  after_reads_simp
  rw [hO]; rfl
theorem ops_v12 (B : S4x80x256x256.Idx → Num) (hB : V (Proc.devRef .tc main_arg2) = B) (b : Fin 4) (n : Fin 1048576) (k : Fin 5) :
    (after hostOps0 V (Proc.devRef .tc main_v12) : S4x1048576x5.Idx → Num) (ix3 b n k) = codesAt B b n k := by
  after_reads_simp
  rw [hB]
  exact spread (C := 5) (R := 80) rfl B _ _ _ b n k
theorem ops_1_v14 [Cert.ReferenceIdeal.Facts] (x : S4x1048576x5.Idx → Num) (hx : V (Proc.devRef .tc main_v12) = x) (J : S4x2000x1.Idx → BitVec 32) (hJ : V (Proc.devRef .tc main_v13) = J)
    (hr : ∀ i, (J i).toNat < 1048576) (b : Fin 4) (i : Fin 2000) (k : Fin 5) :
    (after hostOps0_1 V (Proc.devRef .tc main_v14) : S4x2000x5.Idx → Num) (ix3 b i k) = x (ix3 b ⟨(J (ix3 b i 0)).toNat, hr _⟩ k) := by
  after_reads_simp
  (try simp -implicitDefEqProofs only [StableHlo.TRef.toBuf, StableHlo.TRef.ofBuf, cast_cast, cast_eq])
  (try clean_types)
  rw [hx, hJ]
  exact Cert.Take.take3 (by decide) _ x J _ _ hr (fun _ => rfl) _ _ (fun _ => rfl) (fun _ => rfl) _ (fun _ => rfl) _ _ _ _ b i k
theorem ops_2_v15 (I : S4x2000.Idx → BitVec 32) (hI : V (Proc.devRef .tc main_indices) = I) (b : Fin 4) (i : Fin 2000) :
    (after hostOps0_2 V (Proc.devRef .tc main_v15) : S4x2000x1.Idx → BitVec 32) (ix3 b i 0) = I (ix2 b i) := by
  after_reads_simp
  rw [hI]
  refine (broadcastInDim_apply _ _ _ _ (ix2 b i) fun a => ?_).trans rfl
  match a with
  | 0 => rfl
  | 1 => rfl
theorem ops_3_v16 [Cert.ReferenceIdeal.Facts] (x : S4x1048576x5.Idx → Num) (hx : V (Proc.devRef .tc main_arg0) = x) (J : S4x2000x1.Idx → BitVec 32) (hJ : V (Proc.devRef .tc main_v15) = J)
    (hr : ∀ i, (J i).toNat < 1048576) (b : Fin 4) (i : Fin 2000) (k : Fin 5) :
    (after hostOps0_3 V (Proc.devRef .tc main_v16) : S4x2000x5.Idx → Num) (ix3 b i k) = x (ix3 b ⟨(J (ix3 b i 0)).toNat, hr _⟩ k) := by
  after_reads_simp
  (try simp -implicitDefEqProofs only [StableHlo.TRef.toBuf, StableHlo.TRef.ofBuf, cast_cast, cast_eq])
  (try clean_types)
  rw [hx, hJ]
  exact Cert.Take.take3 (by decide) _ x J _ _ hr (fun _ => rfl) _ _ (fun _ => rfl) (fun _ => rfl) _ (fun _ => rfl) _ _ _ _ b i k
end Stretch

section Chosen
variable [Cert.ReferenceIdeal.Facts] (m : (ℓ : Loc nD τ sig) → Buf (Elt Ideal) ℓ) (c : Dev nD)

/-- The three arrays given. -/
def anchorsGiven : S4x1048576x5.Idx → Num := m ((c : Thread nD τ).loc main_arg0)
def scoresGiven : S4x16x256x256.Idx → Num := m ((c : Thread nD τ).loc main_arg1)
def codesGiven : S4x80x256x256.Idx → Num := m ((c : Thread nD τ).loc main_arg2)

/-- The buffers after each stretch before the loop. -/
def R0 : Valuation τ sig (Elt Ideal) := launchContents m c
def R1 : Valuation τ sig (Elt Ideal) := after hostOps0 (R0 m c)
def R2 : Valuation τ sig (Elt Ideal) := after hostOps0_1 (R1 m c)
def R3 : Valuation τ sig (Elt Ideal) := after hostOps0_2 (R2 m c)
def R4 : Valuation τ sig (Elt Ideal) := after hostOps0_3 (R3 m c)

theorem entry_R4 : entryContents preI m c = after hostOps0_4 (R4 m c) := by
  simp only [entryContents, preI, afterL_cons, afterL_nil]
  rfl

theorem R1_of (r : Ref sig .tc) (h : r ∉ hostOps0_W) : R1 m c (Proc.devRef .tc r) = R0 m c (Proc.devRef .tc r) := after_of_writes_sub _ _ hostOps0_writes h
theorem R2_of (r : Ref sig .tc) (h : r ∉ hostOps0_1_W) : R2 m c (Proc.devRef .tc r) = R1 m c (Proc.devRef .tc r) := after_of_writes_sub _ _ hostOps0_1_writes h
theorem R3_of (r : Ref sig .tc) (h : r ∉ hostOps0_2_W) : R3 m c (Proc.devRef .tc r) = R2 m c (Proc.devRef .tc r) := after_of_writes_sub _ _ hostOps0_2_writes h
theorem R4_of (r : Ref sig .tc) (h : r ∉ hostOps0_3_W) : R4 m c (Proc.devRef .tc r) = R3 m c (Proc.devRef .tc r) := after_of_writes_sub _ _ hostOps0_3_writes h

/-- The place of the `i`-th chosen. -/
def spot (b : Fin 4) (i : Fin 2000) : Fin 1048576 := place fitsAll (scoreRow (scoresGiven m c)) b i

theorem values_R1 (b : Fin 4) (i : Fin 2000) : (R1 m c (Proc.devRef .tc main_values) : S4x2000.Idx → Num) (ix2 b i) = Ideal.logistic (scoreAt (scoresGiven m c) b (spot m c b i)) :=
  (congrFun (ops_values (R0 m c) _ rfl) _).trans ((topK_value fitsAll (scoreRow (scoresGiven m c)) _ b i).trans (scoreRow_apply _ b _))
theorem indices_R1 (b : Fin 4) (i : Fin 2000) : (R1 m c (Proc.devRef .tc main_indices) : S4x2000.Idx → BitVec 32) (ix2 b i) = BitVec.ofNat 32 (spot m c b i).val :=
  (congrFun (ops_indices (R0 m c) _ rfl) _).trans (topK_index fitsAll (scoreRow (scoresGiven m c)) _ b i)
theorem v13_R1 (b : Fin 4) (i : Fin 2000) : (R1 m c (Proc.devRef .tc main_v13) : S4x2000x1.Idx → BitVec 32) (ix3 b i 0) = BitVec.ofNat 32 (spot m c b i).val :=
  (ops_v13 (R0 m c) _ rfl b i).trans (topK_index fitsAll (scoreRow (scoresGiven m c)) _ b i)
theorem v15_R3 (b : Fin 4) (i : Fin 2000) : (R3 m c (Proc.devRef .tc main_v15) : S4x2000x1.Idx → BitVec 32) (ix3 b i 0) = BitVec.ofNat 32 (spot m c b i).val :=
  (ops_2_v15 (R2 m c) _ rfl b i).trans ((congrFun (R2_of m c main_indices (by decide)) _).trans (indices_R1 m c b i))

theorem spot_word (p : Fin 1048576) : (BitVec.ofNat 32 p.val).toNat = p.val := word_small (by decide) p
theorem in_range (J : S4x2000x1.Idx → BitVec 32) (hJ : ∀ b i, J (ix3 b i 0) = BitVec.ofNat 32 (spot m c b i).val) (i : S4x2000x1.Idx) : (J i).toNat < 1048576 := by
  have e := (congrArg BitVec.toNat ((congrArg J (thin i)).trans (hJ _ _))).trans (spot_word _)
  exact e ▸ Fin.isLt _

/-- The codes of the boxes chosen. -/
theorem codes_R4 (b : Fin 4) (i : Fin 2000) (k : Fin 5) :
    (R4 m c (Proc.devRef .tc main_v14) : S4x2000x5.Idx → Num) (ix3 b i k) = codesAt (codesGiven m c) b (spot m c b i) k := by
  refine (congrFun ((R4_of m c main_v14 (by decide)).trans (R3_of m c main_v14 (by decide))) _).trans ?_
  obtain ⟨J, hJ⟩ : ∃ J : S4x2000x1.Idx → BitVec 32, R1 m c (Proc.devRef .tc main_v13) = J := ⟨_, rfl⟩
  have hj : ∀ b i, J (ix3 b i 0) = BitVec.ofNat 32 (spot m c b i).val := fun b i => hJ ▸ v13_R1 m c b i
  obtain ⟨x, hx⟩ : ∃ x : S4x1048576x5.Idx → Num, R1 m c (Proc.devRef .tc main_v12) = x := ⟨_, rfl⟩
  refine (ops_1_v14 (R1 m c) x hx J hJ (in_range m c J hj) b i k).trans ?_
  refine (at_same (B := 4) (N := 1048576) (C := 5) x b _ (spot m c b i) ((congrArg BitVec.toNat (hj b i)).trans (spot_word _)) k).trans ?_
  rw [← hx]
  exact ops_v12 (R0 m c) _ rfl b _ k
/-- Their anchors. -/
theorem anchors_R4 (b : Fin 4) (i : Fin 2000) (k : Fin 5) :
    (R4 m c (Proc.devRef .tc main_v16) : S4x2000x5.Idx → Num) (ix3 b i k) = anchorAt (anchorsGiven m c) b (spot m c b i) k := by
  obtain ⟨J, hJ⟩ : ∃ J : S4x2000x1.Idx → BitVec 32, R3 m c (Proc.devRef .tc main_v15) = J := ⟨_, rfl⟩
  have hj : ∀ b i, J (ix3 b i 0) = BitVec.ofNat 32 (spot m c b i).val := fun b i => hJ ▸ v15_R3 m c b i
  have hx : R3 m c (Proc.devRef .tc main_arg0) = anchorsGiven m c :=
    (R3_of m c main_arg0 (by decide)).trans ((R2_of m c main_arg0 (by decide)).trans (R1_of m c main_arg0 (by decide)))
  refine (ops_3_v16 (R3 m c) _ hx J hJ (in_range m c J hj) b i k).trans ?_
  exact at_same (B := 4) (N := 1048576) (C := 5) (anchorsGiven m c) b _ (spot m c b i) ((congrArg BitVec.toNat (hj b i)).trans (spot_word _)) k
theorem values_R4 : R4 m c (Proc.devRef .tc main_values) = R1 m c (Proc.devRef .tc main_values) :=
  (R4_of m c main_values (by decide)).trans ((R3_of m c main_values (by decide)).trans (R2_of m c main_values (by decide)))
end Chosen

end Cert.ReferenceIdeal.Value
-- ==== Proof.ReferenceLoop.lean ====
module

public import proofs.«01_k».proof.Proof.ReferenceBoxes
public import proofs.«01_k».proof.Proof.ReferencePick
public import proofs.«01_k».proof.Proof.Keep
public import Idealize.ShloMosaic.Lib.DynamicIndex

/-! The reference's loop: box by box, the later boxes that overlap it are struck out. -/

@[expose] public section

set_option maxRecDepth 16384

noncomputable section

namespace Cert.ReferenceIdeal.Value

open Idealize.ShloMosaic hiding ix1 ix2 ix3 ix4 ix5
open Idealize.ShloMosaic.ValueIdx Idealize.ShloMosaic.TcCoe Idealize.ShloMosaic.StableHlo Cert.ReferenceIdeal Cert.ReferenceIdeal.Gen Cert.Boxes Cert.Keep
open Idealize.SL.Sem

theorem later_word (k l : ℕ) (hk : k ≤ 2000) (hl : l ≤ 2000) : IntOp.cmpi .sgt (BitVec.ofNat 32 l) (BitVec.ofNat 32 k) = 1#1 ↔ k < l := by
  have hc := IntOp.cmpi_slt (x := BitVec.ofNat 32 k) (y := BitVec.ofNat 32 l)
  rw [small_toInt (N := 2000) (by decide) _ hk, small_toInt (N := 2000) (by decide) _ hl] at hc
  exact (show IntOp.cmpi .slt (BitVec.ofNat 32 k) (BitVec.ofNat 32 l) = 1#1 ↔ _ from hc).trans Int.ofNat_lt

theorem wrapped (w : S_.Idx → BitVec 32) (n : Fin 2000) (hw : ∀ j, w j = BitVec.ofNat 32 n.val) (d : S_.Idx → BitVec 32) (j : S_.Idx) :
    (select (cmpi .slt w (constantI S_ 32 0#32)) (addi (id w) d) w j).toInt = (n.val : ℤ) := by
  have hi : (w j).toInt = (n.val : ℤ) := by rw [hw]; exact toInt_ofNat_of_lt (by omega)
  rw [select_slt_zero_of_nonneg w _ _ j (by omega)]
  exact hi

section Body
variable (V : Valuation τ sig (Elt Ideal)) (w : S_.Idx → BitVec 32) (hw : V (Proc.devRef .tc main_v131_3) = w) (n : Fin 2000) (hn : ∀ j, w j = BitVec.ofNat 32 n.val)

theorem start_c23 (j : S_.Idx) : (upto while0Ops0 V 9 (Proc.devRef .tc main_while0b_c_23) : S_.Idx → BitVec 32) j = 0#32 := by
  after_reads_simp
  rfl
include hw hn in
theorem start_v147 (j : S_.Idx) : ((upto while0Ops0 V 9 (Proc.devRef .tc main_while0b_v147) : S_.Idx → BitVec 32) j).toInt = (n.val : ℤ) := by
  after_reads_simp
  rw [hw]
  exact wrapped w n hn _ j
theorem start_c1 (j : S_.Idx) : (upto while0Ops0_1 V 8 (Proc.devRef .tc main_while0b_call2_c_1) : S_.Idx → BitVec 32) j = 0#32 := by
  after_reads_simp
  rfl
theorem start_c2 (j : S_.Idx) : (upto while0Ops0_1 V 8 (Proc.devRef .tc main_while0b_call2_c_2) : S_.Idx → BitVec 32) j = 0#32 := by
  after_reads_simp
  rfl
include hw hn in
theorem start_v3 (j : S_.Idx) : ((upto while0Ops0_1 V 8 (Proc.devRef .tc main_while0b_call2_v3) : S_.Idx → BitVec 32) j).toInt = (n.val : ℤ) := by
  after_reads_simp
  (try simp -implicitDefEqProofs only [StableHlo.TRef.toBuf, StableHlo.TRef.ofBuf, cast_cast, cast_eq])
  (try clean_types)
  rw [hw]
  exact wrapped w n hn _ j

theorem inside2 : S4x2000.Slices ![0, n.val] S4x1 := ⟨rfl, fun a => match a with
  | 0 => by show 0 + 4 ≤ 4; omega
  | 1 => by show n.val + 1 ≤ 2000; omega⟩
theorem inside3 : S4x2000x2000.Slices ![0, n.val, 0] S4x1x2000 := ⟨rfl, fun a => match a with
  | 0 => by show 0 + 4 ≤ 4; omega
  | 1 => by show n.val + 1 ≤ 2000; omega
  | 2 => by show 0 + 2000 ≤ 2000; omega⟩

include hw hn in
/-- Whether the box whose turn it is has been struck out. -/
theorem body_v148 (x : S4x2000.Idx → BitVec 1) (hx : V (Proc.devRef .tc main_v131_4) = x) (b : Fin 4) :
    (after while0Ops0 V (Proc.devRef .tc main_while0b_v148) : S4x1.Idx → BitVec 1) (ix2 b 0) = x (ix2 b n) := by
  after_reads_simp
  rw [hx]
  refine (congrFun (Host.dynamicSlice_eq_extractStridedSlice S4x1 x _ ![0, n.val] _ (inside2 n) fun a => ?_) _).trans (extractStridedSlice_apply _ _ _ _ (ix2 b n) fun a => ?_)
  · match a with
    | 0 => exact congrArg BitVec.toInt (start_c23 V _)
    | 1 => exact start_v147 V w hw n hn _
  · match a with
    | 0 => exact (Nat.zero_add _).symm
    | 1 => rfl

include hw hn in
/-- Which boxes it overlaps. -/
theorem body_v149 (x : S4x2000x2000.Idx → BitVec 1) (hx : V (Proc.devRef .tc main_v131_0) = x) (b : Fin 4) (l : Fin 2000) :
    (after while0Ops0_1 V (Proc.devRef .tc main_while0b_v149) : S4x2000.Idx → BitVec 1) (ix2 b l) = x (ix3 b n l) := by
  after_reads_simp
  (try simp -implicitDefEqProofs only [StableHlo.TRef.toBuf, StableHlo.TRef.ofBuf, cast_cast, cast_eq])
  (try clean_types)
  rw [hx]
  refine (shapeCast_apply (s := S4x1x2000) (t := S4x2000) _ _ _ (ix3 b 0 l) ?_).trans
    ((congrFun (Host.dynamicSlice_eq_extractStridedSlice S4x1x2000 x _ ![0, n.val, 0] _ (inside3 n) fun a => ?_) _).trans (extractStridedSlice_apply _ _ _ _ (ix3 b n l) fun a => ?_))
  · rw [Shape.rowMajor_val_two, Shape.rowMajor_val_three]
    show (b.val * 1 + 0) * 2000 + l.val = b.val * 2000 + l.val
    omega
  · match a with
    | 0 => exact congrArg BitVec.toInt (start_c1 V _)
    | 1 => exact start_v3 V w hw n hn _
    | 2 => exact congrArg BitVec.toInt (start_c2 V _)
  · match a with
    | 0 => exact (Nat.zero_add _).symm
    | 1 => rfl
    | 2 => exact (Nat.zero_add _).symm

include hw hn in
theorem body_v156 (x : S4x2000.Idx → BitVec 1) (hx : V (Proc.devRef .tc main_v131_4) = x) (y : S4x2000.Idx → BitVec 1) (hy : V (Proc.devRef .tc main_while0b_v149) = y)
    (I : S2000.Idx → BitVec 32) (hI : V (Proc.devRef .tc main_v131_1) = I) (b : Fin 4) (l : Fin 2000) :
    (after while0Ops0_2 V (Proc.devRef .tc main_while0b_v156) : S4x2000.Idx → BitVec 1) (ix2 b l)
      = IntOp.ori (x (ix2 b l)) (IntOp.andi (y (ix2 b l)) (IntOp.cmpi .sgt (I (ix1 l)) (BitVec.ofNat 32 n.val))) := by
  after_reads_simp
  rw [hx, hy, hI, hw]
  have e1 : ∀ z : S2000.Idx → BitVec 1, broadcastInDim S4x2000 ![0, 1] bcast_S1x2000_S4x2000_0_1 (broadcastInDim S1x2000 ![1] bcast_S2000_S1x2000_1 z) (ix2 b l) = z (ix1 l) := fun z => by
    refine (broadcastInDim_apply _ _ _ _ (ix2 0 l) fun a => ?_).trans (broadcastInDim_apply _ _ _ _ (ix1 l) fun a => ?_)
    · match a with
      | 0 => rfl
      | 1 => rfl
    · match a with
      | 0 => rfl
  have e2 : broadcastInDim S2000 ![] bcast_S_S2000 (id w) (ix1 l) = BitVec.ofNat 32 n.val :=
    (broadcastInDim_apply _ _ _ _ HostLoop.idx0 fun a => a.elim0).trans (hn _)
  refine congrArg (fun z => IntOp.ori (x (ix2 b l)) (IntOp.andi (y (ix2 b l)) z)) ((e1 _).trans ?_)
  exact congrArg (fun z => IntOp.cmpi .sgt (I (ix1 l)) z) e2

theorem body_v157 (x : S4x2000.Idx → BitVec 1) (hx : V (Proc.devRef .tc main_v131_4) = x) (y : S4x2000.Idx → BitVec 1) (hy : V (Proc.devRef .tc main_while0b_v156) = y)
    (s : S4x1.Idx → BitVec 1) (hs : V (Proc.devRef .tc main_while0b_v148) = s) (b : Fin 4) (l : Fin 2000) :
    (after while0Ops0_3 V (Proc.devRef .tc main_while0b_v157) : S4x2000.Idx → BitVec 1) (ix2 b l) = if s (ix2 b 0) = 1#1 then x (ix2 b l) else y (ix2 b l) := by
  after_reads_simp
  (try simp -implicitDefEqProofs only [StableHlo.TRef.toBuf, StableHlo.TRef.ofBuf, cast_cast, cast_eq])
  (try clean_types)
  rw [hx, hy, hs]
  have e : broadcastInDim S4x2000 ![0, 1] bcast_S4x1_S4x2000_0_1 s (ix2 b l) = s (ix2 b 0) := by
    refine broadcastInDim_apply _ _ _ _ (ix2 b 0) fun a => ?_
    match a with
    | 0 => rfl
    | 1 => rfl
  rw [← e]
  rfl

theorem body_v131_4 : after while0Ops0_4 V (Proc.devRef .tc main_v131_4) = V (Proc.devRef .tc main_while0b_v157) := by
  after_reads_simp
  rfl
theorem body_v131_3 : after while0Ops0_4 V (Proc.devRef .tc main_v131_3) = V (Proc.devRef .tc main_while0b_v143) := by
  after_reads_simp
  rfl
include hw hn in
theorem body_v143 (j : S_.Idx) : (after while0Ops0 V (Proc.devRef .tc main_while0b_v143) : S_.Idx → BitVec 32) j = BitVec.ofNat 32 (n.val + 1) := by
  after_reads_simp
  rw [hw]
  show w j + 1#32 = _
  rw [hn, BitVec.ofNat_add]
end Body

section Trip
variable (V : Valuation τ sig (Elt Ideal))
/-- The buffers after each stretch of the body. -/
def B1 : Valuation τ sig (Elt Ideal) := after while0Ops0 V
def B2 : Valuation τ sig (Elt Ideal) := after while0Ops0_1 (B1 V)
def B3 : Valuation τ sig (Elt Ideal) := after while0Ops0_2 (B2 V)
def B4 : Valuation τ sig (Elt Ideal) := after while0Ops0_3 (B3 V)
def B5 : Valuation τ sig (Elt Ideal) := after while0Ops0_4 (B4 V)
theorem B1_of (r : Ref sig .tc) (h : r ∉ while0Ops0_W) : B1 V (Proc.devRef .tc r) = V (Proc.devRef .tc r) := after_of_writes_sub _ _ while0Ops0_writes h
theorem B2_of (r : Ref sig .tc) (h : r ∉ while0Ops0_1_W) : B2 V (Proc.devRef .tc r) = B1 V (Proc.devRef .tc r) := after_of_writes_sub _ _ while0Ops0_1_writes h
theorem B3_of (r : Ref sig .tc) (h : r ∉ while0Ops0_2_W) : B3 V (Proc.devRef .tc r) = B2 V (Proc.devRef .tc r) := after_of_writes_sub _ _ while0Ops0_2_writes h
theorem B4_of (r : Ref sig .tc) (h : r ∉ while0Ops0_3_W) : B4 V (Proc.devRef .tc r) = B3 V (Proc.devRef .tc r) := after_of_writes_sub _ _ while0Ops0_3_writes h

theorem one_or (s u v z : BitVec 1) : (if s = 1#1 then u else IntOp.ori u (IntOp.andi v z)) = 1#1 ↔ u = 1#1 ∨ (z = 1#1 ∧ v = 1#1 ∧ ¬ s = 1#1) := by
  revert s u v z; decide

/-- One trip. -/
theorem trip (w : S_.Idx → BitVec 32) (hw : V (Proc.devRef .tc main_v131_3) = w) (n : Fin 2000) (hn : ∀ j, w j = BitVec.ofNat 32 n.val)
    (x : S4x2000.Idx → BitVec 1) (hx : V (Proc.devRef .tc main_v131_4) = x) (y : S4x2000x2000.Idx → BitVec 1) (hy : V (Proc.devRef .tc main_v131_0) = y)
    (I : S2000.Idx → BitVec 32) (hI : V (Proc.devRef .tc main_v131_1) = I) (hi : ∀ l : Fin 2000, I (ix1 l) = BitVec.ofNat 32 l.val) (b : Fin 4) (l : Fin 2000) :
    (B5 V (Proc.devRef .tc main_v131_4) : S4x2000.Idx → BitVec 1) (ix2 b l) = 1#1 ↔ x (ix2 b l) = 1#1 ∨ (n.val < l.val ∧ y (ix3 b n l) = 1#1 ∧ ¬ x (ix2 b n) = 1#1) := by
  have w1 : B1 V (Proc.devRef .tc main_v131_3) = w := (B1_of V main_v131_3 (by decide)).trans hw
  have w2 : B2 V (Proc.devRef .tc main_v131_3) = w := (B2_of V main_v131_3 (by decide)).trans w1
  have y1 : B1 V (Proc.devRef .tc main_v131_0) = y := (B1_of V main_v131_0 (by decide)).trans hy
  have x2 : B2 V (Proc.devRef .tc main_v131_4) = x := (B2_of V main_v131_4 (by decide)).trans ((B1_of V main_v131_4 (by decide)).trans hx)
  have x3 : B3 V (Proc.devRef .tc main_v131_4) = x := (B3_of V main_v131_4 (by decide)).trans x2
  have I2 : B2 V (Proc.devRef .tc main_v131_1) = I := (B2_of V main_v131_1 (by decide)).trans ((B1_of V main_v131_1 (by decide)).trans hI)
  have s3 : B3 V (Proc.devRef .tc main_while0b_v148) = B1 V (Proc.devRef .tc main_while0b_v148) := (B3_of V main_while0b_v148 (by decide)).trans (B2_of V main_while0b_v148 (by decide))
  have e1 : (B1 V (Proc.devRef .tc main_while0b_v148) : S4x1.Idx → BitVec 1) (ix2 b 0) = x (ix2 b n) := body_v148 V w hw n hn x hx b
  have e2 : (B2 V (Proc.devRef .tc main_while0b_v149) : S4x2000.Idx → BitVec 1) (ix2 b l) = y (ix3 b n l) := body_v149 (B1 V) w w1 n hn y y1 b l
  have e3 := body_v156 (B2 V) w w2 n hn x x2 _ rfl I I2 b l
  have e4 := body_v157 (B3 V) x x3 _ rfl _ s3 b l
  have e5 : B5 V (Proc.devRef .tc main_v131_4) = B4 V (Proc.devRef .tc main_while0b_v157) := body_v131_4 (B4 V)
  rw [e2, hi] at e3
  have e6 : (B5 V (Proc.devRef .tc main_v131_4) : S4x2000.Idx → BitVec 1) (ix2 b l) = _ := (congrFun e5 _).trans (e4.trans (by rw [e1, show (B3 V (Proc.devRef .tc main_while0b_v156) : S4x2000.Idx → BitVec 1) (ix2 b l) = _ from e3]))
  rw [e6, one_or, later_word n.val l.val (by omega) (by omega)]

theorem trip_counter (w : S_.Idx → BitVec 32) (hw : V (Proc.devRef .tc main_v131_3) = w) (n : Fin 2000) (hn : ∀ j, w j = BitVec.ofNat 32 n.val) (j : S_.Idx) :
    (B5 V (Proc.devRef .tc main_v131_3) : S_.Idx → BitVec 32) j = BitVec.ofNat 32 (n.val + 1) := by
  have e : B5 V (Proc.devRef .tc main_v131_3) = B1 V (Proc.devRef .tc main_while0b_v143) :=
    (body_v131_3 (B4 V)).trans ((B4_of V main_while0b_v143 (by decide)).trans ((B3_of V main_while0b_v143 (by decide)).trans (B2_of V main_while0b_v143 (by decide))))
  exact (congrFun e j).trans (body_v143 V w hw n hn j)
end Trip

section Loop
variable [Cert.ReferenceIdeal.Facts] (m : (ℓ : Loc nD τ sig) → Buf (Elt Ideal) ℓ) (c : Dev nD)

/-- The buffers once the boxes are decoded. -/
def R5 : Valuation τ sig (Elt Ideal) := after joinOps (after boxOps (R4 m c))
theorem entry_R5 : entryContents preI m c = after overOps (after edgeOps (R5 m c)) := (entry_R4 m c).trans (split (R4 m c))

/-- The boxes chosen. -/
def pickedBox (b : Fin 4) (i : Fin 2000) : Fin 5 → Num := boxAt (codesGiven m c) (anchorsGiven m c) b (spot m c b i)
def pickedBoxes (b : Fin 4) (i : ℕ) : Fin 5 → Num := if h : i < 2000 then pickedBox m c b ⟨i, h⟩ else fun _ => lit 0
theorem pickedBoxes_val (b : Fin 4) (i : Fin 2000) : pickedBoxes m c b i.val = pickedBox m c b i := dif_pos i.isLt

theorem boxes_R5 (b : Fin 4) (i : Fin 2000) (k : Fin 5) : (R5 m c (Proc.devRef .tc main_v57) : S4x2000x5.Idx → Num) (ix3 b i k) = pickedBox m c b i k := by
  refine (boxes_v57 (R4 m c) _ _ rfl rfl b i k).trans ?_
  rw [show (fun k => (R4 m c (Proc.devRef .tc main_v14) : S4x2000x5.Idx → Num) (ix3 b i k)) = _ from funext (codes_R4 m c b i),
    show (fun k => (R4 m c (Proc.devRef .tc main_v16) : S4x2000x5.Idx → Num) (ix3 b i k)) = _ from funext (anchors_R4 m c b i)]
  rfl

theorem pairs_entry (b : Fin 4) (i j : Fin 2000) :
    (entryContents preI m c (Proc.devRef .tc main_v131_0) : S4x2000x2000.Idx → BitVec 1) (ix3 b i j) = over (pickedBoxes m c b i.val) (pickedBoxes m c b j.val) := by
  rw [entry_R5, pickedBoxes_val, pickedBoxes_val]
  refine (pairs_v128 (R5 m c) _ rfl b i j).trans ?_
  exact congrArg₂ over (funext (boxes_R5 m c b i)) (funext (boxes_R5 m c b j))

/-- Which boxes strike out which. -/
def strikes (b : Fin 4) (i l : ℕ) : Prop := over (pickedBoxes m c b i) (pickedBoxes m c b l) = 1#1

theorem atK_next (k : ℕ) : atK m (k + 1) c = B5 (after condOps (atK m k c)) := by
  simp only [atK, atTrip_succ, bodyI, afterL_cons, afterL_nil]
  rfl

theorem cond_keep (V : Valuation τ sig (Elt Ideal)) (r : Ref sig .tc) (h : r ∉ condOps_W) : after condOps V (Proc.devRef .tc r) = V (Proc.devRef .tc r) :=
  after_of_writes_sub _ _ condOps_writes h

theorem loop (k : ℕ) (hk : k ≤ 2000) :
    (∀ j, (atK m k c (Proc.devRef .tc main_v131_3) : S_.Idx → BitVec 32) j = BitVec.ofNat 32 k)
    ∧ ∀ (b : Fin 4) (l : Fin 2000), (atK m k c (Proc.devRef .tc main_v131_4) : S4x2000.Idx → BitVec 1) (ix2 b l) = 1#1 ↔ struck (strikes m c b) (fun _ => False) k l.val := by
  induction k with
  | zero =>
    refine ⟨fun j => ?_, fun b l => ?_⟩
    · show (entryContents preI m c (Proc.devRef .tc main_v131_3) : S_.Idx → BitVec 32) j = _
      rw [entry_R5]
      exact over_v131_3 _ j
    · have e : (entryContents preI m c (Proc.devRef .tc main_v131_4) : S4x2000.Idx → BitVec 1) (ix2 b l) = 0#1 := by
        rw [entry_R5]
        exact over_v131_4 _ b l
      show (entryContents preI m c (Proc.devRef .tc main_v131_4) : S4x2000.Idx → BitVec 1) (ix2 b l) = 1#1 ↔ False
      rw [e]
      exact ⟨fun h => absurd (show (0#1 : BitVec 1) = 1#1 from h) (by decide), False.elim⟩
  | succ k ih =>
    obtain ⟨ih1, ih2⟩ := ih (by omega)
    have hw : after condOps (atK m k c) (Proc.devRef .tc main_v131_3) = atK m k c (Proc.devRef .tc main_v131_3) := cond_keep _ _ (by decide)
    have hx : after condOps (atK m k c) (Proc.devRef .tc main_v131_4) = atK m k c (Proc.devRef .tc main_v131_4) := cond_keep _ _ (by decide)
    have hy : after condOps (atK m k c) (Proc.devRef .tc main_v131_0) = entryContents preI m c (Proc.devRef .tc main_v131_0) :=
      (cond_keep _ _ (by decide)).trans (atK_keep m c _ (by decide) k)
    have hI : after condOps (atK m k c) (Proc.devRef .tc main_v131_1) = entryContents preI m c (Proc.devRef .tc main_v131_1) :=
      (cond_keep _ _ (by decide)).trans (atK_keep m c _ (by decide) k)
    have hi : ∀ l : Fin 2000, (entryContents preI m c (Proc.devRef .tc main_v131_1) : S2000.Idx → BitVec 32) (ix1 l) = BitVec.ofNat 32 l.val := fun l => by
      rw [entry_R5]
      exact over_v131_1 _ l
    rw [atK_next]
    refine ⟨fun j => trip_counter _ _ hw ⟨k, by omega⟩ ih1 j, fun b l => ?_⟩
    refine (trip _ _ hw ⟨k, by omega⟩ ih1 _ hx _ hy _ hI hi b l).trans ?_
    rw [ih2 b l, ih2 b ⟨k, by omega⟩, pairs_entry]
    rfl
end Loop

end Cert.ReferenceIdeal.Value
-- ==== Proof.ReferenceTail.lean ====
module

public import proofs.«01_k».proof.Proof.ReferenceLoop

/-! What the reference returns: the boxes and scores of the first thousand entries kept. -/

@[expose] public section

set_option maxRecDepth 16384

noncomputable section

namespace Cert.ReferenceIdeal.Value

open Idealize.ShloMosaic hiding ix1 ix2 ix3 ix4 ix5
open Idealize.ShloMosaic.ValueIdx Idealize.ShloMosaic.TcCoe Idealize.ShloMosaic.StableHlo Cert.ReferenceIdeal Cert.ReferenceIdeal.Gen Cert.Boxes Cert.Keep Cert.Choice
open Cert.KernelIdeal.Gen (word_small at_same thin)
open Idealize.SL.Sem

section Stretch
variable (V : Valuation τ sig (Elt Ideal))

theorem tail_v132 (x : S4x2000.Idx → BitVec 1) (hx : V (Proc.devRef .tc main_v131_4) = x) (i : S4x2000.Idx) :
    (after hostOps0_5 V (Proc.devRef .tc main_v132) : S4x2000.Idx → BitVec 1) i = ~~~ (x i) := by
  after_reads_simp
  rw [hx]; rfl
theorem tail_v133 (x : S2000.Idx → BitVec 32) (hx : V (Proc.devRef .tc main_v129) = x) (l : Fin 2000) :
    (after hostOps0_5 V (Proc.devRef .tc main_v133) : S1x2000.Idx → BitVec 32) (ix2 0 l) = x (ix1 l) := by
  after_reads_simp
  rw [hx]
  refine broadcastInDim_apply _ _ _ _ (ix1 l) fun a => ?_
  match a with
  | 0 => rfl
theorem tail_c13 (i : S_.Idx) : (after hostOps0_5 V (Proc.devRef .tc main_c_13) : S_.Idx → BitVec 32) i = 2000#32 := by
  after_reads_simp
  rfl
theorem tail_v134 (M : S4x2000.Idx → BitVec 1) (hM : V (Proc.devRef .tc main_v132) = M) (I : S1x2000.Idx → BitVec 32) (hI : V (Proc.devRef .tc main_v133) = I)
    (n : S_.Idx → BitVec 32) (hn : V (Proc.devRef .tc main_c_13) = n) (b : Fin 4) (l : Fin 2000) :
    (after hostOps0_6 V (Proc.devRef .tc main_v134) : S4x2000.Idx → BitVec 32) (ix2 b l) = if M (ix2 b l) = 1#1 then I (ix2 0 l) else n HostLoop.idx0 := by
  after_reads_simp
  (try simp -implicitDefEqProofs only [StableHlo.TRef.toBuf, StableHlo.TRef.ofBuf, cast_cast, cast_eq])
  (try clean_types)
  rw [hM, hI, hn]
  have e1 : broadcastInDim S4x2000 ![0, 1] bcast_S1x2000_S4x2000_0_1 I (ix2 b l) = I (ix2 0 l) := by
    refine broadcastInDim_apply _ _ _ _ (ix2 0 l) fun a => ?_
    match a with
    | 0 => rfl
    | 1 => rfl
  have e2 : broadcastInDim S4x2000 ![] bcast_S_S4x2000 (id n) (ix2 b l) = n HostLoop.idx0 :=
    broadcastInDim_apply _ _ _ _ HostLoop.idx0 fun a => a.elim0
  rw [← e1, ← e2]
  rfl
theorem tail_v135 (x : S4x2000.Idx → BitVec 32) (hx : V (Proc.devRef .tc main_v134) = x) :
    (after hostOps0_7 V (Proc.devRef .tc main_v135) : S4x2000.Idx → BitVec 32) = Host.sort S4x2000 1 comparator_i32_d1 x := by
  after_reads_simp
  (try simp -implicitDefEqProofs only [StableHlo.TRef.toBuf, StableHlo.TRef.ofBuf, cast_cast, cast_eq])
  (try clean_types)
  rw [hx]
theorem first_of (j : Fin 1000) : j.val < 2000 := by omega
theorem tail_v136 (x : S4x2000.Idx → BitVec 32) (hx : V (Proc.devRef .tc main_v135) = x) (b : Fin 4) (j : Fin 1000) :
    (after hostOps0_8 V (Proc.devRef .tc main_v136) : S4x1000.Idx → BitVec 32) (ix2 b j) = x (ix2 b ⟨j.val, first_of j⟩) := by
  after_reads_simp
  rw [hx]
  refine extractStridedSlice_apply _ _ _ _ _ fun a => ?_
  match a with
  | 0 => exact (Nat.zero_add _).symm
  | 1 => exact (Nat.zero_add _).symm
theorem tail_v138 (x : S4x2000.Idx → BitVec 32) (hx : V (Proc.devRef .tc main_v135) = x) (b : Fin 4) (j : Fin 1000) :
    (after hostOps0_8 V (Proc.devRef .tc main_v138) : S4x1000.Idx → BitVec 1) (ix2 b j) = IntOp.cmpi .slt (x (ix2 b ⟨j.val, first_of j⟩)) 2000#32 := by
  rw [← tail_v136 V x hx b j]
  after_reads_simp
  rfl
theorem tail_c15 (i : S_.Idx) : (after hostOps0_8 V (Proc.devRef .tc main_c_15) : S_.Idx → BitVec 32) i = 0#32 := by
  after_reads_simp
  rfl
theorem tail_v139 (M : S4x1000.Idx → BitVec 1) (hM : V (Proc.devRef .tc main_v138) = M) (I : S4x1000.Idx → BitVec 32) (hI : V (Proc.devRef .tc main_v136) = I)
    (n : S_.Idx → BitVec 32) (hn : V (Proc.devRef .tc main_c_15) = n) (b : Fin 4) (j : Fin 1000) :
    (after hostOps0_9 V (Proc.devRef .tc main_v139) : S4x1000.Idx → BitVec 32) (ix2 b j) = if M (ix2 b j) = 1#1 then I (ix2 b j) else n HostLoop.idx0 := by
  after_reads_simp
  (try simp -implicitDefEqProofs only [StableHlo.TRef.toBuf, StableHlo.TRef.ofBuf, cast_cast, cast_eq])
  (try clean_types)
  rw [hM, hI, hn]
  have e2 : broadcastInDim S4x1000 ![] bcast_S_S4x1000 (id n) (ix2 b j) = n HostLoop.idx0 :=
    broadcastInDim_apply _ _ _ _ HostLoop.idx0 fun a => a.elim0
  rw [← e2]
  rfl
theorem tail_v140 (x : S4x1000.Idx → BitVec 32) (hx : V (Proc.devRef .tc main_v139) = x) (b : Fin 4) (j : Fin 1000) :
    (after hostOps0_10 V (Proc.devRef .tc main_v140) : S4x1000x1.Idx → BitVec 32) (ix3 b j 0) = x (ix2 b j) := by
  after_reads_simp
  rw [hx]
  refine broadcastInDim_apply _ _ _ _ (ix2 b j) fun a => ?_
  match a with
  | 0 => rfl
  | 1 => rfl
theorem tail_v141 [Cert.ReferenceIdeal.Facts] (x : S4x2000x5.Idx → Num) (hx : V (Proc.devRef .tc main_v57) = x) (J : S4x1000x1.Idx → BitVec 32) (hJ : V (Proc.devRef .tc main_v140) = J)
    (hr : ∀ i, (J i).toNat < 2000) (b : Fin 4) (j : Fin 1000) (k : Fin 5) :
    (after hostOps0_11 V (Proc.devRef .tc main_v141) : S4x1000x5.Idx → Num) (ix3 b j k) = x (ix3 b ⟨(J (ix3 b j 0)).toNat, hr _⟩ k) := by
  after_reads_simp
  (try simp -implicitDefEqProofs only [StableHlo.TRef.toBuf, StableHlo.TRef.ofBuf, cast_cast, cast_eq])
  (try clean_types)
  rw [hx, hJ]
  exact Cert.Take.take3 (by decide) _ x J _ _ hr (fun _ => rfl) _ _ (fun _ => rfl) (fun _ => rfl) _ (fun _ => rfl) _ _ _ _ b j k
theorem tail_v142 [Cert.ReferenceIdeal.Facts] (x : S4x2000.Idx → Num) (hx : V (Proc.devRef .tc main_values) = x) (J : S4x1000.Idx → BitVec 32) (hJ : V (Proc.devRef .tc main_v139) = J)
    (hr : ∀ i, (J i).toNat < 2000) (b : Fin 4) (j : Fin 1000) :
    (after hostOps0_12 V (Proc.devRef .tc main_v142) : S4x1000.Idx → Num) (ix2 b j) = x (ix2 b ⟨(J (ix2 b j)).toNat, hr _⟩) := by
  after_reads_simp
  (try simp -implicitDefEqProofs only [StableHlo.TRef.toBuf, StableHlo.TRef.ofBuf, cast_cast, cast_eq])
  (try clean_types)
  rw [hx, hJ]
  exact Cert.Take.take2 (by decide) _ x J _ _ hr (fun _ => rfl) _ _ (fun _ => rfl) (fun _ => rfl) _ _ (fun _ => rfl) _ _ _ b j
end Stretch

section Held
variable [Cert.ReferenceIdeal.Facts] (m : (ℓ : Loc nD τ sig) → Buf (Elt Ideal) ℓ) (c : Dev nD)

/-- The buffers after each stretch behind the loop. -/
def E4 : Valuation τ sig (Elt Ideal) := exitContents m c
def E5 : Valuation τ sig (Elt Ideal) := after hostOps0_5 (E4 m c)
def E6 : Valuation τ sig (Elt Ideal) := after hostOps0_6 (E5 m c)
def E7 : Valuation τ sig (Elt Ideal) := after hostOps0_7 (E6 m c)
def E8 : Valuation τ sig (Elt Ideal) := after hostOps0_8 (E7 m c)
def E9 : Valuation τ sig (Elt Ideal) := after hostOps0_9 (E8 m c)
def E10 : Valuation τ sig (Elt Ideal) := after hostOps0_10 (E9 m c)
def E11 : Valuation τ sig (Elt Ideal) := after hostOps0_11 (E10 m c)
def E12 : Valuation τ sig (Elt Ideal) := after hostOps0_12 (E11 m c)
theorem final_E12 : final m c = E12 m c := by
  simp only [final, finalContents, postI, afterL_cons, afterL_nil]
  rfl
theorem E5_of (r : Ref sig .tc) (h : r ∉ hostOps0_5_W) : E5 m c (Proc.devRef .tc r) = E4 m c (Proc.devRef .tc r) := after_of_writes_sub _ _ hostOps0_5_writes h
theorem E6_of (r : Ref sig .tc) (h : r ∉ hostOps0_6_W) : E6 m c (Proc.devRef .tc r) = E5 m c (Proc.devRef .tc r) := after_of_writes_sub _ _ hostOps0_6_writes h
theorem E7_of (r : Ref sig .tc) (h : r ∉ hostOps0_7_W) : E7 m c (Proc.devRef .tc r) = E6 m c (Proc.devRef .tc r) := after_of_writes_sub _ _ hostOps0_7_writes h
theorem E8_of (r : Ref sig .tc) (h : r ∉ hostOps0_8_W) : E8 m c (Proc.devRef .tc r) = E7 m c (Proc.devRef .tc r) := after_of_writes_sub _ _ hostOps0_8_writes h
theorem E9_of (r : Ref sig .tc) (h : r ∉ hostOps0_9_W) : E9 m c (Proc.devRef .tc r) = E8 m c (Proc.devRef .tc r) := after_of_writes_sub _ _ hostOps0_9_writes h
theorem E10_of (r : Ref sig .tc) (h : r ∉ hostOps0_10_W) : E10 m c (Proc.devRef .tc r) = E9 m c (Proc.devRef .tc r) := after_of_writes_sub _ _ hostOps0_10_writes h
theorem E11_of (r : Ref sig .tc) (h : r ∉ hostOps0_11_W) : E11 m c (Proc.devRef .tc r) = E10 m c (Proc.devRef .tc r) := after_of_writes_sub _ _ hostOps0_11_writes h
theorem E12_of (r : Ref sig .tc) (h : r ∉ hostOps0_12_W) : E12 m c (Proc.devRef .tc r) = E11 m c (Proc.devRef .tc r) := after_of_writes_sub _ _ hostOps0_12_writes h

/-- Which boxes image `b` keeps. -/
def kept (b : Fin 4) (l : ℕ) : Prop := ¬ struck (strikes m c b) (fun _ => False) 2000 l

theorem not_one (x : BitVec 1) : ~~~ x = 1#1 ↔ ¬ x = 1#1 := by
  revert x; decide

theorem kept_E5 (b : Fin 4) (l : Fin 2000) : (E5 m c (Proc.devRef .tc main_v132) : S4x2000.Idx → BitVec 1) (ix2 b l) = 1#1 ↔ kept m c b l.val := by
  have e : E4 m c (Proc.devRef .tc main_v131_4) = atK m 2000 c (Proc.devRef .tc main_v131_4) := exit_keep m c main_v131_4 (by decide)
  rw [show (E5 m c (Proc.devRef .tc main_v132) : S4x2000.Idx → BitVec 1) (ix2 b l) = _ from tail_v132 (E4 m c) _ e (ix2 b l), not_one, (loop m c 2000 le_rfl).2 b l]
  rfl

theorem number_E4 (l : Fin 2000) : (E4 m c (Proc.devRef .tc main_v129) : S2000.Idx → BitVec 32) (ix1 l) = BitVec.ofNat 32 l.val := by
  have e : E4 m c (Proc.devRef .tc main_v129) = after overOps (after edgeOps (R5 m c)) (Proc.devRef .tc main_v129) :=
    (exit_keep m c main_v129 (by decide)).trans ((atK_keep m c main_v129 (by decide) 2000).trans (congrFun (entry_R5 m c) _))
  rw [e]
  exact over_v129 _ l

theorem key_E6 (b : Fin 4) (l : Fin 2000) : (E6 m c (Proc.devRef .tc main_v134) : S4x2000.Idx → BitVec 32) (ix2 b l) = BitVec.ofNat 32 (keyOf 2000 (kept m c b) l) := by
  refine (tail_v134 (E5 m c) _ rfl _ rfl _ rfl b l).trans ?_
  by_cases h : kept m c b l.val
  · rw [if_pos ((kept_E5 m c b l).mpr h), keyOf_pos _ _ _ h]
    exact (tail_v133 (E4 m c) _ rfl l).trans (number_E4 m c l)
  · rw [if_neg (fun e => h ((kept_E5 m c b l).mp e)), keyOf_neg _ _ _ h]
    exact tail_c13 (E4 m c) _

theorem sorted_E7 (b : Fin 4) (j : Fin 2000) :
    (E7 m c (Proc.devRef .tc main_v135) : S4x2000.Idx → BitVec 32) (ix2 b j) = BitVec.ofNat 32 (rank (keyOf 2000 (kept m c b)) j) := by
  refine (congrFun (tail_v135 (E6 m c) _ rfl) _).trans ?_
  exact sort_row (B := 4) (N := 2000) (by decide) _ b _ (keyOf_le _ _) (key_E6 m c b) _ (fun _ _ => rfl) j

/-- Which of the boxes chosen is the `j`-th result. -/
def pickAt (b : Fin 4) (j : Fin 1000) : ℕ := pickOf 2000 (kept m c b) ⟨j.val, first_of j⟩

theorem pick_E9 (b : Fin 4) (j : Fin 1000) : (E9 m c (Proc.devRef .tc main_v139) : S4x1000.Idx → BitVec 32) (ix2 b j) = BitVec.ofNat 32 (pickAt m c b j) := by
  refine (tail_v139 (E8 m c) _ rfl _ rfl _ rfl b j).trans ?_
  have e0 : (E8 m c (Proc.devRef .tc main_v136) : S4x1000.Idx → BitVec 32) (ix2 b j) = _ := (tail_v136 (E7 m c) _ rfl b j).trans (sorted_E7 m c b _)
  have e1 : (E8 m c (Proc.devRef .tc main_v138) : S4x1000.Idx → BitVec 1) (ix2 b j) = _ :=
    (tail_v138 (E7 m c) _ rfl b j).trans (congrArg (fun w => IntOp.cmpi .slt w 2000#32) (sorted_E7 m c b _))
  have e2 := tail_c15 (E7 m c) HostLoop.idx0
  have hle : rank (keyOf 2000 (kept m c b)) ⟨j.val, first_of j⟩ ≤ 2000 := by
    obtain ⟨l, hl⟩ := rank_mem (keyOf 2000 (kept m c b)) ⟨j.val, first_of j⟩
    rw [hl]; exact keyOf_le _ _ _
  have hc := IntOp.cmpi_slt (x := BitVec.ofNat 32 (rank (keyOf 2000 (kept m c b)) ⟨j.val, first_of j⟩)) (y := 2000#32)
  rw [small_toInt (N := 2000) (by decide) _ hle, small_toInt (N := 2000) (by decide) 2000 le_rfl] at hc
  unfold pickAt pickOf
  rw [e0, e1]
  by_cases h : rank (keyOf 2000 (kept m c b)) ⟨j.val, first_of j⟩ < 2000
  · rw [if_pos (hc.mpr (by omega)), if_pos h]
  · rw [if_neg (fun e => h (by have := hc.mp e; omega)), if_neg h]
    exact e2

theorem pick_lt (b : Fin 4) (j : Fin 1000) : pickAt m c b j < 2000 := pickOf_lt _ _
theorem pick_word (b : Fin 4) (j : Fin 1000) : (BitVec.ofNat 32 (pickAt m c b j)).toNat = pickAt m c b j :=
  word_small (N := 2000) (by decide) ⟨_, pick_lt m c b j⟩
theorem pick_range (i : S4x1000.Idx) : ((E9 m c (Proc.devRef .tc main_v139) : S4x1000.Idx → BitVec 32) i).toNat < 2000 := by
  have h : i = ix2 (i 0 : Fin 4) (i 1 : Fin 1000) := ValueIdx.eq_ix2 i
  have e := (congrArg BitVec.toNat ((congrArg (E9 m c (Proc.devRef .tc main_v139) : S4x1000.Idx → BitVec 32) h).trans (pick_E9 m c _ _))).trans (pick_word m c _ _)
  exact e ▸ pick_lt m c _ _
theorem pick_E10 (b : Fin 4) (j : Fin 1000) : (E10 m c (Proc.devRef .tc main_v140) : S4x1000x1.Idx → BitVec 32) (ix3 b j 0) = BitVec.ofNat 32 (pickAt m c b j) :=
  (tail_v140 (E9 m c) _ rfl b j).trans (pick_E9 m c b j)
theorem pick_range' (i : S4x1000x1.Idx) : ((E10 m c (Proc.devRef .tc main_v140) : S4x1000x1.Idx → BitVec 32) i).toNat < 2000 := by
  have e := (congrArg BitVec.toNat ((congrArg (E10 m c (Proc.devRef .tc main_v140) : S4x1000x1.Idx → BitVec 32) (thin i)).trans (pick_E10 m c _ _))).trans (pick_word m c _ _)
  exact e ▸ pick_lt m c _ _

theorem back5 (r : Ref sig .tc) (h : r ∉ condOps_W) (h' : r ∉ condOps_W ++ while0Ops0_W ++ while0Ops0_1_W ++ while0Ops0_2_W ++ while0Ops0_3_W ++ while0Ops0_4_W) :
    E4 m c (Proc.devRef .tc r) = entryContents preI m c (Proc.devRef .tc r) := (exit_keep m c r h).trans (atK_keep m c r h' 2000)
theorem back10 (r : Ref sig .tc) (h5 : r ∉ hostOps0_5_W) (h6 : r ∉ hostOps0_6_W) (h7 : r ∉ hostOps0_7_W) (h8 : r ∉ hostOps0_8_W) (h9 : r ∉ hostOps0_9_W) (h10 : r ∉ hostOps0_10_W) :
    E10 m c (Proc.devRef .tc r) = E4 m c (Proc.devRef .tc r) :=
  (E10_of m c r h10).trans ((E9_of m c r h9).trans ((E8_of m c r h8).trans ((E7_of m c r h7).trans ((E6_of m c r h6).trans (E5_of m c r h5)))))
theorem v57_E10 : E10 m c (Proc.devRef .tc main_v57) = R5 m c (Proc.devRef .tc main_v57) :=
  (back10 m c main_v57 (by decide) (by decide) (by decide) (by decide) (by decide) (by decide)).trans
    ((back5 m c main_v57 (by decide) (by decide)).trans ((congrFun (entry_R5 m c) _).trans (over_v57 (R5 m c))))
theorem values_entry : entryContents preI m c (Proc.devRef .tc main_values) = R4 m c (Proc.devRef .tc main_values) :=
  (congrFun (entry_R4 m c) _).trans (after_of_writes_sub _ _ hostOps0_4_writes (by decide))
theorem values_E11 : E11 m c (Proc.devRef .tc main_values) = R1 m c (Proc.devRef .tc main_values) :=
  (E11_of m c main_values (by decide)).trans ((back10 m c main_values (by decide) (by decide) (by decide) (by decide) (by decide) (by decide)).trans
    ((back5 m c main_values (by decide) (by decide)).trans ((values_entry m c).trans (values_R4 m c))))
theorem v139_E11 : E11 m c (Proc.devRef .tc main_v139) = E9 m c (Proc.devRef .tc main_v139) := (E11_of m c main_v139 (by decide)).trans (E10_of m c main_v139 (by decide))

/-- The first result: boxes. -/
theorem final_boxes (b : Fin 4) (j : Fin 1000) (k : Fin 5) :
    (final m c (Proc.devRef .tc main_v141) : S4x1000x5.Idx → Num) (ix3 b j k) = pickedBox m c b ⟨pickAt m c b j, pick_lt m c b j⟩ k := by
  rw [final_E12]
  obtain ⟨J, hJ⟩ : ∃ J : S4x1000x1.Idx → BitVec 32, E10 m c (Proc.devRef .tc main_v140) = J := ⟨_, rfl⟩
  have hr : ∀ i, (J i).toNat < 2000 := fun i => hJ ▸ pick_range' m c i
  have h : (J (ix3 b j 0)).toNat = pickAt m c b j := (congrArg BitVec.toNat ((congrFun hJ.symm _).trans (pick_E10 m c b j))).trans (pick_word m c b j)
  obtain ⟨x, hx⟩ : ∃ x : S4x2000x5.Idx → Num, E10 m c (Proc.devRef .tc main_v57) = x := ⟨_, rfl⟩
  have e := tail_v141 (E10 m c) x hx J hJ hr b j k
  refine (congrFun (E12_of m c main_v141 (by decide)) _).trans (e.trans ?_)
  refine (at_same (B := 4) (N := 2000) (C := 5) x b ⟨(J (ix3 b j 0)).toNat, hr _⟩ ⟨pickAt m c b j, pick_lt m c b j⟩ h k).trans ?_
  rw [← hx, v57_E10]
  exact boxes_R5 m c b _ k

/-- The second result: scores. -/
theorem final_scores (b : Fin 4) (j : Fin 1000) :
    (final m c (Proc.devRef .tc main_v142) : S4x1000.Idx → Num) (ix2 b j) = Ideal.logistic (scoreAt (scoresGiven m c) b (spot m c b ⟨pickAt m c b j, pick_lt m c b j⟩)) := by
  rw [final_E12]
  obtain ⟨J, hJ⟩ : ∃ J : S4x1000.Idx → BitVec 32, E11 m c (Proc.devRef .tc main_v139) = J := ⟨_, rfl⟩
  have hr : ∀ i, (J i).toNat < 2000 := fun i => hJ ▸ (congrFun (v139_E11 m c) i) ▸ pick_range m c i
  have h : (J (ix2 b j)).toNat = pickAt m c b j :=
    (congrArg BitVec.toNat ((congrFun hJ.symm _).trans ((congrFun (v139_E11 m c) _).trans (pick_E9 m c b j)))).trans (pick_word m c b j)
  obtain ⟨x, hx⟩ : ∃ x : S4x2000.Idx → Num, E11 m c (Proc.devRef .tc main_values) = x := ⟨_, rfl⟩
  have e := tail_v142 (E11 m c) x hx J hJ hr b j
  have hf : (⟨(J (ix2 b j)).toNat, hr _⟩ : Fin 2000) = ⟨pickAt m c b j, pick_lt m c b j⟩ := Fin.ext h
  refine e.trans ((congrArg (fun n : Fin 2000 => x (ix2 b n)) hf).trans ?_)
  rw [← hx, values_E11]
  exact values_R1 m c b _
end Held

end Cert.ReferenceIdeal.Value
-- ==== Proof.Equal.lean ====
module

public import proofs.«01_k».proof.Proof.Tail
public import proofs.«01_k».proof.Proof.ReferenceTail

/-! The kernel and the reference return the same boxes and the same scores. -/

@[expose] public section

set_option maxRecDepth 16384

noncomputable section

namespace Cert.Boxes

variable (ov ov' : ℕ → ℕ → Prop) (s : ℕ → Prop) (N : ℕ)

/-- What is struck out stays so. -/
theorem struck_start (k l : ℕ) (h : s l) : struck ov s k l := by
  induction k with
  | zero => exact h
  | succ k ih => exact .inl ih

/-- Boxes past the end, struck out from the start, change nothing for those before it. -/
theorem struck_same (h : ∀ i l, i < N → l < N → (ov i l ↔ ov' i l)) (k : ℕ) (hk : k ≤ N) (l : ℕ) (hl : l < N) :
    struck ov (fun l => N ≤ l) k l ↔ struck ov' (fun _ => False) k l := by
  induction k generalizing l with
  | zero => exact ⟨fun h' => absurd h' (Nat.not_le.mpr hl), False.elim⟩
  | succ k ih =>
    show struck ov _ k l ∨ (k < l ∧ ov k l ∧ ¬ struck ov _ k k) ↔ struck ov' _ k l ∨ (k < l ∧ ov' k l ∧ ¬ struck ov' _ k k)
    rw [ih (by omega) l hl, ih (by omega) k (by omega), h k l (by omega) hl]

end Cert.Boxes

namespace Cert.Equal

open Idealize.ShloMosaic hiding ix1 ix2 ix3 ix4 ix5
open Idealize.ShloMosaic.ValueIdx Idealize.ShloMosaic.TcCoe Cert.Boxes Cert.Choice Cert.Keep
open Idealize.SL.Sem
open Cert.KernelIdeal.Gen (rowsOf rowsOf_apply spotOf codesOf anchorsOf lane_of)
open Cert.KernelIdeal.Nms (keptOf laneAt lane_lt laneBox laneBoxes laneBoxes_val chosen_box)
open Cert.ReferenceIdeal.Value (scoreRow scoreRow_apply spot pickedBox pickedBoxes pickedBoxes_val strikes kept pickAt pick_lt)

variable [Cert.KernelIdeal.Facts] [Cert.ReferenceIdeal.Facts]
  (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)
  (h0 : Cert.ReferenceIdeal.Value.anchorsGiven m' c = anchorsOf m c) (h1 : Cert.ReferenceIdeal.Value.scoresGiven m' c = Cert.KernelIdeal.Gen.scoresGiven m c)
  (h2 : Cert.ReferenceIdeal.Value.codesGiven m' c = codesOf m c)

include h1 in
/-- Both choose the same entries. -/
theorem spot_same (b : Fin 4) (i : Fin 2000) : spot m' c b i = spotOf m ρ c (ix2 b i) :=
  place_logistic fitsAll (rowsOf m ρ c) (scoreRow (Cert.ReferenceIdeal.Value.scoresGiven m' c)) b
    (fun n => (scoreRow_apply _ b n).trans (by rw [h1, rowsOf_apply])) i

include h0 h1 h2 in
/-- Both decode them to the same boxes. -/
theorem box_same (b : Fin 4) (i : Fin 2000) :
    laneBox (Cert.KernelIdeal.Gen.paddedCodes m ρ c) (Cert.KernelIdeal.Gen.paddedAnchors m ρ c) b ⟨i.val, lane_of i⟩ = pickedBox m' c b i := by
  rw [chosen_box]
  unfold pickedBox
  rw [h0, h2, spot_same m ρ m' c h1]

include h0 h1 h2 in
theorem strikes_same (b : Fin 4) (i l : ℕ) (hi : i < 2000) (hl : l < 2000) :
    over (laneBoxes (Cert.KernelIdeal.Gen.paddedCodes m ρ c) (Cert.KernelIdeal.Gen.paddedAnchors m ρ c) b i)
      (laneBoxes (Cert.KernelIdeal.Gen.paddedCodes m ρ c) (Cert.KernelIdeal.Gen.paddedAnchors m ρ c) b l) = 1#1 ↔ strikes m' c b i l := by
  have e : ∀ i (hi : i < 2000), laneBoxes (Cert.KernelIdeal.Gen.paddedCodes m ρ c) (Cert.KernelIdeal.Gen.paddedAnchors m ρ c) b i = pickedBoxes m' c b i := fun i hi =>
    (laneBoxes_val _ _ b ⟨i, by omega⟩).symm.trans ((box_same m ρ m' c h0 h1 h2 b ⟨i, hi⟩).trans (pickedBoxes_val m' c b ⟨i, hi⟩).symm)
  unfold strikes
  rw [e i hi, e l hl]

include h0 h1 h2 in
/-- Both keep the same of them. -/
theorem pick_same' (b : Fin 4) (j : Fin 1000) : laneAt m ρ c b j = pickAt m' c b j := by
  refine pick_same (N := 2000) (M := 2048) (by decide) (kept m' c b) (keptOf m ρ c b) (fun l hl => ?_) (fun l hl => ?_) ⟨j.val, Cert.ReferenceIdeal.Value.first_of j⟩
  · exact not_congr (struck_same _ _ 2000 (strikes_same m ρ m' c h0 h1 h2 b) 2000 le_rfl l hl)
  · exact not_not.mpr (struck_start _ _ 2000 l hl)

include h0 h1 h2 in
theorem lane_same (b : Fin 4) (j : Fin 1000) :
    (⟨laneAt m ρ c b j, lane_lt m ρ c b j⟩ : Fin 2048) = ⟨(⟨pickAt m' c b j, pick_lt m' c b j⟩ : Fin 2000).val, lane_of _⟩ :=
  Fin.ext (pick_same' m ρ m' c h0 h1 h2 b j)

include h0 h1 h2 in
theorem boxes_at (b : Fin 4) (j : Fin 1000) (k : Fin 5) :
    (Cert.ReferenceIdeal.Value.final m' c (Proc.devRef .tc Cert.ReferenceIdeal.main_v141) : Cert.KernelIdeal.S4x1000x5.Idx → Num) (ix3 b j k)
      = (Cert.KernelIdeal.Gen.W38 m ρ c (Proc.devRef .tc Cert.KernelIdeal.main_v65) : Cert.KernelIdeal.S4x1000x5.Idx → Num) (ix3 b j k) := by
  have e2 := Cert.KernelIdeal.Nms.result_boxes m ρ c b j k
  rw [lane_same m ρ m' c h0 h1 h2, box_same m ρ m' c h0 h1 h2] at e2
  exact (Cert.ReferenceIdeal.Value.final_boxes m' c b j k).trans e2.symm

include h0 h1 h2 in
theorem scores_at (b : Fin 4) (j : Fin 1000) :
    (Cert.ReferenceIdeal.Value.final m' c (Proc.devRef .tc Cert.ReferenceIdeal.main_v142) : Cert.KernelIdeal.S4x1000.Idx → Num) (ix2 b j)
      = (Cert.KernelIdeal.Gen.W38 m ρ c (Proc.devRef .tc Cert.KernelIdeal.main_v66) : Cert.KernelIdeal.S4x1000.Idx → Num) (ix2 b j) := by
  have e2 := Cert.KernelIdeal.Nms.result_scores m ρ c b j
  rw [lane_same m ρ m' c h0 h1 h2, Cert.KernelIdeal.Gen.scores_of, rowsOf_apply, ← spot_same m ρ m' c h1, ← h1] at e2
  exact (Cert.ReferenceIdeal.Value.final_scores m' c b j).trans e2.symm

include h0 h1 h2 in
/-- The boxes returned are the same. -/
theorem boxes_same :
    (Cert.ReferenceIdeal.Value.final m' c (Proc.devRef .tc Cert.ReferenceIdeal.main_v141) : Cert.KernelIdeal.S4x1000x5.Idx → Num)
      = Cert.KernelIdeal.Gen.W38 m ρ c (Proc.devRef .tc Cert.KernelIdeal.main_v65) := by
  funext i
  rw [ValueIdx.eq_ix3 i]
  exact boxes_at m ρ m' c h0 h1 h2 _ _ _

include h0 h1 h2 in
/-- So are their scores. -/
theorem scores_same :
    (Cert.ReferenceIdeal.Value.final m' c (Proc.devRef .tc Cert.ReferenceIdeal.main_v142) : Cert.KernelIdeal.S4x1000.Idx → Num)
      = Cert.KernelIdeal.Gen.W38 m ρ c (Proc.devRef .tc Cert.KernelIdeal.main_v66) := by
  funext i
  rw [ValueIdx.eq_ix2 i]
  exact scores_at m ρ m' c h0 h1 h2 _ _

/-- From the same arguments both programs end with the same results. -/
theorem results_same (ρ' : Dev Cert.ReferenceIdeal.nD → PrngReg)
    (h : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    ∃ (v0 : (c : Dev Cert.KernelIdeal.nD) → Buf (Elt Ideal) ((c.tc : Thread Cert.KernelIdeal.nD Cert.KernelIdeal.τ).loc Cert.KernelIdeal.main_v65))
      (v1 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_v66) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_v142) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) := by
  refine ⟨fun c => Cert.KernelIdeal.Gen.W38 m ρ c (Proc.devRef .tc Cert.KernelIdeal.main_v65), fun c => Cert.KernelIdeal.Gen.W38 m ρ c (Proc.devRef .tc Cert.KernelIdeal.main_v66), ?_, ?_⟩
  · refine (θ_run _ _ _).mono (fun r hr c => ?_) (Cert.KernelIdeal.Gen.run m ρ)
    have at' := fun b hb => hr.1 c (Proc.devRef .tc b) (Cert.KernelIdeal.Gen.mem_uc b hb)
    exact ⟨at' Cert.KernelIdeal.main_v65 (by decide), at' Cert.KernelIdeal.main_v66 (by decide),
      (at' Cert.KernelIdeal.main_arg0 (by decide)).trans (Cert.KernelIdeal.Gen.W38_args m ρ c _ (by decide)),
      (at' Cert.KernelIdeal.main_arg1 (by decide)).trans (Cert.KernelIdeal.Gen.W38_args m ρ c _ (by decide)),
      (at' Cert.KernelIdeal.main_arg2 (by decide)).trans (Cert.KernelIdeal.Gen.W38_args m ρ c _ (by decide))⟩
  · refine (θ_run _ _ _).mono (fun r hr c => ?_) (Cert.ReferenceIdeal.Value.run_fold m' ρ')
    have hc := h c
    exact ⟨(hr c Cert.ReferenceIdeal.main_v141 (by decide)).trans (boxes_same m ρ m' c hc.1 hc.2.1 hc.2.2),
      (hr c Cert.ReferenceIdeal.main_v142 (by decide)).trans (scores_same m ρ m' c hc.1 hc.2.1 hc.2.2),
      (hr c Cert.ReferenceIdeal.main_arg0 (by decide)).trans (Cert.ReferenceIdeal.Value.final_arg m' c _ (.inl rfl)),
      (hr c Cert.ReferenceIdeal.main_arg1 (by decide)).trans (Cert.ReferenceIdeal.Value.final_arg m' c _ (.inr (.inl rfl))),
      (hr c Cert.ReferenceIdeal.main_arg2 (by decide)).trans (Cert.ReferenceIdeal.Value.final_arg m' c _ (.inr (.inr rfl)))⟩

end Cert.Equal
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KernelSame
public import proofs.«01_k».proof.Proof.KernelIdealRun
public import proofs.«01_k».proof.Proof.ReferenceFrame
public import proofs.«01_k».proof.Proof.Equal

/-! The certificate's claims: the kernel's frame, at words and over the extended reals, the reference's, that the two
readings of the kernel are one program, and that kernel and reference return the same boxes and scores. -/

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m g _ => Cert.Same.frame (A := Cert.Kernel.Gen.facts) m g, fun m g _ => Cert.KernelIdeal.Gen.frame m g,
  fun m g _ => Cert.ReferenceIdeal.Value.frame m g, trivial,
  fun m g m' g' _ h => @Cert.Equal.results_same Cert.KernelIdeal.Gen.facts Cert.ReferenceIdeal.Gen.facts m g m' g' h⟩

end Cert.Proof

end
